-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x32x64 : S_.BroadcastsInDim S2x256x32x64 (![] : Fin 0 → Fin S2x256x32x64.rank)

variable [Facts]

def fn {F : FTy → Type} [FloatOps F] (main_arg0 : FVec F S2x256x512 .f32) (main_arg1 : FVec F S512x256 .f32) (main_arg2 : FVec F S2x256x32x64 .f32) (main_arg3 : FVec F S2x256x32x64 .f32) (main_arg4 : FVec F S256x512 .f32) : IVec S2x256x512 1 × IVec S512x256 1 × IVec S2x256x32x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x32x64 .f32 := Host.absf main_arg2
  let main_cst_1 : FVec F S_ .f32 := constant S_ .f32 0x7F800000#32
  let main_v7 : FVec F S2x256x32x64 .f32 := broadcastInDim S2x256x32x64 ![] bcast_S_S2x256x32x64 main_cst_1
  let main_v8 : IVec S2x256x32x64 1 := cmpf .olt main_v6 main_v7
  (main_v2, main_v5, main_v8)
-- ==== Pre_finite_ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  bcast_S_S512x2048 : S_.BroadcastsInDim S512x2048 (![] : Fin 0 → Fin S512x2048.rank)
  bcast_S_S2x2048x32x64 : S_.BroadcastsInDim S2x2048x32x64 (![] : Fin 0 → Fin S2x2048x32x64.rank)

variable [Facts]

def fn {F : FTy → Type} [FloatOps F] (main_arg0 : FVec F S2x256x512 .f32) (main_arg1 : FVec F S512x2048 .f32) (main_arg2 : FVec F S2x2048x32x64 .f32) (main_arg3 : FVec F S2x2048x32x64 .f32) (main_arg4 : FVec F S2048x512 .f32) : IVec S2x256x512 1 × IVec S512x2048 1 × IVec S2x2048x32x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x2048x32x64 .f32 := Host.absf main_arg2
  let main_cst_1 : FVec F S_ .f32 := constant S_ .f32 0x7F800000#32
  let main_v7 : FVec F S2x2048x32x64 .f32 := broadcastInDim S2x2048x32x64 ![] bcast_S_S2x2048x32x64 main_cst_1
  let main_v8 : IVec S2x2048x32x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S32x2x256x64 : Shape := ⟨4, ![32, 2, 256, 64]⟩
abbrev S8x4x2x256x64 : Shape := ⟨5, ![8, 4, 2, 256, 64]⟩
abbrev S8x2x32x512 : Shape := ⟨4, ![8, 2, 32, 512]⟩
abbrev S2x32x512 : Shape := ⟨3, ![2, 32, 512]⟩
abbrev S2x256x4x64 : Shape := ⟨4, ![2, 256, 4, 64]⟩
abbrev S2x4x4x64x512 : Shape := ⟨5, ![2, 4, 4, 64, 512]⟩
abbrev S8 : Shape := ⟨1, ![8]⟩
abbrev S_ : Shape := ⟨0, ![]⟩
abbrev S4x2x256x64 : Shape := ⟨4, ![4, 2, 256, 64]⟩
abbrev S1 : Shape := ⟨1, ![1]⟩
abbrev S1x4x2x256x64 : Shape := ⟨5, ![1, 4, 2, 256, 64]⟩
abbrev S512x512 : Shape := ⟨2, ![512, 512]⟩
abbrev S1x64x1x64 : Shape := ⟨4, ![1, 64, 1, 64]⟩
abbrev S64x64 : Shape := ⟨2, ![64, 64]⟩
abbrev S8x1x1x64x64 : Shape := ⟨5, ![8, 1, 1, 64, 64]⟩
abbrev S8x64x64 : Shape := ⟨3, ![8, 64, 64]⟩
abbrev S512x64 : Shape := ⟨2, ![512, 64]⟩
abbrev S64x512 : Shape := ⟨2, ![64, 512]⟩
abbrev S64 : Shape := ⟨1, ![64]⟩
abbrev S64x1 : Shape := ⟨2, ![64, 1]⟩
abbrev S1x1x1x64x512 : Shape := ⟨5, ![1, 1, 1, 64, 512]⟩
abbrev S2x64x4x64 : Shape := ⟨4, ![2, 64, 4, 64]⟩
abbrev S128x256 : Shape := ⟨2, ![128, 256]⟩
abbrev S128x512 : Shape := ⟨2, ![128, 512]⟩
abbrev S2x64x512 : Shape := ⟨3, ![2, 64, 512]⟩
abbrev S1x2x32x512 : Shape := ⟨4, ![1, 2, 32, 512]⟩

abbrev nBuf : Space → Nat
  | .hbm => 6
  | .vmem => 16
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x32x64, .f32⟩
  | .hbm, ⟨3, _⟩ => ⟨S2x256x32x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x32x64, .f32⟩
  | .local _ .vmem, ⟨3, _⟩ => ⟨S2x256x32x64, .f32⟩
  | .local _ .vmem, ⟨4, _⟩ => ⟨S256x512, .f32⟩
  | .local _ .vmem, ⟨5, _⟩ => ⟨S2x256x512, .f32⟩
  | .local _ .vmem, ⟨6, _⟩ => ⟨S32x2x256x64, .fp8e4m3⟩
  | .local _ .vmem, ⟨7, _⟩ => ⟨S32x2x256x64, .bf16⟩
  | .local _ .vmem, ⟨8, _⟩ => ⟨S8x4x2x256x64, .fp8e4m3⟩
  | .local _ .vmem, ⟨9, _⟩ => ⟨S8x4x2x256x64, .bf16⟩
  | .local _ .vmem, ⟨10, _⟩ => ⟨S2x256x512, .bf16⟩
  | .local _ .vmem, ⟨11, _⟩ => ⟨S8x2x32x512, .bf16⟩
  | .local _ .vmem, ⟨12, _⟩ => ⟨S2x32x512, .bf16⟩
  | .local _ .vmem, ⟨13, _⟩ => ⟨S8x2x32x512, .bf16⟩
  | .local _ .vmem, ⟨14, _⟩ => ⟨S2x256x4x64, .f32⟩
  | .local _ .vmem, ⟨15, _⟩ => ⟨S2x4x4x64x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 4 → Nat :=
  let c0 : Index := 0#32
  let c0_72 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c4_i32_71 : BitVec 32 := 4#32
  let v106 : BitVec 32 := Scalar.muli v105 c4_i32_71
  let v107 : Index := Scalar.indexCast v106
  let c0_73 : Index := 0#32
  ![0, 0, v107.toNat, 0]
def k0_off2 (d0 : Dev nD) (c1_i32_64 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c4_i32_71 : BitVec 32 := 4#32
  let v106 : BitVec 32 := Scalar.muli v105 c4_i32_71
  let v112 : Index := Scalar.indexCast v106
  let c0_74 : Index := 0#32
  let c0_75 : Index := 0#32
  let c0_76 : Index := 0#32
  ![v112.toNat, 0, 0, 0]
def k0_off3 (d0 : Dev nD) (c1_i32_64 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c4_i32_71 : BitVec 32 := 4#32
  let v106 : BitVec 32 := Scalar.muli v105 c4_i32_71
  let c0_i32_86 : BitVec 32 := 0#32
  let c0_i32_87 : BitVec 32 := 0#32
  let c0_i32_88 : BitVec 32 := 0#32
  ![v106.toNat, 0, 0, 0]
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_80 : BitVec 32 := 1#32
  let v116 : BitVec 32 := Scalar.muli v105 c1_i32_80
  let v117 : BitVec 32 := Scalar.addi c0_i32_81 v116
  v117.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v125 : BitVec 32 := Scalar.addi v2 c2_i32_89
  let c8_i32_90 : BitVec 32 := 8#32
  let c0_i32_91 : BitVec 32 := 0#32
  let v126 : BitVec 1 := Scalar.cmpi .eq c8_i32_90 c0_i32_91
  let c1_i32_92 : BitVec 32 := 1#32
  let v127 : BitVec 32 := Scalar.select v126 c1_i32_92 c8_i32_90
  let v128 : BitVec 32 := Scalar.remsi v125 v127
  let c0_i32_94 : BitVec 32 := 0#32
  let v130 : BitVec 1 := Scalar.cmpi .slt v128 c0_i32_94
  let c0_i32_95 : BitVec 32 := 0#32
  let v131 : BitVec 1 := Scalar.cmpi .slt v127 c0_i32_95
  let v132 : BitVec 1 := Scalar.xori v130 v131
  let c0_i32_93 : BitVec 32 := 0#32
  let v129 : BitVec 1 := Scalar.cmpi .ne v128 c0_i32_93
  let v133 : BitVec 1 := Scalar.andi v132 v129
  let v134 : BitVec 32 := Scalar.addi v128 v127
  let v135 : BitVec 32 := Scalar.select v133 v134 v128
  let c1_i32_106 : BitVec 32 := 1#32
  let v146 : BitVec 32 := Scalar.muli v135 c1_i32_106
  let v147 : BitVec 32 := Scalar.addi c0_i32_107 v146
  v147.toNat
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v155 : BitVec 32 := Scalar.addi v2 c3_i32_115
  let c8_i32_116 : BitVec 32 := 8#32
  let c0_i32_117 : BitVec 32 := 0#32
  let v156 : BitVec 1 := Scalar.cmpi .eq c8_i32_116 c0_i32_117
  let c1_i32_118 : BitVec 32 := 1#32
  let v157 : BitVec 32 := Scalar.select v156 c1_i32_118 c8_i32_116
  let v158 : BitVec 32 := Scalar.remsi v155 v157
  let c0_i32_120 : BitVec 32 := 0#32
  let v160 : BitVec 1 := Scalar.cmpi .slt v158 c0_i32_120
  let c0_i32_121 : BitVec 32 := 0#32
  let v161 : BitVec 1 := Scalar.cmpi .slt v157 c0_i32_121
  let v162 : BitVec 1 := Scalar.xori v160 v161
  let c0_i32_119 : BitVec 32 := 0#32
  let v159 : BitVec 1 := Scalar.cmpi .ne v158 c0_i32_119
  let v163 : BitVec 1 := Scalar.andi v162 v159
  let v164 : BitVec 32 := Scalar.addi v158 v157
  let v165 : BitVec 32 := Scalar.select v163 v164 v158
  let c1_i32_132 : BitVec 32 := 1#32
  let v176 : BitVec 32 := Scalar.muli v165 c1_i32_132
  let v177 : BitVec 32 := Scalar.addi c0_i32_133 v176
  v177.toNat
def k0_dev11 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_141 : BitVec 32 := 4#32
  let v185 : BitVec 32 := Scalar.addi v2 c4_i32_141
  let c8_i32_142 : BitVec 32 := 8#32
  let c0_i32_143 : BitVec 32 := 0#32
  let v186 : BitVec 1 := Scalar.cmpi .eq c8_i32_142 c0_i32_143
  let c1_i32_144 : BitVec 32 := 1#32
  let v187 : BitVec 32 := Scalar.select v186 c1_i32_144 c8_i32_142
  let v188 : BitVec 32 := Scalar.remsi v185 v187
  let c0_i32_146 : BitVec 32 := 0#32
  let v190 : BitVec 1 := Scalar.cmpi .slt v188 c0_i32_146
  let c0_i32_147 : BitVec 32 := 0#32
  let v191 : BitVec 1 := Scalar.cmpi .slt v187 c0_i32_147
  let v192 : BitVec 1 := Scalar.xori v190 v191
  let c0_i32_145 : BitVec 32 := 0#32
  let v189 : BitVec 1 := Scalar.cmpi .ne v188 c0_i32_145
  let v193 : BitVec 1 := Scalar.andi v192 v189
  let v194 : BitVec 32 := Scalar.addi v188 v187
  let v195 : BitVec 32 := Scalar.select v193 v194 v188
  let c1_i32_158 : BitVec 32 := 1#32
  let v206 : BitVec 32 := Scalar.muli v195 c1_i32_158
  let v207 : BitVec 32 := Scalar.addi c0_i32_159 v206
  v207.toNat
def k0_dev12 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_167 : BitVec 32 := 5#32
  let v215 : BitVec 32 := Scalar.addi v2 c5_i32_167
  let c8_i32_168 : BitVec 32 := 8#32
  let c0_i32_169 : BitVec 32 := 0#32
  let v216 : BitVec 1 := Scalar.cmpi .eq c8_i32_168 c0_i32_169
  let c1_i32_170 : BitVec 32 := 1#32
  let v217 : BitVec 32 := Scalar.select v216 c1_i32_170 c8_i32_168
  let v218 : BitVec 32 := Scalar.remsi v215 v217
  let c0_i32_172 : BitVec 32 := 0#32
  let v220 : BitVec 1 := Scalar.cmpi .slt v218 c0_i32_172
  let c0_i32_173 : BitVec 32 := 0#32
  let v221 : BitVec 1 := Scalar.cmpi .slt v217 c0_i32_173
  let v222 : BitVec 1 := Scalar.xori v220 v221
  let c0_i32_171 : BitVec 32 := 0#32
  let v219 : BitVec 1 := Scalar.cmpi .ne v218 c0_i32_171
  let v223 : BitVec 1 := Scalar.andi v222 v219
  let v224 : BitVec 32 := Scalar.addi v218 v217
  let v225 : BitVec 32 := Scalar.select v223 v224 v218
  let c1_i32_184 : BitVec 32 := 1#32
  let v236 : BitVec 32 := Scalar.muli v225 c1_i32_184
  let v237 : BitVec 32 := Scalar.addi c0_i32_185 v236
  v237.toNat
def k0_dev13 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_193 : BitVec 32 := 6#32
  let v245 : BitVec 32 := Scalar.addi v2 c6_i32_193
  let c8_i32_194 : BitVec 32 := 8#32
  let c0_i32_195 : BitVec 32 := 0#32
  let v246 : BitVec 1 := Scalar.cmpi .eq c8_i32_194 c0_i32_195
  let c1_i32_196 : BitVec 32 := 1#32
  let v247 : BitVec 32 := Scalar.select v246 c1_i32_196 c8_i32_194
  let v248 : BitVec 32 := Scalar.remsi v245 v247
  let c0_i32_198 : BitVec 32 := 0#32
  let v250 : BitVec 1 := Scalar.cmpi .slt v248 c0_i32_198
  let c0_i32_199 : BitVec 32 := 0#32
  let v251 : BitVec 1 := Scalar.cmpi .slt v247 c0_i32_199
  let v252 : BitVec 1 := Scalar.xori v250 v251
  let c0_i32_197 : BitVec 32 := 0#32
  let v249 : BitVec 1 := Scalar.cmpi .ne v248 c0_i32_197
  let v253 : BitVec 1 := Scalar.andi v252 v249
  let v254 : BitVec 32 := Scalar.addi v248 v247
  let v255 : BitVec 32 := Scalar.select v253 v254 v248
  let c1_i32_210 : BitVec 32 := 1#32
  let v266 : BitVec 32 := Scalar.muli v255 c1_i32_210
  let v267 : BitVec 32 := Scalar.addi c0_i32_211 v266
  v267.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_219 : BitVec 32 := 7#32
  let v275 : BitVec 32 := Scalar.addi v2 c7_i32_219
  let c8_i32_220 : BitVec 32 := 8#32
  let c0_i32_221 : BitVec 32 := 0#32
  let v276 : BitVec 1 := Scalar.cmpi .eq c8_i32_220 c0_i32_221
  let c1_i32_222 : BitVec 32 := 1#32
  let v277 : BitVec 32 := Scalar.select v276 c1_i32_222 c8_i32_220
  let v278 : BitVec 32 := Scalar.remsi v275 v277
  let c0_i32_224 : BitVec 32 := 0#32
  let v280 : BitVec 1 := Scalar.cmpi .slt v278 c0_i32_224
  let c0_i32_225 : BitVec 32 := 0#32
  let v281 : BitVec 1 := Scalar.cmpi .slt v277 c0_i32_225
  let v282 : BitVec 1 := Scalar.xori v280 v281
  let c0_i32_223 : BitVec 32 := 0#32
  let v279 : BitVec 1 := Scalar.cmpi .ne v278 c0_i32_223
  let v283 : BitVec 1 := Scalar.andi v282 v279
  let v284 : BitVec 32 := Scalar.addi v278 v277
  let v285 : BitVec 32 := Scalar.select v283 v284 v278
  let c1_i32_236 : BitVec 32 := 1#32
  let v296 : BitVec 32 := Scalar.muli v285 c1_i32_236
  let v297 : BitVec 32 := Scalar.addi c0_i32_237 v296
  v297.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_245 : BitVec 32 := 1#32
  let v305 : BitVec 32 := Scalar.addi v2 c1_i32_245
  let c8_i32_246 : BitVec 32 := 8#32
  let c0_i32_247 : BitVec 32 := 0#32
  let v306 : BitVec 1 := Scalar.cmpi .eq c8_i32_246 c0_i32_247
  let c1_i32_248 : BitVec 32 := 1#32
  let v307 : BitVec 32 := Scalar.select v306 c1_i32_248 c8_i32_246
  let v308 : BitVec 32 := Scalar.remsi v305 v307
  let c0_i32_250 : BitVec 32 := 0#32
  let v310 : BitVec 1 := Scalar.cmpi .slt v308 c0_i32_250
  let c0_i32_251 : BitVec 32 := 0#32
  let v311 : BitVec 1 := Scalar.cmpi .slt v307 c0_i32_251
  let v312 : BitVec 1 := Scalar.xori v310 v311
  let c0_i32_249 : BitVec 32 := 0#32
  let v309 : BitVec 1 := Scalar.cmpi .ne v308 c0_i32_249
  let v313 : BitVec 1 := Scalar.andi v312 v309
  let v314 : BitVec 32 := Scalar.addi v308 v307
  let v315 : BitVec 32 := Scalar.select v313 v314 v308
  let c1_i32_262 : BitVec 32 := 1#32
  let v326 : BitVec 32 := Scalar.muli v315 c1_i32_262
  let v327 : BitVec 32 := Scalar.addi c0_i32_263 v326
  v327.toNat
def k0_dev16 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_271 : BitVec 32 := 2#32
  let v335 : BitVec 32 := Scalar.addi v2 c2_i32_271
  let c8_i32_272 : BitVec 32 := 8#32
  let c0_i32_273 : BitVec 32 := 0#32
  let v336 : BitVec 1 := Scalar.cmpi .eq c8_i32_272 c0_i32_273
  let c1_i32_274 : BitVec 32 := 1#32
  let v337 : BitVec 32 := Scalar.select v336 c1_i32_274 c8_i32_272
  let v338 : BitVec 32 := Scalar.remsi v335 v337
  let c0_i32_276 : BitVec 32 := 0#32
  let v340 : BitVec 1 := Scalar.cmpi .slt v338 c0_i32_276
  let c0_i32_277 : BitVec 32 := 0#32
  let v341 : BitVec 1 := Scalar.cmpi .slt v337 c0_i32_277
  let v342 : BitVec 1 := Scalar.xori v340 v341
  let c0_i32_275 : BitVec 32 := 0#32
  let v339 : BitVec 1 := Scalar.cmpi .ne v338 c0_i32_275
  let v343 : BitVec 1 := Scalar.andi v342 v339
  let v344 : BitVec 32 := Scalar.addi v338 v337
  let v345 : BitVec 32 := Scalar.select v343 v344 v338
  let c1_i32_288 : BitVec 32 := 1#32
  let v356 : BitVec 32 := Scalar.muli v345 c1_i32_288
  let v357 : BitVec 32 := Scalar.addi c0_i32_289 v356
  v357.toNat
def k0_dev17 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_297 : BitVec 32 := 3#32
  let v365 : BitVec 32 := Scalar.addi v2 c3_i32_297
  let c8_i32_298 : BitVec 32 := 8#32
  let c0_i32_299 : BitVec 32 := 0#32
  let v366 : BitVec 1 := Scalar.cmpi .eq c8_i32_298 c0_i32_299
  let c1_i32_300 : BitVec 32 := 1#32
  let v367 : BitVec 32 := Scalar.select v366 c1_i32_300 c8_i32_298
  let v368 : BitVec 32 := Scalar.remsi v365 v367
  let c0_i32_302 : BitVec 32 := 0#32
  let v370 : BitVec 1 := Scalar.cmpi .slt v368 c0_i32_302
  let c0_i32_303 : BitVec 32 := 0#32
  let v371 : BitVec 1 := Scalar.cmpi .slt v367 c0_i32_303
  let v372 : BitVec 1 := Scalar.xori v370 v371
  let c0_i32_301 : BitVec 32 := 0#32
  let v369 : BitVec 1 := Scalar.cmpi .ne v368 c0_i32_301
  let v373 : BitVec 1 := Scalar.andi v372 v369
  let v374 : BitVec 32 := Scalar.addi v368 v367
  let v375 : BitVec 32 := Scalar.select v373 v374 v368
  let c1_i32_314 : BitVec 32 := 1#32
  let v386 : BitVec 32 := Scalar.muli v375 c1_i32_314
  let v387 : BitVec 32 := Scalar.addi c0_i32_315 v386
  v387.toNat
def k0_dev18 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_323 : BitVec 32 := 4#32
  let v395 : BitVec 32 := Scalar.addi v2 c4_i32_323
  let c8_i32_324 : BitVec 32 := 8#32
  let c0_i32_325 : BitVec 32 := 0#32
  let v396 : BitVec 1 := Scalar.cmpi .eq c8_i32_324 c0_i32_325
  let c1_i32_326 : BitVec 32 := 1#32
  let v397 : BitVec 32 := Scalar.select v396 c1_i32_326 c8_i32_324
  let v398 : BitVec 32 := Scalar.remsi v395 v397
  let c0_i32_328 : BitVec 32 := 0#32
  let v400 : BitVec 1 := Scalar.cmpi .slt v398 c0_i32_328
  let c0_i32_329 : BitVec 32 := 0#32
  let v401 : BitVec 1 := Scalar.cmpi .slt v397 c0_i32_329
  let v402 : BitVec 1 := Scalar.xori v400 v401
  let c0_i32_327 : BitVec 32 := 0#32
  let v399 : BitVec 1 := Scalar.cmpi .ne v398 c0_i32_327
  let v403 : BitVec 1 := Scalar.andi v402 v399
  let v404 : BitVec 32 := Scalar.addi v398 v397
  let v405 : BitVec 32 := Scalar.select v403 v404 v398
  let c1_i32_340 : BitVec 32 := 1#32
  let v416 : BitVec 32 := Scalar.muli v405 c1_i32_340
  let v417 : BitVec 32 := Scalar.addi c0_i32_341 v416
  v417.toNat
def k0_dev19 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_349 : BitVec 32 := 5#32
  let v425 : BitVec 32 := Scalar.addi v2 c5_i32_349
  let c8_i32_350 : BitVec 32 := 8#32
  let c0_i32_351 : BitVec 32 := 0#32
  let v426 : BitVec 1 := Scalar.cmpi .eq c8_i32_350 c0_i32_351
  let c1_i32_352 : BitVec 32 := 1#32
  let v427 : BitVec 32 := Scalar.select v426 c1_i32_352 c8_i32_350
  let v428 : BitVec 32 := Scalar.remsi v425 v427
  let c0_i32_354 : BitVec 32 := 0#32
  let v430 : BitVec 1 := Scalar.cmpi .slt v428 c0_i32_354
  let c0_i32_355 : BitVec 32 := 0#32
  let v431 : BitVec 1 := Scalar.cmpi .slt v427 c0_i32_355
  let v432 : BitVec 1 := Scalar.xori v430 v431
  let c0_i32_353 : BitVec 32 := 0#32
  let v429 : BitVec 1 := Scalar.cmpi .ne v428 c0_i32_353
  let v433 : BitVec 1 := Scalar.andi v432 v429
  let v434 : BitVec 32 := Scalar.addi v428 v427
  let v435 : BitVec 32 := Scalar.select v433 v434 v428
  let c1_i32_366 : BitVec 32 := 1#32
  let v446 : BitVec 32 := Scalar.muli v435 c1_i32_366
  let v447 : BitVec 32 := Scalar.addi c0_i32_367 v446
  v447.toNat
def k0_dev20 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_375 : BitVec 32 := 6#32
  let v455 : BitVec 32 := Scalar.addi v2 c6_i32_375
  let c8_i32_376 : BitVec 32 := 8#32
  let c0_i32_377 : BitVec 32 := 0#32
  let v456 : BitVec 1 := Scalar.cmpi .eq c8_i32_376 c0_i32_377
  let c1_i32_378 : BitVec 32 := 1#32
  let v457 : BitVec 32 := Scalar.select v456 c1_i32_378 c8_i32_376
  let v458 : BitVec 32 := Scalar.remsi v455 v457
  let c0_i32_380 : BitVec 32 := 0#32
  let v460 : BitVec 1 := Scalar.cmpi .slt v458 c0_i32_380
  let c0_i32_381 : BitVec 32 := 0#32
  let v461 : BitVec 1 := Scalar.cmpi .slt v457 c0_i32_381
  let v462 : BitVec 1 := Scalar.xori v460 v461
  let c0_i32_379 : BitVec 32 := 0#32
  let v459 : BitVec 1 := Scalar.cmpi .ne v458 c0_i32_379
  let v463 : BitVec 1 := Scalar.andi v462 v459
  let v464 : BitVec 32 := Scalar.addi v458 v457
  let v465 : BitVec 32 := Scalar.select v463 v464 v458
  let c1_i32_392 : BitVec 32 := 1#32
  let v476 : BitVec 32 := Scalar.muli v465 c1_i32_392
  let v477 : BitVec 32 := Scalar.addi c0_i32_393 v476
  v477.toNat
def k0_dev21 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_401 : BitVec 32 := 7#32
  let v485 : BitVec 32 := Scalar.addi v2 c7_i32_401
  let c8_i32_402 : BitVec 32 := 8#32
  let c0_i32_403 : BitVec 32 := 0#32
  let v486 : BitVec 1 := Scalar.cmpi .eq c8_i32_402 c0_i32_403
  let c1_i32_404 : BitVec 32 := 1#32
  let v487 : BitVec 32 := Scalar.select v486 c1_i32_404 c8_i32_402
  let v488 : BitVec 32 := Scalar.remsi v485 v487
  let c0_i32_406 : BitVec 32 := 0#32
  let v490 : BitVec 1 := Scalar.cmpi .slt v488 c0_i32_406
  let c0_i32_407 : BitVec 32 := 0#32
  let v491 : BitVec 1 := Scalar.cmpi .slt v487 c0_i32_407
  let v492 : BitVec 1 := Scalar.xori v490 v491
  let c0_i32_405 : BitVec 32 := 0#32
  let v489 : BitVec 1 := Scalar.cmpi .ne v488 c0_i32_405
  let v493 : BitVec 1 := Scalar.andi v492 v489
  let v494 : BitVec 32 := Scalar.addi v488 v487
  let v495 : BitVec 32 := Scalar.select v493 v494 v488
  let c1_i32_418 : BitVec 32 := 1#32
  let v506 : BitVec 32 := Scalar.muli v495 c1_i32_418
  let v507 : BitVec 32 := Scalar.addi c0_i32_419 v506
  v507.toNat
def k0_off4 (d0 : Dev nD) : Fin 4 → Nat :=
  let c0_428 : Index := 0#32
  let c0_429 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_427 : BitVec 32 := 4#32
  let v515 : BitVec 32 := Scalar.muli v2 c4_i32_427
  let v516 : Index := Scalar.indexCast v515
  let c0_430 : Index := 0#32
  ![0, 0, v516.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1124 : BitVec 32 := 1#32
  let v1337 : BitVec 32 := Scalar.addi v2 c1_i32_1124
  let c8_i32_1125 : BitVec 32 := 8#32
  let c0_i32_1126 : BitVec 32 := 0#32
  let v1338 : BitVec 1 := Scalar.cmpi .eq c8_i32_1125 c0_i32_1126
  let c1_i32_1127 : BitVec 32 := 1#32
  let v1339 : BitVec 32 := Scalar.select v1338 c1_i32_1127 c8_i32_1125
  let v1340 : BitVec 32 := Scalar.remsi v1337 v1339
  let c0_i32_1129 : BitVec 32 := 0#32
  let v1342 : BitVec 1 := Scalar.cmpi .slt v1340 c0_i32_1129
  let c0_i32_1130 : BitVec 32 := 0#32
  let v1343 : BitVec 1 := Scalar.cmpi .slt v1339 c0_i32_1130
  let v1344 : BitVec 1 := Scalar.xori v1342 v1343
  let c0_i32_1128 : BitVec 32 := 0#32
  let v1341 : BitVec 1 := Scalar.cmpi .ne v1340 c0_i32_1128
  let v1345 : BitVec 1 := Scalar.andi v1344 v1341
  let v1346 : BitVec 32 := Scalar.addi v1340 v1339
  let v1347 : BitVec 32 := Scalar.select v1345 v1346 v1340
  let c0_i32_1132 : BitVec 32 := 0#32
  let v1349 : BitVec 1 := Scalar.cmpi .sgt v1347 c0_i32_1132
  let v1350 : BitVec 32 := Scalar.extui v1349
  let c0_i32_1133 : BitVec 32 := 0#32
  let v1351 : BitVec 1 := Scalar.cmpi .slt v1347 c0_i32_1133
  let v1352 : BitVec 32 := Scalar.extui v1351
  let v1353 : BitVec 32 := Scalar.subi v1350 v1352
  let c2_i32_1131 : BitVec 32 := 2#32
  let c0_i32_1134 : BitVec 32 := 0#32
  let v1354 : BitVec 1 := Scalar.cmpi .sgt c2_i32_1131 c0_i32_1134
  let v1355 : BitVec 32 := Scalar.extui v1354
  let c0_i32_1135 : BitVec 32 := 0#32
  let v1356 : BitVec 1 := Scalar.cmpi .slt c2_i32_1131 c0_i32_1135
  let v1357 : BitVec 32 := Scalar.extui v1356
  let v1358 : BitVec 32 := Scalar.subi v1355 v1357
  let v1359 : BitVec 1 := Scalar.cmpi .ne v1353 v1358
  let v1360 : BitVec 32 := Scalar.remsi v1347 c2_i32_1131
  let c0_i32_1136 : BitVec 32 := 0#32
  let v1361 : BitVec 1 := Scalar.cmpi .ne v1360 c0_i32_1136
  let v1362 : BitVec 1 := Scalar.andi v1359 v1361
  let v1348 : BitVec 32 := Scalar.divsi v1347 c2_i32_1131
  let c1_i32_1137 : BitVec 32 := 1#32
  let v1363 : BitVec 32 := Scalar.subi v1348 c1_i32_1137
  let v1364 : BitVec 32 := Scalar.select v1362 v1363 v1348
  let c0_i32_1138 : BitVec 32 := 0#32
  let v1365 : BitVec 1 := Scalar.cmpi .eq v1364 c0_i32_1138
  let v1366 : BitVec 32 := Scalar.extui v1365
  let c0_i32_1139 : BitVec 32 := 0#32
  let v1367 : BitVec 1 := Scalar.cmpi .ne v1366 c0_i32_1139
  v1367

def k0_off5 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1124 : BitVec 32 := 1#32
  let v1337 : BitVec 32 := Scalar.addi v2 c1_i32_1124
  let c8_i32_1125 : BitVec 32 := 8#32
  let c0_i32_1126 : BitVec 32 := 0#32
  let v1338 : BitVec 1 := Scalar.cmpi .eq c8_i32_1125 c0_i32_1126
  let c1_i32_1127 : BitVec 32 := 1#32
  let v1339 : BitVec 32 := Scalar.select v1338 c1_i32_1127 c8_i32_1125
  let v1340 : BitVec 32 := Scalar.remsi v1337 v1339
  let c0_i32_1129 : BitVec 32 := 0#32
  let v1342 : BitVec 1 := Scalar.cmpi .slt v1340 c0_i32_1129
  let c0_i32_1130 : BitVec 32 := 0#32
  let v1343 : BitVec 1 := Scalar.cmpi .slt v1339 c0_i32_1130
  let v1344 : BitVec 1 := Scalar.xori v1342 v1343
  let c0_i32_1128 : BitVec 32 := 0#32
  let v1341 : BitVec 1 := Scalar.cmpi .ne v1340 c0_i32_1128
  let v1345 : BitVec 1 := Scalar.andi v1344 v1341
  let v1346 : BitVec 32 := Scalar.addi v1340 v1339
  let v1347 : BitVec 32 := Scalar.select v1345 v1346 v1340
  let c32_i32_2343 : BitVec 32 := 32#32
  let v2951 : BitVec 32 := Scalar.muli v1347 c32_i32_2343
  let c0_i32_2353 : BitVec 32 := 0#32
  ![0, v2951.toNat, 0]
def k0_dev22 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1124 : BitVec 32 := 1#32
  let v1337 : BitVec 32 := Scalar.addi v2 c1_i32_1124
  let c8_i32_1125 : BitVec 32 := 8#32
  let c0_i32_1126 : BitVec 32 := 0#32
  let v1338 : BitVec 1 := Scalar.cmpi .eq c8_i32_1125 c0_i32_1126
  let c1_i32_1127 : BitVec 32 := 1#32
  let v1339 : BitVec 32 := Scalar.select v1338 c1_i32_1127 c8_i32_1125
  let v1340 : BitVec 32 := Scalar.remsi v1337 v1339
  let c0_i32_1129 : BitVec 32 := 0#32
  let v1342 : BitVec 1 := Scalar.cmpi .slt v1340 c0_i32_1129
  let c0_i32_1130 : BitVec 32 := 0#32
  let v1343 : BitVec 1 := Scalar.cmpi .slt v1339 c0_i32_1130
  let v1344 : BitVec 1 := Scalar.xori v1342 v1343
  let c0_i32_1128 : BitVec 32 := 0#32
  let v1341 : BitVec 1 := Scalar.cmpi .ne v1340 c0_i32_1128
  let v1345 : BitVec 1 := Scalar.andi v1344 v1341
  let v1346 : BitVec 32 := Scalar.addi v1340 v1339
  let v1347 : BitVec 32 := Scalar.select v1345 v1346 v1340
  let c1_i32_2347 : BitVec 32 := 1#32
  let v2952 : BitVec 32 := Scalar.muli v1347 c1_i32_2347
  let v2953 : BitVec 32 := Scalar.addi c0_i32_2348 v2952
  v2953.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1140 : BitVec 32 := 2#32
  let v1368 : BitVec 32 := Scalar.addi v2 c2_i32_1140
  let c8_i32_1141 : BitVec 32 := 8#32
  let c0_i32_1142 : BitVec 32 := 0#32
  let v1369 : BitVec 1 := Scalar.cmpi .eq c8_i32_1141 c0_i32_1142
  let c1_i32_1143 : BitVec 32 := 1#32
  let v1370 : BitVec 32 := Scalar.select v1369 c1_i32_1143 c8_i32_1141
  let v1371 : BitVec 32 := Scalar.remsi v1368 v1370
  let c0_i32_1145 : BitVec 32 := 0#32
  let v1373 : BitVec 1 := Scalar.cmpi .slt v1371 c0_i32_1145
  let c0_i32_1146 : BitVec 32 := 0#32
  let v1374 : BitVec 1 := Scalar.cmpi .slt v1370 c0_i32_1146
  let v1375 : BitVec 1 := Scalar.xori v1373 v1374
  let c0_i32_1144 : BitVec 32 := 0#32
  let v1372 : BitVec 1 := Scalar.cmpi .ne v1371 c0_i32_1144
  let v1376 : BitVec 1 := Scalar.andi v1375 v1372
  let v1377 : BitVec 32 := Scalar.addi v1371 v1370
  let v1378 : BitVec 32 := Scalar.select v1376 v1377 v1371
  let c0_i32_1148 : BitVec 32 := 0#32
  let v1380 : BitVec 1 := Scalar.cmpi .sgt v1378 c0_i32_1148
  let v1381 : BitVec 32 := Scalar.extui v1380
  let c0_i32_1149 : BitVec 32 := 0#32
  let v1382 : BitVec 1 := Scalar.cmpi .slt v1378 c0_i32_1149
  let v1383 : BitVec 32 := Scalar.extui v1382
  let v1384 : BitVec 32 := Scalar.subi v1381 v1383
  let c2_i32_1147 : BitVec 32 := 2#32
  let c0_i32_1150 : BitVec 32 := 0#32
  let v1385 : BitVec 1 := Scalar.cmpi .sgt c2_i32_1147 c0_i32_1150
  let v1386 : BitVec 32 := Scalar.extui v1385
  let c0_i32_1151 : BitVec 32 := 0#32
  let v1387 : BitVec 1 := Scalar.cmpi .slt c2_i32_1147 c0_i32_1151
  let v1388 : BitVec 32 := Scalar.extui v1387
  let v1389 : BitVec 32 := Scalar.subi v1386 v1388
  let v1390 : BitVec 1 := Scalar.cmpi .ne v1384 v1389
  let v1391 : BitVec 32 := Scalar.remsi v1378 c2_i32_1147
  let c0_i32_1152 : BitVec 32 := 0#32
  let v1392 : BitVec 1 := Scalar.cmpi .ne v1391 c0_i32_1152
  let v1393 : BitVec 1 := Scalar.andi v1390 v1392
  let v1379 : BitVec 32 := Scalar.divsi v1378 c2_i32_1147
  let c1_i32_1153 : BitVec 32 := 1#32
  let v1394 : BitVec 32 := Scalar.subi v1379 c1_i32_1153
  let v1395 : BitVec 32 := Scalar.select v1393 v1394 v1379
  let c0_i32_1154 : BitVec 32 := 0#32
  let v1396 : BitVec 1 := Scalar.cmpi .eq v1395 c0_i32_1154
  let v1397 : BitVec 32 := Scalar.extui v1396
  let c0_i32_1155 : BitVec 32 := 0#32
  let v1398 : BitVec 1 := Scalar.cmpi .ne v1397 c0_i32_1155
  v1398

def k0_off6 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1140 : BitVec 32 := 2#32
  let v1368 : BitVec 32 := Scalar.addi v2 c2_i32_1140
  let c8_i32_1141 : BitVec 32 := 8#32
  let c0_i32_1142 : BitVec 32 := 0#32
  let v1369 : BitVec 1 := Scalar.cmpi .eq c8_i32_1141 c0_i32_1142
  let c1_i32_1143 : BitVec 32 := 1#32
  let v1370 : BitVec 32 := Scalar.select v1369 c1_i32_1143 c8_i32_1141
  let v1371 : BitVec 32 := Scalar.remsi v1368 v1370
  let c0_i32_1145 : BitVec 32 := 0#32
  let v1373 : BitVec 1 := Scalar.cmpi .slt v1371 c0_i32_1145
  let c0_i32_1146 : BitVec 32 := 0#32
  let v1374 : BitVec 1 := Scalar.cmpi .slt v1370 c0_i32_1146
  let v1375 : BitVec 1 := Scalar.xori v1373 v1374
  let c0_i32_1144 : BitVec 32 := 0#32
  let v1372 : BitVec 1 := Scalar.cmpi .ne v1371 c0_i32_1144
  let v1376 : BitVec 1 := Scalar.andi v1375 v1372
  let v1377 : BitVec 32 := Scalar.addi v1371 v1370
  let v1378 : BitVec 32 := Scalar.select v1376 v1377 v1371
  let c32_i32_2343 : BitVec 32 := 32#32
  let v2951 : BitVec 32 := Scalar.muli v1378 c32_i32_2343
  let c0_i32_2353 : BitVec 32 := 0#32
  ![0, v2951.toNat, 0]
def k0_dev23 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1140 : BitVec 32 := 2#32
  let v1368 : BitVec 32 := Scalar.addi v2 c2_i32_1140
  let c8_i32_1141 : BitVec 32 := 8#32
  let c0_i32_1142 : BitVec 32 := 0#32
  let v1369 : BitVec 1 := Scalar.cmpi .eq c8_i32_1141 c0_i32_1142
  let c1_i32_1143 : BitVec 32 := 1#32
  let v1370 : BitVec 32 := Scalar.select v1369 c1_i32_1143 c8_i32_1141
  let v1371 : BitVec 32 := Scalar.remsi v1368 v1370
  let c0_i32_1145 : BitVec 32 := 0#32
  let v1373 : BitVec 1 := Scalar.cmpi .slt v1371 c0_i32_1145
  let c0_i32_1146 : BitVec 32 := 0#32
  let v1374 : BitVec 1 := Scalar.cmpi .slt v1370 c0_i32_1146
  let v1375 : BitVec 1 := Scalar.xori v1373 v1374
  let c0_i32_1144 : BitVec 32 := 0#32
  let v1372 : BitVec 1 := Scalar.cmpi .ne v1371 c0_i32_1144
  let v1376 : BitVec 1 := Scalar.andi v1375 v1372
  let v1377 : BitVec 32 := Scalar.addi v1371 v1370
  let v1378 : BitVec 32 := Scalar.select v1376 v1377 v1371
  let c1_i32_2347 : BitVec 32 := 1#32
  let v2952 : BitVec 32 := Scalar.muli v1378 c1_i32_2347
  let v2953 : BitVec 32 := Scalar.addi c0_i32_2348 v2952
  v2953.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1156 : BitVec 32 := 3#32
  let v1399 : BitVec 32 := Scalar.addi v2 c3_i32_1156
  let c8_i32_1157 : BitVec 32 := 8#32
  let c0_i32_1158 : BitVec 32 := 0#32
  let v1400 : BitVec 1 := Scalar.cmpi .eq c8_i32_1157 c0_i32_1158
  let c1_i32_1159 : BitVec 32 := 1#32
  let v1401 : BitVec 32 := Scalar.select v1400 c1_i32_1159 c8_i32_1157
  let v1402 : BitVec 32 := Scalar.remsi v1399 v1401
  let c0_i32_1161 : BitVec 32 := 0#32
  let v1404 : BitVec 1 := Scalar.cmpi .slt v1402 c0_i32_1161
  let c0_i32_1162 : BitVec 32 := 0#32
  let v1405 : BitVec 1 := Scalar.cmpi .slt v1401 c0_i32_1162
  let v1406 : BitVec 1 := Scalar.xori v1404 v1405
  let c0_i32_1160 : BitVec 32 := 0#32
  let v1403 : BitVec 1 := Scalar.cmpi .ne v1402 c0_i32_1160
  let v1407 : BitVec 1 := Scalar.andi v1406 v1403
  let v1408 : BitVec 32 := Scalar.addi v1402 v1401
  let v1409 : BitVec 32 := Scalar.select v1407 v1408 v1402
  let c0_i32_1164 : BitVec 32 := 0#32
  let v1411 : BitVec 1 := Scalar.cmpi .sgt v1409 c0_i32_1164
  let v1412 : BitVec 32 := Scalar.extui v1411
  let c0_i32_1165 : BitVec 32 := 0#32
  let v1413 : BitVec 1 := Scalar.cmpi .slt v1409 c0_i32_1165
  let v1414 : BitVec 32 := Scalar.extui v1413
  let v1415 : BitVec 32 := Scalar.subi v1412 v1414
  let c2_i32_1163 : BitVec 32 := 2#32
  let c0_i32_1166 : BitVec 32 := 0#32
  let v1416 : BitVec 1 := Scalar.cmpi .sgt c2_i32_1163 c0_i32_1166
  let v1417 : BitVec 32 := Scalar.extui v1416
  let c0_i32_1167 : BitVec 32 := 0#32
  let v1418 : BitVec 1 := Scalar.cmpi .slt c2_i32_1163 c0_i32_1167
  let v1419 : BitVec 32 := Scalar.extui v1418
  let v1420 : BitVec 32 := Scalar.subi v1417 v1419
  let v1421 : BitVec 1 := Scalar.cmpi .ne v1415 v1420
  let v1422 : BitVec 32 := Scalar.remsi v1409 c2_i32_1163
  let c0_i32_1168 : BitVec 32 := 0#32
  let v1423 : BitVec 1 := Scalar.cmpi .ne v1422 c0_i32_1168
  let v1424 : BitVec 1 := Scalar.andi v1421 v1423
  let v1410 : BitVec 32 := Scalar.divsi v1409 c2_i32_1163
  let c1_i32_1169 : BitVec 32 := 1#32
  let v1425 : BitVec 32 := Scalar.subi v1410 c1_i32_1169
  let v1426 : BitVec 32 := Scalar.select v1424 v1425 v1410
  let c0_i32_1170 : BitVec 32 := 0#32
  let v1427 : BitVec 1 := Scalar.cmpi .eq v1426 c0_i32_1170
  let v1428 : BitVec 32 := Scalar.extui v1427
  let c0_i32_1171 : BitVec 32 := 0#32
  let v1429 : BitVec 1 := Scalar.cmpi .ne v1428 c0_i32_1171
  v1429

def k0_off7 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1156 : BitVec 32 := 3#32
  let v1399 : BitVec 32 := Scalar.addi v2 c3_i32_1156
  let c8_i32_1157 : BitVec 32 := 8#32
  let c0_i32_1158 : BitVec 32 := 0#32
  let v1400 : BitVec 1 := Scalar.cmpi .eq c8_i32_1157 c0_i32_1158
  let c1_i32_1159 : BitVec 32 := 1#32
  let v1401 : BitVec 32 := Scalar.select v1400 c1_i32_1159 c8_i32_1157
  let v1402 : BitVec 32 := Scalar.remsi v1399 v1401
  let c0_i32_1161 : BitVec 32 := 0#32
  let v1404 : BitVec 1 := Scalar.cmpi .slt v1402 c0_i32_1161
  let c0_i32_1162 : BitVec 32 := 0#32
  let v1405 : BitVec 1 := Scalar.cmpi .slt v1401 c0_i32_1162
  let v1406 : BitVec 1 := Scalar.xori v1404 v1405
  let c0_i32_1160 : BitVec 32 := 0#32
  let v1403 : BitVec 1 := Scalar.cmpi .ne v1402 c0_i32_1160
  let v1407 : BitVec 1 := Scalar.andi v1406 v1403
  let v1408 : BitVec 32 := Scalar.addi v1402 v1401
  let v1409 : BitVec 32 := Scalar.select v1407 v1408 v1402
  let c32_i32_2343 : BitVec 32 := 32#32
  let v2951 : BitVec 32 := Scalar.muli v1409 c32_i32_2343
  let c0_i32_2353 : BitVec 32 := 0#32
  ![0, v2951.toNat, 0]
def k0_dev24 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1156 : BitVec 32 := 3#32
  let v1399 : BitVec 32 := Scalar.addi v2 c3_i32_1156
  let c8_i32_1157 : BitVec 32 := 8#32
  let c0_i32_1158 : BitVec 32 := 0#32
  let v1400 : BitVec 1 := Scalar.cmpi .eq c8_i32_1157 c0_i32_1158
  let c1_i32_1159 : BitVec 32 := 1#32
  let v1401 : BitVec 32 := Scalar.select v1400 c1_i32_1159 c8_i32_1157
  let v1402 : BitVec 32 := Scalar.remsi v1399 v1401
  let c0_i32_1161 : BitVec 32 := 0#32
  let v1404 : BitVec 1 := Scalar.cmpi .slt v1402 c0_i32_1161
  let c0_i32_1162 : BitVec 32 := 0#32
  let v1405 : BitVec 1 := Scalar.cmpi .slt v1401 c0_i32_1162
  let v1406 : BitVec 1 := Scalar.xori v1404 v1405
  let c0_i32_1160 : BitVec 32 := 0#32
  let v1403 : BitVec 1 := Scalar.cmpi .ne v1402 c0_i32_1160
  let v1407 : BitVec 1 := Scalar.andi v1406 v1403
  let v1408 : BitVec 32 := Scalar.addi v1402 v1401
  let v1409 : BitVec 32 := Scalar.select v1407 v1408 v1402
  let c1_i32_2347 : BitVec 32 := 1#32
  let v2952 : BitVec 32 := Scalar.muli v1409 c1_i32_2347
  let v2953 : BitVec 32 := Scalar.addi c0_i32_2348 v2952
  v2953.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1172 : BitVec 32 := 4#32
  let v1430 : BitVec 32 := Scalar.addi v2 c4_i32_1172
  let c8_i32_1173 : BitVec 32 := 8#32
  let c0_i32_1174 : BitVec 32 := 0#32
  let v1431 : BitVec 1 := Scalar.cmpi .eq c8_i32_1173 c0_i32_1174
  let c1_i32_1175 : BitVec 32 := 1#32
  let v1432 : BitVec 32 := Scalar.select v1431 c1_i32_1175 c8_i32_1173
  let v1433 : BitVec 32 := Scalar.remsi v1430 v1432
  let c0_i32_1177 : BitVec 32 := 0#32
  let v1435 : BitVec 1 := Scalar.cmpi .slt v1433 c0_i32_1177
  let c0_i32_1178 : BitVec 32 := 0#32
  let v1436 : BitVec 1 := Scalar.cmpi .slt v1432 c0_i32_1178
  let v1437 : BitVec 1 := Scalar.xori v1435 v1436
  let c0_i32_1176 : BitVec 32 := 0#32
  let v1434 : BitVec 1 := Scalar.cmpi .ne v1433 c0_i32_1176
  let v1438 : BitVec 1 := Scalar.andi v1437 v1434
  let v1439 : BitVec 32 := Scalar.addi v1433 v1432
  let v1440 : BitVec 32 := Scalar.select v1438 v1439 v1433
  let c0_i32_1180 : BitVec 32 := 0#32
  let v1442 : BitVec 1 := Scalar.cmpi .sgt v1440 c0_i32_1180
  let v1443 : BitVec 32 := Scalar.extui v1442
  let c0_i32_1181 : BitVec 32 := 0#32
  let v1444 : BitVec 1 := Scalar.cmpi .slt v1440 c0_i32_1181
  let v1445 : BitVec 32 := Scalar.extui v1444
  let v1446 : BitVec 32 := Scalar.subi v1443 v1445
  let c2_i32_1179 : BitVec 32 := 2#32
  let c0_i32_1182 : BitVec 32 := 0#32
  let v1447 : BitVec 1 := Scalar.cmpi .sgt c2_i32_1179 c0_i32_1182
  let v1448 : BitVec 32 := Scalar.extui v1447
  let c0_i32_1183 : BitVec 32 := 0#32
  let v1449 : BitVec 1 := Scalar.cmpi .slt c2_i32_1179 c0_i32_1183
  let v1450 : BitVec 32 := Scalar.extui v1449
  let v1451 : BitVec 32 := Scalar.subi v1448 v1450
  let v1452 : BitVec 1 := Scalar.cmpi .ne v1446 v1451
  let v1453 : BitVec 32 := Scalar.remsi v1440 c2_i32_1179
  let c0_i32_1184 : BitVec 32 := 0#32
  let v1454 : BitVec 1 := Scalar.cmpi .ne v1453 c0_i32_1184
  let v1455 : BitVec 1 := Scalar.andi v1452 v1454
  let v1441 : BitVec 32 := Scalar.divsi v1440 c2_i32_1179
  let c1_i32_1185 : BitVec 32 := 1#32
  let v1456 : BitVec 32 := Scalar.subi v1441 c1_i32_1185
  let v1457 : BitVec 32 := Scalar.select v1455 v1456 v1441
  let c0_i32_1186 : BitVec 32 := 0#32
  let v1458 : BitVec 1 := Scalar.cmpi .eq v1457 c0_i32_1186
  let v1459 : BitVec 32 := Scalar.extui v1458
  let c0_i32_1187 : BitVec 32 := 0#32
  let v1460 : BitVec 1 := Scalar.cmpi .ne v1459 c0_i32_1187
  v1460

def k0_off8 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1172 : BitVec 32 := 4#32
  let v1430 : BitVec 32 := Scalar.addi v2 c4_i32_1172
  let c8_i32_1173 : BitVec 32 := 8#32
  let c0_i32_1174 : BitVec 32 := 0#32
  let v1431 : BitVec 1 := Scalar.cmpi .eq c8_i32_1173 c0_i32_1174
  let c1_i32_1175 : BitVec 32 := 1#32
  let v1432 : BitVec 32 := Scalar.select v1431 c1_i32_1175 c8_i32_1173
  let v1433 : BitVec 32 := Scalar.remsi v1430 v1432
  let c0_i32_1177 : BitVec 32 := 0#32
  let v1435 : BitVec 1 := Scalar.cmpi .slt v1433 c0_i32_1177
  let c0_i32_1178 : BitVec 32 := 0#32
  let v1436 : BitVec 1 := Scalar.cmpi .slt v1432 c0_i32_1178
  let v1437 : BitVec 1 := Scalar.xori v1435 v1436
  let c0_i32_1176 : BitVec 32 := 0#32
  let v1434 : BitVec 1 := Scalar.cmpi .ne v1433 c0_i32_1176
  let v1438 : BitVec 1 := Scalar.andi v1437 v1434
  let v1439 : BitVec 32 := Scalar.addi v1433 v1432
  let v1440 : BitVec 32 := Scalar.select v1438 v1439 v1433
  let c32_i32_2343 : BitVec 32 := 32#32
  let v2951 : BitVec 32 := Scalar.muli v1440 c32_i32_2343
  let c0_i32_2353 : BitVec 32 := 0#32
  ![0, v2951.toNat, 0]
def k0_dev25 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1172 : BitVec 32 := 4#32
  let v1430 : BitVec 32 := Scalar.addi v2 c4_i32_1172
  let c8_i32_1173 : BitVec 32 := 8#32
  let c0_i32_1174 : BitVec 32 := 0#32
  let v1431 : BitVec 1 := Scalar.cmpi .eq c8_i32_1173 c0_i32_1174
  let c1_i32_1175 : BitVec 32 := 1#32
  let v1432 : BitVec 32 := Scalar.select v1431 c1_i32_1175 c8_i32_1173
  let v1433 : BitVec 32 := Scalar.remsi v1430 v1432
  let c0_i32_1177 : BitVec 32 := 0#32
  let v1435 : BitVec 1 := Scalar.cmpi .slt v1433 c0_i32_1177
  let c0_i32_1178 : BitVec 32 := 0#32
  let v1436 : BitVec 1 := Scalar.cmpi .slt v1432 c0_i32_1178
  let v1437 : BitVec 1 := Scalar.xori v1435 v1436
  let c0_i32_1176 : BitVec 32 := 0#32
  let v1434 : BitVec 1 := Scalar.cmpi .ne v1433 c0_i32_1176
  let v1438 : BitVec 1 := Scalar.andi v1437 v1434
  let v1439 : BitVec 32 := Scalar.addi v1433 v1432
  let v1440 : BitVec 32 := Scalar.select v1438 v1439 v1433
  let c1_i32_2347 : BitVec 32 := 1#32
  let v2952 : BitVec 32 := Scalar.muli v1440 c1_i32_2347
  let v2953 : BitVec 32 := Scalar.addi c0_i32_2348 v2952
  v2953.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1188 : BitVec 32 := 5#32
  let v1461 : BitVec 32 := Scalar.addi v2 c5_i32_1188
  let c8_i32_1189 : BitVec 32 := 8#32
  let c0_i32_1190 : BitVec 32 := 0#32
  let v1462 : BitVec 1 := Scalar.cmpi .eq c8_i32_1189 c0_i32_1190
  let c1_i32_1191 : BitVec 32 := 1#32
  let v1463 : BitVec 32 := Scalar.select v1462 c1_i32_1191 c8_i32_1189
  let v1464 : BitVec 32 := Scalar.remsi v1461 v1463
  let c0_i32_1193 : BitVec 32 := 0#32
  let v1466 : BitVec 1 := Scalar.cmpi .slt v1464 c0_i32_1193
  let c0_i32_1194 : BitVec 32 := 0#32
  let v1467 : BitVec 1 := Scalar.cmpi .slt v1463 c0_i32_1194
  let v1468 : BitVec 1 := Scalar.xori v1466 v1467
  let c0_i32_1192 : BitVec 32 := 0#32
  let v1465 : BitVec 1 := Scalar.cmpi .ne v1464 c0_i32_1192
  let v1469 : BitVec 1 := Scalar.andi v1468 v1465
  let v1470 : BitVec 32 := Scalar.addi v1464 v1463
  let v1471 : BitVec 32 := Scalar.select v1469 v1470 v1464
  let c0_i32_1196 : BitVec 32 := 0#32
  let v1473 : BitVec 1 := Scalar.cmpi .sgt v1471 c0_i32_1196
  let v1474 : BitVec 32 := Scalar.extui v1473
  let c0_i32_1197 : BitVec 32 := 0#32
  let v1475 : BitVec 1 := Scalar.cmpi .slt v1471 c0_i32_1197
  let v1476 : BitVec 32 := Scalar.extui v1475
  let v1477 : BitVec 32 := Scalar.subi v1474 v1476
  let c2_i32_1195 : BitVec 32 := 2#32
  let c0_i32_1198 : BitVec 32 := 0#32
  let v1478 : BitVec 1 := Scalar.cmpi .sgt c2_i32_1195 c0_i32_1198
  let v1479 : BitVec 32 := Scalar.extui v1478
  let c0_i32_1199 : BitVec 32 := 0#32
  let v1480 : BitVec 1 := Scalar.cmpi .slt c2_i32_1195 c0_i32_1199
  let v1481 : BitVec 32 := Scalar.extui v1480
  let v1482 : BitVec 32 := Scalar.subi v1479 v1481
  let v1483 : BitVec 1 := Scalar.cmpi .ne v1477 v1482
  let v1484 : BitVec 32 := Scalar.remsi v1471 c2_i32_1195
  let c0_i32_1200 : BitVec 32 := 0#32
  let v1485 : BitVec 1 := Scalar.cmpi .ne v1484 c0_i32_1200
  let v1486 : BitVec 1 := Scalar.andi v1483 v1485
  let v1472 : BitVec 32 := Scalar.divsi v1471 c2_i32_1195
  let c1_i32_1201 : BitVec 32 := 1#32
  let v1487 : BitVec 32 := Scalar.subi v1472 c1_i32_1201
  let v1488 : BitVec 32 := Scalar.select v1486 v1487 v1472
  let c0_i32_1202 : BitVec 32 := 0#32
  let v1489 : BitVec 1 := Scalar.cmpi .eq v1488 c0_i32_1202
  let v1490 : BitVec 32 := Scalar.extui v1489
  let c0_i32_1203 : BitVec 32 := 0#32
  let v1491 : BitVec 1 := Scalar.cmpi .ne v1490 c0_i32_1203
  v1491

def k0_off9 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1188 : BitVec 32 := 5#32
  let v1461 : BitVec 32 := Scalar.addi v2 c5_i32_1188
  let c8_i32_1189 : BitVec 32 := 8#32
  let c0_i32_1190 : BitVec 32 := 0#32
  let v1462 : BitVec 1 := Scalar.cmpi .eq c8_i32_1189 c0_i32_1190
  let c1_i32_1191 : BitVec 32 := 1#32
  let v1463 : BitVec 32 := Scalar.select v1462 c1_i32_1191 c8_i32_1189
  let v1464 : BitVec 32 := Scalar.remsi v1461 v1463
  let c0_i32_1193 : BitVec 32 := 0#32
  let v1466 : BitVec 1 := Scalar.cmpi .slt v1464 c0_i32_1193
  let c0_i32_1194 : BitVec 32 := 0#32
  let v1467 : BitVec 1 := Scalar.cmpi .slt v1463 c0_i32_1194
  let v1468 : BitVec 1 := Scalar.xori v1466 v1467
  let c0_i32_1192 : BitVec 32 := 0#32
  let v1465 : BitVec 1 := Scalar.cmpi .ne v1464 c0_i32_1192
  let v1469 : BitVec 1 := Scalar.andi v1468 v1465
  let v1470 : BitVec 32 := Scalar.addi v1464 v1463
  let v1471 : BitVec 32 := Scalar.select v1469 v1470 v1464
  let c32_i32_2343 : BitVec 32 := 32#32
  let v2951 : BitVec 32 := Scalar.muli v1471 c32_i32_2343
  let c0_i32_2353 : BitVec 32 := 0#32
  ![0, v2951.toNat, 0]
def k0_dev26 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1188 : BitVec 32 := 5#32
  let v1461 : BitVec 32 := Scalar.addi v2 c5_i32_1188
  let c8_i32_1189 : BitVec 32 := 8#32
  let c0_i32_1190 : BitVec 32 := 0#32
  let v1462 : BitVec 1 := Scalar.cmpi .eq c8_i32_1189 c0_i32_1190
  let c1_i32_1191 : BitVec 32 := 1#32
  let v1463 : BitVec 32 := Scalar.select v1462 c1_i32_1191 c8_i32_1189
  let v1464 : BitVec 32 := Scalar.remsi v1461 v1463
  let c0_i32_1193 : BitVec 32 := 0#32
  let v1466 : BitVec 1 := Scalar.cmpi .slt v1464 c0_i32_1193
  let c0_i32_1194 : BitVec 32 := 0#32
  let v1467 : BitVec 1 := Scalar.cmpi .slt v1463 c0_i32_1194
  let v1468 : BitVec 1 := Scalar.xori v1466 v1467
  let c0_i32_1192 : BitVec 32 := 0#32
  let v1465 : BitVec 1 := Scalar.cmpi .ne v1464 c0_i32_1192
  let v1469 : BitVec 1 := Scalar.andi v1468 v1465
  let v1470 : BitVec 32 := Scalar.addi v1464 v1463
  let v1471 : BitVec 32 := Scalar.select v1469 v1470 v1464
  let c1_i32_2347 : BitVec 32 := 1#32
  let v2952 : BitVec 32 := Scalar.muli v1471 c1_i32_2347
  let v2953 : BitVec 32 := Scalar.addi c0_i32_2348 v2952
  v2953.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1204 : BitVec 32 := 6#32
  let v1492 : BitVec 32 := Scalar.addi v2 c6_i32_1204
  let c8_i32_1205 : BitVec 32 := 8#32
  let c0_i32_1206 : BitVec 32 := 0#32
  let v1493 : BitVec 1 := Scalar.cmpi .eq c8_i32_1205 c0_i32_1206
  let c1_i32_1207 : BitVec 32 := 1#32
  let v1494 : BitVec 32 := Scalar.select v1493 c1_i32_1207 c8_i32_1205
  let v1495 : BitVec 32 := Scalar.remsi v1492 v1494
  let c0_i32_1209 : BitVec 32 := 0#32
  let v1497 : BitVec 1 := Scalar.cmpi .slt v1495 c0_i32_1209
  let c0_i32_1210 : BitVec 32 := 0#32
  let v1498 : BitVec 1 := Scalar.cmpi .slt v1494 c0_i32_1210
  let v1499 : BitVec 1 := Scalar.xori v1497 v1498
  let c0_i32_1208 : BitVec 32 := 0#32
  let v1496 : BitVec 1 := Scalar.cmpi .ne v1495 c0_i32_1208
  let v1500 : BitVec 1 := Scalar.andi v1499 v1496
  let v1501 : BitVec 32 := Scalar.addi v1495 v1494
  let v1502 : BitVec 32 := Scalar.select v1500 v1501 v1495
  let c0_i32_1212 : BitVec 32 := 0#32
  let v1504 : BitVec 1 := Scalar.cmpi .sgt v1502 c0_i32_1212
  let v1505 : BitVec 32 := Scalar.extui v1504
  let c0_i32_1213 : BitVec 32 := 0#32
  let v1506 : BitVec 1 := Scalar.cmpi .slt v1502 c0_i32_1213
  let v1507 : BitVec 32 := Scalar.extui v1506
  let v1508 : BitVec 32 := Scalar.subi v1505 v1507
  let c2_i32_1211 : BitVec 32 := 2#32
  let c0_i32_1214 : BitVec 32 := 0#32
  let v1509 : BitVec 1 := Scalar.cmpi .sgt c2_i32_1211 c0_i32_1214
  let v1510 : BitVec 32 := Scalar.extui v1509
  let c0_i32_1215 : BitVec 32 := 0#32
  let v1511 : BitVec 1 := Scalar.cmpi .slt c2_i32_1211 c0_i32_1215
  let v1512 : BitVec 32 := Scalar.extui v1511
  let v1513 : BitVec 32 := Scalar.subi v1510 v1512
  let v1514 : BitVec 1 := Scalar.cmpi .ne v1508 v1513
  let v1515 : BitVec 32 := Scalar.remsi v1502 c2_i32_1211
  let c0_i32_1216 : BitVec 32 := 0#32
  let v1516 : BitVec 1 := Scalar.cmpi .ne v1515 c0_i32_1216
  let v1517 : BitVec 1 := Scalar.andi v1514 v1516
  let v1503 : BitVec 32 := Scalar.divsi v1502 c2_i32_1211
  let c1_i32_1217 : BitVec 32 := 1#32
  let v1518 : BitVec 32 := Scalar.subi v1503 c1_i32_1217
  let v1519 : BitVec 32 := Scalar.select v1517 v1518 v1503
  let c0_i32_1218 : BitVec 32 := 0#32
  let v1520 : BitVec 1 := Scalar.cmpi .eq v1519 c0_i32_1218
  let v1521 : BitVec 32 := Scalar.extui v1520
  let c0_i32_1219 : BitVec 32 := 0#32
  let v1522 : BitVec 1 := Scalar.cmpi .ne v1521 c0_i32_1219
  v1522

def k0_off10 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1204 : BitVec 32 := 6#32
  let v1492 : BitVec 32 := Scalar.addi v2 c6_i32_1204
  let c8_i32_1205 : BitVec 32 := 8#32
  let c0_i32_1206 : BitVec 32 := 0#32
  let v1493 : BitVec 1 := Scalar.cmpi .eq c8_i32_1205 c0_i32_1206
  let c1_i32_1207 : BitVec 32 := 1#32
  let v1494 : BitVec 32 := Scalar.select v1493 c1_i32_1207 c8_i32_1205
  let v1495 : BitVec 32 := Scalar.remsi v1492 v1494
  let c0_i32_1209 : BitVec 32 := 0#32
  let v1497 : BitVec 1 := Scalar.cmpi .slt v1495 c0_i32_1209
  let c0_i32_1210 : BitVec 32 := 0#32
  let v1498 : BitVec 1 := Scalar.cmpi .slt v1494 c0_i32_1210
  let v1499 : BitVec 1 := Scalar.xori v1497 v1498
  let c0_i32_1208 : BitVec 32 := 0#32
  let v1496 : BitVec 1 := Scalar.cmpi .ne v1495 c0_i32_1208
  let v1500 : BitVec 1 := Scalar.andi v1499 v1496
  let v1501 : BitVec 32 := Scalar.addi v1495 v1494
  let v1502 : BitVec 32 := Scalar.select v1500 v1501 v1495
  let c32_i32_2343 : BitVec 32 := 32#32
  let v2951 : BitVec 32 := Scalar.muli v1502 c32_i32_2343
  let c0_i32_2353 : BitVec 32 := 0#32
  ![0, v2951.toNat, 0]
def k0_dev27 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1204 : BitVec 32 := 6#32
  let v1492 : BitVec 32 := Scalar.addi v2 c6_i32_1204
  let c8_i32_1205 : BitVec 32 := 8#32
  let c0_i32_1206 : BitVec 32 := 0#32
  let v1493 : BitVec 1 := Scalar.cmpi .eq c8_i32_1205 c0_i32_1206
  let c1_i32_1207 : BitVec 32 := 1#32
  let v1494 : BitVec 32 := Scalar.select v1493 c1_i32_1207 c8_i32_1205
  let v1495 : BitVec 32 := Scalar.remsi v1492 v1494
  let c0_i32_1209 : BitVec 32 := 0#32
  let v1497 : BitVec 1 := Scalar.cmpi .slt v1495 c0_i32_1209
  let c0_i32_1210 : BitVec 32 := 0#32
  let v1498 : BitVec 1 := Scalar.cmpi .slt v1494 c0_i32_1210
  let v1499 : BitVec 1 := Scalar.xori v1497 v1498
  let c0_i32_1208 : BitVec 32 := 0#32
  let v1496 : BitVec 1 := Scalar.cmpi .ne v1495 c0_i32_1208
  let v1500 : BitVec 1 := Scalar.andi v1499 v1496
  let v1501 : BitVec 32 := Scalar.addi v1495 v1494
  let v1502 : BitVec 32 := Scalar.select v1500 v1501 v1495
  let c1_i32_2347 : BitVec 32 := 1#32
  let v2952 : BitVec 32 := Scalar.muli v1502 c1_i32_2347
  let v2953 : BitVec 32 := Scalar.addi c0_i32_2348 v2952
  v2953.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1220 : BitVec 32 := 7#32
  let v1523 : BitVec 32 := Scalar.addi v2 c7_i32_1220
  let c8_i32_1221 : BitVec 32 := 8#32
  let c0_i32_1222 : BitVec 32 := 0#32
  let v1524 : BitVec 1 := Scalar.cmpi .eq c8_i32_1221 c0_i32_1222
  let c1_i32_1223 : BitVec 32 := 1#32
  let v1525 : BitVec 32 := Scalar.select v1524 c1_i32_1223 c8_i32_1221
  let v1526 : BitVec 32 := Scalar.remsi v1523 v1525
  let c0_i32_1225 : BitVec 32 := 0#32
  let v1528 : BitVec 1 := Scalar.cmpi .slt v1526 c0_i32_1225
  let c0_i32_1226 : BitVec 32 := 0#32
  let v1529 : BitVec 1 := Scalar.cmpi .slt v1525 c0_i32_1226
  let v1530 : BitVec 1 := Scalar.xori v1528 v1529
  let c0_i32_1224 : BitVec 32 := 0#32
  let v1527 : BitVec 1 := Scalar.cmpi .ne v1526 c0_i32_1224
  let v1531 : BitVec 1 := Scalar.andi v1530 v1527
  let v1532 : BitVec 32 := Scalar.addi v1526 v1525
  let v1533 : BitVec 32 := Scalar.select v1531 v1532 v1526
  let c0_i32_1228 : BitVec 32 := 0#32
  let v1535 : BitVec 1 := Scalar.cmpi .sgt v1533 c0_i32_1228
  let v1536 : BitVec 32 := Scalar.extui v1535
  let c0_i32_1229 : BitVec 32 := 0#32
  let v1537 : BitVec 1 := Scalar.cmpi .slt v1533 c0_i32_1229
  let v1538 : BitVec 32 := Scalar.extui v1537
  let v1539 : BitVec 32 := Scalar.subi v1536 v1538
  let c2_i32_1227 : BitVec 32 := 2#32
  let c0_i32_1230 : BitVec 32 := 0#32
  let v1540 : BitVec 1 := Scalar.cmpi .sgt c2_i32_1227 c0_i32_1230
  let v1541 : BitVec 32 := Scalar.extui v1540
  let c0_i32_1231 : BitVec 32 := 0#32
  let v1542 : BitVec 1 := Scalar.cmpi .slt c2_i32_1227 c0_i32_1231
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_1227
  let c0_i32_1232 : BitVec 32 := 0#32
  let v1547 : BitVec 1 := Scalar.cmpi .ne v1546 c0_i32_1232
  let v1548 : BitVec 1 := Scalar.andi v1545 v1547
  let v1534 : BitVec 32 := Scalar.divsi v1533 c2_i32_1227
  let c1_i32_1233 : BitVec 32 := 1#32
  let v1549 : BitVec 32 := Scalar.subi v1534 c1_i32_1233
  let v1550 : BitVec 32 := Scalar.select v1548 v1549 v1534
  let c0_i32_1234 : BitVec 32 := 0#32
  let v1551 : BitVec 1 := Scalar.cmpi .eq v1550 c0_i32_1234
  let v1552 : BitVec 32 := Scalar.extui v1551
  let c0_i32_1235 : BitVec 32 := 0#32
  let v1553 : BitVec 1 := Scalar.cmpi .ne v1552 c0_i32_1235
  v1553

def k0_off11 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1220 : BitVec 32 := 7#32
  let v1523 : BitVec 32 := Scalar.addi v2 c7_i32_1220
  let c8_i32_1221 : BitVec 32 := 8#32
  let c0_i32_1222 : BitVec 32 := 0#32
  let v1524 : BitVec 1 := Scalar.cmpi .eq c8_i32_1221 c0_i32_1222
  let c1_i32_1223 : BitVec 32 := 1#32
  let v1525 : BitVec 32 := Scalar.select v1524 c1_i32_1223 c8_i32_1221
  let v1526 : BitVec 32 := Scalar.remsi v1523 v1525
  let c0_i32_1225 : BitVec 32 := 0#32
  let v1528 : BitVec 1 := Scalar.cmpi .slt v1526 c0_i32_1225
  let c0_i32_1226 : BitVec 32 := 0#32
  let v1529 : BitVec 1 := Scalar.cmpi .slt v1525 c0_i32_1226
  let v1530 : BitVec 1 := Scalar.xori v1528 v1529
  let c0_i32_1224 : BitVec 32 := 0#32
  let v1527 : BitVec 1 := Scalar.cmpi .ne v1526 c0_i32_1224
  let v1531 : BitVec 1 := Scalar.andi v1530 v1527
  let v1532 : BitVec 32 := Scalar.addi v1526 v1525
  let v1533 : BitVec 32 := Scalar.select v1531 v1532 v1526
  let c32_i32_2343 : BitVec 32 := 32#32
  let v2951 : BitVec 32 := Scalar.muli v1533 c32_i32_2343
  let c0_i32_2353 : BitVec 32 := 0#32
  ![0, v2951.toNat, 0]
def k0_dev28 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1220 : BitVec 32 := 7#32
  let v1523 : BitVec 32 := Scalar.addi v2 c7_i32_1220
  let c8_i32_1221 : BitVec 32 := 8#32
  let c0_i32_1222 : BitVec 32 := 0#32
  let v1524 : BitVec 1 := Scalar.cmpi .eq c8_i32_1221 c0_i32_1222
  let c1_i32_1223 : BitVec 32 := 1#32
  let v1525 : BitVec 32 := Scalar.select v1524 c1_i32_1223 c8_i32_1221
  let v1526 : BitVec 32 := Scalar.remsi v1523 v1525
  let c0_i32_1225 : BitVec 32 := 0#32
  let v1528 : BitVec 1 := Scalar.cmpi .slt v1526 c0_i32_1225
  let c0_i32_1226 : BitVec 32 := 0#32
  let v1529 : BitVec 1 := Scalar.cmpi .slt v1525 c0_i32_1226
  let v1530 : BitVec 1 := Scalar.xori v1528 v1529
  let c0_i32_1224 : BitVec 32 := 0#32
  let v1527 : BitVec 1 := Scalar.cmpi .ne v1526 c0_i32_1224
  let v1531 : BitVec 1 := Scalar.andi v1530 v1527
  let v1532 : BitVec 32 := Scalar.addi v1526 v1525
  let v1533 : BitVec 32 := Scalar.select v1531 v1532 v1526
  let c1_i32_2347 : BitVec 32 := 1#32
  let v2952 : BitVec 32 := Scalar.muli v1533 c1_i32_2347
  let v2953 : BitVec 32 := Scalar.addi c0_i32_2348 v2952
  v2953.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1323 : BitVec 32 := 1#32
  let v1634 : BitVec 32 := Scalar.addi v2 c1_i32_1323
  let c8_i32_1324 : BitVec 32 := 8#32
  let c0_i32_1325 : BitVec 32 := 0#32
  let v1635 : BitVec 1 := Scalar.cmpi .eq c8_i32_1324 c0_i32_1325
  let c1_i32_1326 : BitVec 32 := 1#32
  let v1636 : BitVec 32 := Scalar.select v1635 c1_i32_1326 c8_i32_1324
  let v1637 : BitVec 32 := Scalar.remsi v1634 v1636
  let c0_i32_1328 : BitVec 32 := 0#32
  let v1639 : BitVec 1 := Scalar.cmpi .slt v1637 c0_i32_1328
  let c0_i32_1329 : BitVec 32 := 0#32
  let v1640 : BitVec 1 := Scalar.cmpi .slt v1636 c0_i32_1329
  let v1641 : BitVec 1 := Scalar.xori v1639 v1640
  let c0_i32_1327 : BitVec 32 := 0#32
  let v1638 : BitVec 1 := Scalar.cmpi .ne v1637 c0_i32_1327
  let v1642 : BitVec 1 := Scalar.andi v1641 v1638
  let v1643 : BitVec 32 := Scalar.addi v1637 v1636
  let v1644 : BitVec 32 := Scalar.select v1642 v1643 v1637
  let c0_i32_1331 : BitVec 32 := 0#32
  let v1646 : BitVec 1 := Scalar.cmpi .sgt v1644 c0_i32_1331
  let v1647 : BitVec 32 := Scalar.extui v1646
  let c0_i32_1332 : BitVec 32 := 0#32
  let v1648 : BitVec 1 := Scalar.cmpi .slt v1644 c0_i32_1332
  let v1649 : BitVec 32 := Scalar.extui v1648
  let v1650 : BitVec 32 := Scalar.subi v1647 v1649
  let c2_i32_1330 : BitVec 32 := 2#32
  let c0_i32_1333 : BitVec 32 := 0#32
  let v1651 : BitVec 1 := Scalar.cmpi .sgt c2_i32_1330 c0_i32_1333
  let v1652 : BitVec 32 := Scalar.extui v1651
  let c0_i32_1334 : BitVec 32 := 0#32
  let v1653 : BitVec 1 := Scalar.cmpi .slt c2_i32_1330 c0_i32_1334
  let v1654 : BitVec 32 := Scalar.extui v1653
  let v1655 : BitVec 32 := Scalar.subi v1652 v1654
  let v1656 : BitVec 1 := Scalar.cmpi .ne v1650 v1655
  let v1657 : BitVec 32 := Scalar.remsi v1644 c2_i32_1330
  let c0_i32_1335 : BitVec 32 := 0#32
  let v1658 : BitVec 1 := Scalar.cmpi .ne v1657 c0_i32_1335
  let v1659 : BitVec 1 := Scalar.andi v1656 v1658
  let v1645 : BitVec 32 := Scalar.divsi v1644 c2_i32_1330
  let c1_i32_1336 : BitVec 32 := 1#32
  let v1660 : BitVec 32 := Scalar.subi v1645 c1_i32_1336
  let v1661 : BitVec 32 := Scalar.select v1659 v1660 v1645
  let c1_i32_1337 : BitVec 32 := 1#32
  let v1662 : BitVec 1 := Scalar.cmpi .eq v1661 c1_i32_1337
  let v1663 : BitVec 32 := Scalar.extui v1662
  let c0_i32_1338 : BitVec 32 := 0#32
  let v1664 : BitVec 1 := Scalar.cmpi .ne v1663 c0_i32_1338
  v1664

def k0_off12 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1323 : BitVec 32 := 1#32
  let v1634 : BitVec 32 := Scalar.addi v2 c1_i32_1323
  let c8_i32_1324 : BitVec 32 := 8#32
  let c0_i32_1325 : BitVec 32 := 0#32
  let v1635 : BitVec 1 := Scalar.cmpi .eq c8_i32_1324 c0_i32_1325
  let c1_i32_1326 : BitVec 32 := 1#32
  let v1636 : BitVec 32 := Scalar.select v1635 c1_i32_1326 c8_i32_1324
  let v1637 : BitVec 32 := Scalar.remsi v1634 v1636
  let c0_i32_1328 : BitVec 32 := 0#32
  let v1639 : BitVec 1 := Scalar.cmpi .slt v1637 c0_i32_1328
  let c0_i32_1329 : BitVec 32 := 0#32
  let v1640 : BitVec 1 := Scalar.cmpi .slt v1636 c0_i32_1329
  let v1641 : BitVec 1 := Scalar.xori v1639 v1640
  let c0_i32_1327 : BitVec 32 := 0#32
  let v1638 : BitVec 1 := Scalar.cmpi .ne v1637 c0_i32_1327
  let v1642 : BitVec 1 := Scalar.andi v1641 v1638
  let v1643 : BitVec 32 := Scalar.addi v1637 v1636
  let v1644 : BitVec 32 := Scalar.select v1642 v1643 v1637
  let c32_i32_2343 : BitVec 32 := 32#32
  let v2951 : BitVec 32 := Scalar.muli v1644 c32_i32_2343
  let c0_i32_2353 : BitVec 32 := 0#32
  ![0, v2951.toNat, 0]
def k0_dev29 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1323 : BitVec 32 := 1#32
  let v1634 : BitVec 32 := Scalar.addi v2 c1_i32_1323
  let c8_i32_1324 : BitVec 32 := 8#32
  let c0_i32_1325 : BitVec 32 := 0#32
  let v1635 : BitVec 1 := Scalar.cmpi .eq c8_i32_1324 c0_i32_1325
  let c1_i32_1326 : BitVec 32 := 1#32
  let v1636 : BitVec 32 := Scalar.select v1635 c1_i32_1326 c8_i32_1324
  let v1637 : BitVec 32 := Scalar.remsi v1634 v1636
  let c0_i32_1328 : BitVec 32 := 0#32
  let v1639 : BitVec 1 := Scalar.cmpi .slt v1637 c0_i32_1328
  let c0_i32_1329 : BitVec 32 := 0#32
  let v1640 : BitVec 1 := Scalar.cmpi .slt v1636 c0_i32_1329
  let v1641 : BitVec 1 := Scalar.xori v1639 v1640
  let c0_i32_1327 : BitVec 32 := 0#32
  let v1638 : BitVec 1 := Scalar.cmpi .ne v1637 c0_i32_1327
  let v1642 : BitVec 1 := Scalar.andi v1641 v1638
  let v1643 : BitVec 32 := Scalar.addi v1637 v1636
  let v1644 : BitVec 32 := Scalar.select v1642 v1643 v1637
  let c1_i32_2347 : BitVec 32 := 1#32
  let v2952 : BitVec 32 := Scalar.muli v1644 c1_i32_2347
  let v2953 : BitVec 32 := Scalar.addi c0_i32_2348 v2952
  v2953.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1339 : BitVec 32 := 2#32
  let v1665 : BitVec 32 := Scalar.addi v2 c2_i32_1339
  let c8_i32_1340 : BitVec 32 := 8#32
  let c0_i32_1341 : BitVec 32 := 0#32
  let v1666 : BitVec 1 := Scalar.cmpi .eq c8_i32_1340 c0_i32_1341
  let c1_i32_1342 : BitVec 32 := 1#32
  let v1667 : BitVec 32 := Scalar.select v1666 c1_i32_1342 c8_i32_1340
  let v1668 : BitVec 32 := Scalar.remsi v1665 v1667
  let c0_i32_1344 : BitVec 32 := 0#32
  let v1670 : BitVec 1 := Scalar.cmpi .slt v1668 c0_i32_1344
  let c0_i32_1345 : BitVec 32 := 0#32
  let v1671 : BitVec 1 := Scalar.cmpi .slt v1667 c0_i32_1345
  let v1672 : BitVec 1 := Scalar.xori v1670 v1671
  let c0_i32_1343 : BitVec 32 := 0#32
  let v1669 : BitVec 1 := Scalar.cmpi .ne v1668 c0_i32_1343
  let v1673 : BitVec 1 := Scalar.andi v1672 v1669
  let v1674 : BitVec 32 := Scalar.addi v1668 v1667
  let v1675 : BitVec 32 := Scalar.select v1673 v1674 v1668
  let c0_i32_1347 : BitVec 32 := 0#32
  let v1677 : BitVec 1 := Scalar.cmpi .sgt v1675 c0_i32_1347
  let v1678 : BitVec 32 := Scalar.extui v1677
  let c0_i32_1348 : BitVec 32 := 0#32
  let v1679 : BitVec 1 := Scalar.cmpi .slt v1675 c0_i32_1348
  let v1680 : BitVec 32 := Scalar.extui v1679
  let v1681 : BitVec 32 := Scalar.subi v1678 v1680
  let c2_i32_1346 : BitVec 32 := 2#32
  let c0_i32_1349 : BitVec 32 := 0#32
  let v1682 : BitVec 1 := Scalar.cmpi .sgt c2_i32_1346 c0_i32_1349
  let v1683 : BitVec 32 := Scalar.extui v1682
  let c0_i32_1350 : BitVec 32 := 0#32
  let v1684 : BitVec 1 := Scalar.cmpi .slt c2_i32_1346 c0_i32_1350
  let v1685 : BitVec 32 := Scalar.extui v1684
  let v1686 : BitVec 32 := Scalar.subi v1683 v1685
  let v1687 : BitVec 1 := Scalar.cmpi .ne v1681 v1686
  let v1688 : BitVec 32 := Scalar.remsi v1675 c2_i32_1346
  let c0_i32_1351 : BitVec 32 := 0#32
  let v1689 : BitVec 1 := Scalar.cmpi .ne v1688 c0_i32_1351
  let v1690 : BitVec 1 := Scalar.andi v1687 v1689
  let v1676 : BitVec 32 := Scalar.divsi v1675 c2_i32_1346
  let c1_i32_1352 : BitVec 32 := 1#32
  let v1691 : BitVec 32 := Scalar.subi v1676 c1_i32_1352
  let v1692 : BitVec 32 := Scalar.select v1690 v1691 v1676
  let c1_i32_1353 : BitVec 32 := 1#32
  let v1693 : BitVec 1 := Scalar.cmpi .eq v1692 c1_i32_1353
  let v1694 : BitVec 32 := Scalar.extui v1693
  let c0_i32_1354 : BitVec 32 := 0#32
  let v1695 : BitVec 1 := Scalar.cmpi .ne v1694 c0_i32_1354
  v1695

def k0_off13 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1339 : BitVec 32 := 2#32
  let v1665 : BitVec 32 := Scalar.addi v2 c2_i32_1339
  let c8_i32_1340 : BitVec 32 := 8#32
  let c0_i32_1341 : BitVec 32 := 0#32
  let v1666 : BitVec 1 := Scalar.cmpi .eq c8_i32_1340 c0_i32_1341
  let c1_i32_1342 : BitVec 32 := 1#32
  let v1667 : BitVec 32 := Scalar.select v1666 c1_i32_1342 c8_i32_1340
  let v1668 : BitVec 32 := Scalar.remsi v1665 v1667
  let c0_i32_1344 : BitVec 32 := 0#32
  let v1670 : BitVec 1 := Scalar.cmpi .slt v1668 c0_i32_1344
  let c0_i32_1345 : BitVec 32 := 0#32
  let v1671 : BitVec 1 := Scalar.cmpi .slt v1667 c0_i32_1345
  let v1672 : BitVec 1 := Scalar.xori v1670 v1671
  let c0_i32_1343 : BitVec 32 := 0#32
  let v1669 : BitVec 1 := Scalar.cmpi .ne v1668 c0_i32_1343
  let v1673 : BitVec 1 := Scalar.andi v1672 v1669
  let v1674 : BitVec 32 := Scalar.addi v1668 v1667
  let v1675 : BitVec 32 := Scalar.select v1673 v1674 v1668
  let c32_i32_2343 : BitVec 32 := 32#32
  let v2951 : BitVec 32 := Scalar.muli v1675 c32_i32_2343
  let c0_i32_2353 : BitVec 32 := 0#32
  ![0, v2951.toNat, 0]
def k0_dev30 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1339 : BitVec 32 := 2#32
  let v1665 : BitVec 32 := Scalar.addi v2 c2_i32_1339
  let c8_i32_1340 : BitVec 32 := 8#32
  let c0_i32_1341 : BitVec 32 := 0#32
  let v1666 : BitVec 1 := Scalar.cmpi .eq c8_i32_1340 c0_i32_1341
  let c1_i32_1342 : BitVec 32 := 1#32
  let v1667 : BitVec 32 := Scalar.select v1666 c1_i32_1342 c8_i32_1340
  let v1668 : BitVec 32 := Scalar.remsi v1665 v1667
  let c0_i32_1344 : BitVec 32 := 0#32
  let v1670 : BitVec 1 := Scalar.cmpi .slt v1668 c0_i32_1344
  let c0_i32_1345 : BitVec 32 := 0#32
  let v1671 : BitVec 1 := Scalar.cmpi .slt v1667 c0_i32_1345
  let v1672 : BitVec 1 := Scalar.xori v1670 v1671
  let c0_i32_1343 : BitVec 32 := 0#32
  let v1669 : BitVec 1 := Scalar.cmpi .ne v1668 c0_i32_1343
  let v1673 : BitVec 1 := Scalar.andi v1672 v1669
  let v1674 : BitVec 32 := Scalar.addi v1668 v1667
  let v1675 : BitVec 32 := Scalar.select v1673 v1674 v1668
  let c1_i32_2347 : BitVec 32 := 1#32
  let v2952 : BitVec 32 := Scalar.muli v1675 c1_i32_2347
  let v2953 : BitVec 32 := Scalar.addi c0_i32_2348 v2952
  v2953.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1355 : BitVec 32 := 3#32
  let v1696 : BitVec 32 := Scalar.addi v2 c3_i32_1355
  let c8_i32_1356 : BitVec 32 := 8#32
  let c0_i32_1357 : BitVec 32 := 0#32
  let v1697 : BitVec 1 := Scalar.cmpi .eq c8_i32_1356 c0_i32_1357
  let c1_i32_1358 : BitVec 32 := 1#32
  let v1698 : BitVec 32 := Scalar.select v1697 c1_i32_1358 c8_i32_1356
  let v1699 : BitVec 32 := Scalar.remsi v1696 v1698
  let c0_i32_1360 : BitVec 32 := 0#32
  let v1701 : BitVec 1 := Scalar.cmpi .slt v1699 c0_i32_1360
  let c0_i32_1361 : BitVec 32 := 0#32
  let v1702 : BitVec 1 := Scalar.cmpi .slt v1698 c0_i32_1361
  let v1703 : BitVec 1 := Scalar.xori v1701 v1702
  let c0_i32_1359 : BitVec 32 := 0#32
  let v1700 : BitVec 1 := Scalar.cmpi .ne v1699 c0_i32_1359
  let v1704 : BitVec 1 := Scalar.andi v1703 v1700
  let v1705 : BitVec 32 := Scalar.addi v1699 v1698
  let v1706 : BitVec 32 := Scalar.select v1704 v1705 v1699
  let c0_i32_1363 : BitVec 32 := 0#32
  let v1708 : BitVec 1 := Scalar.cmpi .sgt v1706 c0_i32_1363
  let v1709 : BitVec 32 := Scalar.extui v1708
  let c0_i32_1364 : BitVec 32 := 0#32
  let v1710 : BitVec 1 := Scalar.cmpi .slt v1706 c0_i32_1364
  let v1711 : BitVec 32 := Scalar.extui v1710
  let v1712 : BitVec 32 := Scalar.subi v1709 v1711
  let c2_i32_1362 : BitVec 32 := 2#32
  let c0_i32_1365 : BitVec 32 := 0#32
  let v1713 : BitVec 1 := Scalar.cmpi .sgt c2_i32_1362 c0_i32_1365
  let v1714 : BitVec 32 := Scalar.extui v1713
  let c0_i32_1366 : BitVec 32 := 0#32
  let v1715 : BitVec 1 := Scalar.cmpi .slt c2_i32_1362 c0_i32_1366
  let v1716 : BitVec 32 := Scalar.extui v1715
  let v1717 : BitVec 32 := Scalar.subi v1714 v1716
  let v1718 : BitVec 1 := Scalar.cmpi .ne v1712 v1717
  let v1719 : BitVec 32 := Scalar.remsi v1706 c2_i32_1362
  let c0_i32_1367 : BitVec 32 := 0#32
  let v1720 : BitVec 1 := Scalar.cmpi .ne v1719 c0_i32_1367
  let v1721 : BitVec 1 := Scalar.andi v1718 v1720
  let v1707 : BitVec 32 := Scalar.divsi v1706 c2_i32_1362
  let c1_i32_1368 : BitVec 32 := 1#32
  let v1722 : BitVec 32 := Scalar.subi v1707 c1_i32_1368
  let v1723 : BitVec 32 := Scalar.select v1721 v1722 v1707
  let c1_i32_1369 : BitVec 32 := 1#32
  let v1724 : BitVec 1 := Scalar.cmpi .eq v1723 c1_i32_1369
  let v1725 : BitVec 32 := Scalar.extui v1724
  let c0_i32_1370 : BitVec 32 := 0#32
  let v1726 : BitVec 1 := Scalar.cmpi .ne v1725 c0_i32_1370
  v1726

def k0_off14 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1355 : BitVec 32 := 3#32
  let v1696 : BitVec 32 := Scalar.addi v2 c3_i32_1355
  let c8_i32_1356 : BitVec 32 := 8#32
  let c0_i32_1357 : BitVec 32 := 0#32
  let v1697 : BitVec 1 := Scalar.cmpi .eq c8_i32_1356 c0_i32_1357
  let c1_i32_1358 : BitVec 32 := 1#32
  let v1698 : BitVec 32 := Scalar.select v1697 c1_i32_1358 c8_i32_1356
  let v1699 : BitVec 32 := Scalar.remsi v1696 v1698
  let c0_i32_1360 : BitVec 32 := 0#32
  let v1701 : BitVec 1 := Scalar.cmpi .slt v1699 c0_i32_1360
  let c0_i32_1361 : BitVec 32 := 0#32
  let v1702 : BitVec 1 := Scalar.cmpi .slt v1698 c0_i32_1361
  let v1703 : BitVec 1 := Scalar.xori v1701 v1702
  let c0_i32_1359 : BitVec 32 := 0#32
  let v1700 : BitVec 1 := Scalar.cmpi .ne v1699 c0_i32_1359
  let v1704 : BitVec 1 := Scalar.andi v1703 v1700
  let v1705 : BitVec 32 := Scalar.addi v1699 v1698
  let v1706 : BitVec 32 := Scalar.select v1704 v1705 v1699
  let c32_i32_2343 : BitVec 32 := 32#32
  let v2951 : BitVec 32 := Scalar.muli v1706 c32_i32_2343
  let c0_i32_2353 : BitVec 32 := 0#32
  ![0, v2951.toNat, 0]
def k0_dev31 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1355 : BitVec 32 := 3#32
  let v1696 : BitVec 32 := Scalar.addi v2 c3_i32_1355
  let c8_i32_1356 : BitVec 32 := 8#32
  let c0_i32_1357 : BitVec 32 := 0#32
  let v1697 : BitVec 1 := Scalar.cmpi .eq c8_i32_1356 c0_i32_1357
  let c1_i32_1358 : BitVec 32 := 1#32
  let v1698 : BitVec 32 := Scalar.select v1697 c1_i32_1358 c8_i32_1356
  let v1699 : BitVec 32 := Scalar.remsi v1696 v1698
  let c0_i32_1360 : BitVec 32 := 0#32
  let v1701 : BitVec 1 := Scalar.cmpi .slt v1699 c0_i32_1360
  let c0_i32_1361 : BitVec 32 := 0#32
  let v1702 : BitVec 1 := Scalar.cmpi .slt v1698 c0_i32_1361
  let v1703 : BitVec 1 := Scalar.xori v1701 v1702
  let c0_i32_1359 : BitVec 32 := 0#32
  let v1700 : BitVec 1 := Scalar.cmpi .ne v1699 c0_i32_1359
  let v1704 : BitVec 1 := Scalar.andi v1703 v1700
  let v1705 : BitVec 32 := Scalar.addi v1699 v1698
  let v1706 : BitVec 32 := Scalar.select v1704 v1705 v1699
  let c1_i32_2347 : BitVec 32 := 1#32
  let v2952 : BitVec 32 := Scalar.muli v1706 c1_i32_2347
  let v2953 : BitVec 32 := Scalar.addi c0_i32_2348 v2952
  v2953.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1371 : BitVec 32 := 4#32
  let v1727 : BitVec 32 := Scalar.addi v2 c4_i32_1371
  let c8_i32_1372 : BitVec 32 := 8#32
  let c0_i32_1373 : BitVec 32 := 0#32
  let v1728 : BitVec 1 := Scalar.cmpi .eq c8_i32_1372 c0_i32_1373
  let c1_i32_1374 : BitVec 32 := 1#32
  let v1729 : BitVec 32 := Scalar.select v1728 c1_i32_1374 c8_i32_1372
  let v1730 : BitVec 32 := Scalar.remsi v1727 v1729
  let c0_i32_1376 : BitVec 32 := 0#32
  let v1732 : BitVec 1 := Scalar.cmpi .slt v1730 c0_i32_1376
  let c0_i32_1377 : BitVec 32 := 0#32
  let v1733 : BitVec 1 := Scalar.cmpi .slt v1729 c0_i32_1377
  let v1734 : BitVec 1 := Scalar.xori v1732 v1733
  let c0_i32_1375 : BitVec 32 := 0#32
  let v1731 : BitVec 1 := Scalar.cmpi .ne v1730 c0_i32_1375
  let v1735 : BitVec 1 := Scalar.andi v1734 v1731
  let v1736 : BitVec 32 := Scalar.addi v1730 v1729
  let v1737 : BitVec 32 := Scalar.select v1735 v1736 v1730
  let c0_i32_1379 : BitVec 32 := 0#32
  let v1739 : BitVec 1 := Scalar.cmpi .sgt v1737 c0_i32_1379
  let v1740 : BitVec 32 := Scalar.extui v1739
  let c0_i32_1380 : BitVec 32 := 0#32
  let v1741 : BitVec 1 := Scalar.cmpi .slt v1737 c0_i32_1380
  let v1742 : BitVec 32 := Scalar.extui v1741
  let v1743 : BitVec 32 := Scalar.subi v1740 v1742
  let c2_i32_1378 : BitVec 32 := 2#32
  let c0_i32_1381 : BitVec 32 := 0#32
  let v1744 : BitVec 1 := Scalar.cmpi .sgt c2_i32_1378 c0_i32_1381
  let v1745 : BitVec 32 := Scalar.extui v1744
  let c0_i32_1382 : BitVec 32 := 0#32
  let v1746 : BitVec 1 := Scalar.cmpi .slt c2_i32_1378 c0_i32_1382
  let v1747 : BitVec 32 := Scalar.extui v1746
  let v1748 : BitVec 32 := Scalar.subi v1745 v1747
  let v1749 : BitVec 1 := Scalar.cmpi .ne v1743 v1748
  let v1750 : BitVec 32 := Scalar.remsi v1737 c2_i32_1378
  let c0_i32_1383 : BitVec 32 := 0#32
  let v1751 : BitVec 1 := Scalar.cmpi .ne v1750 c0_i32_1383
  let v1752 : BitVec 1 := Scalar.andi v1749 v1751
  let v1738 : BitVec 32 := Scalar.divsi v1737 c2_i32_1378
  let c1_i32_1384 : BitVec 32 := 1#32
  let v1753 : BitVec 32 := Scalar.subi v1738 c1_i32_1384
  let v1754 : BitVec 32 := Scalar.select v1752 v1753 v1738
  let c1_i32_1385 : BitVec 32 := 1#32
  let v1755 : BitVec 1 := Scalar.cmpi .eq v1754 c1_i32_1385
  let v1756 : BitVec 32 := Scalar.extui v1755
  let c0_i32_1386 : BitVec 32 := 0#32
  let v1757 : BitVec 1 := Scalar.cmpi .ne v1756 c0_i32_1386
  v1757

def k0_off15 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1371 : BitVec 32 := 4#32
  let v1727 : BitVec 32 := Scalar.addi v2 c4_i32_1371
  let c8_i32_1372 : BitVec 32 := 8#32
  let c0_i32_1373 : BitVec 32 := 0#32
  let v1728 : BitVec 1 := Scalar.cmpi .eq c8_i32_1372 c0_i32_1373
  let c1_i32_1374 : BitVec 32 := 1#32
  let v1729 : BitVec 32 := Scalar.select v1728 c1_i32_1374 c8_i32_1372
  let v1730 : BitVec 32 := Scalar.remsi v1727 v1729
  let c0_i32_1376 : BitVec 32 := 0#32
  let v1732 : BitVec 1 := Scalar.cmpi .slt v1730 c0_i32_1376
  let c0_i32_1377 : BitVec 32 := 0#32
  let v1733 : BitVec 1 := Scalar.cmpi .slt v1729 c0_i32_1377
  let v1734 : BitVec 1 := Scalar.xori v1732 v1733
  let c0_i32_1375 : BitVec 32 := 0#32
  let v1731 : BitVec 1 := Scalar.cmpi .ne v1730 c0_i32_1375
  let v1735 : BitVec 1 := Scalar.andi v1734 v1731
  let v1736 : BitVec 32 := Scalar.addi v1730 v1729
  let v1737 : BitVec 32 := Scalar.select v1735 v1736 v1730
  let c32_i32_2343 : BitVec 32 := 32#32
  let v2951 : BitVec 32 := Scalar.muli v1737 c32_i32_2343
  let c0_i32_2353 : BitVec 32 := 0#32
  ![0, v2951.toNat, 0]
def k0_dev32 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1371 : BitVec 32 := 4#32
  let v1727 : BitVec 32 := Scalar.addi v2 c4_i32_1371
  let c8_i32_1372 : BitVec 32 := 8#32
  let c0_i32_1373 : BitVec 32 := 0#32
  let v1728 : BitVec 1 := Scalar.cmpi .eq c8_i32_1372 c0_i32_1373
  let c1_i32_1374 : BitVec 32 := 1#32
  let v1729 : BitVec 32 := Scalar.select v1728 c1_i32_1374 c8_i32_1372
  let v1730 : BitVec 32 := Scalar.remsi v1727 v1729
  let c0_i32_1376 : BitVec 32 := 0#32
  let v1732 : BitVec 1 := Scalar.cmpi .slt v1730 c0_i32_1376
  let c0_i32_1377 : BitVec 32 := 0#32
  let v1733 : BitVec 1 := Scalar.cmpi .slt v1729 c0_i32_1377
  let v1734 : BitVec 1 := Scalar.xori v1732 v1733
  let c0_i32_1375 : BitVec 32 := 0#32
  let v1731 : BitVec 1 := Scalar.cmpi .ne v1730 c0_i32_1375
  let v1735 : BitVec 1 := Scalar.andi v1734 v1731
  let v1736 : BitVec 32 := Scalar.addi v1730 v1729
  let v1737 : BitVec 32 := Scalar.select v1735 v1736 v1730
  let c1_i32_2347 : BitVec 32 := 1#32
  let v2952 : BitVec 32 := Scalar.muli v1737 c1_i32_2347
  let v2953 : BitVec 32 := Scalar.addi c0_i32_2348 v2952
  v2953.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1387 : BitVec 32 := 5#32
  let v1758 : BitVec 32 := Scalar.addi v2 c5_i32_1387
  let c8_i32_1388 : BitVec 32 := 8#32
  let c0_i32_1389 : BitVec 32 := 0#32
  let v1759 : BitVec 1 := Scalar.cmpi .eq c8_i32_1388 c0_i32_1389
  let c1_i32_1390 : BitVec 32 := 1#32
  let v1760 : BitVec 32 := Scalar.select v1759 c1_i32_1390 c8_i32_1388
  let v1761 : BitVec 32 := Scalar.remsi v1758 v1760
  let c0_i32_1392 : BitVec 32 := 0#32
  let v1763 : BitVec 1 := Scalar.cmpi .slt v1761 c0_i32_1392
  let c0_i32_1393 : BitVec 32 := 0#32
  let v1764 : BitVec 1 := Scalar.cmpi .slt v1760 c0_i32_1393
  let v1765 : BitVec 1 := Scalar.xori v1763 v1764
  let c0_i32_1391 : BitVec 32 := 0#32
  let v1762 : BitVec 1 := Scalar.cmpi .ne v1761 c0_i32_1391
  let v1766 : BitVec 1 := Scalar.andi v1765 v1762
  let v1767 : BitVec 32 := Scalar.addi v1761 v1760
  let v1768 : BitVec 32 := Scalar.select v1766 v1767 v1761
  let c0_i32_1395 : BitVec 32 := 0#32
  let v1770 : BitVec 1 := Scalar.cmpi .sgt v1768 c0_i32_1395
  let v1771 : BitVec 32 := Scalar.extui v1770
  let c0_i32_1396 : BitVec 32 := 0#32
  let v1772 : BitVec 1 := Scalar.cmpi .slt v1768 c0_i32_1396
  let v1773 : BitVec 32 := Scalar.extui v1772
  let v1774 : BitVec 32 := Scalar.subi v1771 v1773
  let c2_i32_1394 : BitVec 32 := 2#32
  let c0_i32_1397 : BitVec 32 := 0#32
  let v1775 : BitVec 1 := Scalar.cmpi .sgt c2_i32_1394 c0_i32_1397
  let v1776 : BitVec 32 := Scalar.extui v1775
  let c0_i32_1398 : BitVec 32 := 0#32
  let v1777 : BitVec 1 := Scalar.cmpi .slt c2_i32_1394 c0_i32_1398
  let v1778 : BitVec 32 := Scalar.extui v1777
  let v1779 : BitVec 32 := Scalar.subi v1776 v1778
  let v1780 : BitVec 1 := Scalar.cmpi .ne v1774 v1779
  let v1781 : BitVec 32 := Scalar.remsi v1768 c2_i32_1394
  let c0_i32_1399 : BitVec 32 := 0#32
  let v1782 : BitVec 1 := Scalar.cmpi .ne v1781 c0_i32_1399
  let v1783 : BitVec 1 := Scalar.andi v1780 v1782
  let v1769 : BitVec 32 := Scalar.divsi v1768 c2_i32_1394
  let c1_i32_1400 : BitVec 32 := 1#32
  let v1784 : BitVec 32 := Scalar.subi v1769 c1_i32_1400
  let v1785 : BitVec 32 := Scalar.select v1783 v1784 v1769
  let c1_i32_1401 : BitVec 32 := 1#32
  let v1786 : BitVec 1 := Scalar.cmpi .eq v1785 c1_i32_1401
  let v1787 : BitVec 32 := Scalar.extui v1786
  let c0_i32_1402 : BitVec 32 := 0#32
  let v1788 : BitVec 1 := Scalar.cmpi .ne v1787 c0_i32_1402
  v1788

def k0_off16 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1387 : BitVec 32 := 5#32
  let v1758 : BitVec 32 := Scalar.addi v2 c5_i32_1387
  let c8_i32_1388 : BitVec 32 := 8#32
  let c0_i32_1389 : BitVec 32 := 0#32
  let v1759 : BitVec 1 := Scalar.cmpi .eq c8_i32_1388 c0_i32_1389
  let c1_i32_1390 : BitVec 32 := 1#32
  let v1760 : BitVec 32 := Scalar.select v1759 c1_i32_1390 c8_i32_1388
  let v1761 : BitVec 32 := Scalar.remsi v1758 v1760
  let c0_i32_1392 : BitVec 32 := 0#32
  let v1763 : BitVec 1 := Scalar.cmpi .slt v1761 c0_i32_1392
  let c0_i32_1393 : BitVec 32 := 0#32
  let v1764 : BitVec 1 := Scalar.cmpi .slt v1760 c0_i32_1393
  let v1765 : BitVec 1 := Scalar.xori v1763 v1764
  let c0_i32_1391 : BitVec 32 := 0#32
  let v1762 : BitVec 1 := Scalar.cmpi .ne v1761 c0_i32_1391
  let v1766 : BitVec 1 := Scalar.andi v1765 v1762
  let v1767 : BitVec 32 := Scalar.addi v1761 v1760
  let v1768 : BitVec 32 := Scalar.select v1766 v1767 v1761
  let c32_i32_2343 : BitVec 32 := 32#32
  let v2951 : BitVec 32 := Scalar.muli v1768 c32_i32_2343
  let c0_i32_2353 : BitVec 32 := 0#32
  ![0, v2951.toNat, 0]
def k0_dev33 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1387 : BitVec 32 := 5#32
  let v1758 : BitVec 32 := Scalar.addi v2 c5_i32_1387
  let c8_i32_1388 : BitVec 32 := 8#32
  let c0_i32_1389 : BitVec 32 := 0#32
  let v1759 : BitVec 1 := Scalar.cmpi .eq c8_i32_1388 c0_i32_1389
  let c1_i32_1390 : BitVec 32 := 1#32
  let v1760 : BitVec 32 := Scalar.select v1759 c1_i32_1390 c8_i32_1388
  let v1761 : BitVec 32 := Scalar.remsi v1758 v1760
  let c0_i32_1392 : BitVec 32 := 0#32
  let v1763 : BitVec 1 := Scalar.cmpi .slt v1761 c0_i32_1392
  let c0_i32_1393 : BitVec 32 := 0#32
  let v1764 : BitVec 1 := Scalar.cmpi .slt v1760 c0_i32_1393
  let v1765 : BitVec 1 := Scalar.xori v1763 v1764
  let c0_i32_1391 : BitVec 32 := 0#32
  let v1762 : BitVec 1 := Scalar.cmpi .ne v1761 c0_i32_1391
  let v1766 : BitVec 1 := Scalar.andi v1765 v1762
  let v1767 : BitVec 32 := Scalar.addi v1761 v1760
  let v1768 : BitVec 32 := Scalar.select v1766 v1767 v1761
  let c1_i32_2347 : BitVec 32 := 1#32
  let v2952 : BitVec 32 := Scalar.muli v1768 c1_i32_2347
  let v2953 : BitVec 32 := Scalar.addi c0_i32_2348 v2952
  v2953.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1403 : BitVec 32 := 6#32
  let v1789 : BitVec 32 := Scalar.addi v2 c6_i32_1403
  let c8_i32_1404 : BitVec 32 := 8#32
  let c0_i32_1405 : BitVec 32 := 0#32
  let v1790 : BitVec 1 := Scalar.cmpi .eq c8_i32_1404 c0_i32_1405
  let c1_i32_1406 : BitVec 32 := 1#32
  let v1791 : BitVec 32 := Scalar.select v1790 c1_i32_1406 c8_i32_1404
  let v1792 : BitVec 32 := Scalar.remsi v1789 v1791
  let c0_i32_1408 : BitVec 32 := 0#32
  let v1794 : BitVec 1 := Scalar.cmpi .slt v1792 c0_i32_1408
  let c0_i32_1409 : BitVec 32 := 0#32
  let v1795 : BitVec 1 := Scalar.cmpi .slt v1791 c0_i32_1409
  let v1796 : BitVec 1 := Scalar.xori v1794 v1795
  let c0_i32_1407 : BitVec 32 := 0#32
  let v1793 : BitVec 1 := Scalar.cmpi .ne v1792 c0_i32_1407
  let v1797 : BitVec 1 := Scalar.andi v1796 v1793
  let v1798 : BitVec 32 := Scalar.addi v1792 v1791
  let v1799 : BitVec 32 := Scalar.select v1797 v1798 v1792
  let c0_i32_1411 : BitVec 32 := 0#32
  let v1801 : BitVec 1 := Scalar.cmpi .sgt v1799 c0_i32_1411
  let v1802 : BitVec 32 := Scalar.extui v1801
  let c0_i32_1412 : BitVec 32 := 0#32
  let v1803 : BitVec 1 := Scalar.cmpi .slt v1799 c0_i32_1412
  let v1804 : BitVec 32 := Scalar.extui v1803
  let v1805 : BitVec 32 := Scalar.subi v1802 v1804
  let c2_i32_1410 : BitVec 32 := 2#32
  let c0_i32_1413 : BitVec 32 := 0#32
  let v1806 : BitVec 1 := Scalar.cmpi .sgt c2_i32_1410 c0_i32_1413
  let v1807 : BitVec 32 := Scalar.extui v1806
  let c0_i32_1414 : BitVec 32 := 0#32
  let v1808 : BitVec 1 := Scalar.cmpi .slt c2_i32_1410 c0_i32_1414
  let v1809 : BitVec 32 := Scalar.extui v1808
  let v1810 : BitVec 32 := Scalar.subi v1807 v1809
  let v1811 : BitVec 1 := Scalar.cmpi .ne v1805 v1810
  let v1812 : BitVec 32 := Scalar.remsi v1799 c2_i32_1410
  let c0_i32_1415 : BitVec 32 := 0#32
  let v1813 : BitVec 1 := Scalar.cmpi .ne v1812 c0_i32_1415
  let v1814 : BitVec 1 := Scalar.andi v1811 v1813
  let v1800 : BitVec 32 := Scalar.divsi v1799 c2_i32_1410
  let c1_i32_1416 : BitVec 32 := 1#32
  let v1815 : BitVec 32 := Scalar.subi v1800 c1_i32_1416
  let v1816 : BitVec 32 := Scalar.select v1814 v1815 v1800
  let c1_i32_1417 : BitVec 32 := 1#32
  let v1817 : BitVec 1 := Scalar.cmpi .eq v1816 c1_i32_1417
  let v1818 : BitVec 32 := Scalar.extui v1817
  let c0_i32_1418 : BitVec 32 := 0#32
  let v1819 : BitVec 1 := Scalar.cmpi .ne v1818 c0_i32_1418
  v1819

def k0_off17 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1403 : BitVec 32 := 6#32
  let v1789 : BitVec 32 := Scalar.addi v2 c6_i32_1403
  let c8_i32_1404 : BitVec 32 := 8#32
  let c0_i32_1405 : BitVec 32 := 0#32
  let v1790 : BitVec 1 := Scalar.cmpi .eq c8_i32_1404 c0_i32_1405
  let c1_i32_1406 : BitVec 32 := 1#32
  let v1791 : BitVec 32 := Scalar.select v1790 c1_i32_1406 c8_i32_1404
  let v1792 : BitVec 32 := Scalar.remsi v1789 v1791
  let c0_i32_1408 : BitVec 32 := 0#32
  let v1794 : BitVec 1 := Scalar.cmpi .slt v1792 c0_i32_1408
  let c0_i32_1409 : BitVec 32 := 0#32
  let v1795 : BitVec 1 := Scalar.cmpi .slt v1791 c0_i32_1409
  let v1796 : BitVec 1 := Scalar.xori v1794 v1795
  let c0_i32_1407 : BitVec 32 := 0#32
  let v1793 : BitVec 1 := Scalar.cmpi .ne v1792 c0_i32_1407
  let v1797 : BitVec 1 := Scalar.andi v1796 v1793
  let v1798 : BitVec 32 := Scalar.addi v1792 v1791
  let v1799 : BitVec 32 := Scalar.select v1797 v1798 v1792
  let c32_i32_2343 : BitVec 32 := 32#32
  let v2951 : BitVec 32 := Scalar.muli v1799 c32_i32_2343
  let c0_i32_2353 : BitVec 32 := 0#32
  ![0, v2951.toNat, 0]
def k0_dev34 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1403 : BitVec 32 := 6#32
  let v1789 : BitVec 32 := Scalar.addi v2 c6_i32_1403
  let c8_i32_1404 : BitVec 32 := 8#32
  let c0_i32_1405 : BitVec 32 := 0#32
  let v1790 : BitVec 1 := Scalar.cmpi .eq c8_i32_1404 c0_i32_1405
  let c1_i32_1406 : BitVec 32 := 1#32
  let v1791 : BitVec 32 := Scalar.select v1790 c1_i32_1406 c8_i32_1404
  let v1792 : BitVec 32 := Scalar.remsi v1789 v1791
  let c0_i32_1408 : BitVec 32 := 0#32
  let v1794 : BitVec 1 := Scalar.cmpi .slt v1792 c0_i32_1408
  let c0_i32_1409 : BitVec 32 := 0#32
  let v1795 : BitVec 1 := Scalar.cmpi .slt v1791 c0_i32_1409
  let v1796 : BitVec 1 := Scalar.xori v1794 v1795
  let c0_i32_1407 : BitVec 32 := 0#32
  let v1793 : BitVec 1 := Scalar.cmpi .ne v1792 c0_i32_1407
  let v1797 : BitVec 1 := Scalar.andi v1796 v1793
  let v1798 : BitVec 32 := Scalar.addi v1792 v1791
  let v1799 : BitVec 32 := Scalar.select v1797 v1798 v1792
  let c1_i32_2347 : BitVec 32 := 1#32
  let v2952 : BitVec 32 := Scalar.muli v1799 c1_i32_2347
  let v2953 : BitVec 32 := Scalar.addi c0_i32_2348 v2952
  v2953.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1419 : BitVec 32 := 7#32
  let v1820 : BitVec 32 := Scalar.addi v2 c7_i32_1419
  let c8_i32_1420 : BitVec 32 := 8#32
  let c0_i32_1421 : BitVec 32 := 0#32
  let v1821 : BitVec 1 := Scalar.cmpi .eq c8_i32_1420 c0_i32_1421
  let c1_i32_1422 : BitVec 32 := 1#32
  let v1822 : BitVec 32 := Scalar.select v1821 c1_i32_1422 c8_i32_1420
  let v1823 : BitVec 32 := Scalar.remsi v1820 v1822
  let c0_i32_1424 : BitVec 32 := 0#32
  let v1825 : BitVec 1 := Scalar.cmpi .slt v1823 c0_i32_1424
  let c0_i32_1425 : BitVec 32 := 0#32
  let v1826 : BitVec 1 := Scalar.cmpi .slt v1822 c0_i32_1425
  let v1827 : BitVec 1 := Scalar.xori v1825 v1826
  let c0_i32_1423 : BitVec 32 := 0#32
  let v1824 : BitVec 1 := Scalar.cmpi .ne v1823 c0_i32_1423
  let v1828 : BitVec 1 := Scalar.andi v1827 v1824
  let v1829 : BitVec 32 := Scalar.addi v1823 v1822
  let v1830 : BitVec 32 := Scalar.select v1828 v1829 v1823
  let c0_i32_1427 : BitVec 32 := 0#32
  let v1832 : BitVec 1 := Scalar.cmpi .sgt v1830 c0_i32_1427
  let v1833 : BitVec 32 := Scalar.extui v1832
  let c0_i32_1428 : BitVec 32 := 0#32
  let v1834 : BitVec 1 := Scalar.cmpi .slt v1830 c0_i32_1428
  let v1835 : BitVec 32 := Scalar.extui v1834
  let v1836 : BitVec 32 := Scalar.subi v1833 v1835
  let c2_i32_1426 : BitVec 32 := 2#32
  let c0_i32_1429 : BitVec 32 := 0#32
  let v1837 : BitVec 1 := Scalar.cmpi .sgt c2_i32_1426 c0_i32_1429
  let v1838 : BitVec 32 := Scalar.extui v1837
  let c0_i32_1430 : BitVec 32 := 0#32
  let v1839 : BitVec 1 := Scalar.cmpi .slt c2_i32_1426 c0_i32_1430
  let v1840 : BitVec 32 := Scalar.extui v1839
  let v1841 : BitVec 32 := Scalar.subi v1838 v1840
  let v1842 : BitVec 1 := Scalar.cmpi .ne v1836 v1841
  let v1843 : BitVec 32 := Scalar.remsi v1830 c2_i32_1426
  let c0_i32_1431 : BitVec 32 := 0#32
  let v1844 : BitVec 1 := Scalar.cmpi .ne v1843 c0_i32_1431
  let v1845 : BitVec 1 := Scalar.andi v1842 v1844
  let v1831 : BitVec 32 := Scalar.divsi v1830 c2_i32_1426
  let c1_i32_1432 : BitVec 32 := 1#32
  let v1846 : BitVec 32 := Scalar.subi v1831 c1_i32_1432
  let v1847 : BitVec 32 := Scalar.select v1845 v1846 v1831
  let c1_i32_1433 : BitVec 32 := 1#32
  let v1848 : BitVec 1 := Scalar.cmpi .eq v1847 c1_i32_1433
  let v1849 : BitVec 32 := Scalar.extui v1848
  let c0_i32_1434 : BitVec 32 := 0#32
  let v1850 : BitVec 1 := Scalar.cmpi .ne v1849 c0_i32_1434
  v1850

def k0_off18 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1419 : BitVec 32 := 7#32
  let v1820 : BitVec 32 := Scalar.addi v2 c7_i32_1419
  let c8_i32_1420 : BitVec 32 := 8#32
  let c0_i32_1421 : BitVec 32 := 0#32
  let v1821 : BitVec 1 := Scalar.cmpi .eq c8_i32_1420 c0_i32_1421
  let c1_i32_1422 : BitVec 32 := 1#32
  let v1822 : BitVec 32 := Scalar.select v1821 c1_i32_1422 c8_i32_1420
  let v1823 : BitVec 32 := Scalar.remsi v1820 v1822
  let c0_i32_1424 : BitVec 32 := 0#32
  let v1825 : BitVec 1 := Scalar.cmpi .slt v1823 c0_i32_1424
  let c0_i32_1425 : BitVec 32 := 0#32
  let v1826 : BitVec 1 := Scalar.cmpi .slt v1822 c0_i32_1425
  let v1827 : BitVec 1 := Scalar.xori v1825 v1826
  let c0_i32_1423 : BitVec 32 := 0#32
  let v1824 : BitVec 1 := Scalar.cmpi .ne v1823 c0_i32_1423
  let v1828 : BitVec 1 := Scalar.andi v1827 v1824
  let v1829 : BitVec 32 := Scalar.addi v1823 v1822
  let v1830 : BitVec 32 := Scalar.select v1828 v1829 v1823
  let c32_i32_2343 : BitVec 32 := 32#32
  let v2951 : BitVec 32 := Scalar.muli v1830 c32_i32_2343
  let c0_i32_2353 : BitVec 32 := 0#32
  ![0, v2951.toNat, 0]
def k0_dev35 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1419 : BitVec 32 := 7#32
  let v1820 : BitVec 32 := Scalar.addi v2 c7_i32_1419
  let c8_i32_1420 : BitVec 32 := 8#32
  let c0_i32_1421 : BitVec 32 := 0#32
  let v1821 : BitVec 1 := Scalar.cmpi .eq c8_i32_1420 c0_i32_1421
  let c1_i32_1422 : BitVec 32 := 1#32
  let v1822 : BitVec 32 := Scalar.select v1821 c1_i32_1422 c8_i32_1420
  let v1823 : BitVec 32 := Scalar.remsi v1820 v1822
  let c0_i32_1424 : BitVec 32 := 0#32
  let v1825 : BitVec 1 := Scalar.cmpi .slt v1823 c0_i32_1424
  let c0_i32_1425 : BitVec 32 := 0#32
  let v1826 : BitVec 1 := Scalar.cmpi .slt v1822 c0_i32_1425
  let v1827 : BitVec 1 := Scalar.xori v1825 v1826
  let c0_i32_1423 : BitVec 32 := 0#32
  let v1824 : BitVec 1 := Scalar.cmpi .ne v1823 c0_i32_1423
  let v1828 : BitVec 1 := Scalar.andi v1827 v1824
  let v1829 : BitVec 32 := Scalar.addi v1823 v1822
  let v1830 : BitVec 32 := Scalar.select v1828 v1829 v1823
  let c1_i32_2347 : BitVec 32 := 1#32
  let v2952 : BitVec 32 := Scalar.muli v1830 c1_i32_2347
  let v2953 : BitVec 32 := Scalar.addi c0_i32_2348 v2952
  v2953.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1522 : BitVec 32 := 1#32
  let v1931 : BitVec 32 := Scalar.addi v2 c1_i32_1522
  let c8_i32_1523 : BitVec 32 := 8#32
  let c0_i32_1524 : BitVec 32 := 0#32
  let v1932 : BitVec 1 := Scalar.cmpi .eq c8_i32_1523 c0_i32_1524
  let c1_i32_1525 : BitVec 32 := 1#32
  let v1933 : BitVec 32 := Scalar.select v1932 c1_i32_1525 c8_i32_1523
  let v1934 : BitVec 32 := Scalar.remsi v1931 v1933
  let c0_i32_1527 : BitVec 32 := 0#32
  let v1936 : BitVec 1 := Scalar.cmpi .slt v1934 c0_i32_1527
  let c0_i32_1528 : BitVec 32 := 0#32
  let v1937 : BitVec 1 := Scalar.cmpi .slt v1933 c0_i32_1528
  let v1938 : BitVec 1 := Scalar.xori v1936 v1937
  let c0_i32_1526 : BitVec 32 := 0#32
  let v1935 : BitVec 1 := Scalar.cmpi .ne v1934 c0_i32_1526
  let v1939 : BitVec 1 := Scalar.andi v1938 v1935
  let v1940 : BitVec 32 := Scalar.addi v1934 v1933
  let v1941 : BitVec 32 := Scalar.select v1939 v1940 v1934
  let c0_i32_1530 : BitVec 32 := 0#32
  let v1943 : BitVec 1 := Scalar.cmpi .sgt v1941 c0_i32_1530
  let v1944 : BitVec 32 := Scalar.extui v1943
  let c0_i32_1531 : BitVec 32 := 0#32
  let v1945 : BitVec 1 := Scalar.cmpi .slt v1941 c0_i32_1531
  let v1946 : BitVec 32 := Scalar.extui v1945
  let v1947 : BitVec 32 := Scalar.subi v1944 v1946
  let c2_i32_1529 : BitVec 32 := 2#32
  let c0_i32_1532 : BitVec 32 := 0#32
  let v1948 : BitVec 1 := Scalar.cmpi .sgt c2_i32_1529 c0_i32_1532
  let v1949 : BitVec 32 := Scalar.extui v1948
  let c0_i32_1533 : BitVec 32 := 0#32
  let v1950 : BitVec 1 := Scalar.cmpi .slt c2_i32_1529 c0_i32_1533
  let v1951 : BitVec 32 := Scalar.extui v1950
  let v1952 : BitVec 32 := Scalar.subi v1949 v1951
  let v1953 : BitVec 1 := Scalar.cmpi .ne v1947 v1952
  let v1954 : BitVec 32 := Scalar.remsi v1941 c2_i32_1529
  let c0_i32_1534 : BitVec 32 := 0#32
  let v1955 : BitVec 1 := Scalar.cmpi .ne v1954 c0_i32_1534
  let v1956 : BitVec 1 := Scalar.andi v1953 v1955
  let v1942 : BitVec 32 := Scalar.divsi v1941 c2_i32_1529
  let c1_i32_1535 : BitVec 32 := 1#32
  let v1957 : BitVec 32 := Scalar.subi v1942 c1_i32_1535
  let v1958 : BitVec 32 := Scalar.select v1956 v1957 v1942
  let c2_i32_1536 : BitVec 32 := 2#32
  let v1959 : BitVec 1 := Scalar.cmpi .eq v1958 c2_i32_1536
  let v1960 : BitVec 32 := Scalar.extui v1959
  let c0_i32_1537 : BitVec 32 := 0#32
  let v1961 : BitVec 1 := Scalar.cmpi .ne v1960 c0_i32_1537
  v1961

def k0_off19 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1522 : BitVec 32 := 1#32
  let v1931 : BitVec 32 := Scalar.addi v2 c1_i32_1522
  let c8_i32_1523 : BitVec 32 := 8#32
  let c0_i32_1524 : BitVec 32 := 0#32
  let v1932 : BitVec 1 := Scalar.cmpi .eq c8_i32_1523 c0_i32_1524
  let c1_i32_1525 : BitVec 32 := 1#32
  let v1933 : BitVec 32 := Scalar.select v1932 c1_i32_1525 c8_i32_1523
  let v1934 : BitVec 32 := Scalar.remsi v1931 v1933
  let c0_i32_1527 : BitVec 32 := 0#32
  let v1936 : BitVec 1 := Scalar.cmpi .slt v1934 c0_i32_1527
  let c0_i32_1528 : BitVec 32 := 0#32
  let v1937 : BitVec 1 := Scalar.cmpi .slt v1933 c0_i32_1528
  let v1938 : BitVec 1 := Scalar.xori v1936 v1937
  let c0_i32_1526 : BitVec 32 := 0#32
  let v1935 : BitVec 1 := Scalar.cmpi .ne v1934 c0_i32_1526
  let v1939 : BitVec 1 := Scalar.andi v1938 v1935
  let v1940 : BitVec 32 := Scalar.addi v1934 v1933
  let v1941 : BitVec 32 := Scalar.select v1939 v1940 v1934
  let c32_i32_2343 : BitVec 32 := 32#32
  let v2951 : BitVec 32 := Scalar.muli v1941 c32_i32_2343
  let c0_i32_2353 : BitVec 32 := 0#32
  ![0, v2951.toNat, 0]
def k0_dev36 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1522 : BitVec 32 := 1#32
  let v1931 : BitVec 32 := Scalar.addi v2 c1_i32_1522
  let c8_i32_1523 : BitVec 32 := 8#32
  let c0_i32_1524 : BitVec 32 := 0#32
  let v1932 : BitVec 1 := Scalar.cmpi .eq c8_i32_1523 c0_i32_1524
  let c1_i32_1525 : BitVec 32 := 1#32
  let v1933 : BitVec 32 := Scalar.select v1932 c1_i32_1525 c8_i32_1523
  let v1934 : BitVec 32 := Scalar.remsi v1931 v1933
  let c0_i32_1527 : BitVec 32 := 0#32
  let v1936 : BitVec 1 := Scalar.cmpi .slt v1934 c0_i32_1527
  let c0_i32_1528 : BitVec 32 := 0#32
  let v1937 : BitVec 1 := Scalar.cmpi .slt v1933 c0_i32_1528
  let v1938 : BitVec 1 := Scalar.xori v1936 v1937
  let c0_i32_1526 : BitVec 32 := 0#32
  let v1935 : BitVec 1 := Scalar.cmpi .ne v1934 c0_i32_1526
  let v1939 : BitVec 1 := Scalar.andi v1938 v1935
  let v1940 : BitVec 32 := Scalar.addi v1934 v1933
  let v1941 : BitVec 32 := Scalar.select v1939 v1940 v1934
  let c1_i32_2347 : BitVec 32 := 1#32
  let v2952 : BitVec 32 := Scalar.muli v1941 c1_i32_2347
  let v2953 : BitVec 32 := Scalar.addi c0_i32_2348 v2952
  v2953.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1538 : BitVec 32 := 2#32
  let v1962 : BitVec 32 := Scalar.addi v2 c2_i32_1538
  let c8_i32_1539 : BitVec 32 := 8#32
  let c0_i32_1540 : BitVec 32 := 0#32
  let v1963 : BitVec 1 := Scalar.cmpi .eq c8_i32_1539 c0_i32_1540
  let c1_i32_1541 : BitVec 32 := 1#32
  let v1964 : BitVec 32 := Scalar.select v1963 c1_i32_1541 c8_i32_1539
  let v1965 : BitVec 32 := Scalar.remsi v1962 v1964
  let c0_i32_1543 : BitVec 32 := 0#32
  let v1967 : BitVec 1 := Scalar.cmpi .slt v1965 c0_i32_1543
  let c0_i32_1544 : BitVec 32 := 0#32
  let v1968 : BitVec 1 := Scalar.cmpi .slt v1964 c0_i32_1544
  let v1969 : BitVec 1 := Scalar.xori v1967 v1968
  let c0_i32_1542 : BitVec 32 := 0#32
  let v1966 : BitVec 1 := Scalar.cmpi .ne v1965 c0_i32_1542
  let v1970 : BitVec 1 := Scalar.andi v1969 v1966
  let v1971 : BitVec 32 := Scalar.addi v1965 v1964
  let v1972 : BitVec 32 := Scalar.select v1970 v1971 v1965
  let c0_i32_1546 : BitVec 32 := 0#32
  let v1974 : BitVec 1 := Scalar.cmpi .sgt v1972 c0_i32_1546
  let v1975 : BitVec 32 := Scalar.extui v1974
  let c0_i32_1547 : BitVec 32 := 0#32
  let v1976 : BitVec 1 := Scalar.cmpi .slt v1972 c0_i32_1547
  let v1977 : BitVec 32 := Scalar.extui v1976
  let v1978 : BitVec 32 := Scalar.subi v1975 v1977
  let c2_i32_1545 : BitVec 32 := 2#32
  let c0_i32_1548 : BitVec 32 := 0#32
  let v1979 : BitVec 1 := Scalar.cmpi .sgt c2_i32_1545 c0_i32_1548
  let v1980 : BitVec 32 := Scalar.extui v1979
  let c0_i32_1549 : BitVec 32 := 0#32
  let v1981 : BitVec 1 := Scalar.cmpi .slt c2_i32_1545 c0_i32_1549
  let v1982 : BitVec 32 := Scalar.extui v1981
  let v1983 : BitVec 32 := Scalar.subi v1980 v1982
  let v1984 : BitVec 1 := Scalar.cmpi .ne v1978 v1983
  let v1985 : BitVec 32 := Scalar.remsi v1972 c2_i32_1545
  let c0_i32_1550 : BitVec 32 := 0#32
  let v1986 : BitVec 1 := Scalar.cmpi .ne v1985 c0_i32_1550
  let v1987 : BitVec 1 := Scalar.andi v1984 v1986
  let v1973 : BitVec 32 := Scalar.divsi v1972 c2_i32_1545
  let c1_i32_1551 : BitVec 32 := 1#32
  let v1988 : BitVec 32 := Scalar.subi v1973 c1_i32_1551
  let v1989 : BitVec 32 := Scalar.select v1987 v1988 v1973
  let c2_i32_1552 : BitVec 32 := 2#32
  let v1990 : BitVec 1 := Scalar.cmpi .eq v1989 c2_i32_1552
  let v1991 : BitVec 32 := Scalar.extui v1990
  let c0_i32_1553 : BitVec 32 := 0#32
  let v1992 : BitVec 1 := Scalar.cmpi .ne v1991 c0_i32_1553
  v1992

def k0_off20 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1538 : BitVec 32 := 2#32
  let v1962 : BitVec 32 := Scalar.addi v2 c2_i32_1538
  let c8_i32_1539 : BitVec 32 := 8#32
  let c0_i32_1540 : BitVec 32 := 0#32
  let v1963 : BitVec 1 := Scalar.cmpi .eq c8_i32_1539 c0_i32_1540
  let c1_i32_1541 : BitVec 32 := 1#32
  let v1964 : BitVec 32 := Scalar.select v1963 c1_i32_1541 c8_i32_1539
  let v1965 : BitVec 32 := Scalar.remsi v1962 v1964
  let c0_i32_1543 : BitVec 32 := 0#32
  let v1967 : BitVec 1 := Scalar.cmpi .slt v1965 c0_i32_1543
  let c0_i32_1544 : BitVec 32 := 0#32
  let v1968 : BitVec 1 := Scalar.cmpi .slt v1964 c0_i32_1544
  let v1969 : BitVec 1 := Scalar.xori v1967 v1968
  let c0_i32_1542 : BitVec 32 := 0#32
  let v1966 : BitVec 1 := Scalar.cmpi .ne v1965 c0_i32_1542
  let v1970 : BitVec 1 := Scalar.andi v1969 v1966
  let v1971 : BitVec 32 := Scalar.addi v1965 v1964
  let v1972 : BitVec 32 := Scalar.select v1970 v1971 v1965
  let c32_i32_2343 : BitVec 32 := 32#32
  let v2951 : BitVec 32 := Scalar.muli v1972 c32_i32_2343
  let c0_i32_2353 : BitVec 32 := 0#32
  ![0, v2951.toNat, 0]
def k0_dev37 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1538 : BitVec 32 := 2#32
  let v1962 : BitVec 32 := Scalar.addi v2 c2_i32_1538
  let c8_i32_1539 : BitVec 32 := 8#32
  let c0_i32_1540 : BitVec 32 := 0#32
  let v1963 : BitVec 1 := Scalar.cmpi .eq c8_i32_1539 c0_i32_1540
  let c1_i32_1541 : BitVec 32 := 1#32
  let v1964 : BitVec 32 := Scalar.select v1963 c1_i32_1541 c8_i32_1539
  let v1965 : BitVec 32 := Scalar.remsi v1962 v1964
  let c0_i32_1543 : BitVec 32 := 0#32
  let v1967 : BitVec 1 := Scalar.cmpi .slt v1965 c0_i32_1543
  let c0_i32_1544 : BitVec 32 := 0#32
  let v1968 : BitVec 1 := Scalar.cmpi .slt v1964 c0_i32_1544
  let v1969 : BitVec 1 := Scalar.xori v1967 v1968
  let c0_i32_1542 : BitVec 32 := 0#32
  let v1966 : BitVec 1 := Scalar.cmpi .ne v1965 c0_i32_1542
  let v1970 : BitVec 1 := Scalar.andi v1969 v1966
  let v1971 : BitVec 32 := Scalar.addi v1965 v1964
  let v1972 : BitVec 32 := Scalar.select v1970 v1971 v1965
  let c1_i32_2347 : BitVec 32 := 1#32
  let v2952 : BitVec 32 := Scalar.muli v1972 c1_i32_2347
  let v2953 : BitVec 32 := Scalar.addi c0_i32_2348 v2952
  v2953.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1554 : BitVec 32 := 3#32
  let v1993 : BitVec 32 := Scalar.addi v2 c3_i32_1554
  let c8_i32_1555 : BitVec 32 := 8#32
  let c0_i32_1556 : BitVec 32 := 0#32
  let v1994 : BitVec 1 := Scalar.cmpi .eq c8_i32_1555 c0_i32_1556
  let c1_i32_1557 : BitVec 32 := 1#32
  let v1995 : BitVec 32 := Scalar.select v1994 c1_i32_1557 c8_i32_1555
  let v1996 : BitVec 32 := Scalar.remsi v1993 v1995
  let c0_i32_1559 : BitVec 32 := 0#32
  let v1998 : BitVec 1 := Scalar.cmpi .slt v1996 c0_i32_1559
  let c0_i32_1560 : BitVec 32 := 0#32
  let v1999 : BitVec 1 := Scalar.cmpi .slt v1995 c0_i32_1560
  let v2000 : BitVec 1 := Scalar.xori v1998 v1999
  let c0_i32_1558 : BitVec 32 := 0#32
  let v1997 : BitVec 1 := Scalar.cmpi .ne v1996 c0_i32_1558
  let v2001 : BitVec 1 := Scalar.andi v2000 v1997
  let v2002 : BitVec 32 := Scalar.addi v1996 v1995
  let v2003 : BitVec 32 := Scalar.select v2001 v2002 v1996
  let c0_i32_1562 : BitVec 32 := 0#32
  let v2005 : BitVec 1 := Scalar.cmpi .sgt v2003 c0_i32_1562
  let v2006 : BitVec 32 := Scalar.extui v2005
  let c0_i32_1563 : BitVec 32 := 0#32
  let v2007 : BitVec 1 := Scalar.cmpi .slt v2003 c0_i32_1563
  let v2008 : BitVec 32 := Scalar.extui v2007
  let v2009 : BitVec 32 := Scalar.subi v2006 v2008
  let c2_i32_1561 : BitVec 32 := 2#32
  let c0_i32_1564 : BitVec 32 := 0#32
  let v2010 : BitVec 1 := Scalar.cmpi .sgt c2_i32_1561 c0_i32_1564
  let v2011 : BitVec 32 := Scalar.extui v2010
  let c0_i32_1565 : BitVec 32 := 0#32
  let v2012 : BitVec 1 := Scalar.cmpi .slt c2_i32_1561 c0_i32_1565
  let v2013 : BitVec 32 := Scalar.extui v2012
  let v2014 : BitVec 32 := Scalar.subi v2011 v2013
  let v2015 : BitVec 1 := Scalar.cmpi .ne v2009 v2014
  let v2016 : BitVec 32 := Scalar.remsi v2003 c2_i32_1561
  let c0_i32_1566 : BitVec 32 := 0#32
  let v2017 : BitVec 1 := Scalar.cmpi .ne v2016 c0_i32_1566
  let v2018 : BitVec 1 := Scalar.andi v2015 v2017
  let v2004 : BitVec 32 := Scalar.divsi v2003 c2_i32_1561
  let c1_i32_1567 : BitVec 32 := 1#32
  let v2019 : BitVec 32 := Scalar.subi v2004 c1_i32_1567
  let v2020 : BitVec 32 := Scalar.select v2018 v2019 v2004
  let c2_i32_1568 : BitVec 32 := 2#32
  let v2021 : BitVec 1 := Scalar.cmpi .eq v2020 c2_i32_1568
  let v2022 : BitVec 32 := Scalar.extui v2021
  let c0_i32_1569 : BitVec 32 := 0#32
  let v2023 : BitVec 1 := Scalar.cmpi .ne v2022 c0_i32_1569
  v2023

def k0_off21 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1554 : BitVec 32 := 3#32
  let v1993 : BitVec 32 := Scalar.addi v2 c3_i32_1554
  let c8_i32_1555 : BitVec 32 := 8#32
  let c0_i32_1556 : BitVec 32 := 0#32
  let v1994 : BitVec 1 := Scalar.cmpi .eq c8_i32_1555 c0_i32_1556
  let c1_i32_1557 : BitVec 32 := 1#32
  let v1995 : BitVec 32 := Scalar.select v1994 c1_i32_1557 c8_i32_1555
  let v1996 : BitVec 32 := Scalar.remsi v1993 v1995
  let c0_i32_1559 : BitVec 32 := 0#32
  let v1998 : BitVec 1 := Scalar.cmpi .slt v1996 c0_i32_1559
  let c0_i32_1560 : BitVec 32 := 0#32
  let v1999 : BitVec 1 := Scalar.cmpi .slt v1995 c0_i32_1560
  let v2000 : BitVec 1 := Scalar.xori v1998 v1999
  let c0_i32_1558 : BitVec 32 := 0#32
  let v1997 : BitVec 1 := Scalar.cmpi .ne v1996 c0_i32_1558
  let v2001 : BitVec 1 := Scalar.andi v2000 v1997
  let v2002 : BitVec 32 := Scalar.addi v1996 v1995
  let v2003 : BitVec 32 := Scalar.select v2001 v2002 v1996
  let c32_i32_2343 : BitVec 32 := 32#32
  let v2951 : BitVec 32 := Scalar.muli v2003 c32_i32_2343
  let c0_i32_2353 : BitVec 32 := 0#32
  ![0, v2951.toNat, 0]
def k0_dev38 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1554 : BitVec 32 := 3#32
  let v1993 : BitVec 32 := Scalar.addi v2 c3_i32_1554
  let c8_i32_1555 : BitVec 32 := 8#32
  let c0_i32_1556 : BitVec 32 := 0#32
  let v1994 : BitVec 1 := Scalar.cmpi .eq c8_i32_1555 c0_i32_1556
  let c1_i32_1557 : BitVec 32 := 1#32
  let v1995 : BitVec 32 := Scalar.select v1994 c1_i32_1557 c8_i32_1555
  let v1996 : BitVec 32 := Scalar.remsi v1993 v1995
  let c0_i32_1559 : BitVec 32 := 0#32
  let v1998 : BitVec 1 := Scalar.cmpi .slt v1996 c0_i32_1559
  let c0_i32_1560 : BitVec 32 := 0#32
  let v1999 : BitVec 1 := Scalar.cmpi .slt v1995 c0_i32_1560
  let v2000 : BitVec 1 := Scalar.xori v1998 v1999
  let c0_i32_1558 : BitVec 32 := 0#32
  let v1997 : BitVec 1 := Scalar.cmpi .ne v1996 c0_i32_1558
  let v2001 : BitVec 1 := Scalar.andi v2000 v1997
  let v2002 : BitVec 32 := Scalar.addi v1996 v1995
  let v2003 : BitVec 32 := Scalar.select v2001 v2002 v1996
  let c1_i32_2347 : BitVec 32 := 1#32
  let v2952 : BitVec 32 := Scalar.muli v2003 c1_i32_2347
  let v2953 : BitVec 32 := Scalar.addi c0_i32_2348 v2952
  v2953.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1570 : BitVec 32 := 4#32
  let v2024 : BitVec 32 := Scalar.addi v2 c4_i32_1570
  let c8_i32_1571 : BitVec 32 := 8#32
  let c0_i32_1572 : BitVec 32 := 0#32
  let v2025 : BitVec 1 := Scalar.cmpi .eq c8_i32_1571 c0_i32_1572
  let c1_i32_1573 : BitVec 32 := 1#32
  let v2026 : BitVec 32 := Scalar.select v2025 c1_i32_1573 c8_i32_1571
  let v2027 : BitVec 32 := Scalar.remsi v2024 v2026
  let c0_i32_1575 : BitVec 32 := 0#32
  let v2029 : BitVec 1 := Scalar.cmpi .slt v2027 c0_i32_1575
  let c0_i32_1576 : BitVec 32 := 0#32
  let v2030 : BitVec 1 := Scalar.cmpi .slt v2026 c0_i32_1576
  let v2031 : BitVec 1 := Scalar.xori v2029 v2030
  let c0_i32_1574 : BitVec 32 := 0#32
  let v2028 : BitVec 1 := Scalar.cmpi .ne v2027 c0_i32_1574
  let v2032 : BitVec 1 := Scalar.andi v2031 v2028
  let v2033 : BitVec 32 := Scalar.addi v2027 v2026
  let v2034 : BitVec 32 := Scalar.select v2032 v2033 v2027
  let c0_i32_1578 : BitVec 32 := 0#32
  let v2036 : BitVec 1 := Scalar.cmpi .sgt v2034 c0_i32_1578
  let v2037 : BitVec 32 := Scalar.extui v2036
  let c0_i32_1579 : BitVec 32 := 0#32
  let v2038 : BitVec 1 := Scalar.cmpi .slt v2034 c0_i32_1579
  let v2039 : BitVec 32 := Scalar.extui v2038
  let v2040 : BitVec 32 := Scalar.subi v2037 v2039
  let c2_i32_1577 : BitVec 32 := 2#32
  let c0_i32_1580 : BitVec 32 := 0#32
  let v2041 : BitVec 1 := Scalar.cmpi .sgt c2_i32_1577 c0_i32_1580
  let v2042 : BitVec 32 := Scalar.extui v2041
  let c0_i32_1581 : BitVec 32 := 0#32
  let v2043 : BitVec 1 := Scalar.cmpi .slt c2_i32_1577 c0_i32_1581
  let v2044 : BitVec 32 := Scalar.extui v2043
  let v2045 : BitVec 32 := Scalar.subi v2042 v2044
  let v2046 : BitVec 1 := Scalar.cmpi .ne v2040 v2045
  let v2047 : BitVec 32 := Scalar.remsi v2034 c2_i32_1577
  let c0_i32_1582 : BitVec 32 := 0#32
  let v2048 : BitVec 1 := Scalar.cmpi .ne v2047 c0_i32_1582
  let v2049 : BitVec 1 := Scalar.andi v2046 v2048
  let v2035 : BitVec 32 := Scalar.divsi v2034 c2_i32_1577
  let c1_i32_1583 : BitVec 32 := 1#32
  let v2050 : BitVec 32 := Scalar.subi v2035 c1_i32_1583
  let v2051 : BitVec 32 := Scalar.select v2049 v2050 v2035
  let c2_i32_1584 : BitVec 32 := 2#32
  let v2052 : BitVec 1 := Scalar.cmpi .eq v2051 c2_i32_1584
  let v2053 : BitVec 32 := Scalar.extui v2052
  let c0_i32_1585 : BitVec 32 := 0#32
  let v2054 : BitVec 1 := Scalar.cmpi .ne v2053 c0_i32_1585
  v2054

def k0_off22 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1570 : BitVec 32 := 4#32
  let v2024 : BitVec 32 := Scalar.addi v2 c4_i32_1570
  let c8_i32_1571 : BitVec 32 := 8#32
  let c0_i32_1572 : BitVec 32 := 0#32
  let v2025 : BitVec 1 := Scalar.cmpi .eq c8_i32_1571 c0_i32_1572
  let c1_i32_1573 : BitVec 32 := 1#32
  let v2026 : BitVec 32 := Scalar.select v2025 c1_i32_1573 c8_i32_1571
  let v2027 : BitVec 32 := Scalar.remsi v2024 v2026
  let c0_i32_1575 : BitVec 32 := 0#32
  let v2029 : BitVec 1 := Scalar.cmpi .slt v2027 c0_i32_1575
  let c0_i32_1576 : BitVec 32 := 0#32
  let v2030 : BitVec 1 := Scalar.cmpi .slt v2026 c0_i32_1576
  let v2031 : BitVec 1 := Scalar.xori v2029 v2030
  let c0_i32_1574 : BitVec 32 := 0#32
  let v2028 : BitVec 1 := Scalar.cmpi .ne v2027 c0_i32_1574
  let v2032 : BitVec 1 := Scalar.andi v2031 v2028
  let v2033 : BitVec 32 := Scalar.addi v2027 v2026
  let v2034 : BitVec 32 := Scalar.select v2032 v2033 v2027
  let c32_i32_2343 : BitVec 32 := 32#32
  let v2951 : BitVec 32 := Scalar.muli v2034 c32_i32_2343
  let c0_i32_2353 : BitVec 32 := 0#32
  ![0, v2951.toNat, 0]
def k0_dev39 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1570 : BitVec 32 := 4#32
  let v2024 : BitVec 32 := Scalar.addi v2 c4_i32_1570
  let c8_i32_1571 : BitVec 32 := 8#32
  let c0_i32_1572 : BitVec 32 := 0#32
  let v2025 : BitVec 1 := Scalar.cmpi .eq c8_i32_1571 c0_i32_1572
  let c1_i32_1573 : BitVec 32 := 1#32
  let v2026 : BitVec 32 := Scalar.select v2025 c1_i32_1573 c8_i32_1571
  let v2027 : BitVec 32 := Scalar.remsi v2024 v2026
  let c0_i32_1575 : BitVec 32 := 0#32
  let v2029 : BitVec 1 := Scalar.cmpi .slt v2027 c0_i32_1575
  let c0_i32_1576 : BitVec 32 := 0#32
  let v2030 : BitVec 1 := Scalar.cmpi .slt v2026 c0_i32_1576
  let v2031 : BitVec 1 := Scalar.xori v2029 v2030
  let c0_i32_1574 : BitVec 32 := 0#32
  let v2028 : BitVec 1 := Scalar.cmpi .ne v2027 c0_i32_1574
  let v2032 : BitVec 1 := Scalar.andi v2031 v2028
  let v2033 : BitVec 32 := Scalar.addi v2027 v2026
  let v2034 : BitVec 32 := Scalar.select v2032 v2033 v2027
  let c1_i32_2347 : BitVec 32 := 1#32
  let v2952 : BitVec 32 := Scalar.muli v2034 c1_i32_2347
  let v2953 : BitVec 32 := Scalar.addi c0_i32_2348 v2952
  v2953.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1586 : BitVec 32 := 5#32
  let v2055 : BitVec 32 := Scalar.addi v2 c5_i32_1586
  let c8_i32_1587 : BitVec 32 := 8#32
  let c0_i32_1588 : BitVec 32 := 0#32
  let v2056 : BitVec 1 := Scalar.cmpi .eq c8_i32_1587 c0_i32_1588
  let c1_i32_1589 : BitVec 32 := 1#32
  let v2057 : BitVec 32 := Scalar.select v2056 c1_i32_1589 c8_i32_1587
  let v2058 : BitVec 32 := Scalar.remsi v2055 v2057
  let c0_i32_1591 : BitVec 32 := 0#32
  let v2060 : BitVec 1 := Scalar.cmpi .slt v2058 c0_i32_1591
  let c0_i32_1592 : BitVec 32 := 0#32
  let v2061 : BitVec 1 := Scalar.cmpi .slt v2057 c0_i32_1592
  let v2062 : BitVec 1 := Scalar.xori v2060 v2061
  let c0_i32_1590 : BitVec 32 := 0#32
  let v2059 : BitVec 1 := Scalar.cmpi .ne v2058 c0_i32_1590
  let v2063 : BitVec 1 := Scalar.andi v2062 v2059
  let v2064 : BitVec 32 := Scalar.addi v2058 v2057
  let v2065 : BitVec 32 := Scalar.select v2063 v2064 v2058
  let c0_i32_1594 : BitVec 32 := 0#32
  let v2067 : BitVec 1 := Scalar.cmpi .sgt v2065 c0_i32_1594
  let v2068 : BitVec 32 := Scalar.extui v2067
  let c0_i32_1595 : BitVec 32 := 0#32
  let v2069 : BitVec 1 := Scalar.cmpi .slt v2065 c0_i32_1595
  let v2070 : BitVec 32 := Scalar.extui v2069
  let v2071 : BitVec 32 := Scalar.subi v2068 v2070
  let c2_i32_1593 : BitVec 32 := 2#32
  let c0_i32_1596 : BitVec 32 := 0#32
  let v2072 : BitVec 1 := Scalar.cmpi .sgt c2_i32_1593 c0_i32_1596
  let v2073 : BitVec 32 := Scalar.extui v2072
  let c0_i32_1597 : BitVec 32 := 0#32
  let v2074 : BitVec 1 := Scalar.cmpi .slt c2_i32_1593 c0_i32_1597
  let v2075 : BitVec 32 := Scalar.extui v2074
  let v2076 : BitVec 32 := Scalar.subi v2073 v2075
  let v2077 : BitVec 1 := Scalar.cmpi .ne v2071 v2076
  let v2078 : BitVec 32 := Scalar.remsi v2065 c2_i32_1593
  let c0_i32_1598 : BitVec 32 := 0#32
  let v2079 : BitVec 1 := Scalar.cmpi .ne v2078 c0_i32_1598
  let v2080 : BitVec 1 := Scalar.andi v2077 v2079
  let v2066 : BitVec 32 := Scalar.divsi v2065 c2_i32_1593
  let c1_i32_1599 : BitVec 32 := 1#32
  let v2081 : BitVec 32 := Scalar.subi v2066 c1_i32_1599
  let v2082 : BitVec 32 := Scalar.select v2080 v2081 v2066
  let c2_i32_1600 : BitVec 32 := 2#32
  let v2083 : BitVec 1 := Scalar.cmpi .eq v2082 c2_i32_1600
  let v2084 : BitVec 32 := Scalar.extui v2083
  let c0_i32_1601 : BitVec 32 := 0#32
  let v2085 : BitVec 1 := Scalar.cmpi .ne v2084 c0_i32_1601
  v2085

def k0_off23 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1586 : BitVec 32 := 5#32
  let v2055 : BitVec 32 := Scalar.addi v2 c5_i32_1586
  let c8_i32_1587 : BitVec 32 := 8#32
  let c0_i32_1588 : BitVec 32 := 0#32
  let v2056 : BitVec 1 := Scalar.cmpi .eq c8_i32_1587 c0_i32_1588
  let c1_i32_1589 : BitVec 32 := 1#32
  let v2057 : BitVec 32 := Scalar.select v2056 c1_i32_1589 c8_i32_1587
  let v2058 : BitVec 32 := Scalar.remsi v2055 v2057
  let c0_i32_1591 : BitVec 32 := 0#32
  let v2060 : BitVec 1 := Scalar.cmpi .slt v2058 c0_i32_1591
  let c0_i32_1592 : BitVec 32 := 0#32
  let v2061 : BitVec 1 := Scalar.cmpi .slt v2057 c0_i32_1592
  let v2062 : BitVec 1 := Scalar.xori v2060 v2061
  let c0_i32_1590 : BitVec 32 := 0#32
  let v2059 : BitVec 1 := Scalar.cmpi .ne v2058 c0_i32_1590
  let v2063 : BitVec 1 := Scalar.andi v2062 v2059
  let v2064 : BitVec 32 := Scalar.addi v2058 v2057
  let v2065 : BitVec 32 := Scalar.select v2063 v2064 v2058
  let c32_i32_2343 : BitVec 32 := 32#32
  let v2951 : BitVec 32 := Scalar.muli v2065 c32_i32_2343
  let c0_i32_2353 : BitVec 32 := 0#32
  ![0, v2951.toNat, 0]
def k0_dev40 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1586 : BitVec 32 := 5#32
  let v2055 : BitVec 32 := Scalar.addi v2 c5_i32_1586
  let c8_i32_1587 : BitVec 32 := 8#32
  let c0_i32_1588 : BitVec 32 := 0#32
  let v2056 : BitVec 1 := Scalar.cmpi .eq c8_i32_1587 c0_i32_1588
  let c1_i32_1589 : BitVec 32 := 1#32
  let v2057 : BitVec 32 := Scalar.select v2056 c1_i32_1589 c8_i32_1587
  let v2058 : BitVec 32 := Scalar.remsi v2055 v2057
  let c0_i32_1591 : BitVec 32 := 0#32
  let v2060 : BitVec 1 := Scalar.cmpi .slt v2058 c0_i32_1591
  let c0_i32_1592 : BitVec 32 := 0#32
  let v2061 : BitVec 1 := Scalar.cmpi .slt v2057 c0_i32_1592
  let v2062 : BitVec 1 := Scalar.xori v2060 v2061
  let c0_i32_1590 : BitVec 32 := 0#32
  let v2059 : BitVec 1 := Scalar.cmpi .ne v2058 c0_i32_1590
  let v2063 : BitVec 1 := Scalar.andi v2062 v2059
  let v2064 : BitVec 32 := Scalar.addi v2058 v2057
  let v2065 : BitVec 32 := Scalar.select v2063 v2064 v2058
  let c1_i32_2347 : BitVec 32 := 1#32
  let v2952 : BitVec 32 := Scalar.muli v2065 c1_i32_2347
  let v2953 : BitVec 32 := Scalar.addi c0_i32_2348 v2952
  v2953.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1602 : BitVec 32 := 6#32
  let v2086 : BitVec 32 := Scalar.addi v2 c6_i32_1602
  let c8_i32_1603 : BitVec 32 := 8#32
  let c0_i32_1604 : BitVec 32 := 0#32
  let v2087 : BitVec 1 := Scalar.cmpi .eq c8_i32_1603 c0_i32_1604
  let c1_i32_1605 : BitVec 32 := 1#32
  let v2088 : BitVec 32 := Scalar.select v2087 c1_i32_1605 c8_i32_1603
  let v2089 : BitVec 32 := Scalar.remsi v2086 v2088
  let c0_i32_1607 : BitVec 32 := 0#32
  let v2091 : BitVec 1 := Scalar.cmpi .slt v2089 c0_i32_1607
  let c0_i32_1608 : BitVec 32 := 0#32
  let v2092 : BitVec 1 := Scalar.cmpi .slt v2088 c0_i32_1608
  let v2093 : BitVec 1 := Scalar.xori v2091 v2092
  let c0_i32_1606 : BitVec 32 := 0#32
  let v2090 : BitVec 1 := Scalar.cmpi .ne v2089 c0_i32_1606
  let v2094 : BitVec 1 := Scalar.andi v2093 v2090
  let v2095 : BitVec 32 := Scalar.addi v2089 v2088
  let v2096 : BitVec 32 := Scalar.select v2094 v2095 v2089
  let c0_i32_1610 : BitVec 32 := 0#32
  let v2098 : BitVec 1 := Scalar.cmpi .sgt v2096 c0_i32_1610
  let v2099 : BitVec 32 := Scalar.extui v2098
  let c0_i32_1611 : BitVec 32 := 0#32
  let v2100 : BitVec 1 := Scalar.cmpi .slt v2096 c0_i32_1611
  let v2101 : BitVec 32 := Scalar.extui v2100
  let v2102 : BitVec 32 := Scalar.subi v2099 v2101
  let c2_i32_1609 : BitVec 32 := 2#32
  let c0_i32_1612 : BitVec 32 := 0#32
  let v2103 : BitVec 1 := Scalar.cmpi .sgt c2_i32_1609 c0_i32_1612
  let v2104 : BitVec 32 := Scalar.extui v2103
  let c0_i32_1613 : BitVec 32 := 0#32
  let v2105 : BitVec 1 := Scalar.cmpi .slt c2_i32_1609 c0_i32_1613
  let v2106 : BitVec 32 := Scalar.extui v2105
  let v2107 : BitVec 32 := Scalar.subi v2104 v2106
  let v2108 : BitVec 1 := Scalar.cmpi .ne v2102 v2107
  let v2109 : BitVec 32 := Scalar.remsi v2096 c2_i32_1609
  let c0_i32_1614 : BitVec 32 := 0#32
  let v2110 : BitVec 1 := Scalar.cmpi .ne v2109 c0_i32_1614
  let v2111 : BitVec 1 := Scalar.andi v2108 v2110
  let v2097 : BitVec 32 := Scalar.divsi v2096 c2_i32_1609
  let c1_i32_1615 : BitVec 32 := 1#32
  let v2112 : BitVec 32 := Scalar.subi v2097 c1_i32_1615
  let v2113 : BitVec 32 := Scalar.select v2111 v2112 v2097
  let c2_i32_1616 : BitVec 32 := 2#32
  let v2114 : BitVec 1 := Scalar.cmpi .eq v2113 c2_i32_1616
  let v2115 : BitVec 32 := Scalar.extui v2114
  let c0_i32_1617 : BitVec 32 := 0#32
  let v2116 : BitVec 1 := Scalar.cmpi .ne v2115 c0_i32_1617
  v2116

def k0_off24 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1602 : BitVec 32 := 6#32
  let v2086 : BitVec 32 := Scalar.addi v2 c6_i32_1602
  let c8_i32_1603 : BitVec 32 := 8#32
  let c0_i32_1604 : BitVec 32 := 0#32
  let v2087 : BitVec 1 := Scalar.cmpi .eq c8_i32_1603 c0_i32_1604
  let c1_i32_1605 : BitVec 32 := 1#32
  let v2088 : BitVec 32 := Scalar.select v2087 c1_i32_1605 c8_i32_1603
  let v2089 : BitVec 32 := Scalar.remsi v2086 v2088
  let c0_i32_1607 : BitVec 32 := 0#32
  let v2091 : BitVec 1 := Scalar.cmpi .slt v2089 c0_i32_1607
  let c0_i32_1608 : BitVec 32 := 0#32
  let v2092 : BitVec 1 := Scalar.cmpi .slt v2088 c0_i32_1608
  let v2093 : BitVec 1 := Scalar.xori v2091 v2092
  let c0_i32_1606 : BitVec 32 := 0#32
  let v2090 : BitVec 1 := Scalar.cmpi .ne v2089 c0_i32_1606
  let v2094 : BitVec 1 := Scalar.andi v2093 v2090
  let v2095 : BitVec 32 := Scalar.addi v2089 v2088
  let v2096 : BitVec 32 := Scalar.select v2094 v2095 v2089
  let c32_i32_2343 : BitVec 32 := 32#32
  let v2951 : BitVec 32 := Scalar.muli v2096 c32_i32_2343
  let c0_i32_2353 : BitVec 32 := 0#32
  ![0, v2951.toNat, 0]
def k0_dev41 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1602 : BitVec 32 := 6#32
  let v2086 : BitVec 32 := Scalar.addi v2 c6_i32_1602
  let c8_i32_1603 : BitVec 32 := 8#32
  let c0_i32_1604 : BitVec 32 := 0#32
  let v2087 : BitVec 1 := Scalar.cmpi .eq c8_i32_1603 c0_i32_1604
  let c1_i32_1605 : BitVec 32 := 1#32
  let v2088 : BitVec 32 := Scalar.select v2087 c1_i32_1605 c8_i32_1603
  let v2089 : BitVec 32 := Scalar.remsi v2086 v2088
  let c0_i32_1607 : BitVec 32 := 0#32
  let v2091 : BitVec 1 := Scalar.cmpi .slt v2089 c0_i32_1607
  let c0_i32_1608 : BitVec 32 := 0#32
  let v2092 : BitVec 1 := Scalar.cmpi .slt v2088 c0_i32_1608
  let v2093 : BitVec 1 := Scalar.xori v2091 v2092
  let c0_i32_1606 : BitVec 32 := 0#32
  let v2090 : BitVec 1 := Scalar.cmpi .ne v2089 c0_i32_1606
  let v2094 : BitVec 1 := Scalar.andi v2093 v2090
  let v2095 : BitVec 32 := Scalar.addi v2089 v2088
  let v2096 : BitVec 32 := Scalar.select v2094 v2095 v2089
  let c1_i32_2347 : BitVec 32 := 1#32
  let v2952 : BitVec 32 := Scalar.muli v2096 c1_i32_2347
  let v2953 : BitVec 32 := Scalar.addi c0_i32_2348 v2952
  v2953.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1618 : BitVec 32 := 7#32
  let v2117 : BitVec 32 := Scalar.addi v2 c7_i32_1618
  let c8_i32_1619 : BitVec 32 := 8#32
  let c0_i32_1620 : BitVec 32 := 0#32
  let v2118 : BitVec 1 := Scalar.cmpi .eq c8_i32_1619 c0_i32_1620
  let c1_i32_1621 : BitVec 32 := 1#32
  let v2119 : BitVec 32 := Scalar.select v2118 c1_i32_1621 c8_i32_1619
  let v2120 : BitVec 32 := Scalar.remsi v2117 v2119
  let c0_i32_1623 : BitVec 32 := 0#32
  let v2122 : BitVec 1 := Scalar.cmpi .slt v2120 c0_i32_1623
  let c0_i32_1624 : BitVec 32 := 0#32
  let v2123 : BitVec 1 := Scalar.cmpi .slt v2119 c0_i32_1624
  let v2124 : BitVec 1 := Scalar.xori v2122 v2123
  let c0_i32_1622 : BitVec 32 := 0#32
  let v2121 : BitVec 1 := Scalar.cmpi .ne v2120 c0_i32_1622
  let v2125 : BitVec 1 := Scalar.andi v2124 v2121
  let v2126 : BitVec 32 := Scalar.addi v2120 v2119
  let v2127 : BitVec 32 := Scalar.select v2125 v2126 v2120
  let c0_i32_1626 : BitVec 32 := 0#32
  let v2129 : BitVec 1 := Scalar.cmpi .sgt v2127 c0_i32_1626
  let v2130 : BitVec 32 := Scalar.extui v2129
  let c0_i32_1627 : BitVec 32 := 0#32
  let v2131 : BitVec 1 := Scalar.cmpi .slt v2127 c0_i32_1627
  let v2132 : BitVec 32 := Scalar.extui v2131
  let v2133 : BitVec 32 := Scalar.subi v2130 v2132
  let c2_i32_1625 : BitVec 32 := 2#32
  let c0_i32_1628 : BitVec 32 := 0#32
  let v2134 : BitVec 1 := Scalar.cmpi .sgt c2_i32_1625 c0_i32_1628
  let v2135 : BitVec 32 := Scalar.extui v2134
  let c0_i32_1629 : BitVec 32 := 0#32
  let v2136 : BitVec 1 := Scalar.cmpi .slt c2_i32_1625 c0_i32_1629
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_1625
  let c0_i32_1630 : BitVec 32 := 0#32
  let v2141 : BitVec 1 := Scalar.cmpi .ne v2140 c0_i32_1630
  let v2142 : BitVec 1 := Scalar.andi v2139 v2141
  let v2128 : BitVec 32 := Scalar.divsi v2127 c2_i32_1625
  let c1_i32_1631 : BitVec 32 := 1#32
  let v2143 : BitVec 32 := Scalar.subi v2128 c1_i32_1631
  let v2144 : BitVec 32 := Scalar.select v2142 v2143 v2128
  let c2_i32_1632 : BitVec 32 := 2#32
  let v2145 : BitVec 1 := Scalar.cmpi .eq v2144 c2_i32_1632
  let v2146 : BitVec 32 := Scalar.extui v2145
  let c0_i32_1633 : BitVec 32 := 0#32
  let v2147 : BitVec 1 := Scalar.cmpi .ne v2146 c0_i32_1633
  v2147

def k0_off25 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1618 : BitVec 32 := 7#32
  let v2117 : BitVec 32 := Scalar.addi v2 c7_i32_1618
  let c8_i32_1619 : BitVec 32 := 8#32
  let c0_i32_1620 : BitVec 32 := 0#32
  let v2118 : BitVec 1 := Scalar.cmpi .eq c8_i32_1619 c0_i32_1620
  let c1_i32_1621 : BitVec 32 := 1#32
  let v2119 : BitVec 32 := Scalar.select v2118 c1_i32_1621 c8_i32_1619
  let v2120 : BitVec 32 := Scalar.remsi v2117 v2119
  let c0_i32_1623 : BitVec 32 := 0#32
  let v2122 : BitVec 1 := Scalar.cmpi .slt v2120 c0_i32_1623
  let c0_i32_1624 : BitVec 32 := 0#32
  let v2123 : BitVec 1 := Scalar.cmpi .slt v2119 c0_i32_1624
  let v2124 : BitVec 1 := Scalar.xori v2122 v2123
  let c0_i32_1622 : BitVec 32 := 0#32
  let v2121 : BitVec 1 := Scalar.cmpi .ne v2120 c0_i32_1622
  let v2125 : BitVec 1 := Scalar.andi v2124 v2121
  let v2126 : BitVec 32 := Scalar.addi v2120 v2119
  let v2127 : BitVec 32 := Scalar.select v2125 v2126 v2120
  let c32_i32_2343 : BitVec 32 := 32#32
  let v2951 : BitVec 32 := Scalar.muli v2127 c32_i32_2343
  let c0_i32_2353 : BitVec 32 := 0#32
  ![0, v2951.toNat, 0]
def k0_dev42 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1618 : BitVec 32 := 7#32
  let v2117 : BitVec 32 := Scalar.addi v2 c7_i32_1618
  let c8_i32_1619 : BitVec 32 := 8#32
  let c0_i32_1620 : BitVec 32 := 0#32
  let v2118 : BitVec 1 := Scalar.cmpi .eq c8_i32_1619 c0_i32_1620
  let c1_i32_1621 : BitVec 32 := 1#32
  let v2119 : BitVec 32 := Scalar.select v2118 c1_i32_1621 c8_i32_1619
  let v2120 : BitVec 32 := Scalar.remsi v2117 v2119
  let c0_i32_1623 : BitVec 32 := 0#32
  let v2122 : BitVec 1 := Scalar.cmpi .slt v2120 c0_i32_1623
  let c0_i32_1624 : BitVec 32 := 0#32
  let v2123 : BitVec 1 := Scalar.cmpi .slt v2119 c0_i32_1624
  let v2124 : BitVec 1 := Scalar.xori v2122 v2123
  let c0_i32_1622 : BitVec 32 := 0#32
  let v2121 : BitVec 1 := Scalar.cmpi .ne v2120 c0_i32_1622
  let v2125 : BitVec 1 := Scalar.andi v2124 v2121
  let v2126 : BitVec 32 := Scalar.addi v2120 v2119
  let v2127 : BitVec 32 := Scalar.select v2125 v2126 v2120
  let c1_i32_2347 : BitVec 32 := 1#32
  let v2952 : BitVec 32 := Scalar.muli v2127 c1_i32_2347
  let v2953 : BitVec 32 := Scalar.addi c0_i32_2348 v2952
  v2953.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1721 : BitVec 32 := 1#32
  let v2228 : BitVec 32 := Scalar.addi v2 c1_i32_1721
  let c8_i32_1722 : BitVec 32 := 8#32
  let c0_i32_1723 : BitVec 32 := 0#32
  let v2229 : BitVec 1 := Scalar.cmpi .eq c8_i32_1722 c0_i32_1723
  let c1_i32_1724 : BitVec 32 := 1#32
  let v2230 : BitVec 32 := Scalar.select v2229 c1_i32_1724 c8_i32_1722
  let v2231 : BitVec 32 := Scalar.remsi v2228 v2230
  let c0_i32_1726 : BitVec 32 := 0#32
  let v2233 : BitVec 1 := Scalar.cmpi .slt v2231 c0_i32_1726
  let c0_i32_1727 : BitVec 32 := 0#32
  let v2234 : BitVec 1 := Scalar.cmpi .slt v2230 c0_i32_1727
  let v2235 : BitVec 1 := Scalar.xori v2233 v2234
  let c0_i32_1725 : BitVec 32 := 0#32
  let v2232 : BitVec 1 := Scalar.cmpi .ne v2231 c0_i32_1725
  let v2236 : BitVec 1 := Scalar.andi v2235 v2232
  let v2237 : BitVec 32 := Scalar.addi v2231 v2230
  let v2238 : BitVec 32 := Scalar.select v2236 v2237 v2231
  let c0_i32_1729 : BitVec 32 := 0#32
  let v2240 : BitVec 1 := Scalar.cmpi .sgt v2238 c0_i32_1729
  let v2241 : BitVec 32 := Scalar.extui v2240
  let c0_i32_1730 : BitVec 32 := 0#32
  let v2242 : BitVec 1 := Scalar.cmpi .slt v2238 c0_i32_1730
  let v2243 : BitVec 32 := Scalar.extui v2242
  let v2244 : BitVec 32 := Scalar.subi v2241 v2243
  let c2_i32_1728 : BitVec 32 := 2#32
  let c0_i32_1731 : BitVec 32 := 0#32
  let v2245 : BitVec 1 := Scalar.cmpi .sgt c2_i32_1728 c0_i32_1731
  let v2246 : BitVec 32 := Scalar.extui v2245
  let c0_i32_1732 : BitVec 32 := 0#32
  let v2247 : BitVec 1 := Scalar.cmpi .slt c2_i32_1728 c0_i32_1732
  let v2248 : BitVec 32 := Scalar.extui v2247
  let v2249 : BitVec 32 := Scalar.subi v2246 v2248
  let v2250 : BitVec 1 := Scalar.cmpi .ne v2244 v2249
  let v2251 : BitVec 32 := Scalar.remsi v2238 c2_i32_1728
  let c0_i32_1733 : BitVec 32 := 0#32
  let v2252 : BitVec 1 := Scalar.cmpi .ne v2251 c0_i32_1733
  let v2253 : BitVec 1 := Scalar.andi v2250 v2252
  let v2239 : BitVec 32 := Scalar.divsi v2238 c2_i32_1728
  let c1_i32_1734 : BitVec 32 := 1#32
  let v2254 : BitVec 32 := Scalar.subi v2239 c1_i32_1734
  let v2255 : BitVec 32 := Scalar.select v2253 v2254 v2239
  let c3_i32_1735 : BitVec 32 := 3#32
  let v2256 : BitVec 1 := Scalar.cmpi .eq v2255 c3_i32_1735
  let v2257 : BitVec 32 := Scalar.extui v2256
  let c0_i32_1736 : BitVec 32 := 0#32
  let v2258 : BitVec 1 := Scalar.cmpi .ne v2257 c0_i32_1736
  v2258

def k0_off26 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1721 : BitVec 32 := 1#32
  let v2228 : BitVec 32 := Scalar.addi v2 c1_i32_1721
  let c8_i32_1722 : BitVec 32 := 8#32
  let c0_i32_1723 : BitVec 32 := 0#32
  let v2229 : BitVec 1 := Scalar.cmpi .eq c8_i32_1722 c0_i32_1723
  let c1_i32_1724 : BitVec 32 := 1#32
  let v2230 : BitVec 32 := Scalar.select v2229 c1_i32_1724 c8_i32_1722
  let v2231 : BitVec 32 := Scalar.remsi v2228 v2230
  let c0_i32_1726 : BitVec 32 := 0#32
  let v2233 : BitVec 1 := Scalar.cmpi .slt v2231 c0_i32_1726
  let c0_i32_1727 : BitVec 32 := 0#32
  let v2234 : BitVec 1 := Scalar.cmpi .slt v2230 c0_i32_1727
  let v2235 : BitVec 1 := Scalar.xori v2233 v2234
  let c0_i32_1725 : BitVec 32 := 0#32
  let v2232 : BitVec 1 := Scalar.cmpi .ne v2231 c0_i32_1725
  let v2236 : BitVec 1 := Scalar.andi v2235 v2232
  let v2237 : BitVec 32 := Scalar.addi v2231 v2230
  let v2238 : BitVec 32 := Scalar.select v2236 v2237 v2231
  let c32_i32_2343 : BitVec 32 := 32#32
  let v2951 : BitVec 32 := Scalar.muli v2238 c32_i32_2343
  let c0_i32_2353 : BitVec 32 := 0#32
  ![0, v2951.toNat, 0]
def k0_dev43 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1721 : BitVec 32 := 1#32
  let v2228 : BitVec 32 := Scalar.addi v2 c1_i32_1721
  let c8_i32_1722 : BitVec 32 := 8#32
  let c0_i32_1723 : BitVec 32 := 0#32
  let v2229 : BitVec 1 := Scalar.cmpi .eq c8_i32_1722 c0_i32_1723
  let c1_i32_1724 : BitVec 32 := 1#32
  let v2230 : BitVec 32 := Scalar.select v2229 c1_i32_1724 c8_i32_1722
  let v2231 : BitVec 32 := Scalar.remsi v2228 v2230
  let c0_i32_1726 : BitVec 32 := 0#32
  let v2233 : BitVec 1 := Scalar.cmpi .slt v2231 c0_i32_1726
  let c0_i32_1727 : BitVec 32 := 0#32
  let v2234 : BitVec 1 := Scalar.cmpi .slt v2230 c0_i32_1727
  let v2235 : BitVec 1 := Scalar.xori v2233 v2234
  let c0_i32_1725 : BitVec 32 := 0#32
  let v2232 : BitVec 1 := Scalar.cmpi .ne v2231 c0_i32_1725
  let v2236 : BitVec 1 := Scalar.andi v2235 v2232
  let v2237 : BitVec 32 := Scalar.addi v2231 v2230
  let v2238 : BitVec 32 := Scalar.select v2236 v2237 v2231
  let c1_i32_2347 : BitVec 32 := 1#32
  let v2952 : BitVec 32 := Scalar.muli v2238 c1_i32_2347
  let v2953 : BitVec 32 := Scalar.addi c0_i32_2348 v2952
  v2953.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1737 : BitVec 32 := 2#32
  let v2259 : BitVec 32 := Scalar.addi v2 c2_i32_1737
  let c8_i32_1738 : BitVec 32 := 8#32
  let c0_i32_1739 : BitVec 32 := 0#32
  let v2260 : BitVec 1 := Scalar.cmpi .eq c8_i32_1738 c0_i32_1739
  let c1_i32_1740 : BitVec 32 := 1#32
  let v2261 : BitVec 32 := Scalar.select v2260 c1_i32_1740 c8_i32_1738
  let v2262 : BitVec 32 := Scalar.remsi v2259 v2261
  let c0_i32_1742 : BitVec 32 := 0#32
  let v2264 : BitVec 1 := Scalar.cmpi .slt v2262 c0_i32_1742
  let c0_i32_1743 : BitVec 32 := 0#32
  let v2265 : BitVec 1 := Scalar.cmpi .slt v2261 c0_i32_1743
  let v2266 : BitVec 1 := Scalar.xori v2264 v2265
  let c0_i32_1741 : BitVec 32 := 0#32
  let v2263 : BitVec 1 := Scalar.cmpi .ne v2262 c0_i32_1741
  let v2267 : BitVec 1 := Scalar.andi v2266 v2263
  let v2268 : BitVec 32 := Scalar.addi v2262 v2261
  let v2269 : BitVec 32 := Scalar.select v2267 v2268 v2262
  let c0_i32_1745 : BitVec 32 := 0#32
  let v2271 : BitVec 1 := Scalar.cmpi .sgt v2269 c0_i32_1745
  let v2272 : BitVec 32 := Scalar.extui v2271
  let c0_i32_1746 : BitVec 32 := 0#32
  let v2273 : BitVec 1 := Scalar.cmpi .slt v2269 c0_i32_1746
  let v2274 : BitVec 32 := Scalar.extui v2273
  let v2275 : BitVec 32 := Scalar.subi v2272 v2274
  let c2_i32_1744 : BitVec 32 := 2#32
  let c0_i32_1747 : BitVec 32 := 0#32
  let v2276 : BitVec 1 := Scalar.cmpi .sgt c2_i32_1744 c0_i32_1747
  let v2277 : BitVec 32 := Scalar.extui v2276
  let c0_i32_1748 : BitVec 32 := 0#32
  let v2278 : BitVec 1 := Scalar.cmpi .slt c2_i32_1744 c0_i32_1748
  let v2279 : BitVec 32 := Scalar.extui v2278
  let v2280 : BitVec 32 := Scalar.subi v2277 v2279
  let v2281 : BitVec 1 := Scalar.cmpi .ne v2275 v2280
  let v2282 : BitVec 32 := Scalar.remsi v2269 c2_i32_1744
  let c0_i32_1749 : BitVec 32 := 0#32
  let v2283 : BitVec 1 := Scalar.cmpi .ne v2282 c0_i32_1749
  let v2284 : BitVec 1 := Scalar.andi v2281 v2283
  let v2270 : BitVec 32 := Scalar.divsi v2269 c2_i32_1744
  let c1_i32_1750 : BitVec 32 := 1#32
  let v2285 : BitVec 32 := Scalar.subi v2270 c1_i32_1750
  let v2286 : BitVec 32 := Scalar.select v2284 v2285 v2270
  let c3_i32_1751 : BitVec 32 := 3#32
  let v2287 : BitVec 1 := Scalar.cmpi .eq v2286 c3_i32_1751
  let v2288 : BitVec 32 := Scalar.extui v2287
  let c0_i32_1752 : BitVec 32 := 0#32
  let v2289 : BitVec 1 := Scalar.cmpi .ne v2288 c0_i32_1752
  v2289

def k0_off27 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1737 : BitVec 32 := 2#32
  let v2259 : BitVec 32 := Scalar.addi v2 c2_i32_1737
  let c8_i32_1738 : BitVec 32 := 8#32
  let c0_i32_1739 : BitVec 32 := 0#32
  let v2260 : BitVec 1 := Scalar.cmpi .eq c8_i32_1738 c0_i32_1739
  let c1_i32_1740 : BitVec 32 := 1#32
  let v2261 : BitVec 32 := Scalar.select v2260 c1_i32_1740 c8_i32_1738
  let v2262 : BitVec 32 := Scalar.remsi v2259 v2261
  let c0_i32_1742 : BitVec 32 := 0#32
  let v2264 : BitVec 1 := Scalar.cmpi .slt v2262 c0_i32_1742
  let c0_i32_1743 : BitVec 32 := 0#32
  let v2265 : BitVec 1 := Scalar.cmpi .slt v2261 c0_i32_1743
  let v2266 : BitVec 1 := Scalar.xori v2264 v2265
  let c0_i32_1741 : BitVec 32 := 0#32
  let v2263 : BitVec 1 := Scalar.cmpi .ne v2262 c0_i32_1741
  let v2267 : BitVec 1 := Scalar.andi v2266 v2263
  let v2268 : BitVec 32 := Scalar.addi v2262 v2261
  let v2269 : BitVec 32 := Scalar.select v2267 v2268 v2262
  let c32_i32_2343 : BitVec 32 := 32#32
  let v2951 : BitVec 32 := Scalar.muli v2269 c32_i32_2343
  let c0_i32_2353 : BitVec 32 := 0#32
  ![0, v2951.toNat, 0]
def k0_dev44 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1737 : BitVec 32 := 2#32
  let v2259 : BitVec 32 := Scalar.addi v2 c2_i32_1737
  let c8_i32_1738 : BitVec 32 := 8#32
  let c0_i32_1739 : BitVec 32 := 0#32
  let v2260 : BitVec 1 := Scalar.cmpi .eq c8_i32_1738 c0_i32_1739
  let c1_i32_1740 : BitVec 32 := 1#32
  let v2261 : BitVec 32 := Scalar.select v2260 c1_i32_1740 c8_i32_1738
  let v2262 : BitVec 32 := Scalar.remsi v2259 v2261
  let c0_i32_1742 : BitVec 32 := 0#32
  let v2264 : BitVec 1 := Scalar.cmpi .slt v2262 c0_i32_1742
  let c0_i32_1743 : BitVec 32 := 0#32
  let v2265 : BitVec 1 := Scalar.cmpi .slt v2261 c0_i32_1743
  let v2266 : BitVec 1 := Scalar.xori v2264 v2265
  let c0_i32_1741 : BitVec 32 := 0#32
  let v2263 : BitVec 1 := Scalar.cmpi .ne v2262 c0_i32_1741
  let v2267 : BitVec 1 := Scalar.andi v2266 v2263
  let v2268 : BitVec 32 := Scalar.addi v2262 v2261
  let v2269 : BitVec 32 := Scalar.select v2267 v2268 v2262
  let c1_i32_2347 : BitVec 32 := 1#32
  let v2952 : BitVec 32 := Scalar.muli v2269 c1_i32_2347
  let v2953 : BitVec 32 := Scalar.addi c0_i32_2348 v2952
  v2953.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1753 : BitVec 32 := 3#32
  let v2290 : BitVec 32 := Scalar.addi v2 c3_i32_1753
  let c8_i32_1754 : BitVec 32 := 8#32
  let c0_i32_1755 : BitVec 32 := 0#32
  let v2291 : BitVec 1 := Scalar.cmpi .eq c8_i32_1754 c0_i32_1755
  let c1_i32_1756 : BitVec 32 := 1#32
  let v2292 : BitVec 32 := Scalar.select v2291 c1_i32_1756 c8_i32_1754
  let v2293 : BitVec 32 := Scalar.remsi v2290 v2292
  let c0_i32_1758 : BitVec 32 := 0#32
  let v2295 : BitVec 1 := Scalar.cmpi .slt v2293 c0_i32_1758
  let c0_i32_1759 : BitVec 32 := 0#32
  let v2296 : BitVec 1 := Scalar.cmpi .slt v2292 c0_i32_1759
  let v2297 : BitVec 1 := Scalar.xori v2295 v2296
  let c0_i32_1757 : BitVec 32 := 0#32
  let v2294 : BitVec 1 := Scalar.cmpi .ne v2293 c0_i32_1757
  let v2298 : BitVec 1 := Scalar.andi v2297 v2294
  let v2299 : BitVec 32 := Scalar.addi v2293 v2292
  let v2300 : BitVec 32 := Scalar.select v2298 v2299 v2293
  let c0_i32_1761 : BitVec 32 := 0#32
  let v2302 : BitVec 1 := Scalar.cmpi .sgt v2300 c0_i32_1761
  let v2303 : BitVec 32 := Scalar.extui v2302
  let c0_i32_1762 : BitVec 32 := 0#32
  let v2304 : BitVec 1 := Scalar.cmpi .slt v2300 c0_i32_1762
  let v2305 : BitVec 32 := Scalar.extui v2304
  let v2306 : BitVec 32 := Scalar.subi v2303 v2305
  let c2_i32_1760 : BitVec 32 := 2#32
  let c0_i32_1763 : BitVec 32 := 0#32
  let v2307 : BitVec 1 := Scalar.cmpi .sgt c2_i32_1760 c0_i32_1763
  let v2308 : BitVec 32 := Scalar.extui v2307
  let c0_i32_1764 : BitVec 32 := 0#32
  let v2309 : BitVec 1 := Scalar.cmpi .slt c2_i32_1760 c0_i32_1764
  let v2310 : BitVec 32 := Scalar.extui v2309
  let v2311 : BitVec 32 := Scalar.subi v2308 v2310
  let v2312 : BitVec 1 := Scalar.cmpi .ne v2306 v2311
  let v2313 : BitVec 32 := Scalar.remsi v2300 c2_i32_1760
  let c0_i32_1765 : BitVec 32 := 0#32
  let v2314 : BitVec 1 := Scalar.cmpi .ne v2313 c0_i32_1765
  let v2315 : BitVec 1 := Scalar.andi v2312 v2314
  let v2301 : BitVec 32 := Scalar.divsi v2300 c2_i32_1760
  let c1_i32_1766 : BitVec 32 := 1#32
  let v2316 : BitVec 32 := Scalar.subi v2301 c1_i32_1766
  let v2317 : BitVec 32 := Scalar.select v2315 v2316 v2301
  let c3_i32_1767 : BitVec 32 := 3#32
  let v2318 : BitVec 1 := Scalar.cmpi .eq v2317 c3_i32_1767
  let v2319 : BitVec 32 := Scalar.extui v2318
  let c0_i32_1768 : BitVec 32 := 0#32
  let v2320 : BitVec 1 := Scalar.cmpi .ne v2319 c0_i32_1768
  v2320

def k0_off28 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1753 : BitVec 32 := 3#32
  let v2290 : BitVec 32 := Scalar.addi v2 c3_i32_1753
  let c8_i32_1754 : BitVec 32 := 8#32
  let c0_i32_1755 : BitVec 32 := 0#32
  let v2291 : BitVec 1 := Scalar.cmpi .eq c8_i32_1754 c0_i32_1755
  let c1_i32_1756 : BitVec 32 := 1#32
  let v2292 : BitVec 32 := Scalar.select v2291 c1_i32_1756 c8_i32_1754
  let v2293 : BitVec 32 := Scalar.remsi v2290 v2292
  let c0_i32_1758 : BitVec 32 := 0#32
  let v2295 : BitVec 1 := Scalar.cmpi .slt v2293 c0_i32_1758
  let c0_i32_1759 : BitVec 32 := 0#32
  let v2296 : BitVec 1 := Scalar.cmpi .slt v2292 c0_i32_1759
  let v2297 : BitVec 1 := Scalar.xori v2295 v2296
  let c0_i32_1757 : BitVec 32 := 0#32
  let v2294 : BitVec 1 := Scalar.cmpi .ne v2293 c0_i32_1757
  let v2298 : BitVec 1 := Scalar.andi v2297 v2294
  let v2299 : BitVec 32 := Scalar.addi v2293 v2292
  let v2300 : BitVec 32 := Scalar.select v2298 v2299 v2293
  let c32_i32_2343 : BitVec 32 := 32#32
  let v2951 : BitVec 32 := Scalar.muli v2300 c32_i32_2343
  let c0_i32_2353 : BitVec 32 := 0#32
  ![0, v2951.toNat, 0]
def k0_dev45 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1753 : BitVec 32 := 3#32
  let v2290 : BitVec 32 := Scalar.addi v2 c3_i32_1753
  let c8_i32_1754 : BitVec 32 := 8#32
  let c0_i32_1755 : BitVec 32 := 0#32
  let v2291 : BitVec 1 := Scalar.cmpi .eq c8_i32_1754 c0_i32_1755
  let c1_i32_1756 : BitVec 32 := 1#32
  let v2292 : BitVec 32 := Scalar.select v2291 c1_i32_1756 c8_i32_1754
  let v2293 : BitVec 32 := Scalar.remsi v2290 v2292
  let c0_i32_1758 : BitVec 32 := 0#32
  let v2295 : BitVec 1 := Scalar.cmpi .slt v2293 c0_i32_1758
  let c0_i32_1759 : BitVec 32 := 0#32
  let v2296 : BitVec 1 := Scalar.cmpi .slt v2292 c0_i32_1759
  let v2297 : BitVec 1 := Scalar.xori v2295 v2296
  let c0_i32_1757 : BitVec 32 := 0#32
  let v2294 : BitVec 1 := Scalar.cmpi .ne v2293 c0_i32_1757
  let v2298 : BitVec 1 := Scalar.andi v2297 v2294
  let v2299 : BitVec 32 := Scalar.addi v2293 v2292
  let v2300 : BitVec 32 := Scalar.select v2298 v2299 v2293
  let c1_i32_2347 : BitVec 32 := 1#32
  let v2952 : BitVec 32 := Scalar.muli v2300 c1_i32_2347
  let v2953 : BitVec 32 := Scalar.addi c0_i32_2348 v2952
  v2953.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1769 : BitVec 32 := 4#32
  let v2321 : BitVec 32 := Scalar.addi v2 c4_i32_1769
  let c8_i32_1770 : BitVec 32 := 8#32
  let c0_i32_1771 : BitVec 32 := 0#32
  let v2322 : BitVec 1 := Scalar.cmpi .eq c8_i32_1770 c0_i32_1771
  let c1_i32_1772 : BitVec 32 := 1#32
  let v2323 : BitVec 32 := Scalar.select v2322 c1_i32_1772 c8_i32_1770
  let v2324 : BitVec 32 := Scalar.remsi v2321 v2323
  let c0_i32_1774 : BitVec 32 := 0#32
  let v2326 : BitVec 1 := Scalar.cmpi .slt v2324 c0_i32_1774
  let c0_i32_1775 : BitVec 32 := 0#32
  let v2327 : BitVec 1 := Scalar.cmpi .slt v2323 c0_i32_1775
  let v2328 : BitVec 1 := Scalar.xori v2326 v2327
  let c0_i32_1773 : BitVec 32 := 0#32
  let v2325 : BitVec 1 := Scalar.cmpi .ne v2324 c0_i32_1773
  let v2329 : BitVec 1 := Scalar.andi v2328 v2325
  let v2330 : BitVec 32 := Scalar.addi v2324 v2323
  let v2331 : BitVec 32 := Scalar.select v2329 v2330 v2324
  let c0_i32_1777 : BitVec 32 := 0#32
  let v2333 : BitVec 1 := Scalar.cmpi .sgt v2331 c0_i32_1777
  let v2334 : BitVec 32 := Scalar.extui v2333
  let c0_i32_1778 : BitVec 32 := 0#32
  let v2335 : BitVec 1 := Scalar.cmpi .slt v2331 c0_i32_1778
  let v2336 : BitVec 32 := Scalar.extui v2335
  let v2337 : BitVec 32 := Scalar.subi v2334 v2336
  let c2_i32_1776 : BitVec 32 := 2#32
  let c0_i32_1779 : BitVec 32 := 0#32
  let v2338 : BitVec 1 := Scalar.cmpi .sgt c2_i32_1776 c0_i32_1779
  let v2339 : BitVec 32 := Scalar.extui v2338
  let c0_i32_1780 : BitVec 32 := 0#32
  let v2340 : BitVec 1 := Scalar.cmpi .slt c2_i32_1776 c0_i32_1780
  let v2341 : BitVec 32 := Scalar.extui v2340
  let v2342 : BitVec 32 := Scalar.subi v2339 v2341
  let v2343 : BitVec 1 := Scalar.cmpi .ne v2337 v2342
  let v2344 : BitVec 32 := Scalar.remsi v2331 c2_i32_1776
  let c0_i32_1781 : BitVec 32 := 0#32
  let v2345 : BitVec 1 := Scalar.cmpi .ne v2344 c0_i32_1781
  let v2346 : BitVec 1 := Scalar.andi v2343 v2345
  let v2332 : BitVec 32 := Scalar.divsi v2331 c2_i32_1776
  let c1_i32_1782 : BitVec 32 := 1#32
  let v2347 : BitVec 32 := Scalar.subi v2332 c1_i32_1782
  let v2348 : BitVec 32 := Scalar.select v2346 v2347 v2332
  let c3_i32_1783 : BitVec 32 := 3#32
  let v2349 : BitVec 1 := Scalar.cmpi .eq v2348 c3_i32_1783
  let v2350 : BitVec 32 := Scalar.extui v2349
  let c0_i32_1784 : BitVec 32 := 0#32
  let v2351 : BitVec 1 := Scalar.cmpi .ne v2350 c0_i32_1784
  v2351

def k0_off29 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1769 : BitVec 32 := 4#32
  let v2321 : BitVec 32 := Scalar.addi v2 c4_i32_1769
  let c8_i32_1770 : BitVec 32 := 8#32
  let c0_i32_1771 : BitVec 32 := 0#32
  let v2322 : BitVec 1 := Scalar.cmpi .eq c8_i32_1770 c0_i32_1771
  let c1_i32_1772 : BitVec 32 := 1#32
  let v2323 : BitVec 32 := Scalar.select v2322 c1_i32_1772 c8_i32_1770
  let v2324 : BitVec 32 := Scalar.remsi v2321 v2323
  let c0_i32_1774 : BitVec 32 := 0#32
  let v2326 : BitVec 1 := Scalar.cmpi .slt v2324 c0_i32_1774
  let c0_i32_1775 : BitVec 32 := 0#32
  let v2327 : BitVec 1 := Scalar.cmpi .slt v2323 c0_i32_1775
  let v2328 : BitVec 1 := Scalar.xori v2326 v2327
  let c0_i32_1773 : BitVec 32 := 0#32
  let v2325 : BitVec 1 := Scalar.cmpi .ne v2324 c0_i32_1773
  let v2329 : BitVec 1 := Scalar.andi v2328 v2325
  let v2330 : BitVec 32 := Scalar.addi v2324 v2323
  let v2331 : BitVec 32 := Scalar.select v2329 v2330 v2324
  let c32_i32_2343 : BitVec 32 := 32#32
  let v2951 : BitVec 32 := Scalar.muli v2331 c32_i32_2343
  let c0_i32_2353 : BitVec 32 := 0#32
  ![0, v2951.toNat, 0]
def k0_dev46 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1769 : BitVec 32 := 4#32
  let v2321 : BitVec 32 := Scalar.addi v2 c4_i32_1769
  let c8_i32_1770 : BitVec 32 := 8#32
  let c0_i32_1771 : BitVec 32 := 0#32
  let v2322 : BitVec 1 := Scalar.cmpi .eq c8_i32_1770 c0_i32_1771
  let c1_i32_1772 : BitVec 32 := 1#32
  let v2323 : BitVec 32 := Scalar.select v2322 c1_i32_1772 c8_i32_1770
  let v2324 : BitVec 32 := Scalar.remsi v2321 v2323
  let c0_i32_1774 : BitVec 32 := 0#32
  let v2326 : BitVec 1 := Scalar.cmpi .slt v2324 c0_i32_1774
  let c0_i32_1775 : BitVec 32 := 0#32
  let v2327 : BitVec 1 := Scalar.cmpi .slt v2323 c0_i32_1775
  let v2328 : BitVec 1 := Scalar.xori v2326 v2327
  let c0_i32_1773 : BitVec 32 := 0#32
  let v2325 : BitVec 1 := Scalar.cmpi .ne v2324 c0_i32_1773
  let v2329 : BitVec 1 := Scalar.andi v2328 v2325
  let v2330 : BitVec 32 := Scalar.addi v2324 v2323
  let v2331 : BitVec 32 := Scalar.select v2329 v2330 v2324
  let c1_i32_2347 : BitVec 32 := 1#32
  let v2952 : BitVec 32 := Scalar.muli v2331 c1_i32_2347
  let v2953 : BitVec 32 := Scalar.addi c0_i32_2348 v2952
  v2953.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1785 : BitVec 32 := 5#32
  let v2352 : BitVec 32 := Scalar.addi v2 c5_i32_1785
  let c8_i32_1786 : BitVec 32 := 8#32
  let c0_i32_1787 : BitVec 32 := 0#32
  let v2353 : BitVec 1 := Scalar.cmpi .eq c8_i32_1786 c0_i32_1787
  let c1_i32_1788 : BitVec 32 := 1#32
  let v2354 : BitVec 32 := Scalar.select v2353 c1_i32_1788 c8_i32_1786
  let v2355 : BitVec 32 := Scalar.remsi v2352 v2354
  let c0_i32_1790 : BitVec 32 := 0#32
  let v2357 : BitVec 1 := Scalar.cmpi .slt v2355 c0_i32_1790
  let c0_i32_1791 : BitVec 32 := 0#32
  let v2358 : BitVec 1 := Scalar.cmpi .slt v2354 c0_i32_1791
  let v2359 : BitVec 1 := Scalar.xori v2357 v2358
  let c0_i32_1789 : BitVec 32 := 0#32
  let v2356 : BitVec 1 := Scalar.cmpi .ne v2355 c0_i32_1789
  let v2360 : BitVec 1 := Scalar.andi v2359 v2356
  let v2361 : BitVec 32 := Scalar.addi v2355 v2354
  let v2362 : BitVec 32 := Scalar.select v2360 v2361 v2355
  let c0_i32_1793 : BitVec 32 := 0#32
  let v2364 : BitVec 1 := Scalar.cmpi .sgt v2362 c0_i32_1793
  let v2365 : BitVec 32 := Scalar.extui v2364
  let c0_i32_1794 : BitVec 32 := 0#32
  let v2366 : BitVec 1 := Scalar.cmpi .slt v2362 c0_i32_1794
  let v2367 : BitVec 32 := Scalar.extui v2366
  let v2368 : BitVec 32 := Scalar.subi v2365 v2367
  let c2_i32_1792 : BitVec 32 := 2#32
  let c0_i32_1795 : BitVec 32 := 0#32
  let v2369 : BitVec 1 := Scalar.cmpi .sgt c2_i32_1792 c0_i32_1795
  let v2370 : BitVec 32 := Scalar.extui v2369
  let c0_i32_1796 : BitVec 32 := 0#32
  let v2371 : BitVec 1 := Scalar.cmpi .slt c2_i32_1792 c0_i32_1796
  let v2372 : BitVec 32 := Scalar.extui v2371
  let v2373 : BitVec 32 := Scalar.subi v2370 v2372
  let v2374 : BitVec 1 := Scalar.cmpi .ne v2368 v2373
  let v2375 : BitVec 32 := Scalar.remsi v2362 c2_i32_1792
  let c0_i32_1797 : BitVec 32 := 0#32
  let v2376 : BitVec 1 := Scalar.cmpi .ne v2375 c0_i32_1797
  let v2377 : BitVec 1 := Scalar.andi v2374 v2376
  let v2363 : BitVec 32 := Scalar.divsi v2362 c2_i32_1792
  let c1_i32_1798 : BitVec 32 := 1#32
  let v2378 : BitVec 32 := Scalar.subi v2363 c1_i32_1798
  let v2379 : BitVec 32 := Scalar.select v2377 v2378 v2363
  let c3_i32_1799 : BitVec 32 := 3#32
  let v2380 : BitVec 1 := Scalar.cmpi .eq v2379 c3_i32_1799
  let v2381 : BitVec 32 := Scalar.extui v2380
  let c0_i32_1800 : BitVec 32 := 0#32
  let v2382 : BitVec 1 := Scalar.cmpi .ne v2381 c0_i32_1800
  v2382

def k0_off30 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1785 : BitVec 32 := 5#32
  let v2352 : BitVec 32 := Scalar.addi v2 c5_i32_1785
  let c8_i32_1786 : BitVec 32 := 8#32
  let c0_i32_1787 : BitVec 32 := 0#32
  let v2353 : BitVec 1 := Scalar.cmpi .eq c8_i32_1786 c0_i32_1787
  let c1_i32_1788 : BitVec 32 := 1#32
  let v2354 : BitVec 32 := Scalar.select v2353 c1_i32_1788 c8_i32_1786
  let v2355 : BitVec 32 := Scalar.remsi v2352 v2354
  let c0_i32_1790 : BitVec 32 := 0#32
  let v2357 : BitVec 1 := Scalar.cmpi .slt v2355 c0_i32_1790
  let c0_i32_1791 : BitVec 32 := 0#32
  let v2358 : BitVec 1 := Scalar.cmpi .slt v2354 c0_i32_1791
  let v2359 : BitVec 1 := Scalar.xori v2357 v2358
  let c0_i32_1789 : BitVec 32 := 0#32
  let v2356 : BitVec 1 := Scalar.cmpi .ne v2355 c0_i32_1789
  let v2360 : BitVec 1 := Scalar.andi v2359 v2356
  let v2361 : BitVec 32 := Scalar.addi v2355 v2354
  let v2362 : BitVec 32 := Scalar.select v2360 v2361 v2355
  let c32_i32_2343 : BitVec 32 := 32#32
  let v2951 : BitVec 32 := Scalar.muli v2362 c32_i32_2343
  let c0_i32_2353 : BitVec 32 := 0#32
  ![0, v2951.toNat, 0]
def k0_dev47 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1785 : BitVec 32 := 5#32
  let v2352 : BitVec 32 := Scalar.addi v2 c5_i32_1785
  let c8_i32_1786 : BitVec 32 := 8#32
  let c0_i32_1787 : BitVec 32 := 0#32
  let v2353 : BitVec 1 := Scalar.cmpi .eq c8_i32_1786 c0_i32_1787
  let c1_i32_1788 : BitVec 32 := 1#32
  let v2354 : BitVec 32 := Scalar.select v2353 c1_i32_1788 c8_i32_1786
  let v2355 : BitVec 32 := Scalar.remsi v2352 v2354
  let c0_i32_1790 : BitVec 32 := 0#32
  let v2357 : BitVec 1 := Scalar.cmpi .slt v2355 c0_i32_1790
  let c0_i32_1791 : BitVec 32 := 0#32
  let v2358 : BitVec 1 := Scalar.cmpi .slt v2354 c0_i32_1791
  let v2359 : BitVec 1 := Scalar.xori v2357 v2358
  let c0_i32_1789 : BitVec 32 := 0#32
  let v2356 : BitVec 1 := Scalar.cmpi .ne v2355 c0_i32_1789
  let v2360 : BitVec 1 := Scalar.andi v2359 v2356
  let v2361 : BitVec 32 := Scalar.addi v2355 v2354
  let v2362 : BitVec 32 := Scalar.select v2360 v2361 v2355
  let c1_i32_2347 : BitVec 32 := 1#32
  let v2952 : BitVec 32 := Scalar.muli v2362 c1_i32_2347
  let v2953 : BitVec 32 := Scalar.addi c0_i32_2348 v2952
  v2953.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1801 : BitVec 32 := 6#32
  let v2383 : BitVec 32 := Scalar.addi v2 c6_i32_1801
  let c8_i32_1802 : BitVec 32 := 8#32
  let c0_i32_1803 : BitVec 32 := 0#32
  let v2384 : BitVec 1 := Scalar.cmpi .eq c8_i32_1802 c0_i32_1803
  let c1_i32_1804 : BitVec 32 := 1#32
  let v2385 : BitVec 32 := Scalar.select v2384 c1_i32_1804 c8_i32_1802
  let v2386 : BitVec 32 := Scalar.remsi v2383 v2385
  let c0_i32_1806 : BitVec 32 := 0#32
  let v2388 : BitVec 1 := Scalar.cmpi .slt v2386 c0_i32_1806
  let c0_i32_1807 : BitVec 32 := 0#32
  let v2389 : BitVec 1 := Scalar.cmpi .slt v2385 c0_i32_1807
  let v2390 : BitVec 1 := Scalar.xori v2388 v2389
  let c0_i32_1805 : BitVec 32 := 0#32
  let v2387 : BitVec 1 := Scalar.cmpi .ne v2386 c0_i32_1805
  let v2391 : BitVec 1 := Scalar.andi v2390 v2387
  let v2392 : BitVec 32 := Scalar.addi v2386 v2385
  let v2393 : BitVec 32 := Scalar.select v2391 v2392 v2386
  let c0_i32_1809 : BitVec 32 := 0#32
  let v2395 : BitVec 1 := Scalar.cmpi .sgt v2393 c0_i32_1809
  let v2396 : BitVec 32 := Scalar.extui v2395
  let c0_i32_1810 : BitVec 32 := 0#32
  let v2397 : BitVec 1 := Scalar.cmpi .slt v2393 c0_i32_1810
  let v2398 : BitVec 32 := Scalar.extui v2397
  let v2399 : BitVec 32 := Scalar.subi v2396 v2398
  let c2_i32_1808 : BitVec 32 := 2#32
  let c0_i32_1811 : BitVec 32 := 0#32
  let v2400 : BitVec 1 := Scalar.cmpi .sgt c2_i32_1808 c0_i32_1811
  let v2401 : BitVec 32 := Scalar.extui v2400
  let c0_i32_1812 : BitVec 32 := 0#32
  let v2402 : BitVec 1 := Scalar.cmpi .slt c2_i32_1808 c0_i32_1812
  let v2403 : BitVec 32 := Scalar.extui v2402
  let v2404 : BitVec 32 := Scalar.subi v2401 v2403
  let v2405 : BitVec 1 := Scalar.cmpi .ne v2399 v2404
  let v2406 : BitVec 32 := Scalar.remsi v2393 c2_i32_1808
  let c0_i32_1813 : BitVec 32 := 0#32
  let v2407 : BitVec 1 := Scalar.cmpi .ne v2406 c0_i32_1813
  let v2408 : BitVec 1 := Scalar.andi v2405 v2407
  let v2394 : BitVec 32 := Scalar.divsi v2393 c2_i32_1808
  let c1_i32_1814 : BitVec 32 := 1#32
  let v2409 : BitVec 32 := Scalar.subi v2394 c1_i32_1814
  let v2410 : BitVec 32 := Scalar.select v2408 v2409 v2394
  let c3_i32_1815 : BitVec 32 := 3#32
  let v2411 : BitVec 1 := Scalar.cmpi .eq v2410 c3_i32_1815
  let v2412 : BitVec 32 := Scalar.extui v2411
  let c0_i32_1816 : BitVec 32 := 0#32
  let v2413 : BitVec 1 := Scalar.cmpi .ne v2412 c0_i32_1816
  v2413

def k0_off31 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1801 : BitVec 32 := 6#32
  let v2383 : BitVec 32 := Scalar.addi v2 c6_i32_1801
  let c8_i32_1802 : BitVec 32 := 8#32
  let c0_i32_1803 : BitVec 32 := 0#32
  let v2384 : BitVec 1 := Scalar.cmpi .eq c8_i32_1802 c0_i32_1803
  let c1_i32_1804 : BitVec 32 := 1#32
  let v2385 : BitVec 32 := Scalar.select v2384 c1_i32_1804 c8_i32_1802
  let v2386 : BitVec 32 := Scalar.remsi v2383 v2385
  let c0_i32_1806 : BitVec 32 := 0#32
  let v2388 : BitVec 1 := Scalar.cmpi .slt v2386 c0_i32_1806
  let c0_i32_1807 : BitVec 32 := 0#32
  let v2389 : BitVec 1 := Scalar.cmpi .slt v2385 c0_i32_1807
  let v2390 : BitVec 1 := Scalar.xori v2388 v2389
  let c0_i32_1805 : BitVec 32 := 0#32
  let v2387 : BitVec 1 := Scalar.cmpi .ne v2386 c0_i32_1805
  let v2391 : BitVec 1 := Scalar.andi v2390 v2387
  let v2392 : BitVec 32 := Scalar.addi v2386 v2385
  let v2393 : BitVec 32 := Scalar.select v2391 v2392 v2386
  let c32_i32_2343 : BitVec 32 := 32#32
  let v2951 : BitVec 32 := Scalar.muli v2393 c32_i32_2343
  let c0_i32_2353 : BitVec 32 := 0#32
  ![0, v2951.toNat, 0]
def k0_dev48 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1801 : BitVec 32 := 6#32
  let v2383 : BitVec 32 := Scalar.addi v2 c6_i32_1801
  let c8_i32_1802 : BitVec 32 := 8#32
  let c0_i32_1803 : BitVec 32 := 0#32
  let v2384 : BitVec 1 := Scalar.cmpi .eq c8_i32_1802 c0_i32_1803
  let c1_i32_1804 : BitVec 32 := 1#32
  let v2385 : BitVec 32 := Scalar.select v2384 c1_i32_1804 c8_i32_1802
  let v2386 : BitVec 32 := Scalar.remsi v2383 v2385
  let c0_i32_1806 : BitVec 32 := 0#32
  let v2388 : BitVec 1 := Scalar.cmpi .slt v2386 c0_i32_1806
  let c0_i32_1807 : BitVec 32 := 0#32
  let v2389 : BitVec 1 := Scalar.cmpi .slt v2385 c0_i32_1807
  let v2390 : BitVec 1 := Scalar.xori v2388 v2389
  let c0_i32_1805 : BitVec 32 := 0#32
  let v2387 : BitVec 1 := Scalar.cmpi .ne v2386 c0_i32_1805
  let v2391 : BitVec 1 := Scalar.andi v2390 v2387
  let v2392 : BitVec 32 := Scalar.addi v2386 v2385
  let v2393 : BitVec 32 := Scalar.select v2391 v2392 v2386
  let c1_i32_2347 : BitVec 32 := 1#32
  let v2952 : BitVec 32 := Scalar.muli v2393 c1_i32_2347
  let v2953 : BitVec 32 := Scalar.addi c0_i32_2348 v2952
  v2953.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1817 : BitVec 32 := 7#32
  let v2414 : BitVec 32 := Scalar.addi v2 c7_i32_1817
  let c8_i32_1818 : BitVec 32 := 8#32
  let c0_i32_1819 : BitVec 32 := 0#32
  let v2415 : BitVec 1 := Scalar.cmpi .eq c8_i32_1818 c0_i32_1819
  let c1_i32_1820 : BitVec 32 := 1#32
  let v2416 : BitVec 32 := Scalar.select v2415 c1_i32_1820 c8_i32_1818
  let v2417 : BitVec 32 := Scalar.remsi v2414 v2416
  let c0_i32_1822 : BitVec 32 := 0#32
  let v2419 : BitVec 1 := Scalar.cmpi .slt v2417 c0_i32_1822
  let c0_i32_1823 : BitVec 32 := 0#32
  let v2420 : BitVec 1 := Scalar.cmpi .slt v2416 c0_i32_1823
  let v2421 : BitVec 1 := Scalar.xori v2419 v2420
  let c0_i32_1821 : BitVec 32 := 0#32
  let v2418 : BitVec 1 := Scalar.cmpi .ne v2417 c0_i32_1821
  let v2422 : BitVec 1 := Scalar.andi v2421 v2418
  let v2423 : BitVec 32 := Scalar.addi v2417 v2416
  let v2424 : BitVec 32 := Scalar.select v2422 v2423 v2417
  let c0_i32_1825 : BitVec 32 := 0#32
  let v2426 : BitVec 1 := Scalar.cmpi .sgt v2424 c0_i32_1825
  let v2427 : BitVec 32 := Scalar.extui v2426
  let c0_i32_1826 : BitVec 32 := 0#32
  let v2428 : BitVec 1 := Scalar.cmpi .slt v2424 c0_i32_1826
  let v2429 : BitVec 32 := Scalar.extui v2428
  let v2430 : BitVec 32 := Scalar.subi v2427 v2429
  let c2_i32_1824 : BitVec 32 := 2#32
  let c0_i32_1827 : BitVec 32 := 0#32
  let v2431 : BitVec 1 := Scalar.cmpi .sgt c2_i32_1824 c0_i32_1827
  let v2432 : BitVec 32 := Scalar.extui v2431
  let c0_i32_1828 : BitVec 32 := 0#32
  let v2433 : BitVec 1 := Scalar.cmpi .slt c2_i32_1824 c0_i32_1828
  let v2434 : BitVec 32 := Scalar.extui v2433
  let v2435 : BitVec 32 := Scalar.subi v2432 v2434
  let v2436 : BitVec 1 := Scalar.cmpi .ne v2430 v2435
  let v2437 : BitVec 32 := Scalar.remsi v2424 c2_i32_1824
  let c0_i32_1829 : BitVec 32 := 0#32
  let v2438 : BitVec 1 := Scalar.cmpi .ne v2437 c0_i32_1829
  let v2439 : BitVec 1 := Scalar.andi v2436 v2438
  let v2425 : BitVec 32 := Scalar.divsi v2424 c2_i32_1824
  let c1_i32_1830 : BitVec 32 := 1#32
  let v2440 : BitVec 32 := Scalar.subi v2425 c1_i32_1830
  let v2441 : BitVec 32 := Scalar.select v2439 v2440 v2425
  let c3_i32_1831 : BitVec 32 := 3#32
  let v2442 : BitVec 1 := Scalar.cmpi .eq v2441 c3_i32_1831
  let v2443 : BitVec 32 := Scalar.extui v2442
  let c0_i32_1832 : BitVec 32 := 0#32
  let v2444 : BitVec 1 := Scalar.cmpi .ne v2443 c0_i32_1832
  v2444

def k0_off32 (d0 : Dev nD) : Fin 3 → Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1817 : BitVec 32 := 7#32
  let v2414 : BitVec 32 := Scalar.addi v2 c7_i32_1817
  let c8_i32_1818 : BitVec 32 := 8#32
  let c0_i32_1819 : BitVec 32 := 0#32
  let v2415 : BitVec 1 := Scalar.cmpi .eq c8_i32_1818 c0_i32_1819
  let c1_i32_1820 : BitVec 32 := 1#32
  let v2416 : BitVec 32 := Scalar.select v2415 c1_i32_1820 c8_i32_1818
  let v2417 : BitVec 32 := Scalar.remsi v2414 v2416
  let c0_i32_1822 : BitVec 32 := 0#32
  let v2419 : BitVec 1 := Scalar.cmpi .slt v2417 c0_i32_1822
  let c0_i32_1823 : BitVec 32 := 0#32
  let v2420 : BitVec 1 := Scalar.cmpi .slt v2416 c0_i32_1823
  let v2421 : BitVec 1 := Scalar.xori v2419 v2420
  let c0_i32_1821 : BitVec 32 := 0#32
  let v2418 : BitVec 1 := Scalar.cmpi .ne v2417 c0_i32_1821
  let v2422 : BitVec 1 := Scalar.andi v2421 v2418
  let v2423 : BitVec 32 := Scalar.addi v2417 v2416
  let v2424 : BitVec 32 := Scalar.select v2422 v2423 v2417
  let c32_i32_2343 : BitVec 32 := 32#32
  let v2951 : BitVec 32 := Scalar.muli v2424 c32_i32_2343
  let c0_i32_2353 : BitVec 32 := 0#32
  ![0, v2951.toNat, 0]
def k0_dev49 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1817 : BitVec 32 := 7#32
  let v2414 : BitVec 32 := Scalar.addi v2 c7_i32_1817
  let c8_i32_1818 : BitVec 32 := 8#32
  let c0_i32_1819 : BitVec 32 := 0#32
  let v2415 : BitVec 1 := Scalar.cmpi .eq c8_i32_1818 c0_i32_1819
  let c1_i32_1820 : BitVec 32 := 1#32
  let v2416 : BitVec 32 := Scalar.select v2415 c1_i32_1820 c8_i32_1818
  let v2417 : BitVec 32 := Scalar.remsi v2414 v2416
  let c0_i32_1822 : BitVec 32 := 0#32
  let v2419 : BitVec 1 := Scalar.cmpi .slt v2417 c0_i32_1822
  let c0_i32_1823 : BitVec 32 := 0#32
  let v2420 : BitVec 1 := Scalar.cmpi .slt v2416 c0_i32_1823
  let v2421 : BitVec 1 := Scalar.xori v2419 v2420
  let c0_i32_1821 : BitVec 32 := 0#32
  let v2418 : BitVec 1 := Scalar.cmpi .ne v2417 c0_i32_1821
  let v2422 : BitVec 1 := Scalar.andi v2421 v2418
  let v2423 : BitVec 32 := Scalar.addi v2417 v2416
  let v2424 : BitVec 32 := Scalar.select v2422 v2423 v2417
  let c1_i32_2347 : BitVec 32 := 1#32
  let v2952 : BitVec 32 := Scalar.muli v2424 c1_i32_2347
  let v2953 : BitVec 32 := Scalar.addi c0_i32_2348 v2952
  v2953.toNat
def k0_off33 (d0 : Dev nD) : Fin 3 → Nat :=
  let c0_1833 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v2445 : BitVec 32 := Scalar.muli v2 c32_i32
  let v2446 : Index := Scalar.indexCast v2445
  let c0_1834 : Index := 0#32
  ![0, v2446.toNat, 0]
def k0_off34 (d0 : Dev nD) (c1_i32_1839 : BitVec 32) : Fin 3 → Nat :=
  let c0_i32_1851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2451 : BitVec 32 := Scalar.addi v2 c1_i32_1839
  let c8_i32_1840 : BitVec 32 := 8#32
  let c0_i32_1841 : BitVec 32 := 0#32
  let v2452 : BitVec 1 := Scalar.cmpi .eq c8_i32_1840 c0_i32_1841
  let c1_i32_1842 : BitVec 32 := 1#32
  let v2453 : BitVec 32 := Scalar.select v2452 c1_i32_1842 c8_i32_1840
  let v2454 : BitVec 32 := Scalar.remsi v2451 v2453
  let c0_i32_1844 : BitVec 32 := 0#32
  let v2456 : BitVec 1 := Scalar.cmpi .slt v2454 c0_i32_1844
  let c0_i32_1845 : BitVec 32 := 0#32
  let v2457 : BitVec 1 := Scalar.cmpi .slt v2453 c0_i32_1845
  let v2458 : BitVec 1 := Scalar.xori v2456 v2457
  let c0_i32_1843 : BitVec 32 := 0#32
  let v2455 : BitVec 1 := Scalar.cmpi .ne v2454 c0_i32_1843
  let v2459 : BitVec 1 := Scalar.andi v2458 v2455
  let v2460 : BitVec 32 := Scalar.addi v2454 v2453
  let v2461 : BitVec 32 := Scalar.select v2459 v2460 v2454
  let c32_i32_1846 : BitVec 32 := 32#32
  let v2462 : BitVec 32 := Scalar.muli v2461 c32_i32_1846
  let c0_i32_1852 : BitVec 32 := 0#32
  ![0, v2462.toNat, 0]
def k0_dev50 (d0 : Dev nD) : Nat :=
  let c0_i32_2050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2039 : BitVec 32 := 1#32
  let v2629 : BitVec 32 := Scalar.addi v2 c1_i32_2039
  let c8_i32_2040 : BitVec 32 := 8#32
  let c0_i32_2041 : BitVec 32 := 0#32
  let v2630 : BitVec 1 := Scalar.cmpi .eq c8_i32_2040 c0_i32_2041
  let c1_i32_2042 : BitVec 32 := 1#32
  let v2631 : BitVec 32 := Scalar.select v2630 c1_i32_2042 c8_i32_2040
  let v2632 : BitVec 32 := Scalar.remsi v2629 v2631
  let c0_i32_2044 : BitVec 32 := 0#32
  let v2634 : BitVec 1 := Scalar.cmpi .slt v2632 c0_i32_2044
  let c0_i32_2045 : BitVec 32 := 0#32
  let v2635 : BitVec 1 := Scalar.cmpi .slt v2631 c0_i32_2045
  let v2636 : BitVec 1 := Scalar.xori v2634 v2635
  let c0_i32_2043 : BitVec 32 := 0#32
  let v2633 : BitVec 1 := Scalar.cmpi .ne v2632 c0_i32_2043
  let v2637 : BitVec 1 := Scalar.andi v2636 v2633
  let v2638 : BitVec 32 := Scalar.addi v2632 v2631
  let v2639 : BitVec 32 := Scalar.select v2637 v2638 v2632
  let c1_i32_2049 : BitVec 32 := 1#32
  let v2640 : BitVec 32 := Scalar.muli v2639 c1_i32_2049
  let v2641 : BitVec 32 := Scalar.addi c0_i32_2050 v2640
  v2641.toNat
def k0_dev51 (d0 : Dev nD) : Nat :=
  let c0_i32_2065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2054 : BitVec 32 := 2#32
  let v2648 : BitVec 32 := Scalar.addi v2 c2_i32_2054
  let c8_i32_2055 : BitVec 32 := 8#32
  let c0_i32_2056 : BitVec 32 := 0#32
  let v2649 : BitVec 1 := Scalar.cmpi .eq c8_i32_2055 c0_i32_2056
  let c1_i32_2057 : BitVec 32 := 1#32
  let v2650 : BitVec 32 := Scalar.select v2649 c1_i32_2057 c8_i32_2055
  let v2651 : BitVec 32 := Scalar.remsi v2648 v2650
  let c0_i32_2059 : BitVec 32 := 0#32
  let v2653 : BitVec 1 := Scalar.cmpi .slt v2651 c0_i32_2059
  let c0_i32_2060 : BitVec 32 := 0#32
  let v2654 : BitVec 1 := Scalar.cmpi .slt v2650 c0_i32_2060
  let v2655 : BitVec 1 := Scalar.xori v2653 v2654
  let c0_i32_2058 : BitVec 32 := 0#32
  let v2652 : BitVec 1 := Scalar.cmpi .ne v2651 c0_i32_2058
  let v2656 : BitVec 1 := Scalar.andi v2655 v2652
  let v2657 : BitVec 32 := Scalar.addi v2651 v2650
  let v2658 : BitVec 32 := Scalar.select v2656 v2657 v2651
  let c1_i32_2064 : BitVec 32 := 1#32
  let v2659 : BitVec 32 := Scalar.muli v2658 c1_i32_2064
  let v2660 : BitVec 32 := Scalar.addi c0_i32_2065 v2659
  v2660.toNat
def k0_dev52 (d0 : Dev nD) : Nat :=
  let c0_i32_2080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2069 : BitVec 32 := 3#32
  let v2667 : BitVec 32 := Scalar.addi v2 c3_i32_2069
  let c8_i32_2070 : BitVec 32 := 8#32
  let c0_i32_2071 : BitVec 32 := 0#32
  let v2668 : BitVec 1 := Scalar.cmpi .eq c8_i32_2070 c0_i32_2071
  let c1_i32_2072 : BitVec 32 := 1#32
  let v2669 : BitVec 32 := Scalar.select v2668 c1_i32_2072 c8_i32_2070
  let v2670 : BitVec 32 := Scalar.remsi v2667 v2669
  let c0_i32_2074 : BitVec 32 := 0#32
  let v2672 : BitVec 1 := Scalar.cmpi .slt v2670 c0_i32_2074
  let c0_i32_2075 : BitVec 32 := 0#32
  let v2673 : BitVec 1 := Scalar.cmpi .slt v2669 c0_i32_2075
  let v2674 : BitVec 1 := Scalar.xori v2672 v2673
  let c0_i32_2073 : BitVec 32 := 0#32
  let v2671 : BitVec 1 := Scalar.cmpi .ne v2670 c0_i32_2073
  let v2675 : BitVec 1 := Scalar.andi v2674 v2671
  let v2676 : BitVec 32 := Scalar.addi v2670 v2669
  let v2677 : BitVec 32 := Scalar.select v2675 v2676 v2670
  let c1_i32_2079 : BitVec 32 := 1#32
  let v2678 : BitVec 32 := Scalar.muli v2677 c1_i32_2079
  let v2679 : BitVec 32 := Scalar.addi c0_i32_2080 v2678
  v2679.toNat
def k0_dev53 (d0 : Dev nD) : Nat :=
  let c0_i32_2095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2084 : BitVec 32 := 4#32
  let v2686 : BitVec 32 := Scalar.addi v2 c4_i32_2084
  let c8_i32_2085 : BitVec 32 := 8#32
  let c0_i32_2086 : BitVec 32 := 0#32
  let v2687 : BitVec 1 := Scalar.cmpi .eq c8_i32_2085 c0_i32_2086
  let c1_i32_2087 : BitVec 32 := 1#32
  let v2688 : BitVec 32 := Scalar.select v2687 c1_i32_2087 c8_i32_2085
  let v2689 : BitVec 32 := Scalar.remsi v2686 v2688
  let c0_i32_2089 : BitVec 32 := 0#32
  let v2691 : BitVec 1 := Scalar.cmpi .slt v2689 c0_i32_2089
  let c0_i32_2090 : BitVec 32 := 0#32
  let v2692 : BitVec 1 := Scalar.cmpi .slt v2688 c0_i32_2090
  let v2693 : BitVec 1 := Scalar.xori v2691 v2692
  let c0_i32_2088 : BitVec 32 := 0#32
  let v2690 : BitVec 1 := Scalar.cmpi .ne v2689 c0_i32_2088
  let v2694 : BitVec 1 := Scalar.andi v2693 v2690
  let v2695 : BitVec 32 := Scalar.addi v2689 v2688
  let v2696 : BitVec 32 := Scalar.select v2694 v2695 v2689
  let c1_i32_2094 : BitVec 32 := 1#32
  let v2697 : BitVec 32 := Scalar.muli v2696 c1_i32_2094
  let v2698 : BitVec 32 := Scalar.addi c0_i32_2095 v2697
  v2698.toNat
def k0_dev54 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2099 : BitVec 32 := 5#32
  let v2705 : BitVec 32 := Scalar.addi v2 c5_i32_2099
  let c8_i32_2100 : BitVec 32 := 8#32
  let c0_i32_2101 : BitVec 32 := 0#32
  let v2706 : BitVec 1 := Scalar.cmpi .eq c8_i32_2100 c0_i32_2101
  let c1_i32_2102 : BitVec 32 := 1#32
  let v2707 : BitVec 32 := Scalar.select v2706 c1_i32_2102 c8_i32_2100
  let v2708 : BitVec 32 := Scalar.remsi v2705 v2707
  let c0_i32_2104 : BitVec 32 := 0#32
  let v2710 : BitVec 1 := Scalar.cmpi .slt v2708 c0_i32_2104
  let c0_i32_2105 : BitVec 32 := 0#32
  let v2711 : BitVec 1 := Scalar.cmpi .slt v2707 c0_i32_2105
  let v2712 : BitVec 1 := Scalar.xori v2710 v2711
  let c0_i32_2103 : BitVec 32 := 0#32
  let v2709 : BitVec 1 := Scalar.cmpi .ne v2708 c0_i32_2103
  let v2713 : BitVec 1 := Scalar.andi v2712 v2709
  let v2714 : BitVec 32 := Scalar.addi v2708 v2707
  let v2715 : BitVec 32 := Scalar.select v2713 v2714 v2708
  let c1_i32_2109 : BitVec 32 := 1#32
  let v2716 : BitVec 32 := Scalar.muli v2715 c1_i32_2109
  let v2717 : BitVec 32 := Scalar.addi c0_i32_2110 v2716
  v2717.toNat
def k0_dev55 (d0 : Dev nD) : Nat :=
  let c0_i32_2125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2114 : BitVec 32 := 6#32
  let v2724 : BitVec 32 := Scalar.addi v2 c6_i32_2114
  let c8_i32_2115 : BitVec 32 := 8#32
  let c0_i32_2116 : BitVec 32 := 0#32
  let v2725 : BitVec 1 := Scalar.cmpi .eq c8_i32_2115 c0_i32_2116
  let c1_i32_2117 : BitVec 32 := 1#32
  let v2726 : BitVec 32 := Scalar.select v2725 c1_i32_2117 c8_i32_2115
  let v2727 : BitVec 32 := Scalar.remsi v2724 v2726
  let c0_i32_2119 : BitVec 32 := 0#32
  let v2729 : BitVec 1 := Scalar.cmpi .slt v2727 c0_i32_2119
  let c0_i32_2120 : BitVec 32 := 0#32
  let v2730 : BitVec 1 := Scalar.cmpi .slt v2726 c0_i32_2120
  let v2731 : BitVec 1 := Scalar.xori v2729 v2730
  let c0_i32_2118 : BitVec 32 := 0#32
  let v2728 : BitVec 1 := Scalar.cmpi .ne v2727 c0_i32_2118
  let v2732 : BitVec 1 := Scalar.andi v2731 v2728
  let v2733 : BitVec 32 := Scalar.addi v2727 v2726
  let v2734 : BitVec 32 := Scalar.select v2732 v2733 v2727
  let c1_i32_2124 : BitVec 32 := 1#32
  let v2735 : BitVec 32 := Scalar.muli v2734 c1_i32_2124
  let v2736 : BitVec 32 := Scalar.addi c0_i32_2125 v2735
  v2736.toNat
def k0_dev56 (d0 : Dev nD) : Nat :=
  let c0_i32_2140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2129 : BitVec 32 := 7#32
  let v2743 : BitVec 32 := Scalar.addi v2 c7_i32_2129
  let c8_i32_2130 : BitVec 32 := 8#32
  let c0_i32_2131 : BitVec 32 := 0#32
  let v2744 : BitVec 1 := Scalar.cmpi .eq c8_i32_2130 c0_i32_2131
  let c1_i32_2132 : BitVec 32 := 1#32
  let v2745 : BitVec 32 := Scalar.select v2744 c1_i32_2132 c8_i32_2130
  let v2746 : BitVec 32 := Scalar.remsi v2743 v2745
  let c0_i32_2134 : BitVec 32 := 0#32
  let v2748 : BitVec 1 := Scalar.cmpi .slt v2746 c0_i32_2134
  let c0_i32_2135 : BitVec 32 := 0#32
  let v2749 : BitVec 1 := Scalar.cmpi .slt v2745 c0_i32_2135
  let v2750 : BitVec 1 := Scalar.xori v2748 v2749
  let c0_i32_2133 : BitVec 32 := 0#32
  let v2747 : BitVec 1 := Scalar.cmpi .ne v2746 c0_i32_2133
  let v2751 : BitVec 1 := Scalar.andi v2750 v2747
  let v2752 : BitVec 32 := Scalar.addi v2746 v2745
  let v2753 : BitVec 32 := Scalar.select v2751 v2752 v2746
  let c1_i32_2139 : BitVec 32 := 1#32
  let v2754 : BitVec 32 := Scalar.muli v2753 c1_i32_2139
  let v2755 : BitVec 32 := Scalar.addi c0_i32_2140 v2754
  v2755.toNat
def k0_off35 (d0 : Dev nD) (c1_i32_2249 : BitVec 32) : Fin 3 → Nat :=
  let c0_2261 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2832 : BitVec 32 := Scalar.subi v2 c1_i32_2249
  let c8_i32_2250 : BitVec 32 := 8#32
  let c0_i32_2251 : BitVec 32 := 0#32
  let v2833 : BitVec 1 := Scalar.cmpi .eq c8_i32_2250 c0_i32_2251
  let c1_i32_2252 : BitVec 32 := 1#32
  let v2834 : BitVec 32 := Scalar.select v2833 c1_i32_2252 c8_i32_2250
  let v2835 : BitVec 32 := Scalar.remsi v2832 v2834
  let c0_i32_2254 : BitVec 32 := 0#32
  let v2837 : BitVec 1 := Scalar.cmpi .slt v2835 c0_i32_2254
  let c0_i32_2255 : BitVec 32 := 0#32
  let v2838 : BitVec 1 := Scalar.cmpi .slt v2834 c0_i32_2255
  let v2839 : BitVec 1 := Scalar.xori v2837 v2838
  let c0_i32_2253 : BitVec 32 := 0#32
  let v2836 : BitVec 1 := Scalar.cmpi .ne v2835 c0_i32_2253
  let v2840 : BitVec 1 := Scalar.andi v2839 v2836
  let v2841 : BitVec 32 := Scalar.addi v2835 v2834
  let v2842 : BitVec 32 := Scalar.select v2840 v2841 v2835
  let c32_i32_2260 : BitVec 32 := 32#32
  let v2846 : BitVec 32 := Scalar.muli v2842 c32_i32_2260
  let v2847 : Index := Scalar.indexCast v2846
  let c0_2262 : Index := 0#32
  ![0, v2847.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S2x256x2048 : Shape := ⟨3, ![2, 256, 2048]⟩
abbrev S2x256x32x64 : Shape := ⟨4, ![2, 256, 32, 64]⟩
abbrev S2x32x256x2048 : Shape := ⟨4, ![2, 32, 256, 2048]⟩
abbrev S_ : Shape := ⟨0, ![]⟩
abbrev S1x256 : Shape := ⟨2, ![1, 256]⟩
abbrev S256 : Shape := ⟨1, ![256]⟩
abbrev S256x1 : Shape := ⟨2, ![256, 1]⟩
abbrev S1x2048 : Shape := ⟨2, ![1, 2048]⟩
abbrev S2048 : Shape := ⟨1, ![2048]⟩
abbrev S256x2048 : Shape := ⟨2, ![256, 2048]⟩
abbrev S1x1x256x2048 : Shape := ⟨4, ![1, 1, 256, 2048]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 16
  | .vmem => 2
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x2048x32x64, .f32⟩
  | .hbm, ⟨3, _⟩ => ⟨S2x2048x32x64, .f32⟩
  | .hbm, ⟨4, _⟩ => ⟨S2048x512, .f32⟩
  | .hbm, ⟨5, _⟩ => ⟨S2x256x2048, .f32⟩
  | .hbm, ⟨6, _⟩ => ⟨S2x256x32x64, .f32⟩
  | .hbm, ⟨7, _⟩ => ⟨S2x32x256x2048, .f32⟩
  | .hbm, ⟨8, _⟩ => ⟨S_, .f32⟩
  | .hbm, ⟨9, _⟩ => ⟨S2x32x256x2048, .f32⟩
  | .hbm, ⟨10, _⟩ => ⟨S2x32x256x2048, .f32⟩
  | .hbm, ⟨11, _⟩ => ⟨S2x32x256x2048, .f32⟩
  | .hbm, ⟨12, _⟩ => ⟨S2x32x64x256, .f32⟩
  | .hbm, ⟨13, _⟩ => ⟨S2x256x32x64, .f32⟩
  | .hbm, ⟨14, _⟩ => ⟨S2x256x2048, .f32⟩
  | .hbm, ⟨15, _⟩ => ⟨S2x256x512, .f32⟩
  | .local _ .vmem, ⟨0, _⟩ => ⟨S2x32x256x2048, .f32⟩
  | .local _ .vmem, ⟨1, _⟩ => ⟨S2x32x256x2048, .f32⟩
  | _, _ => ⟨S2x256x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S2x32x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Cuts.lean ====
/- The peers of a device, and the ways the kernel's buffers are cut into rectangles.

   Eight devices in a ring of residues: device `c` sends its `j`-th transfer of each kind (slot `j + 1` of the kernel's text)
   to `tgt c j`, and its slot `j + 1` receives from `frm c j`. A `Cut` names the rectangle of every key and the key of every index. -/
module

public import proofs.«01_k».proof.Proof.Gen.KernelIdeal
public import Idealize.ShloMosaic.Lib.Tactic

@[expose] public section

noncomputable section

namespace Cert.KernelIdeal.Attn

open Cert.KernelIdeal Cert.KernelIdeal.Gen
open Idealize.ShloMosaic Idealize.ShloMosaic.TcCoe

/-! ## Peers -/

set_option backward.proofsInPublic true in
/-- The device `c`'s transfer number `j` goes to. -/
def tgt (c : Dev nD) (j : Fin 7) : Dev nD := ⟨(c.val + j.val + 1) % 8, Nat.mod_lt _ (by decide)⟩
set_option backward.proofsInPublic true in
/-- The device `c`'s slot `j + 1` is filled by. -/
def frm (c : Dev nD) (j : Fin 7) : Dev nD := ⟨(c.val + 7 - j.val) % 8, Nat.mod_lt _ (by decide)⟩
/-- The same distance counted the other way round. -/
def rev7 (j : Fin 7) : Fin 7 := ⟨6 - j.val, by omega⟩

theorem frm_tgt (c : Dev nD) (j : Fin 7) : frm (tgt c j) j = c := by revert c j; decide
theorem tgt_frm (c : Dev nD) (j : Fin 7) : tgt (frm c j) j = c := by revert c j; decide
theorem frm_rev (c : Dev nD) (j : Fin 7) : frm c (rev7 j) = tgt c j := by revert c j; decide
theorem tgt_rev (c : Dev nD) (j : Fin 7) : tgt c (rev7 j) = frm c j := by revert c j; decide
theorem rev_rev (j : Fin 7) : rev7 (rev7 j) = j := by revert j; decide
theorem tgt_ne (c : Dev nD) (j : Fin 7) : tgt c j ≠ c := by revert c j; decide
theorem frm_ne (c : Dev nD) (j : Fin 7) : frm c j ≠ c := by revert c j; decide
theorem tgt_inj (c : Dev nD) (j j' : Fin 7) (h : tgt c j = tgt c j') : j = j' := by revert c j j'; decide

/-- The number of the transfer that goes from `c` to `t`; 7 for `c` itself. -/
def jof (c t : Dev nD) : ℕ := (t.val + 7 - c.val) % 8
theorem jof_tgt (c : Dev nD) (j : Fin 7) : jof c (tgt c j) = j.val := by revert c j; decide
theorem jof_self (c : Dev nD) : jof c c = 7 := by revert c; decide
theorem jof_inj (c : Dev nD) (j : Fin 7) (t : Dev nD) (h : jof c t = j.val) : t = tgt c j := by revert c j t; decide
theorem jof_lt (c t : Dev nD) (h : t ≠ c) : jof c t < 7 := by revert c t; decide

/-- The device that fills slot `k` of `c`: `c` itself for slot 0. -/
def src (c : Dev nD) (k : Fin 8) : Dev nD := ⟨(c.val + 8 - k.val) % 8, Nat.mod_lt _ (by decide)⟩
theorem src_zero (c : Dev nD) : src c 0 = c := by revert c; decide
theorem src_succ (c : Dev nD) (j : Fin 7) : src c j.succ = frm c j := by revert c j; decide

/-! ## Cuts -/

/-- A family of rectangles of a shape, each index lying in the rectangle of its key and in no other. -/
structure Cut (s : Shape) (T : Type) where
  r : T → Rect s
  key : s.Idx → T
  mem : ∀ i t, i ∈ (r t).set ↔ key i = t

namespace Cut

variable {s : Shape} {T : Type} [Fintype T] (C : Cut s T)

theorem disj (t t' : T) (h : t ≠ t') : Disjoint (C.r t).set (C.r t').set :=
  Finset.disjoint_left.mpr fun i hi hi' => h (((C.mem i t).1 hi).symm.trans ((C.mem i t').1 hi'))

theorem cov [DecidableEq s.Idx] : (Finset.univ : Finset T).biUnion (fun t => (C.r t).set) = Finset.univ :=
  Finset.eq_univ_iff_forall.mpr fun i => Finset.mem_biUnion.mpr ⟨C.key i, Finset.mem_univ _, (C.mem i _).2 rfl⟩

/-- Contents put together from the contents of each rectangle. -/
def glue {β : Type} (Z : (t : T) → (C.r t).shape.Idx → β) : s.Idx → β := Rect.glue C.r C.cov Z

theorem glue_emb {β : Type} (Z : (t : T) → (C.r t).shape.Idx → β) (t : T) (y : (C.r t).shape.Idx) :
    C.glue Z ((C.r t).emb y) = Z t y := Rect.glue_emb C.r C.cov C.disj Z t y

end Cut

/-- The 32 head rows of a send buffer, four for each device. -/
def cutSrc : Cut S32x2x256x64 (Dev nD) where
  r t := Rect.unit (s := S32x2x256x64) ![4 * t.val, 0, 0, 0] S4x2x256x64.size (by revert t; decide)
  key i := ⟨(i 0).val / 4, by have := (i 0).isLt; simp only [Matrix.cons_val_zero] at this; show _ < 8; omega⟩
  mem i t := by
    have h0 := (i 0).isLt; have h1 := (i 1).isLt; have h2 := (i 2).isLt; have h3 := (i 3).isLt
    rw [Rect.mem_set_unit, Fin.ext_iff]
    simp [Fin.forall_fin_succ] at h0 h1 h2 h3 ⊢
    omega

/-- The eight slots of a landing buffer of keys or values. -/
def cutSlot : Cut S8x4x2x256x64 (Fin 8) where
  r k := Rect.unit (s := S8x4x2x256x64) ![k.val, 0, 0, 0, 0] S1x4x2x256x64.size (by revert k; decide)
  key i := ⟨(i 0).val, (i 0).isLt⟩
  mem i k := by
    have h0 := (i 0).isLt; have h1 := (i 1).isLt; have h2 := (i 2).isLt; have h3 := (i 3).isLt; have h4 := (i 4).isLt
    rw [Rect.mem_set_unit, Fin.ext_iff]
    simp [Fin.forall_fin_succ] at h0 h1 h2 h3 h4 ⊢
    omega

/-- The eight slots of a landing buffer of partial sums or of gathered rows. -/
def cutRow : Cut S8x2x32x512 (Fin 8) where
  r k := Rect.unit (s := S8x2x32x512) ![k.val, 0, 0, 0] S1x2x32x512.size (by revert k; decide)
  key i := ⟨(i 0).val, (i 0).isLt⟩
  mem i k := by
    have h0 := (i 0).isLt; have h1 := (i 1).isLt; have h2 := (i 2).isLt; have h3 := (i 3).isLt
    rw [Rect.mem_set_unit, Fin.ext_iff]
    simp [Fin.forall_fin_succ] at h0 h1 h2 h3 ⊢
    omega

/-- The 256 query rows, 32 for each device. -/
def cutDev : Cut S2x256x512 (Dev nD) where
  r t := Rect.unit (s := S2x256x512) ![0, 32 * t.val, 0] S2x32x512.size (by revert t; decide)
  key i := ⟨(i 1).val / 32, by have := (i 1).isLt; simp at this; show _ < 8; omega⟩
  mem i t := by
    have h0 := (i 0).isLt; have h1 := (i 1).isLt; have h2 := (i 2).isLt
    rw [Rect.mem_set_unit, Fin.ext_iff]
    simp [Fin.forall_fin_succ] at h0 h1 h2 ⊢
    omega

/-- The 256 query rows, 64 for each query block. -/
def cutQ : Cut S2x256x512 (Fin 4) where
  r t := Rect.unit (s := S2x256x512) ![0, 64 * t.val, 0] S2x64x512.size (by revert t; decide)
  key i := ⟨(i 1).val / 64, by have := (i 1).isLt; simp at this; show _ < 4; omega⟩
  mem i t := by
    have h0 := (i 0).isLt; have h1 := (i 1).isLt; have h2 := (i 2).isLt
    rw [Rect.mem_set_unit, Fin.ext_iff]
    simp [Fin.forall_fin_succ] at h0 h1 h2 ⊢
    omega

/-- A batch row, a head and a query block. -/
abbrev BHQ : Type := Fin 2 × Fin 4 × Fin 4

/-- The weights: one 64 by 512 table for each batch row, head and query block. -/
def cutW : Cut S2x4x4x64x512 BHQ where
  r t := Rect.unit (s := S2x4x4x64x512) ![t.1.val, t.2.1.val, t.2.2.val, 0, 0] S1x1x1x64x512.size (by revert t; decide)
  key i := (⟨(i 0).val, (i 0).isLt⟩, ⟨(i 1).val, (i 1).isLt⟩, ⟨(i 2).val, (i 2).isLt⟩)
  mem i t := by
    have h0 := (i 0).isLt; have h1 := (i 1).isLt; have h2 := (i 2).isLt; have h3 := (i 3).isLt; have h4 := (i 4).isLt
    rw [Rect.mem_set_unit, Prod.ext_iff, Prod.ext_iff, Fin.ext_iff, Fin.ext_iff, Fin.ext_iff]
    simp [Fin.forall_fin_succ] at h0 h1 h2 h3 h4 ⊢
    omega

/-- The attention's value: one 64 by 64 table for each batch row, head and query block. -/
def cutC : Cut S2x256x4x64 BHQ where
  r t := Rect.unit (s := S2x256x4x64) ![t.1.val, 64 * t.2.2.val, t.2.1.val, 0] S1x64x1x64.size (by revert t; decide)
  key i := (⟨(i 0).val, (i 0).isLt⟩, ⟨(i 2).val, (i 2).isLt⟩, ⟨(i 1).val / 64, by have := (i 1).isLt; simp at this; show _ < 4; omega⟩)
  mem i t := by
    have h0 := (i 0).isLt; have h1 := (i 1).isLt; have h2 := (i 2).isLt; have h3 := (i 3).isLt
    rw [Rect.mem_set_unit, Prod.ext_iff, Prod.ext_iff, Fin.ext_iff, Fin.ext_iff, Fin.ext_iff]
    simp [Fin.forall_fin_succ] at h0 h1 h2 h3 ⊢
    omega

end Cert.KernelIdeal.Attn

end
-- ==== Proof.Contents.lean ====
/- What every buffer of every device holds, as a function of the devices' inputs.

   `In` is one device's five inputs. `ksrcG`, `vsrcG` are what a device sends of its keys and values, `kbufG`, `vbufG` what it
   then holds of everybody's, `wbufG` the attention weights, `ctxG` the weighted values, `psrcG` the device's share of the
   output projection, `rbufG` the shares of its own rows, `gbufG` their rounded sum, and `outG` the result. -/
module

public import proofs.«01_k».proof.Proof.Gen.KernelIdeal
public import proofs.«01_k».proof.Proof.Gen.KernelIdeal.Skeleton
public import proofs.«01_k».proof.Proof.Cuts

@[expose] public section

noncomputable section

namespace Cert.KernelIdeal.Attn

open Cert.KernelIdeal Cert.KernelIdeal.Gen
open Idealize.ShloMosaic Idealize.ShloMosaic.TcCoe

variable {F : FTy → Type} [FloatOps F]

/-- One device's inputs: the activations, the query weights, keys, values, the output weights. -/
structure In (F : FTy → Type) [FloatOps F] where
  x : Vec F S2x256x512 .f32
  wq : Vec F S512x256 .f32
  k : Vec F S2x256x32x64 .f32
  v : Vec F S2x256x32x64 .f32
  wo : Vec F S256x512 .f32

/-- The elements of a rectangle. -/
def rd {s : Shape} {β : Type} (r : Rect s) (f : s.Idx → β) : r.shape.Idx → β := fun y => f (r.emb y)

/-! ## Keys and values -/

/-- The four heads of the keys or values that device `t` works on. -/
abbrev headRect (t : Dev nD) : Rect S2x256x32x64 :=
  Rect.unit (s := S2x256x32x64) ![0, 0, 4 * t.val, 0] S2x256x4x64.size (by revert t; decide)

def blkK (i : In F) (t : Dev nD) : FVec F S4x2x256x64 .fp8e4m3 := k0_pay1 (rd (headRect t) i.k)
def blkV (i : In F) (t : Dev nD) : FVec F S4x2x256x64 .bf16 := k0_pay8 (rd (headRect t) i.v)

def ksrcG (i : In F) : Vec F S32x2x256x64 .fp8e4m3 := cutSrc.glue fun t => blkK i t
def vsrcG (i : In F) : Vec F S32x2x256x64 .bf16 := cutSrc.glue fun t => blkV i t

variable (I : Dev nD → In F)

def kbufG (c : Dev nD) : Vec F S8x4x2x256x64 .fp8e4m3 :=
  cutSlot.glue fun k => shapeCast S1x4x2x256x64 (blkK (I (src c k)) c) shapeCasts_S4x2x256x64_S1x4x2x256x64
def vbufG (c : Dev nD) : Vec F S8x4x2x256x64 .bf16 :=
  cutSlot.glue fun k => shapeCast S1x4x2x256x64 (blkV (I (src c k)) c) shapeCasts_S4x2x256x64_S1x4x2x256x64

/-! ## The weights -/

/-- The weights of one batch row, head and query block from the queries and the keys. -/
def wraw (q : FVec F S2x256x4x64 .bf16) (kg : FVec F S8x4x2x256x64 .bf16) (oq : Fin 4 → ℕ) (hq : S2x256x4x64.Slices oq S1x64x1x64)
    (ok : Fin 5 → ℕ) (hk : S8x4x2x256x64.Slices ok S8x1x1x64x64) : FVec F S1x1x1x64x512 .bf16 :=
  have q' : FVec F S64x64 .bf16 := shapeCast S64x64 (extractStridedSlice S1x64x1x64 oq q hq) shapeCasts_S1x64x1x64_S64x64
  have k' : FVec F S512x64 .bf16 := shapeCast S512x64
    (shapeCast S8x64x64 (extractStridedSlice S8x1x1x64x64 ok kg hk) shapeCasts_S8x1x1x64x64_S8x64x64) shapeCasts_S8x64x64_S512x64
  have e : FVec F S64x512 .f32 := exp (mulf (matmul dot_S64x64_S512x64_S64x512_1_1_0_0_n_n none q' k' (constant S64x512 .f32 0x00000000#32))
    (broadcast S64x512 (Scalar.ofBits .f32 0x3E000000#32)))
  have z : FVec F S64x1 .f32 := shapeCast S64x1 (multiReduction .add [1] S64 e 0x00000000#32 reduces_S64x512_S64 (.inl rfl) rfl) shapeCasts_S64_S64x1
  shapeCast S1x1x1x64x512 (truncf .bf16 (divf e (broadcastTo S64x512 z broadcasts_S64x1_S64x512)) bitsLt_bf16_f32) shapeCasts_S64x512_S1x1x1x64x512

theorem slq (t : BHQ) : S2x256x4x64.Slices ![t.1.val, 64 * t.2.2.val, t.2.1.val, 0] S1x64x1x64 := by revert t; decide
theorem slk (t : BHQ) : S8x4x2x256x64.Slices ![0, t.2.1.val, t.1.val, 64 * t.2.2.val, 0] S8x1x1x64x64 := by revert t; decide

def wblk (q : FVec F S2x256x4x64 .bf16) (kg : FVec F S8x4x2x256x64 .bf16) (t : BHQ) : FVec F S1x1x1x64x512 .bf16 :=
  wraw q kg ![t.1.val, 64 * t.2.2.val, t.2.1.val, 0] (slq t) ![0, t.2.1.val, t.1.val, 64 * t.2.2.val, 0] (slk t)

def qG (i : In F) : FVec F S2x256x4x64 .bf16 := k0_pay20 i.x i.wq
def kgG (c : Dev nD) : FVec F S8x4x2x256x64 .bf16 := k0_pay21 (kbufG I c)
def wbufG (c : Dev nD) : Vec F S2x4x4x64x512 .bf16 := cutW.glue fun t => wblk (qG (I c)) (kgG I c) t

/-! ## The weighted values -/

def craw (vg : FVec F S8x4x2x256x64 .bf16) (w : FVec F S1x1x1x64x512 .bf16) (ok : Fin 5 → ℕ) (hk : S8x4x2x256x64.Slices ok S8x1x1x64x64) :
    FVec F S1x64x1x64 .f32 :=
  have v' : FVec F S512x64 .bf16 := shapeCast S512x64
    (shapeCast S8x64x64 (extractStridedSlice S8x1x1x64x64 ok vg hk) shapeCasts_S8x1x1x64x64_S8x64x64) shapeCasts_S8x64x64_S512x64
  shapeCast S1x64x1x64 (matmul dot_S64x512_S512x64_S64x64_1_0_0_1_n_n none (shapeCast S64x512 w shapeCasts_S1x1x1x64x512_S64x512) v'
    (constant S64x64 .f32 0x00000000#32)) shapeCasts_S64x64_S1x64x1x64

def cblk (vg : FVec F S8x4x2x256x64 .bf16) (w : FVec F S1x1x1x64x512 .bf16) (t : BHQ) : FVec F S1x64x1x64 .f32 :=
  craw vg w ![0, t.2.1.val, t.1.val, 64 * t.2.2.val, 0] (slk t)

def ctxG (c : Dev nD) : Vec F S2x256x4x64 .f32 := cutC.glue fun t => cblk (vbufG I c) (wblk (qG (I c)) (kgG I c) t) t

/-! ## The output projection and its exchange -/

/-- The rows of query block `b`, all heads. -/
abbrev ctxRect (b : Fin 4) : Rect S2x256x4x64 :=
  Rect.unit (s := S2x256x4x64) ![0, 64 * b.val, 0, 0] S2x64x4x64.size (by revert b; decide)

def praw (wo : FVec F S256x512 .f32) (x : Vec F S2x64x4x64 .f32) : FVec F S2x64x512 .bf16 := k0_pay83 (k0_pay82 (k0_pay71 wo) x)
def psrcG (c : Dev nD) : Vec F S2x256x512 .bf16 := cutQ.glue fun b => praw (I c).wo (rd (ctxRect b) (ctxG I c))
def rbufG (c : Dev nD) : Vec F S8x2x32x512 .bf16 := cutRow.glue fun k => k0_pay117 (rd (cutDev.r c) (psrcG I (src c k)))
def gbufG (c : Dev nD) : Vec F S2x32x512 .bf16 := k0_pay120 (k0_pay119 (rbufG I c))
def fbufG (c : Dev nD) : Vec F S8x2x32x512 .bf16 := cutRow.glue fun k => k0_pay117 (gbufG I (src c k))

def outG (c : Dev nD) : Vec F S2x256x512 .f32 :=
  cutDev.glue fun t => if t = c then k0_pay118 (rbufG I c) else k0_pay121 (k0_pay117 (gbufG I t))

/-! ## The printed payloads are these -/

theorem pay25_eq (q : FVec F S2x256x4x64 .bf16) (kg : FVec F S8x4x2x256x64 .bf16) : k0_pay25 q kg = wblk q kg (0, 0, 1) := rfl
theorem pay70_eq (q : FVec F S2x256x4x64 .bf16) (kg : FVec F S8x4x2x256x64 .bf16) : k0_pay70 q kg = wblk q kg (1, 3, 3) := rfl
theorem pay24_eq (q : FVec F S2x256x4x64 .bf16) (kb : Vec F S8x4x2x256x64 .fp8e4m3) :
    k0_pay24 (k0_pay22 q kb) (k0_pay23 q kb) = wblk q (k0_pay21 kb) (0, 0, 0) := rfl
theorem pay72_eq (vg : FVec F S8x4x2x256x64 .bf16) (w : FVec F S1x1x1x64x512 .bf16) : k0_pay72 vg w = cblk vg w (0, 0, 0) := rfl
theorem pay17_eq (i : In F) (c : Dev nD) :
    k0_pay17 (rd (headRect c) i.k) = shapeCast S1x4x2x256x64 (blkK i c) shapeCasts_S4x2x256x64_S1x4x2x256x64 := by
  unfold blkK k0_pay1 k0_pay17
  funext j
  simp only [shapeCast, Shape.reshapeEquiv_self]
theorem pay19_eq (i : In F) (c : Dev nD) :
    k0_pay19 (k0_pay18 (rd (headRect c) i.v)) = shapeCast S1x4x2x256x64 (blkV i c) shapeCasts_S4x2x256x64_S1x4x2x256x64 := by
  unfold blkV k0_pay8 k0_pay19 k0_pay18
  funext j
  simp only [shapeCast, Shape.reshapeEquiv_self]

end Cert.KernelIdeal.Attn

end
-- ==== Proof.Proto.lean ====
/- The protocol: who waits for whom, how much, and what is handed over.

   Four classes of transfers: 0 keys, 1 values, 2 shares of the projected rows, 3 the rounded sums. Transfer `j` of a class goes
   from `c` to `tgt c j` and lands in slot `j + 1` there. A transfer's send cell gives the source back, its receive cell hands
   over the slot with what landed. The barrier hands a device the slots it will write on its peers. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic
public import proofs.«01_k».proof.Proof.Cuts
public import proofs.«01_k».proof.Proof.Contents

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

/-- The semaphores: the barrier's, and of each class a send (0) and a receive (1) semaphore for each transfer. -/
abbrev CellIx : Type := Option (Fin 4 × Fin 2 × Fin 7)

set_option backward.proofsInPublic true in
/-- Semaphore `k` of the eight that class `a` has on side `s`. -/
def semIx (a : Fin 4) (s : Fin 2) (k : Fin 8) : DmaSem sig := ⟨6 + 16 * a.val + 8 * s.val + k.val, by show _ < 70; omega⟩

abbrev barS : Sem sig := (SemArray.scalar (sig.barrier 0 rfl) : Sems sig S_).sem

/-- The semaphore of a cell. -/
def csem : CellIx → SemLoc sig
  | none => .reg barS
  | some (a, s, j) => .dma (semIx a s j.succ)

set_option backward.proofsInPublic true in
/-- The cell of a semaphore, if it is one of the protocol's. -/
def dec : SemLoc sig → Option CellIx
  | .reg s => if s = barS then some none else none
  | .dma q => if h : 6 ≤ q.val ∧ (q.val - 6) % 8 ≠ 0 then
      some (some (⟨(q.val - 6) / 16, by have : q.val < 70 := q.isLt; omega⟩, ⟨(q.val - 6) / 8 % 2, by omega⟩, ⟨(q.val - 6) % 8 - 1, by omega⟩))
    else none

theorem dec_csem (x : CellIx) : dec (csem x) = some x := by revert x; decide
theorem dec_bar : dec (.reg barS) = some none := dec_csem none
theorem dec_dma (a : Fin 4) (s : Fin 2) (j : Fin 7) : dec (.dma (semIx a s j.succ)) = some (some (a, s, j)) := dec_csem (some (a, s, j))

theorem csem_inj {x y : CellIx} (h : csem x = csem y) : x = y := by
  have := dec_csem x
  rw [h, dec_csem] at this
  exact (Option.some.inj this).symm

abbrev kcell (p : Dev nD × CellIx) : GSem nD τ sig := ((p.1 : Thread nD τ), csem p.2)
abbrev barCell (c : Dev nD) : GSem nD τ sig := ((c : Thread nD τ), .reg barS)
abbrev sendCell (c : Dev nD) (a : Fin 4) (j : Fin 7) : GSem nD τ sig := ((c : Thread nD τ), .dma (semIx a 0 j.succ))
abbrev recvCell (c : Dev nD) (a : Fin 4) (j : Fin 7) : GSem nD τ sig := ((c : Thread nD τ), .dma (semIx a 1 j.succ))

/-! ## Buffers -/

abbrev kqM : Memref sig .tc .vmem S32x2x256x64 .fp8e4m3 := Memref.whole cc0_scratch0
abbrev vqM : Memref sig .tc .vmem S32x2x256x64 .bf16 := Memref.whole cc0_scratch1
abbrev kbM : Memref sig .tc .vmem S8x4x2x256x64 .fp8e4m3 := Memref.whole cc0_scratch2
abbrev vbM : Memref sig .tc .vmem S8x4x2x256x64 .bf16 := Memref.whole cc0_scratch3
abbrev psM : Memref sig .tc .vmem S2x256x512 .bf16 := Memref.whole cc0_scratch4
abbrev rbM : Memref sig .tc .vmem S8x2x32x512 .bf16 := Memref.whole cc0_scratch5
abbrev gbM : Memref sig .tc .vmem S2x32x512 .bf16 := Memref.whole cc0_scratch6
abbrev fbM : Memref sig .tc .vmem S8x2x32x512 .bf16 := Memref.whole cc0_scratch7
abbrev cxM : Memref sig .tc .vmem S2x256x4x64 .f32 := Memref.whole cc0_scratch8
abbrev wbM : Memref sig .tc .vmem S2x4x4x64x512 .bf16 := Memref.whole cc0_scratch9

abbrev loc (c : Dev nD) (b : Ref sig .tc) : Loc nD τ sig := (c : Thread nD τ).loc b

/-- What one transfer of a class is worth. -/
def N (a : Fin 4) : ℕ := match a with
  | 0 => (Memref.whole cc0_scratch0 : Memref sig .tc .vmem S32x2x256x64 .fp8e4m3).view.dmaCredit / 8
  | 1 => (Memref.whole cc0_scratch1 : Memref sig .tc .vmem S32x2x256x64 .bf16).view.dmaCredit / 8
  | 2 => (Memref.whole cc0_scratch6 : Memref sig .tc .vmem S2x32x512 .bf16).view.dmaCredit
  | 3 => (Memref.whole cc0_scratch6 : Memref sig .tc .vmem S2x32x512 .bf16).view.dmaCredit

theorem N_pos (a : Fin 4) : 0 < N a := by revert a; decide

variable (I : Dev nD → In F)

/-- The source of transfer `j`, with what is sent. -/
def SrcP (a : Fin 4) (c : Dev nD) (j : Fin 7) : sProp 𝕄 := match a with
  | 0 => loc c cc0_scratch0 ↦[(cutSrc.r (tgt c j)).set]{fullShare} (ksrcG (I c) : Buf (Elt F) (loc c cc0_scratch0))
  | 1 => loc c cc0_scratch1 ↦[(cutSrc.r (tgt c j)).set]{fullShare} (vsrcG (I c) : Buf (Elt F) (loc c cc0_scratch1))
  | 2 => loc c cc0_scratch4 ↦[(cutDev.r (tgt c j)).set]{fullShare} (psrcG I c : Buf (Elt F) (loc c cc0_scratch4))
  | 3 => loc c cc0_scratch6 ↦[Finset.univ]{shareTok fullShare 7 j} (gbufG I c : Buf (Elt F) (loc c cc0_scratch6))

/-- Slot `j + 1` with what has landed. -/
def RecvP (a : Fin 4) (c : Dev nD) (j : Fin 7) : sProp 𝕄 := match a with
  | 0 => loc c cc0_scratch2 ↦[(cutSlot.r j.succ).set]{fullShare} (kbufG I c : Buf (Elt F) (loc c cc0_scratch2))
  | 1 => loc c cc0_scratch3 ↦[(cutSlot.r j.succ).set]{fullShare} (vbufG I c : Buf (Elt F) (loc c cc0_scratch3))
  | 2 => loc c cc0_scratch5 ↦[(cutRow.r j.succ).set]{fullShare} (rbufG I c : Buf (Elt F) (loc c cc0_scratch5))
  | 3 => loc c cc0_scratch7 ↦[(cutRow.r j.succ).set]{fullShare} (fbufG I c : Buf (Elt F) (loc c cc0_scratch7))

/-- Slot `j + 1` before anything lands. -/
def LandP (a : Fin 4) (c : Dev nD) (j : Fin 7) : sProp 𝕄 := match a with
  | 0 => iprop(∃ f, loc c cc0_scratch2 ↦[(cutSlot.r j.succ).set]{fullShare} f)
  | 1 => iprop(∃ f, loc c cc0_scratch3 ↦[(cutSlot.r j.succ).set]{fullShare} f)
  | 2 => iprop(∃ f, loc c cc0_scratch5 ↦[(cutRow.r j.succ).set]{fullShare} f)
  | 3 => iprop(∃ f, loc c cc0_scratch7 ↦[(cutRow.r j.succ).set]{fullShare} f)

/-- What the signal `c` gets from `frm c d` hands over: the slots there that `c` will write. -/
def BarP (c : Dev nD) (d : Fin 7) : sProp 𝕄 := bigSep Finset.univ fun a : Fin 4 => LandP (F := F) a (frm c d) (rev7 d)

instance srcP_storable (a : Fin 4) (c : Dev nD) (j : Fin 7) : BI.Storable (upEmb : UEmb _ 𝕄) (SrcP I a c j) := by
  unfold SrcP; split <;> infer_instance
instance recvP_storable (a : Fin 4) (c : Dev nD) (j : Fin 7) : BI.Storable (upEmb : UEmb _ 𝕄) (RecvP I a c j) := by
  unfold RecvP; split <;> infer_instance
omit [FloatOps F] in
instance landP_storable (a : Fin 4) (c : Dev nD) (j : Fin 7) : BI.Storable (upEmb : UEmb _ 𝕄) (LandP (F := F) a c j) := by
  unfold LandP; split <;> infer_instance
omit [FloatOps F] in
instance barP_storable (c : Dev nD) (d : Fin 7) : BI.Storable (upEmb : UEmb _ 𝕄) (BarP (F := F) c d) := by
  unfold BarP; infer_instance

/-! ## The schedule -/

def cellPay (c : Dev nD) (d : Fin 7) : Option CellIx → sProp 𝕄
  | some none => BarP c d
  | some (some (a, s, j)) => if s = 0 then SrcP I a c j else RecvP I a c j
  | none => iprop(emp)

instance cellPay_storable (c : Dev nD) (d : Fin 7) (x : Option CellIx) : BI.Storable (upEmb : UEmb _ 𝕄) (cellPay I c d x) := by
  unfold cellPay; (repeat' split) <;> infer_instance

def cellAmount : Option CellIx → ℕ
  | some (some (a, _, _)) => N a
  | _ => 1
def cellDuties : Option CellIx → Finset (Fin 7)
  | some none => Finset.univ
  | some (some _) => {0}
  | none => ∅

/-- One round: a barrier cell is signalled by the seven peers, one unit each; a transfer's cell is paid once. -/
def Rd : Rounds.Schedule (GSem nD τ sig) (Fin 7) 𝕄 where
  duties g r := if r = 0 ∧ g.1.2 = .tc then cellDuties (dec g.2) else ∅
  unitless _ := False
  amount g _ _ := cellAmount (dec g.2)
  payload g _ d := cellPay I g.1.1 d (dec g.2)
  amount_pos g _ _ _ := by
    show 0 < cellAmount (dec g.2)
    unfold cellAmount; split
    · exact N_pos _
    · exact Nat.one_pos

instance Rd_payload_storable (g : GSem nD τ sig) (r : ℕ) (d : Fin 7) : BI.Storable (upEmb : UEmb _ 𝕄) ((Rd I).payload g r d) :=
  cellPay_storable I _ _ _

section Sched
variable (c : Dev nD) (a : Fin 4) (j : Fin 7)

theorem duties_bar : (Rd I).duties (barCell c) 0 = Finset.univ := by
  dsimp only [Rd]; rw [if_pos ⟨rfl, rfl⟩, dec_bar]; rfl
theorem duties_dma (s : Fin 2) : (Rd I).duties ((c : Thread nD τ), .dma (semIx a s j.succ)) 0 = {0} := by
  dsimp only [Rd]; rw [if_pos ⟨rfl, rfl⟩, dec_dma]; rfl
theorem duties_later (g : GSem nD τ sig) : ∀ r, 1 ≤ r → (Rd I).duties g r = ∅ := fun r hr => if_neg fun h => by omega
theorem amount_bar (d : Fin 7) : (Rd I).amount (barCell c) 0 d = 1 := by
  dsimp only [Rd]; rw [dec_bar]; rfl
theorem amount_dma (s : Fin 2) (d : Fin 7) : (Rd I).amount ((c : Thread nD τ), .dma (semIx a s j.succ)) 0 d = N a := by
  dsimp only [Rd]; rw [dec_dma]; rfl
theorem expect_bar : (Rd I).expect (barCell c) 0 = 7 := by
  unfold Schedule.expect Schedule.amountOf
  rw [duties_bar, Finset.sum_congr rfl fun d _ => amount_bar I c d, Finset.sum_const, Finset.card_univ, Fintype.card_fin, smul_eq_mul]
theorem expect_dma (s : Fin 2) : (Rd I).expect ((c : Thread nD τ), .dma (semIx a s j.succ)) 0 = N a := by
  unfold Schedule.expect Schedule.amountOf; rw [duties_dma, Finset.sum_singleton, amount_dma]
theorem payload_bar (d : Fin 7) : (Rd I).payload (barCell c) 0 d = BarP c d := by
  dsimp only [Rd]; rw [dec_bar]; rfl
theorem payload_send (d : Fin 7) : (Rd I).payload (sendCell c a j) 0 d = SrcP I a c j := by
  dsimp only [Rd]; rw [dec_dma]; rfl
theorem payload_recv (d : Fin 7) : (Rd I).payload (recvCell c a j) 0 d = RecvP I a c j := by
  dsimp only [Rd]; rw [dec_dma]; rfl
theorem rest_send : bigSep ((Rd I).duties (sendCell c a j) 0 \ ∅) (fun d => (Rd I).payload (sendCell c a j) 0 d) = SrcP I a c j := by
  rw [Finset.sdiff_empty, duties_dma, bigSep_singleton, payload_send]
theorem rest_recv : bigSep ((Rd I).duties (recvCell c a j) 0 \ ∅) (fun d => (Rd I).payload (recvCell c a j) 0 d) = RecvP I a c j := by
  rw [Finset.sdiff_empty, duties_dma, bigSep_singleton, payload_recv]

omit [FloatOps F] in
theorem revE_bar (c : Dev nD) (d : Fin 7) : BarP (F := F) c (rev7 d) = bigSep Finset.univ fun a : Fin 4 => LandP (F := F) a (tgt c d) d := by
  unfold BarP; rw [frm_rev, rev_rev]

def revE : Fin 7 ≃ Fin 7 := ⟨rev7, rev7, rev_rev, rev_rev⟩

theorem rest_bar : bigSep ((Rd I).duties (barCell c) 0 \ ∅) (fun d => (Rd I).payload (barCell c) 0 d)
    = bigSep Finset.univ fun j : Fin 7 => bigSep Finset.univ fun a : Fin 4 => LandP (F := F) a (tgt c j) j := by
  rw [Finset.sdiff_empty, duties_bar, bigSep_congr fun d _ => payload_bar I c d, bigSep_univ_equiv revE]
  exact bigSep_congr fun d _ => revE_bar c d

end Sched

/-! ## What is owed, and the levels -/

/-- When transfer `j` of a class is started, counted in that class: the shares go out in the order of the rows they hold. -/
def tm (a : Fin 4) (c : Dev nD) (j : Fin 7) : ℕ := if a = 2 then 7 * ((tgt c j).val / 2) + j.val else j.val

theorem tm_inj (a : Fin 4) (c : Dev nD) (j j' : Fin 7) (h : tm a c j = tm a c j') : j = j' := by revert a c j j'; decide
/-- The number of times a transfer of the class may start. -/
def tmax (a : Fin 4) : ℕ := if a = 2 then 28 else 7
theorem tm_lt (a : Fin 4) (c : Dev nD) (j : Fin 7) : tm a c j < tmax a := by revert a c j; decide

/-- What `c` owes its peers' receive cells of class `a` from time `s` on. -/
def owe (a : Fin 4) (c : Dev nD) (s : ℕ) : CellTallies nD τ sig Unit :=
  ∑ j ∈ Finset.univ.filter (fun j : Fin 7 => s ≤ tm a c j), tallyAt (recvCell (tgt c j) a j) () (N a)
/-- What `c` owes the barrier cells of the peers it has not signalled. -/
def oweBar (c : Dev nD) (n : ℕ) : CellTallies nD τ sig Unit :=
  ∑ j ∈ Finset.univ.filter (fun j : Fin 7 => n ≤ j.val), tallyAt (barCell (tgt c j)) () 1

theorem owe_step (a : Fin 4) (c : Dev nD) (j : Fin 7) (s : ℕ) (h : tm a c j = s) :
    owe a c s = owe a c (s + 1) + tallyAt (recvCell (tgt c j) a j) () (N a) := by
  unfold owe
  rw [show Finset.univ.filter (fun j : Fin 7 => s ≤ tm a c j) = insert j (Finset.univ.filter (fun j : Fin 7 => s + 1 ≤ tm a c j)) from ?_,
    Finset.sum_insert (by simp [h]), add_comm]
  ext j'
  simp only [Finset.mem_filter, Finset.mem_univ, true_and, Finset.mem_insert]
  constructor
  · intro h'
    by_cases hj : j' = j
    · exact .inl hj
    · exact .inr (Nat.lt_of_le_of_ne h' fun e => hj (tm_inj a c j' j (e ▸ h.symm)))
  · rintro (rfl | h')
    · omega
    · omega
theorem owe_skip (a : Fin 4) (c : Dev nD) (s : ℕ) (h : ∀ j, tm a c j ≠ s) : owe a c s = owe a c (s + 1) := by
  unfold owe; congr 1; ext j'
  simp only [Finset.mem_filter, Finset.mem_univ, true_and]
  have := h j'; omega
theorem owe_end (a : Fin 4) (c : Dev nD) (s : ℕ) (h : tmax a ≤ s) : owe a c s = 0 := by
  unfold owe
  rw [Finset.filter_false_of_mem fun j _ => by have := tm_lt a c j; omega, Finset.sum_empty]
theorem oweBar_step (c : Dev nD) (j : Fin 7) : oweBar c j.val = oweBar c (j.val + 1) + tallyAt (barCell (tgt c j)) () 1 := by
  unfold oweBar
  rw [show Finset.univ.filter (fun j' : Fin 7 => j.val ≤ j'.val) = insert j (Finset.univ.filter (fun j' : Fin 7 => j.val + 1 ≤ j'.val)) from ?_,
    Finset.sum_insert (by simp), add_comm]
  ext j'
  simp only [Finset.mem_filter, Finset.mem_univ, true_and, Finset.mem_insert, Fin.ext_iff]
  omega
theorem oweBar_end (c : Dev nD) : oweBar c 7 = 0 := by
  unfold oweBar
  rw [Finset.filter_false_of_mem fun j _ => by omega, Finset.sum_empty]

def L (g : GSem nD τ sig) : Finset Unit := if g.1.2 = .tc then {()} else ∅
/-- Barrier cells at 1, the receive cells of class `a` at `2 + a`, the rest at 0. -/
def lvc : Option CellIx → ℕ
  | some none => 1
  | some (some (a, s, _)) => if s = 0 then 0 else 2 + a.val
  | none => 0
def lv (g : GSem nD τ sig) (_ : Unit) : ℕ := lvc (dec g.2)

theorem L_of_ne (g : GSem nD τ sig) (h : g.1.2 ≠ .tc) : L g = ∅ := if_neg h
theorem L_tc (c : Dev nD) (sm : SemLoc sig) : L ((c : Thread nD τ), sm) = {()} := if_pos rfl

/-- Every cell owed is a TensorCore's, at a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n k : ℕ} {g : GSem nD τ sig} (h : g.1.2 = .tc) (h' : n < lv g ()) : Above n (tallyAt g () k) := fun g' u hg => by
  rw [tallyAt_apply] at hg
  by_cases e : g' = g ∧ u = ()
  · rw [e.1]; exact ⟨h, h'⟩
  · rw [if_neg e] at hg; exact absurd hg (Nat.lt_irrefl 0)
theorem above_sum {n : ℕ} {T : Type} (s : Finset T) (O : T → CellTallies nD τ sig Unit) (h : ∀ t, Above n (O t)) : Above n (∑ t ∈ s, O t) := by
  classical
  induction s using Finset.induction_on with
  | empty => rw [Finset.sum_empty]; exact above_zero n
  | insert i s hi ih => rw [Finset.sum_insert hi]; exact above_add (h i) ih
theorem above_owe {n : ℕ} (a : Fin 4) (c : Dev nD) (s : ℕ) (h : n < 2 + a.val) : Above n (owe a c s) :=
  above_sum _ _ fun j => above_tally rfl (by
    show n < lvc (dec _); rw [dec_dma]; exact h)
theorem above_bar {n : ℕ} (c : Dev nD) (s : ℕ) (h : n < 1) : Above n (oweBar c s) :=
  above_sum _ _ fun j => above_tally rfl (by
    show n < lvc (dec _); rw [dec_bar]; exact h)

omit [FloatOps F] in
theorem mayWait (c : Dev nD) (sm : SemLoc sig) (O : CellTallies nD τ sig Unit) (h : Above (lvc (dec sm)) O) :
    (levAts L lv : sProp 𝕄) ⊢ MayWait (c : Thread nD τ) sm () O :=
  MayOwe.of_cut (L := L) (lev := lv) (lvc (dec sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.KernelIdeal.Attn

end
-- ==== Proof.State.lean ====
/- The state of one device between two operations of the kernel's body, and how single operations change its parts.

   `Pt` counts what has been done; `St` says what the device then holds. -/
module

public import proofs.«01_k».proof.Proof.Proto

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

/-! ## Contents after a write -/

/-- After an unmasked write through a view, an element under the view holds what contents that read as the payload hold there. -/
theorem write_on {κ : Kind} {sp : Space} {s : Shape} {e : EltTy} {Val : EltTy → Type} (v : View sig κ sp s e) (fd G : v.ty.Contents Val) (w : s.Idx → Val e)
    (h : v.read Val G = w) : ∀ i ∈ v.set, v.write Val fd w Finset.univ i = G i := by
  intro i hi
  obtain ⟨y, -, rfl⟩ := Finset.mem_map.mp hi
  rw [View.write_emb_of_mem _ _ (Finset.mem_univ y), ← h, View.read_apply, cast_cast, cast_eq]

omit [FloatOps F] in
/-- One summand of a separating conjunction is exchanged for another, the others agreeing. -/
theorem bigSep_upd {T : Type} [Fintype T] [DecidableEq T] (Φ Ψ : T → sProp 𝕄) (j : T) (h : ∀ i, i ≠ j → Φ i = Ψ i) :
    bigSep Finset.univ Φ ⊢ iprop(Φ j ∗ (Ψ j -∗ bigSep Finset.univ Ψ)) := by
  have e : ∀ Θ : T → sProp 𝕄, bigSep Finset.univ Θ = iprop(Θ j ∗ bigSep (Finset.univ.erase j) Θ) := fun Θ => bigSep_univ_split j
  rw [e Φ, e Ψ, bigSep_congr (s := Finset.univ.erase j) fun i hi => h i (Finset.ne_of_mem_erase hi)]
  iintro ⟨H, Hr⟩
  isplitl [H]; · iexact H
  iintro H
  isplitl [H] <;> iassumption

omit [FloatOps F] in
theorem bigSep_at {T : Type} [Fintype T] [DecidableEq T] (Φ : T → sProp 𝕄) (j : T) : bigSep Finset.univ Φ ⊢ Φ j := bigSep_elim (Finset.mem_univ j)

variable (I : Dev nD → In F)

/-! ## Transfers of one class -/

/-- The sending side of transfer `j`: done and its source back, or started, or not started. -/
def Snd (a : Fin 4) (c : Dev nD) (s n : ℕ) (j : Fin 7) : sProp 𝕄 :=
  if 2 * j.val < n then iprop(SrcP I a c j ∗ semVal (sendCell c a j) 0)
  else iprop(atPos ER (sendCell c a j) 0 ∅ 0 ∗
    (if tm a c j < s then cred (tallyAt (sendCell c a j) () (N a))
      else iprop(dutyTok ER (sendCell c a j) 0 0 ∗ dutyTok ER (recvCell (tgt c j) a j) 0 0 ∗ LandP (F := F) a (tgt c j) j)))
/-- The receiving side of slot `j + 1`. -/
def Rcv (a : Fin 4) (c : Dev nD) (n : ℕ) (j : Fin 7) : sProp 𝕄 :=
  if 2 * j.val + 1 < n then iprop(RecvP I a c j ∗ semVal (recvCell c a j) 0)
  else iprop(atPos ER (recvCell c a j) 0 ∅ 0 ∗ cred (tallyAt (recvCell c a j) () (N a)))

/-- Class `a` when `s` of its times have passed and `n` of its waits are done. -/
def Cl (a : Fin 4) (c : Dev nD) (s n : ℕ) : sProp 𝕄 := bigSep Finset.univ fun j : Fin 7 => iprop(Snd I a c s n j ∗ Rcv I a c n j)

theorem Snd_congr (a : Fin 4) (c : Dev nD) (j : Fin 7) (s s' n n' : ℕ) (hn : 2 * j.val < n ↔ 2 * j.val < n') (hs : tm a c j < s ↔ tm a c j < s') :
    Snd I a c s n j = Snd I a c s' n' j := by
  unfold Snd
  simp only [hn, hs]
theorem Rcv_congr (a : Fin 4) (c : Dev nD) (j : Fin 7) (n n' : ℕ) (hn : 2 * j.val + 1 < n ↔ 2 * j.val + 1 < n') : Rcv I a c n j = Rcv I a c n' j := by
  unfold Rcv
  simp only [hn]
theorem Snd_done (a : Fin 4) (c : Dev nD) (j : Fin 7) (s n : ℕ) (hn : 2 * j.val < n) : Snd I a c s n j = iprop(SrcP I a c j ∗ semVal (sendCell c a j) 0) := if_pos hn
theorem Snd_gone (a : Fin 4) (c : Dev nD) (j : Fin 7) (s n : ℕ) (hn : ¬ 2 * j.val < n) (hs : tm a c j < s) :
    Snd I a c s n j = iprop(atPos ER (sendCell c a j) 0 ∅ 0 ∗ cred (tallyAt (sendCell c a j) () (N a))) := by
  unfold Snd
  rw [if_neg hn, if_pos hs]
theorem Snd_todo (a : Fin 4) (c : Dev nD) (j : Fin 7) (s n : ℕ) (hn : ¬ 2 * j.val < n) (hs : ¬ tm a c j < s) :
    Snd I a c s n j = iprop(atPos ER (sendCell c a j) 0 ∅ 0 ∗ dutyTok ER (sendCell c a j) 0 0 ∗ dutyTok ER (recvCell (tgt c j) a j) 0 0 ∗ LandP (F := F) a (tgt c j) j) := by
  unfold Snd
  rw [if_neg hn, if_neg hs]
theorem Rcv_done (a : Fin 4) (c : Dev nD) (j : Fin 7) (n : ℕ) (hn : 2 * j.val + 1 < n) : Rcv I a c n j = iprop(RecvP I a c j ∗ semVal (recvCell c a j) 0) := if_pos hn
theorem Rcv_todo (a : Fin 4) (c : Dev nD) (j : Fin 7) (n : ℕ) (hn : ¬ 2 * j.val + 1 < n) :
    Rcv I a c n j = iprop(atPos ER (recvCell c a j) 0 ∅ 0 ∗ cred (tallyAt (recvCell c a j) () (N a))) := if_neg hn

theorem Cl_send (a : Fin 4) (c : Dev nD) (j : Fin 7) (s : ℕ) (h : tm a c j = s) :
    Cl I a c s 0 ⊢ iprop((dutyTok ER (sendCell c a j) 0 0 ∗ dutyTok ER (recvCell (tgt c j) a j) 0 0 ∗ LandP (F := F) a (tgt c j) j)
      ∗ (cred (tallyAt (sendCell c a j) () (N a)) -∗ Cl I a c (s + 1) 0)) := by
  unfold Cl
  refine (bigSep_upd _ (fun j => iprop(Snd I a c (s + 1) 0 j ∗ Rcv I a c 0 j)) j fun i hi => ?_).trans ?_
  · have : tm a c i ≠ s := fun e => hi (tm_inj a c i j (e.trans h.symm))
    rw [Snd_congr I a c i s (s + 1) 0 0 Iff.rfl (by omega)]
  · rw [Snd_todo I a c j s 0 (by omega) (by omega), Snd_gone I a c j (s + 1) 0 (by omega) (by omega)]
    iintro ⟨⟨⟨Hat, Ht⟩, Hr⟩, Hc⟩
    isplitl [Ht]; · iexact Ht
    iintro Hcr
    iapply Hc
    isplitl [Hat Hcr]
    · isplitl [Hat] <;> iassumption
    · iexact Hr

theorem Cl_skip (a : Fin 4) (c : Dev nD) (s : ℕ) (h : ∀ j, tm a c j ≠ s) : Cl I a c s 0 = Cl I a c (s + 1) 0 := by
  unfold Cl
  refine bigSep_congr fun j _ => ?_
  have := h j
  rw [Snd_congr I a c j s (s + 1) 0 0 Iff.rfl (by omega)]

theorem Cl_waitS (a : Fin 4) (c : Dev nD) (j : Fin 7) (s n : ℕ) (hs : tmax a ≤ s) (hn : n = 2 * j.val) :
    Cl I a c s n ⊢ iprop((atPos ER (sendCell c a j) 0 ∅ 0 ∗ cred (tallyAt (sendCell c a j) () (N a)))
      ∗ (iprop(SrcP I a c j ∗ semVal (sendCell c a j) 0) -∗ Cl I a c s (n + 1))) := by
  have ht : tm a c j < s := lt_of_lt_of_le (tm_lt a c j) hs
  unfold Cl
  refine (bigSep_upd _ (fun j' => iprop(Snd I a c s (n + 1) j' ∗ Rcv I a c (n + 1) j')) j fun i hi => ?_).trans ?_
  · have : i.val ≠ j.val := fun e => hi (Fin.ext e)
    rw [Snd_congr I a c i s s n (n + 1) (by omega) Iff.rfl, Rcv_congr I a c i n (n + 1) (by omega)]
  · rw [Snd_gone I a c j s n (by omega) ht, Snd_done I a c j s (n + 1) (by omega), Rcv_todo I a c j n (by omega), Rcv_todo I a c j (n + 1) (by omega)]
    iintro ⟨⟨Hs, Hr⟩, Hc⟩
    isplitl [Hs]; · iexact Hs
    iintro Hs
    iapply Hc
    isplitl [Hs] <;> iassumption

theorem Cl_waitR (a : Fin 4) (c : Dev nD) (j : Fin 7) (s n : ℕ) (hn : n = 2 * j.val + 1) :
    Cl I a c s n ⊢ iprop((atPos ER (recvCell c a j) 0 ∅ 0 ∗ cred (tallyAt (recvCell c a j) () (N a)))
      ∗ (iprop(RecvP I a c j ∗ semVal (recvCell c a j) 0) -∗ Cl I a c s (n + 1))) := by
  unfold Cl
  refine (bigSep_upd _ (fun j' => iprop(Snd I a c s (n + 1) j' ∗ Rcv I a c (n + 1) j')) j fun i hi => ?_).trans ?_
  · have : i.val ≠ j.val := fun e => hi (Fin.ext e)
    rw [Snd_congr I a c i s s n (n + 1) (by omega) Iff.rfl, Rcv_congr I a c i n (n + 1) (by omega)]
  · rw [Snd_congr I a c j s s n (n + 1) (by omega) Iff.rfl, Rcv_todo I a c j n (by omega), Rcv_done I a c j (n + 1) (by omega)]
    iintro ⟨⟨Hs, Hr⟩, Hc⟩
    isplitl [Hr]; · iexact Hr
    iintro Hr
    iapply Hc
    isplitl [Hs] <;> iassumption

/-- All seven slots at once. -/
theorem Cl_slots (a : Fin 4) (c : Dev nD) (s : ℕ) :
    Cl I a c s 14 ⊢ iprop((bigSep Finset.univ fun j : Fin 7 => RecvP I a c j) ∗ ((bigSep Finset.univ fun j : Fin 7 => RecvP I a c j) -∗ Cl I a c s 14)) := by
  have e : Cl I a c s 14 = iprop((bigSep Finset.univ fun j : Fin 7 => RecvP I a c j)
      ∗ (bigSep Finset.univ fun j : Fin 7 => iprop(Snd I a c s 14 j ∗ semVal (recvCell c a j) 0))) := by
    unfold Cl
    rw [← bigSep_sep']
    refine bigSep_congr fun j _ => ?_
    rw [Rcv_done I a c j 14 (by omega)]
    have e := sep_left_comm (P := Snd I a c s 14 j) (Q := RecvP I a c j) (R := (semVal (recvCell c a j) 0 : sProp 𝕄))
    exact BI.equiv_iff.1 ⟨e.1, e.2⟩
  rw [e]
  iintro ⟨H, Hr⟩
  isplitl [H]; · iexact H
  iintro H
  isplitl [H] <;> iassumption

/-! ## Buffers held in pieces -/

/-- The eight tiles of a send buffer after `m` stores and `n` sends. -/
def Tiles (A B : Dev nD → sProp 𝕄) (c : Dev nD) (m n : ℕ) : sProp 𝕄 :=
  bigSep Finset.univ fun t : Dev nD => if jof c t < n then iprop(emp) else if jof c t < m then A t else B t

omit [FloatOps F] in
theorem Tiles_read (A B : Dev nD → sProp 𝕄) (c : Dev nD) (j : Fin 7) (m n : ℕ) (hm : m = j.val) (hn : n ≤ j.val) :
    Tiles A B c m n ⊢ iprop(B (tgt c j) ∗ (B (tgt c j) -∗ Tiles A B c m n)) := by
  unfold Tiles
  refine (bigSep_upd _ _ (tgt c j) fun i hi => rfl).trans ?_
  rw [jof_tgt, if_neg (by omega), if_neg (by omega)]

omit [FloatOps F] in
theorem Tiles_store (A B : Dev nD → sProp 𝕄) (c : Dev nD) (j : Fin 7) (m n : ℕ) (hm : m = j.val) (hn : n ≤ j.val) :
    Tiles A B c m n ⊢ iprop(B (tgt c j) ∗ (A (tgt c j) -∗ Tiles A B c (m + 1) n)) := by
  unfold Tiles
  refine (bigSep_upd _ (fun t : Dev nD => if jof c t < n then iprop(emp) else if jof c t < m + 1 then A t else B t) (tgt c j) fun i hi => ?_).trans ?_
  · have : jof c i ≠ m := fun e => hi (jof_inj c j i (e.trans hm))
    by_cases h1 : jof c i < n
    · rw [if_pos h1, if_pos h1]
    · rw [if_neg h1, if_neg h1]
      by_cases h2 : jof c i < m
      · rw [if_pos h2, if_pos (by omega)]
      · rw [if_neg h2, if_neg (by omega)]
  · rw [jof_tgt, if_neg (show ¬ j.val < n by omega), if_neg (show ¬ j.val < m by omega), if_neg (show ¬ j.val < n by omega), if_pos (show j.val < m + 1 by omega)]

omit [FloatOps F] in
theorem Tiles_send (A B : Dev nD → sProp 𝕄) (c : Dev nD) (j : Fin 7) (m n : ℕ) (hm : m = j.val + 1) (hn : n = j.val) :
    Tiles A B c m n ⊢ iprop(A (tgt c j) ∗ Tiles A B c m (n + 1)) := by
  unfold Tiles
  refine (bigSep_upd _ (fun t : Dev nD => if jof c t < n + 1 then iprop(emp) else if jof c t < m then A t else B t) (tgt c j) fun i hi => ?_).trans ?_
  · have : jof c i ≠ n := fun e => hi (jof_inj c j i (e.trans hn))
    by_cases h1 : jof c i < n
    · rw [if_pos h1, if_pos (show jof c i < n + 1 by omega)]
    · rw [if_neg h1, if_neg (show ¬ jof c i < n + 1 by omega)]
  · rw [jof_tgt, if_neg (show ¬ j.val < n by omega), if_pos (show j.val < m by omega), if_pos (show j.val < n + 1 by omega)]
    iintro ⟨H, Hc⟩
    isplitl [H]; · iexact H
    iapply Hc
    iempintro

def KS (c : Dev nD) (m n : ℕ) : sProp 𝕄 := Tiles
  (fun t => loc c cc0_scratch0 ↦[(cutSrc.r t).set]{fullShare} (ksrcG (I c) : Buf (Elt F) (loc c cc0_scratch0)))
  (fun t => iprop(∃ f, loc c cc0_scratch0 ↦[(cutSrc.r t).set]{fullShare} f)) c m n
def VS (c : Dev nD) (m n : ℕ) : sProp 𝕄 := Tiles
  (fun t => loc c cc0_scratch1 ↦[(cutSrc.r t).set]{fullShare} (vsrcG (I c) : Buf (Elt F) (loc c cc0_scratch1)))
  (fun t => iprop(∃ f, loc c cc0_scratch1 ↦[(cutSrc.r t).set]{fullShare} f)) c m n

/-- Tile `t` of the projected rows has gone out by time `r`. -/
def sentR (c t : Dev nD) (r : ℕ) : Prop := jof c t < 7 ∧ 7 * (t.val / 2) + jof c t < r
instance (c t : Dev nD) (r : ℕ) : Decidable (sentR c t r) := by unfold sentR; infer_instance

def psTile (c t : Dev nD) : sProp 𝕄 := loc c cc0_scratch4 ↦[(cutDev.r t).set]{fullShare} (psrcG I c : Buf (Elt F) (loc c cc0_scratch4))

/-- The projected rows after `q` of the four query blocks are stored and `r` times have passed. -/
def PS (c : Dev nD) (q r : ℕ) : sProp 𝕄 := iprop(
  (bigSep Finset.univ fun b : Fin 4 => if b.val < q then iprop(emp) else iprop(∃ f, loc c cc0_scratch4 ↦[(cutQ.r b).set]{fullShare} f))
  ∗ (bigSep Finset.univ fun t : Dev nD => if t.val / 2 < q ∧ ¬ sentR c t r then psTile I c t else iprop(emp)))

theorem PS_read (c : Dev nD) (b : Fin 4) (r : ℕ) : PS I c b.val r ⊢ iprop((∃ f, loc c cc0_scratch4 ↦[(cutQ.r b).set]{fullShare} f)
    ∗ ((∃ f, loc c cc0_scratch4 ↦[(cutQ.r b).set]{fullShare} f) -∗ PS I c b.val r)) := by
  unfold PS
  iintro ⟨H, Ht⟩
  ihave H := (bigSep_upd _ _ b fun i hi => rfl) $$ H
  rw [if_neg (by omega)]
  icases H with ⟨H, Hc⟩
  isplitl [H]; · iexact H
  iintro H
  isplitl [H Hc]
  · iapply Hc; iexact H
  · iexact Ht

theorem cutQ_split (b : Fin 4) : (cutQ.r b).set = (cutDev.r ⟨2 * b.val, by show _ < 8; omega⟩).set ∪ (cutDev.r ⟨2 * b.val + 1, by show _ < 8; omega⟩).set := by
  ext i
  rw [Finset.mem_union, cutQ.mem, cutDev.mem, cutDev.mem]
  show (⟨_, _⟩ : Fin 4) = _ ↔ (⟨_, _⟩ : Fin 8) = _ ∨ (⟨_, _⟩ : Fin 8) = _
  simp only [Fin.ext_iff]
  omega

theorem PS_store (c : Dev nD) (b : Fin 4) (q r : ℕ) (hq : q = b.val) (hr : r = 7 * b.val) :
    PS I c q r ⊢ iprop((∃ f, loc c cc0_scratch4 ↦[(cutQ.r b).set]{fullShare} f)
      ∗ ((loc c cc0_scratch4 ↦[(cutQ.r b).set]{fullShare} (psrcG I c : Buf (Elt F) (loc c cc0_scratch4))) -∗ PS I c (q + 1) r)) := by
  subst hq hr
  have h0 : 2 * b.val < 8 := by omega
  have h1 : 2 * b.val + 1 < 8 := by omega
  unfold PS
  iintro ⟨H, Ht⟩
  ihave H := (bigSep_upd _ (fun b' : Fin 4 => if b'.val < b.val + 1 then iprop(emp) else iprop(∃ f, loc c cc0_scratch4 ↦[(cutQ.r b').set]{fullShare} f)) b
    (fun i hi => by
      have : i.val ≠ b.val := fun e => hi (Fin.ext e)
      by_cases h : i.val < b.val
      · rw [if_pos h, if_pos (by omega)]
      · rw [if_neg h, if_neg (by omega)])) $$ H
  rw [if_neg (by omega), if_pos (by omega)]
  icases H with ⟨H, Hc⟩
  isplitl [H]; · iexact H
  iintro H
  isplitl [Hc]
  · iapply Hc; iempintro
  ihave H := (Entails.of_eq (by rw [cutQ_split])) $$ H
  ihave H := (pointsTo_union (cutDev.disj _ _ fun e => absurd (show 2 * b.val = 2 * b.val + 1 from congrArg Fin.val e) (by omega))).1 $$ H
  icases H with ⟨Ha, Hb⟩
  ihave Ht := (bigSep_upd _ (fun t : Dev nD => if t.val / 2 < b.val + 1 ∧ t.val ≠ 2 * b.val + 1 ∧ ¬ sentR c t (7 * b.val) then psTile I c t else iprop(emp)) (⟨2 * b.val, h0⟩ : Fin 8)
    (fun i hi => by
      have : i.val ≠ 2 * b.val := fun e => hi (Fin.ext e)
      by_cases h : i.val / 2 < b.val ∧ ¬ sentR c i (7 * b.val)
      · rw [if_pos h, if_pos ⟨by omega, by omega, h.2⟩]
      · rw [if_neg h, if_neg (fun h' => h ⟨by omega, h'.2.2⟩)])) $$ Ht
  icases Ht with ⟨-, Ht⟩
  ihave Ht := Ht $$ [Ha]
  · rw [if_pos (show (⟨2 * b.val, h0⟩ : Fin 8).val / 2 < b.val + 1 ∧ (⟨2 * b.val, h0⟩ : Fin 8).val ≠ 2 * b.val + 1 ∧ ¬ sentR c (⟨2 * b.val, h0⟩ : Fin 8) (7 * b.val) from
      ⟨by simp only; omega, by simp only; omega, fun h => by have := h.2; simp only at this; omega⟩)]
    unfold psTile; iexact Ha
  ihave Ht := (bigSep_upd _ (fun t : Dev nD => if t.val / 2 < b.val + 1 ∧ ¬ sentR c t (7 * b.val) then psTile I c t else iprop(emp)) (⟨2 * b.val + 1, h1⟩ : Fin 8)
    (fun i hi => by
      have : i.val ≠ 2 * b.val + 1 := fun e => hi (Fin.ext e)
      by_cases h : i.val / 2 < b.val + 1 ∧ ¬ sentR c i (7 * b.val)
      · rw [if_pos h, if_pos ⟨h.1, this, h.2⟩]
      · rw [if_neg h, if_neg (fun h' => h ⟨h'.1, h'.2.2⟩)])) $$ Ht
  icases Ht with ⟨-, Ht⟩
  iapply Ht
  rw [if_pos (show (⟨2 * b.val + 1, h1⟩ : Fin 8).val / 2 < b.val + 1 ∧ ¬ sentR c (⟨2 * b.val + 1, h1⟩ : Fin 8) (7 * b.val) from
      ⟨by simp only; omega, fun h => by have := h.2; simp only at this; omega⟩)]
  unfold psTile; iexact Hb

theorem PS_send (c : Dev nD) (j : Fin 7) (q r : ℕ) (hq : (tgt c j).val / 2 < q) (hr : tm 2 c j = r) :
    PS I c q r ⊢ iprop(SrcP I 2 c j ∗ PS I c q (r + 1)) := by
  have hr' : 7 * ((tgt c j).val / 2) + j.val = r := hr
  unfold PS
  iintro ⟨H, Ht⟩
  ihave Ht := (bigSep_upd _ (fun t : Dev nD => if t.val / 2 < q ∧ ¬ sentR c t (r + 1) then psTile I c t else iprop(emp)) (tgt c j)
    (fun i hi => by
      have : ¬ sentR c i r ↔ ¬ sentR c i (r + 1) := by
        unfold sentR
        have : jof c i < 7 → 7 * (i.val / 2) + jof c i ≠ r := fun h e => by
          have hi' : jof c i = j.val := by have := j.isLt; omega
          exact hi (jof_inj c j i hi')
        constructor <;> intro h h' <;> apply h <;> refine ⟨h'.1, ?_⟩ <;> have := this h'.1 <;> have := h'.2 <;> omega
      simp only [this])) $$ Ht
  rw [if_pos ⟨hq, fun h => by have := h.2; rw [jof_tgt] at this; omega⟩, if_neg (fun h => h.2 ⟨by rw [jof_tgt]; exact j.isLt, by rw [jof_tgt]; omega⟩)]
  icases Ht with ⟨Hs, Ht⟩
  isplitl [Hs]; · unfold psTile SrcP; iexact Hs
  isplitl [H]; · iexact H
  iapply Ht; iempintro

theorem PS_skip (c : Dev nD) (q r : ℕ) (h : ∀ j, tm 2 c j ≠ r) : PS I c q r = PS I c q (r + 1) := by
  unfold PS
  congr 2
  funext t
  have : ¬ sentR c t r ↔ ¬ sentR c t (r + 1) := by
    unfold sentR
    have : jof c t < 7 → 7 * (t.val / 2) + jof c t ≠ r := fun h' e => by
      refine h ⟨jof c t, h'⟩ ?_
      have ht : t = tgt c ⟨jof c t, h'⟩ := jof_inj c _ t rfl
      show 7 * ((tgt c ⟨jof c t, h'⟩).val / 2) + jof c t = r
      rw [← ht]; exact e
    constructor <;> intro h h' <;> apply h <;> refine ⟨h'.1, ?_⟩ <;> have := this h'.1 <;> have := h'.2 <;> omega
  simp only [this]

/-- Its own tile stays with the device. -/
theorem PS_own (c : Dev nD) (r : ℕ) : PS I c 4 r ⊢ iprop(psTile I c c ∗ (psTile I c c -∗ PS I c 4 r)) := by
  unfold PS
  iintro ⟨H, Ht⟩
  ihave Ht := (bigSep_upd _ _ c fun i hi => rfl) $$ Ht
  rw [if_pos ⟨by have : c.val < 8 := c.isLt; omega, fun h => by have := h.1; rw [jof_self] at this; omega⟩]
  icases Ht with ⟨Hs, Ht⟩
  isplitl [Hs]; · iexact Hs
  iintro Hs
  isplitl [H]; · iexact H
  iapply Ht; iexact Hs

/-- The rounded sum: not yet stored, or stored and dealt in shares of which `a` have gone out. -/
def GB (c : Dev nD) (g : Bool) (a : ℕ) : sProp 𝕄 :=
  if g then iprop((loc c cc0_scratch6 ↦[Finset.univ]{shareDrop fullShare 7} (gbufG I c : Buf (Elt F) (loc c cc0_scratch6)))
    ∗ bigSep Finset.univ fun j : Fin 7 => if j.val < a then iprop(emp) else SrcP I 3 c j)
  else iprop(∃ f : Buf (Elt F) (loc c cc0_scratch6), loc c cc0_scratch6 ↦{fullShare} f)

theorem GB_store (c : Dev nD) : (loc c cc0_scratch6 ↦{fullShare} (gbufG I c : Buf (Elt F) (loc c cc0_scratch6)) : sProp 𝕄) ⊢ GB I c true 0 := by
  unfold GB
  rw [if_pos rfl]
  exact pointsTo_toks_split fullShare 7

theorem GB_send (c : Dev nD) (j : Fin 7) (a : ℕ) (ha : a = j.val) : GB I c true a ⊢ iprop(SrcP I 3 c j ∗ GB I c true (a + 1)) := by
  subst ha
  unfold GB
  rw [if_pos rfl, if_pos rfl]
  iintro ⟨H, Ht⟩
  ihave Ht := (bigSep_upd _ (fun j' : Fin 7 => if j'.val < j.val + 1 then iprop(emp) else SrcP I 3 c j') j
    (fun i hi => by
      have : i.val ≠ j.val := fun e => hi (Fin.ext e)
      by_cases h : i.val < j.val
      · rw [if_pos h, if_pos (by omega)]
      · rw [if_neg h, if_neg (by omega)])) $$ Ht
  rw [if_neg (by omega), if_pos (by omega)]
  icases Ht with ⟨Hs, Ht⟩
  isplitl [Hs]; · iexact Hs
  isplitl [H]; · iexact H
  iapply Ht; iempintro

/-- A device's own slot. -/
def OwnK (c : Dev nD) (o : Bool) : sProp 𝕄 :=
  if o then loc c cc0_scratch2 ↦[(cutSlot.r 0).set]{fullShare} (kbufG I c : Buf (Elt F) (loc c cc0_scratch2))
  else iprop(∃ f, loc c cc0_scratch2 ↦[(cutSlot.r 0).set]{fullShare} f)
def OwnV (c : Dev nD) (o : Bool) : sProp 𝕄 :=
  if o then loc c cc0_scratch3 ↦[(cutSlot.r 0).set]{fullShare} (vbufG I c : Buf (Elt F) (loc c cc0_scratch3))
  else iprop(∃ f, loc c cc0_scratch3 ↦[(cutSlot.r 0).set]{fullShare} f)
def OwnR (c : Dev nD) (o : Bool) : sProp 𝕄 :=
  if o then loc c cc0_scratch5 ↦[(cutRow.r 0).set]{fullShare} (rbufG I c : Buf (Elt F) (loc c cc0_scratch5))
  else iprop(∃ f, loc c cc0_scratch5 ↦[(cutRow.r 0).set]{fullShare} f)

/-- A buffer held whole, the part `P` of it holding `G`. -/
def Held (c : Dev nD) (b : Ref sig .tc) (G : Buf (Elt F) (loc c b)) (P : Idx (loc c b) → Prop) : sProp 𝕄 :=
  iprop(∃ f : Buf (Elt F) (loc c b), ⌜∀ i, P i → f i = G i⌝ ∗ (loc c b ↦{fullShare} f))

/-- The orders in which the blocks of the weights, of the weighted values and of the result are stored. -/
def ordW (t : BHQ) : ℕ := 16 * t.1.val + 4 * t.2.1.val + t.2.2.val
def ordC (t : BHQ) : ℕ := 8 * t.2.2.val + 4 * t.1.val + t.2.1.val
def ordO (c t : Dev nD) : ℕ := (c.val + 8 - t.val) % 8
theorem ordW_inj (t t' : BHQ) (h : ordW t = ordW t') : t = t' := by revert t t'; decide +kernel
theorem ordC_inj (t t' : BHQ) (h : ordC t = ordC t') : t = t' := by revert t t'; decide +kernel
theorem ordO_inj (c t t' : Dev nD) (h : ordO c t = ordO c t') : t = t' := by revert c t t'; decide +kernel

def WB (c : Dev nD) (n : ℕ) : sProp 𝕄 := Held c cc0_scratch9 (wbufG I c) fun i => ordW (cutW.key i) < n
def CB (c : Dev nD) (n : ℕ) : sProp 𝕄 := Held c cc0_scratch8 (ctxG I c) fun i => ordC (cutC.key i) < n
def OB (c : Dev nD) (n : ℕ) : sProp 𝕄 := Held c cc0_stg5_0 (outG I c) fun i => ordO c (cutDev.key i) < n

/-- The inputs, staged. -/
def Ins (c : Dev nD) : sProp 𝕄 := iprop(
  (loc c cc0_stg0_0 ↦{fullShare} ((I c).x : Buf (Elt F) (loc c cc0_stg0_0)))
  ∗ (loc c cc0_stg1_0 ↦{fullShare} ((I c).wq : Buf (Elt F) (loc c cc0_stg1_0)))
  ∗ (loc c cc0_stg2_0 ↦{fullShare} ((I c).k : Buf (Elt F) (loc c cc0_stg2_0)))
  ∗ (loc c cc0_stg3_0 ↦{fullShare} ((I c).v : Buf (Elt F) (loc c cc0_stg3_0)))
  ∗ (loc c cc0_stg4_0 ↦{fullShare} ((I c).wo : Buf (Elt F) (loc c cc0_stg4_0))))

/-- What the body never touches: slot 0 of the gathered rows, and the first semaphore of each eight. -/
def Idle (c : Dev nD) : sProp 𝕄 := iprop((∃ f, loc c cc0_scratch7 ↦[(cutRow.r 0).set]{fullShare} f)
  ∗ bigSep Finset.univ fun x : Fin 4 × Fin 2 => semVal ((c : Thread nD τ), .dma (semIx x.1 x.2 0)) 0)

/-! ## The state -/

/-- How far the body has come: stores to and sends from the key and value send buffers (`km`, `vm`, `k`, `v`), times of the
    shares' and sums' sends (`r`, `a`), waits of each class (`wk` … `wa`), own slots stored (`ko`, `vo`, `ro`), the sum
    stored (`g`), blocks of the weights, of the weighted values, of the projected rows and of the result stored. -/
structure Pt where
  km : ℕ := 0
  k : ℕ := 0
  vm : ℕ := 0
  v : ℕ := 0
  r : ℕ := 0
  a : ℕ := 0
  wk : ℕ := 0
  wv : ℕ := 0
  wr : ℕ := 0
  wa : ℕ := 0
  ko : Bool := false
  vo : Bool := false
  ro : Bool := false
  g : Bool := false
  w : ℕ := 0
  cx : ℕ := 0
  ps : ℕ := 0
  o : ℕ := 0

/-- The device's memory, as far as no transfer holds it. -/
def Mem (c : Dev nD) (p : Pt) : sProp 𝕄 := iprop(KS I c p.km p.k ∗ VS I c p.vm p.v ∗ PS I c p.ps p.r ∗ GB I c p.g p.a
  ∗ OwnK I c p.ko ∗ OwnV I c p.vo ∗ OwnR I c p.ro ∗ WB I c p.w ∗ CB I c p.cx ∗ OB I c p.o ∗ Ins I c ∗ Idle c)

/-- The cells' invariants and first rounds, and the levels. -/
def ctx (K : Dev nD × CellIx → ℕ) : sProp 𝕄 := iprop(
  (bigSep Finset.univ fun p : Dev nD × CellIx => iprop(cellInv ER (Rd I) (K p) (kcell p) ∗ reached ER (kcell p) 0)) ∗ levAts L lv)

instance ctx_persistent (K : Dev nD × CellIx → ℕ) : BI.Persistent (ctx I K) := by unfold ctx; infer_instance

theorem inv_at (K : Dev nD × CellIx → ℕ) (p : Dev nD × CellIx) : ctx I K ⊢ cellInv ER (Rd I) (K p) (kcell p) := by
  unfold ctx
  iintro ⟨H, -⟩
  ihave H := (bigSep_at (fun p : Dev nD × CellIx => iprop(cellInv ER (Rd I) (K p) (kcell p) ∗ reached ER (kcell p) 0)) p) $$ H
  icases H with ⟨H, -⟩; iexact H
theorem reached_at (K : Dev nD × CellIx → ℕ) (p : Dev nD × CellIx) : ctx I K ⊢ reached ER (kcell p) 0 := by
  unfold ctx
  iintro ⟨H, -⟩
  ihave H := (bigSep_at (fun p : Dev nD × CellIx => iprop(cellInv ER (Rd I) (K p) (kcell p) ∗ reached ER (kcell p) 0)) p) $$ H
  icases H with ⟨-, H⟩; iexact H
theorem levs_at (K : Dev nD × CellIx → ℕ) : ctx I K ⊢ levAts L lv := by
  unfold ctx
  iintro ⟨-, H⟩; iexact H

/-- What is owed. -/
def owed (c : Dev nD) (p : Pt) : CellTallies nD τ sig Unit := owe 0 c p.k + owe 1 c p.v + owe 2 c p.r + owe 3 c p.a

def St (K : Dev nD × CellIx → ℕ) (c : Dev nD) (p : Pt) : sProp 𝕄 := iprop(ctx I K ∗ (∃ W, owes (c : Thread nD τ) (owed c p) W)
  ∗ (Cl I 0 c p.k p.wk ∗ Cl I 1 c p.v p.wv ∗ Cl I 2 c p.r p.wr ∗ Cl I 3 c p.a p.wa) ∗ semVal (barCell c) 0 ∗ Mem I c p)

end Cert.KernelIdeal.Attn

end
-- ==== Proof.Steps.lean ====
/- Single operations of the kernel's body, as steps between states: loads and stores. -/
module

public import proofs.«01_k».proof.Proof.State

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program that device `c` runs. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Core
variable {P P' : sProp (MT nD τ sig Unit (Elt F) ℕ UU ℕ)} {c : Dev nD} {α : Type} {Q : α → sProp (MT nD τ sig Unit (Elt F) ℕ UU ℕ)} {e : EltTy} {s : Shape}

theorem step_load {m : Memref sig .tc .vmem s e} {r : LoadRect s} {hl : m.view.LoadsAt r} {k : (r.shape.Idx → Elt F e) → Prog (TpuEff nD τ sig (Elt F) Λ₀ .tc) α}
    (v : r.shape.Idx → Elt F e) {S : Finset (Idx (m.view.loc (c : Thread nD τ)))} (hS : m.view.setOn r.set ⊆ S)
    (h : P ⊢ iprop(∃ f, ⌜m.view.readAt (Elt F) r f = v⌝ ∗ (m.view.loc (c : Thread nD τ) ↦[S]{fullShare} f) ∗ ((m.view.loc (c : Thread nD τ) ↦[S]{fullShare} f) -∗ P)))
    (hk : P ⊢ WP c (k v) Q) : P ⊢ WP c (.op (.load m r hl) k) Q := by
  refine h.trans ?_
  iintro ⟨%f, %hv, H, Hc⟩
  iapply (wp_load 𝒱₀ (c : Thread nD τ) none Set.univ (m := m) hS) $$ H
  iintro H
  rw [hv]
  iapply hk
  iapply Hc
  iexact H

theorem step_load_any {m : Memref sig .tc .vmem s e} {r : LoadRect s} {hl : m.view.LoadsAt r} {k : (r.shape.Idx → Elt F e) → Prog (TpuEff nD τ sig (Elt F) Λ₀ .tc) α}
    {S : Finset (Idx (m.view.loc (c : Thread nD τ)))} (hS : m.view.setOn r.set ⊆ S)
    (h : P ⊢ iprop(∃ f, (m.view.loc (c : Thread nD τ) ↦[S]{fullShare} f) ∗ ((m.view.loc (c : Thread nD τ) ↦[S]{fullShare} f) -∗ P)))
    (hk : ∀ v, P ⊢ WP c (k v) Q) : P ⊢ WP c (.op (.load m r hl) k) Q := by
  refine h.trans ?_
  iintro ⟨%f, H, Hc⟩
  iapply (wp_load 𝒱₀ (c : Thread nD τ) none Set.univ (m := m) hS) $$ H
  iintro H
  iapply (hk _)
  iapply Hc
  iexact H

theorem step_store {m : Memref sig .tc .vmem s e} {r : Rect s} {w : r.shape.Idx → Elt F e} {hx : (m.access r).Stores Finset.univ}
    {hm : (Finset.univ : Finset r.shape.Idx) = Finset.univ ∨ ∀ a, r.stride a = 1} {k : PUnit.{1} → Prog (TpuEff nD τ sig (Elt F) Λ₀ .tc) α}
    {S : Finset (Idx ((m.access r).loc (c : Thread nD τ)))} (hS : (m.access r).setOn Finset.univ ⊆ S)
    (h : P ⊢ iprop(∃ f : Buf (Elt F) ((m.access r).loc (c : Thread nD τ)), ((m.access r).loc (c : Thread nD τ) ↦[S]{fullShare} f)
      ∗ (((m.access r).loc (c : Thread nD τ) ↦[S]{fullShare} ((m.access r).write (Elt F) f w Finset.univ)) -∗ P')))
    (hk : P' ⊢ WP c (k ⟨⟩) Q) : P ⊢ WP c (.op (.store m r w Finset.univ hx hm) k) Q := by
  refine h.trans ?_
  iintro ⟨%f, H, Hc⟩
  iapply (wp_store 𝒱₀ (c : Thread nD τ) none Set.univ (m := m) (r := r) (Mk := Finset.univ) hS) $$ H
  iintro H
  iapply hk
  iapply Hc
  iexact H

end Core

variable (I : Dev nD → In F) (K : Dev nD × CellIx → ℕ)

/-! ## Taking one part out of the state -/

section Focus
variable (c : Dev nD) (p : Pt)

theorem focus_KS : St I K c p ⊢ iprop(KS I c p.km p.k ∗ (∀ m, KS I c m p.k -∗ St I K c { p with km := m })) := by
  unfold St Mem
  iintro ⟨H0, H1, H2, H3, H4, H5, H6, H7, H8, H9, H10, H11, H12, H13, H14, H15⟩
  isplitl [H4]; · iexact H4
  iintro %m H4
  iframe
  iexact H1
theorem focus_VS : St I K c p ⊢ iprop(VS I c p.vm p.v ∗ (∀ m, VS I c m p.v -∗ St I K c { p with vm := m })) := by
  unfold St Mem
  iintro ⟨H0, H1, H2, H3, H4, H5, H6, H7, H8, H9, H10, H11, H12, H13, H14, H15⟩
  isplitl [H5]; · iexact H5
  iintro %m H5
  iframe
  iexact H1
theorem focus_PS : St I K c p ⊢ iprop(PS I c p.ps p.r ∗ (∀ m, PS I c m p.r -∗ St I K c { p with ps := m })) := by
  unfold St Mem
  iintro ⟨H0, H1, H2, H3, H4, H5, H6, H7, H8, H9, H10, H11, H12, H13, H14, H15⟩
  isplitl [H6]; · iexact H6
  iintro %m H6
  iframe
  iexact H1
theorem focus_GB : St I K c p ⊢ iprop(GB I c p.g p.a ∗ (∀ m, GB I c m p.a -∗ St I K c { p with g := m })) := by
  unfold St Mem
  iintro ⟨H0, H1, H2, H3, H4, H5, H6, H7, H8, H9, H10, H11, H12, H13, H14, H15⟩
  isplitl [H7]; · iexact H7
  iintro %m H7
  iframe
  iexact H1
theorem focus_OwnK : St I K c p ⊢ iprop(OwnK I c p.ko ∗ (∀ m, OwnK I c m -∗ St I K c { p with ko := m })) := by
  unfold St Mem
  iintro ⟨H0, H1, H2, H3, H4, H5, H6, H7, H8, H9, H10, H11, H12, H13, H14, H15⟩
  isplitl [H8]; · iexact H8
  iintro %m H8
  iframe
  iexact H1
theorem focus_OwnV : St I K c p ⊢ iprop(OwnV I c p.vo ∗ (∀ m, OwnV I c m -∗ St I K c { p with vo := m })) := by
  unfold St Mem
  iintro ⟨H0, H1, H2, H3, H4, H5, H6, H7, H8, H9, H10, H11, H12, H13, H14, H15⟩
  isplitl [H9]; · iexact H9
  iintro %m H9
  iframe
  iexact H1
theorem focus_OwnR : St I K c p ⊢ iprop(OwnR I c p.ro ∗ (∀ m, OwnR I c m -∗ St I K c { p with ro := m })) := by
  unfold St Mem
  iintro ⟨H0, H1, H2, H3, H4, H5, H6, H7, H8, H9, H10, H11, H12, H13, H14, H15⟩
  isplitl [H10]; · iexact H10
  iintro %m H10
  iframe
  iexact H1
theorem focus_WB : St I K c p ⊢ iprop(WB I c p.w ∗ (∀ m, WB I c m -∗ St I K c { p with w := m })) := by
  unfold St Mem
  iintro ⟨H0, H1, H2, H3, H4, H5, H6, H7, H8, H9, H10, H11, H12, H13, H14, H15⟩
  isplitl [H11]; · iexact H11
  iintro %m H11
  iframe
  iexact H1
theorem focus_CB : St I K c p ⊢ iprop(CB I c p.cx ∗ (∀ m, CB I c m -∗ St I K c { p with cx := m })) := by
  unfold St Mem
  iintro ⟨H0, H1, H2, H3, H4, H5, H6, H7, H8, H9, H10, H11, H12, H13, H14, H15⟩
  isplitl [H12]; · iexact H12
  iintro %m H12
  iframe
  iexact H1
theorem focus_OB : St I K c p ⊢ iprop(OB I c p.o ∗ (∀ m, OB I c m -∗ St I K c { p with o := m })) := by
  unfold St Mem
  iintro ⟨H0, H1, H2, H3, H4, H5, H6, H7, H8, H9, H10, H11, H12, H13, H14, H15⟩
  isplitl [H13]; · iexact H13
  iintro %m H13
  iframe
  iexact H1
theorem focus_Ins : St I K c p ⊢ iprop(Ins I c ∗ (Ins I c -∗ St I K c p)) := by
  unfold St Mem
  iintro ⟨H0, H1, H2, H3, H4, H5, H6, H7, H8, H9, H10, H11, H12, H13, H14, H15⟩
  isplitl [H14]; · iexact H14
  iintro H14
  iframe

end Focus

/-! ## Pieces and whole buffers -/

/-- What a rectangle of a whole buffer reads. -/
theorem read_rect (b : Ref sig .tc) (r : Rect b.ty.shape) (f : b.ty.Contents (Elt F)) :
    ((Memref.whole b).access r : View sig .tc _ _ _).read (Elt F) f = fun y => f (r.emb y) := rfl

theorem set_rect (b : Ref sig .tc) (r : Rect b.ty.shape) : ((Memref.whole b).access r : View sig .tc _ _ _).setOn Finset.univ = r.set := by
  rw [View.setOn_univ]; exact View.set_slice_whole b r

/-- A piece stored whole holds what was stored. -/
theorem piece_store (c : Dev nD) (b : Ref sig .tc) (r : Rect b.ty.shape) (f G : Buf (Elt F) (loc c b)) (w : r.shape.Idx → Elt F b.ty.elt) (h : (fun y => G (r.emb y)) = w) :
    (loc c b ↦[r.set]{fullShare} (((Memref.whole b).access r : View sig .tc _ _ _).write (Elt F) f w Finset.univ) : sProp 𝕄) ⊢ loc c b ↦[r.set]{fullShare} G := by
  refine Entails.of_eq (pointsTo_congr fun i hi => ?_)
  refine write_on ((Memref.whole b).access r : View sig .tc _ _ _) f G w h i ?_
  rwa [show ((Memref.whole b).access r : View sig .tc _ _ _).set = r.set from View.set_slice_whole b r]

/-- A rectangle of a buffer held whole. -/
theorem held_store (c : Dev nD) (b : Ref sig .tc) (r : Rect b.ty.shape) (G : Buf (Elt F) (loc c b)) (w : r.shape.Idx → Elt F b.ty.elt) (P P' : Idx (loc c b) → Prop)
    (h : (fun y => G (r.emb y)) = w) (hP : ∀ i, P' i → i ∈ r.set ∨ P i) :
    Held c b G P ⊢ iprop(∃ f, (loc c b ↦{fullShare} f)
      ∗ ((loc c b ↦{fullShare} (((Memref.whole b).access r : View sig .tc _ _ _).write (Elt F) f w Finset.univ)) -∗ Held c b G P')) := by
  unfold Held
  iintro ⟨%f, %hf, H⟩
  iexists f
  isplitl [H]; · iexact H
  iintro H
  iexists _
  isplitr
  · ipureintro
    intro i hi
    by_cases hm : i ∈ r.set
    · exact write_on ((Memref.whole b).access r : View sig .tc _ _ _) f G w h i (by
        rwa [show ((Memref.whole b).access r : View sig .tc _ _ _).set = r.set from View.set_slice_whole b r])
    · refine (View.write_of_not_mem (Val := Elt F) (v := ((Memref.whole b).access r : View sig .tc _ _ _)) f w Finset.univ (by rwa [set_rect])).trans ?_
      exact hf i ((hP i hi).resolve_left hm)
  · iexact H

theorem held_read (c : Dev nD) (b : Ref sig .tc) (r : Rect b.ty.shape) (G : Buf (Elt F) (loc c b)) (P : Idx (loc c b) → Prop) (hP : ∀ i ∈ r.set, P i) :
    Held c b G P ⊢ iprop(∃ f, ⌜(Memref.whole b : Memref sig .tc _ _ _).view.readAt (Elt F) r.toLoadRect f = fun y => G (r.emb y)⌝
      ∗ (loc c b ↦{fullShare} f) ∗ ((loc c b ↦{fullShare} f) -∗ Held c b G P)) := by
  unfold Held
  iintro ⟨%f, %hf, H⟩
  iexists f
  isplitr
  · ipureintro
    funext y
    exact hf _ (hP _ (by rw [← Rect.map_emb_univ]; exact Finset.mem_map_of_mem _ (Finset.mem_univ y)))
  isplitl [H]; · iexact H
  iintro H
  iexists f
  isplitr
  · ipureintro; exact hf
  · iexact H

theorem held_any (c : Dev nD) (b : Ref sig .tc) (G : Buf (Elt F) (loc c b)) (P : Idx (loc c b) → Prop) :
    Held c b G P ⊢ iprop(∃ f, (loc c b ↦{fullShare} f) ∗ ((loc c b ↦{fullShare} f) -∗ Held c b G P)) := by
  unfold Held
  iintro ⟨%f, %hf, H⟩
  iexists f
  isplitl [H]; · iexact H
  iintro H
  iexists f
  isplitr
  · ipureintro; exact hf
  · iexact H

end Cert.KernelIdeal.Attn

end
-- ==== Proof.Access.lean ====
/- The loads and stores of the kernel's body, each as a step between states. -/
module

public import proofs.«01_k».proof.Proof.Steps
public import Idealize.ShloMosaic.Lib.Ring

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S2x256x512 .f32 := Memref.whole cc0_stg0_0
abbrev wqM : Memref sig .tc .vmem S512x256 .f32 := Memref.whole cc0_stg1_0
abbrev kM : Memref sig .tc .vmem S2x256x32x64 .f32 := Memref.whole cc0_stg2_0
abbrev vM : Memref sig .tc .vmem S2x256x32x64 .f32 := Memref.whole cc0_stg3_0
abbrev woM : Memref sig .tc .vmem S256x512 .f32 := Memref.whole cc0_stg4_0
abbrev oM : Memref sig .tc .vmem S2x256x512 .f32 := Memref.whole cc0_stg5_0

variable (I : Dev nD → In F) (K : Dev nD × CellIx → ℕ) (c : Dev nD)
variable {α : Type} {Q : α → sProp (MT nD τ sig Unit (Elt F) ℕ UU ℕ)} {p : Pt}

/-- A rectangle of a whole buffer, as a load sees it. -/
theorem set_load (b : Ref sig .tc) (r : Rect b.ty.shape) : (Memref.whole b : Memref sig .tc _ _ _).view.setOn r.toLoadRect.set ⊆ r.set := by
  intro i hi
  obtain ⟨y, hy, rfl⟩ := Finset.mem_map.1 hi
  exact hy

/-! ## Inputs -/

section Inputs

theorem load_x {hz : ∀ a, (![0, 0, 0] : Fin 3 → ℕ) a + S2x256x512.size a ≤ S2x256x512.size a} {hl} {k : Vec F S2x256x512 .f32 → Prog (TpuEff nD τ sig (Elt F) Λ₀ .tc) α}
    (hk : St I K c p ⊢ WP c (k (I c).x) Q) : St I K c p ⊢ WP c (.op (.load xM (Rect.unit (s := S2x256x512) ![0, 0, 0] S2x256x512.size hz).toLoadRect hl) k) Q := by
  refine step_load (m := xM) (I c).x (S := Finset.univ) (Finset.subset_univ _) ?_ hk
  refine (focus_Ins I K c p).trans ?_
  unfold Ins
  iintro ⟨⟨H, Hr⟩, Hc⟩
  iexists ((I c).x : Buf (Elt F) (loc c cc0_stg0_0))
  isplitr
  · ipureintro; exact Memref.readAt_unit_zero (Elt F) cc0_stg0_0 (by decide) hz _
  isplitl [H]; · iexact H
  iintro H
  iapply Hc
  isplitl [H] <;> iassumption

theorem load_wq {hz : ∀ a, (![0, 0] : Fin 2 → ℕ) a + S512x256.size a ≤ S512x256.size a} {hl} {k : Vec F S512x256 .f32 → Prog (TpuEff nD τ sig (Elt F) Λ₀ .tc) α}
    (hk : St I K c p ⊢ WP c (k (I c).wq) Q) : St I K c p ⊢ WP c (.op (.load wqM (Rect.unit (s := S512x256) ![0, 0] S512x256.size hz).toLoadRect hl) k) Q := by
  refine step_load (m := wqM) (I c).wq (S := Finset.univ) (Finset.subset_univ _) ?_ hk
  refine (focus_Ins I K c p).trans ?_
  unfold Ins
  iintro ⟨⟨H0, H, Hr⟩, Hc⟩
  iexists ((I c).wq : Buf (Elt F) (loc c cc0_stg1_0))
  isplitr
  · ipureintro; exact Memref.readAt_unit_zero (Elt F) cc0_stg1_0 (by decide) hz _
  isplitl [H]; · iexact H
  iintro H
  iapply Hc
  isplitl [H0]; · iexact H0
  isplitl [H] <;> iassumption

theorem load_wo {hz : ∀ a, (![0, 0] : Fin 2 → ℕ) a + S256x512.size a ≤ S256x512.size a} {hl} {k : Vec F S256x512 .f32 → Prog (TpuEff nD τ sig (Elt F) Λ₀ .tc) α}
    (hk : St I K c p ⊢ WP c (k (I c).wo) Q) : St I K c p ⊢ WP c (.op (.load woM (Rect.unit (s := S256x512) ![0, 0] S256x512.size hz).toLoadRect hl) k) Q := by
  refine step_load (m := woM) (I c).wo (S := Finset.univ) (Finset.subset_univ _) ?_ hk
  refine (focus_Ins I K c p).trans ?_
  unfold Ins
  iintro ⟨⟨H0, H1, H2, H3, H⟩, Hc⟩
  iexists ((I c).wo : Buf (Elt F) (loc c cc0_stg4_0))
  isplitr
  · ipureintro; exact Memref.readAt_unit_zero (Elt F) cc0_stg4_0 (by decide) hz _
  isplitl [H]; · iexact H
  iintro H
  iapply Hc
  iframe

theorem load_k (t : Dev nD) {off : Fin 4 → ℕ} {hin} {hl} {k : Vec F S2x256x4x64 .f32 → Prog (TpuEff nD τ sig (Elt F) Λ₀ .tc) α} (ho : off = ![0, 0, 4 * t.val, 0] := by first | rfl | (clear * -; revert c; decide +kernel))
    (hk : St I K c p ⊢ WP c (k (rd (headRect t) (I c).k)) Q) :
    St I K c p ⊢ WP c (.op (.load kM (Rect.unit (s := S2x256x32x64) off S2x256x4x64.size hin).toLoadRect hl) k) Q := by
  subst ho
  refine step_load (m := kM) (rd (headRect t) (I c).k) (S := Finset.univ) (Finset.subset_univ _) ?_ hk
  refine (focus_Ins I K c p).trans ?_
  unfold Ins
  iintro ⟨⟨H0, H1, H, Hr⟩, Hc⟩
  iexists ((I c).k : Buf (Elt F) (loc c cc0_stg2_0))
  isplitr
  · ipureintro; rfl
  isplitl [H]; · iexact H
  iintro H
  iapply Hc
  iframe

theorem load_v (t : Dev nD) {off : Fin 4 → ℕ} {hin} {hl} {k : Vec F S2x256x4x64 .f32 → Prog (TpuEff nD τ sig (Elt F) Λ₀ .tc) α} (ho : off = ![0, 0, 4 * t.val, 0] := by first | rfl | (clear * -; revert c; decide +kernel))
    (hk : St I K c p ⊢ WP c (k (rd (headRect t) (I c).v)) Q) :
    St I K c p ⊢ WP c (.op (.load vM (Rect.unit (s := S2x256x32x64) off S2x256x4x64.size hin).toLoadRect hl) k) Q := by
  subst ho
  refine step_load (m := vM) (rd (headRect t) (I c).v) (S := Finset.univ) (Finset.subset_univ _) ?_ hk
  refine (focus_Ins I K c p).trans ?_
  unfold Ins
  iintro ⟨⟨H0, H1, H2, H, Hr⟩, Hc⟩
  iexists ((I c).v : Buf (Elt F) (loc c cc0_stg3_0))
  isplitr
  · ipureintro; rfl
  isplitl [H]; · iexact H
  iintro H
  iapply Hc
  iframe

end Inputs

/-! ## The send buffers of keys and values -/

section Send
variable {c} {j : Fin 7}

theorem peek_kq (hm : p.km = j.val := by first | rfl | decide) (hn : p.k ≤ j.val := by first | rfl | decide) {off : Fin 4 → ℕ} {hin} {hl} {k : Vec F S4x2x256x64 .fp8e4m3 → Prog (TpuEff nD τ sig (Elt F) Λ₀ .tc) α}
    (ho : off = ![4 * (tgt c j).val, 0, 0, 0] := by first | rfl | (clear * -; revert c; decide +kernel)) (hk : ∀ v, St I K c p ⊢ WP c (k v) Q) :
    St I K c p ⊢ WP c (.op (.load kqM (Rect.unit (s := S32x2x256x64) off S4x2x256x64.size hin).toLoadRect hl) k) Q := by
  subst ho
  refine step_load_any (m := kqM) (S := (cutSrc.r (tgt c j)).set) (set_load cc0_scratch0 (cutSrc.r (tgt c j))) ?_ hk
  refine (focus_KS I K c p).trans ?_
  unfold KS
  iintro ⟨H, Hc⟩
  ihave H := (Tiles_read _ _ c j _ _ hm hn) $$ H
  icases H with ⟨⟨%f, H⟩, Hd⟩
  iexists f
  isplitl [H]; · iexact H
  iintro H
  iapply Hc $$ %p.km
  iapply Hd
  iexists f; iexact H

theorem put_kq (hm : p.km = j.val := by first | rfl | decide) (hn : p.k ≤ j.val := by first | rfl | decide) {off : Fin 4 → ℕ} {hin} {w : FVec F S4x2x256x64 .fp8e4m3} {hx hm'} {k : PUnit.{1} → Prog (TpuEff nD τ sig (Elt F) Λ₀ .tc) α}
    (ho : off = ![4 * (tgt c j).val, 0, 0, 0] := by first | rfl | (clear * -; revert c; decide +kernel)) (hw : w = blkK (I c) (tgt c j) := by rfl) (hk : St I K c { p with km := j.val + 1 } ⊢ WP c (k ⟨⟩) Q) :
    St I K c p ⊢ WP c (.op (.store kqM (Rect.unit (s := S32x2x256x64) off S4x2x256x64.size hin) w Finset.univ hx hm') k) Q := by
  subst ho
  refine step_store (m := kqM) (S := (cutSrc.r (tgt c j)).set) (set_rect cc0_scratch0 (cutSrc.r (tgt c j))).le ?_ hk
  refine (focus_KS I K c p).trans ?_
  unfold KS
  iintro ⟨H, Hc⟩
  ihave H := (Tiles_store _ _ c j _ _ hm hn) $$ H
  icases H with ⟨⟨%f, H⟩, Hd⟩
  iexists f
  isplitl [H]; · iexact H
  iintro H
  iapply Hc $$ %(j.val + 1)
  rw [show j.val + 1 = p.km + 1 by rw [hm]]
  iapply Hd
  iapply (piece_store c cc0_scratch0 (cutSrc.r (tgt c j)) f (ksrcG (I c)) w (hw ▸ funext fun y => cutSrc.glue_emb _ _ y))
  iexact H

theorem peek_vq (hm : p.vm = j.val := by first | rfl | decide) (hn : p.v ≤ j.val := by first | rfl | decide) {off : Fin 4 → ℕ} {hin} {hl} {k : Vec F S4x2x256x64 .bf16 → Prog (TpuEff nD τ sig (Elt F) Λ₀ .tc) α}
    (ho : off = ![4 * (tgt c j).val, 0, 0, 0] := by first | rfl | (clear * -; revert c; decide +kernel)) (hk : ∀ v, St I K c p ⊢ WP c (k v) Q) :
    St I K c p ⊢ WP c (.op (.load vqM (Rect.unit (s := S32x2x256x64) off S4x2x256x64.size hin).toLoadRect hl) k) Q := by
  subst ho
  refine step_load_any (m := vqM) (S := (cutSrc.r (tgt c j)).set) (set_load cc0_scratch1 (cutSrc.r (tgt c j))) ?_ hk
  refine (focus_VS I K c p).trans ?_
  unfold VS
  iintro ⟨H, Hc⟩
  ihave H := (Tiles_read _ _ c j _ _ hm hn) $$ H
  icases H with ⟨⟨%f, H⟩, Hd⟩
  iexists f
  isplitl [H]; · iexact H
  iintro H
  iapply Hc $$ %p.vm
  iapply Hd
  iexists f; iexact H

theorem put_vq (hm : p.vm = j.val := by first | rfl | decide) (hn : p.v ≤ j.val := by first | rfl | decide) {off : Fin 4 → ℕ} {hin} {w : FVec F S4x2x256x64 .bf16} {hx hm'} {k : PUnit.{1} → Prog (TpuEff nD τ sig (Elt F) Λ₀ .tc) α}
    (ho : off = ![4 * (tgt c j).val, 0, 0, 0] := by first | rfl | (clear * -; revert c; decide +kernel)) (hw : w = blkV (I c) (tgt c j) := by rfl) (hk : St I K c { p with vm := j.val + 1 } ⊢ WP c (k ⟨⟩) Q) :
    St I K c p ⊢ WP c (.op (.store vqM (Rect.unit (s := S32x2x256x64) off S4x2x256x64.size hin) w Finset.univ hx hm') k) Q := by
  subst ho
  refine step_store (m := vqM) (S := (cutSrc.r (tgt c j)).set) (set_rect cc0_scratch1 (cutSrc.r (tgt c j))).le ?_ hk
  refine (focus_VS I K c p).trans ?_
  unfold VS
  iintro ⟨H, Hc⟩
  ihave H := (Tiles_store _ _ c j _ _ hm hn) $$ H
  icases H with ⟨⟨%f, H⟩, Hd⟩
  iexists f
  isplitl [H]; · iexact H
  iintro H
  iapply Hc $$ %(j.val + 1)
  rw [show j.val + 1 = p.vm + 1 by rw [hm]]
  iapply Hd
  iapply (piece_store c cc0_scratch1 (cutSrc.r (tgt c j)) f (vsrcG (I c)) w (hw ▸ funext fun y => cutSrc.glue_emb _ _ y))
  iexact H

end Send

/-! ## The device's own slots -/

section Own

theorem own_any {b : Bool} {ℓ : Loc nD τ sig} {S : Finset (Idx ℓ)} {G : Buf (Elt F) ℓ} :
    (if b then ℓ ↦[S]{fullShare} G else iprop(∃ f, ℓ ↦[S]{fullShare} f) : sProp (MT nD τ sig Unit (Elt F) ℕ UU ℕ)) ⊢ iprop(∃ f, (ℓ ↦[S]{fullShare} f)
      ∗ ((ℓ ↦[S]{fullShare} f) -∗ (if b then ℓ ↦[S]{fullShare} G else iprop(∃ f, ℓ ↦[S]{fullShare} f)))) := by
  cases b with
  | true =>
    rw [if_pos rfl]
    iintro H
    iexists G
    isplitl [H]; · iexact H
    iintro H; iexact H
  | false =>
    rw [if_neg Bool.false_ne_true]
    iintro ⟨%f, H⟩
    iexists f
    isplitl [H]; · iexact H
    iintro H; iexists f; iexact H

theorem peek_kb {hin} {hl} {k : Vec F S1x4x2x256x64 .fp8e4m3 → Prog (TpuEff nD τ sig (Elt F) Λ₀ .tc) α} (hk : ∀ v, St I K c p ⊢ WP c (k v) Q) :
    St I K c p ⊢ WP c (.op (.load kbM (Rect.unit (s := S8x4x2x256x64) ![(0 : Fin 8).val, 0, 0, 0, 0] S1x4x2x256x64.size hin).toLoadRect hl) k) Q := by
  refine step_load_any (m := kbM) (S := (cutSlot.r 0).set) (set_load cc0_scratch2 (cutSlot.r 0)) ?_ hk
  refine (focus_OwnK I K c p).trans ?_
  unfold OwnK
  iintro ⟨H, Hc⟩
  ihave H := own_any $$ H
  icases H with ⟨%f, H, Hd⟩
  iexists f
  isplitl [H]; · iexact H
  iintro H
  iapply Hc $$ %p.ko
  iapply Hd; iexact H

theorem peek_vb {hin} {hl} {k : Vec F S1x4x2x256x64 .bf16 → Prog (TpuEff nD τ sig (Elt F) Λ₀ .tc) α} (hk : ∀ v, St I K c p ⊢ WP c (k v) Q) :
    St I K c p ⊢ WP c (.op (.load vbM (Rect.unit (s := S8x4x2x256x64) ![(0 : Fin 8).val, 0, 0, 0, 0] S1x4x2x256x64.size hin).toLoadRect hl) k) Q := by
  refine step_load_any (m := vbM) (S := (cutSlot.r 0).set) (set_load cc0_scratch3 (cutSlot.r 0)) ?_ hk
  refine (focus_OwnV I K c p).trans ?_
  unfold OwnV
  iintro ⟨H, Hc⟩
  ihave H := own_any $$ H
  icases H with ⟨%f, H, Hd⟩
  iexists f
  isplitl [H]; · iexact H
  iintro H
  iapply Hc $$ %p.vo
  iapply Hd; iexact H

theorem peek_rb {hin} {hl} {k : Vec F S1x2x32x512 .bf16 → Prog (TpuEff nD τ sig (Elt F) Λ₀ .tc) α} (hk : ∀ v, St I K c p ⊢ WP c (k v) Q) :
    St I K c p ⊢ WP c (.op (.load rbM (Rect.unit (s := S8x2x32x512) ![(0 : Fin 8).val, 0, 0, 0] S1x2x32x512.size hin).toLoadRect hl) k) Q := by
  refine step_load_any (m := rbM) (S := (cutRow.r 0).set) (set_load cc0_scratch5 (cutRow.r 0)) ?_ hk
  refine (focus_OwnR I K c p).trans ?_
  unfold OwnR
  iintro ⟨H, Hc⟩
  ihave H := own_any $$ H
  icases H with ⟨%f, H, Hd⟩
  iexists f
  isplitl [H]; · iexact H
  iintro H
  iapply Hc $$ %p.ro
  iapply Hd; iexact H

theorem put_kb {hin} {w : FVec F S1x4x2x256x64 .fp8e4m3} {hx hm'} {k : PUnit.{1} → Prog (TpuEff nD τ sig (Elt F) Λ₀ .tc) α}
    (hw : w = shapeCast S1x4x2x256x64 (blkK (I c) c) shapeCasts_S4x2x256x64_S1x4x2x256x64) (hk : St I K c { p with ko := true } ⊢ WP c (k ⟨⟩) Q) :
    St I K c p ⊢ WP c (.op (.store kbM (Rect.unit (s := S8x4x2x256x64) ![(0 : Fin 8).val, 0, 0, 0, 0] S1x4x2x256x64.size hin) w Finset.univ hx hm') k) Q := by
  refine step_store (m := kbM) (S := (cutSlot.r 0).set) (set_rect cc0_scratch2 (cutSlot.r 0)).le ?_ hk
  refine (focus_OwnK I K c p).trans ?_
  iintro ⟨H, Hc⟩
  ihave H := (Entails.of_eq (show OwnK I c p.ko = (if p.ko then _ else _) from rfl) |>.trans own_any) $$ H
  icases H with ⟨%f, H, -⟩
  iexists f
  isplitl [H]; · iexact H
  iintro H
  iapply Hc $$ %true
  unfold OwnK
  rw [if_pos rfl]
  iapply (piece_store c cc0_scratch2 (cutSlot.r 0) f (kbufG I c) w (by
    refine (funext fun y => cutSlot.glue_emb _ 0 y).trans ?_
    rw [src_zero]; exact hw.symm))
  iexact H

theorem put_vb {hin} {w : FVec F S1x4x2x256x64 .bf16} {hx hm'} {k : PUnit.{1} → Prog (TpuEff nD τ sig (Elt F) Λ₀ .tc) α}
    (hw : w = shapeCast S1x4x2x256x64 (blkV (I c) c) shapeCasts_S4x2x256x64_S1x4x2x256x64) (hk : St I K c { p with vo := true } ⊢ WP c (k ⟨⟩) Q) :
    St I K c p ⊢ WP c (.op (.store vbM (Rect.unit (s := S8x4x2x256x64) ![(0 : Fin 8).val, 0, 0, 0, 0] S1x4x2x256x64.size hin) w Finset.univ hx hm') k) Q := by
  refine step_store (m := vbM) (S := (cutSlot.r 0).set) (set_rect cc0_scratch3 (cutSlot.r 0)).le ?_ hk
  refine (focus_OwnV I K c p).trans ?_
  iintro ⟨H, Hc⟩
  ihave H := (Entails.of_eq (show OwnV I c p.vo = (if p.vo then _ else _) from rfl) |>.trans own_any) $$ H
  icases H with ⟨%f, H, -⟩
  iexists f
  isplitl [H]; · iexact H
  iintro H
  iapply Hc $$ %true
  unfold OwnV
  rw [if_pos rfl]
  iapply (piece_store c cc0_scratch3 (cutSlot.r 0) f (vbufG I c) w (by
    refine (funext fun y => cutSlot.glue_emb _ 0 y).trans ?_
    rw [src_zero]; exact hw.symm))
  iexact H

theorem put_rb {hin} {w : FVec F S1x2x32x512 .bf16} {hx hm'} {k : PUnit.{1} → Prog (TpuEff nD τ sig (Elt F) Λ₀ .tc) α}
    (hw : w = k0_pay117 (rd (cutDev.r c) (psrcG I c)) := by rfl) (hk : St I K c { p with ro := true } ⊢ WP c (k ⟨⟩) Q) :
    St I K c p ⊢ WP c (.op (.store rbM (Rect.unit (s := S8x2x32x512) ![(0 : Fin 8).val, 0, 0, 0] S1x2x32x512.size hin) w Finset.univ hx hm') k) Q := by
  refine step_store (m := rbM) (S := (cutRow.r 0).set) (set_rect cc0_scratch5 (cutRow.r 0)).le ?_ hk
  refine (focus_OwnR I K c p).trans ?_
  iintro ⟨H, Hc⟩
  ihave H := (Entails.of_eq (show OwnR I c p.ro = (if p.ro then _ else _) from rfl) |>.trans own_any) $$ H
  icases H with ⟨%f, H, -⟩
  iexists f
  isplitl [H]; · iexact H
  iintro H
  iapply Hc $$ %true
  unfold OwnR
  rw [if_pos rfl]
  iapply (piece_store c cc0_scratch5 (cutRow.r 0) f (rbufG I c) w (by
    refine (funext fun y => cutRow.glue_emb _ 0 y).trans ?_
    rw [src_zero]; exact hw.symm))
  iexact H

end Own

/-! ## The weights, the weighted values, the result -/

section Tables
variable {c}

theorem peek_wb {r : LoadRect S2x4x4x64x512} {hl} {k : _ → Prog (TpuEff nD τ sig (Elt F) Λ₀ .tc) α} (hk : ∀ v, St I K c p ⊢ WP c (k v) Q) :
    St I K c p ⊢ WP c (.op (.load wbM r hl) k) Q := by
  refine step_load_any (m := wbM) (S := Finset.univ) (Finset.subset_univ _) ?_ hk
  refine (focus_WB I K c p).trans ?_
  unfold WB
  iintro ⟨H, Hc⟩
  ihave H := (held_any c _ _ _) $$ H
  icases H with ⟨%f, H, Hd⟩
  iexists f
  isplitl [H]; · iexact H
  iintro H
  iapply Hc $$ %p.w
  iapply Hd; iexact H

theorem peek_cx {r : LoadRect S2x256x4x64} {hl} {k : _ → Prog (TpuEff nD τ sig (Elt F) Λ₀ .tc) α} (hk : ∀ v, St I K c p ⊢ WP c (k v) Q) :
    St I K c p ⊢ WP c (.op (.load cxM r hl) k) Q := by
  refine step_load_any (m := cxM) (S := Finset.univ) (Finset.subset_univ _) ?_ hk
  refine (focus_CB I K c p).trans ?_
  unfold CB
  iintro ⟨H, Hc⟩
  ihave H := (held_any c _ _ _) $$ H
  icases H with ⟨%f, H, Hd⟩
  iexists f
  isplitl [H]; · iexact H
  iintro H
  iapply Hc $$ %p.cx
  iapply Hd; iexact H

theorem peek_o {r : LoadRect S2x256x512} {hl} {k : _ → Prog (TpuEff nD τ sig (Elt F) Λ₀ .tc) α} (hk : ∀ v, St I K c p ⊢ WP c (k v) Q) :
    St I K c p ⊢ WP c (.op (.load oM r hl) k) Q := by
  refine step_load_any (m := oM) (S := Finset.univ) (Finset.subset_univ _) ?_ hk
  refine (focus_OB I K c p).trans ?_
  unfold OB
  iintro ⟨H, Hc⟩
  ihave H := (held_any c _ _ _) $$ H
  icases H with ⟨%f, H, Hd⟩
  iexists f
  isplitl [H]; · iexact H
  iintro H
  iapply Hc $$ %p.o
  iapply Hd; iexact H

theorem put_wb (t : BHQ) (hn : p.w = ordW t := by first | rfl | decide) {off : Fin 5 → ℕ} {hin} {w : FVec F S1x1x1x64x512 .bf16} {hx hm'} {k : PUnit.{1} → Prog (TpuEff nD τ sig (Elt F) Λ₀ .tc) α}
    (ho : off = ![t.1.val, t.2.1.val, t.2.2.val, 0, 0] := by first | rfl | (clear * -; revert c; decide +kernel)) (hw : w = wblk (qG (I c)) (kgG I c) t := by rfl) (hk : St I K c { p with w := ordW t + 1 } ⊢ WP c (k ⟨⟩) Q) :
    St I K c p ⊢ WP c (.op (.store wbM (Rect.unit (s := S2x4x4x64x512) off S1x1x1x64x512.size hin) w Finset.univ hx hm') k) Q := by
  subst ho
  refine step_store (m := wbM) (S := Finset.univ) (Finset.subset_univ _) ?_ hk
  refine (focus_WB I K c p).trans ?_
  unfold WB
  iintro ⟨H, Hc⟩
  ihave H := (held_store c cc0_scratch9 (cutW.r t) (wbufG I c) w _ (fun i => ordW (cutW.key i) < ordW t + 1) (hw ▸ funext fun y => cutW.glue_emb _ _ y) (fun i hi => by
    by_cases e : cutW.key i = t
    · exact .inl ((cutW.mem i t).2 e)
    · refine .inr ?_
      have : ordW (cutW.key i) ≠ ordW t := fun h => e (ordW_inj _ _ h)
      omega)) $$ H
  icases H with ⟨%f, H, Hd⟩
  iexists f
  isplitl [H]; · iexact H
  iintro H
  iapply Hc $$ %(ordW t + 1)
  iapply Hd; iexact H

theorem put_cx (t : BHQ) (hn : p.cx = ordC t := by first | rfl | decide) {off : Fin 4 → ℕ} {hin} {w : FVec F S1x64x1x64 .f32} {hx hm'} {k : PUnit.{1} → Prog (TpuEff nD τ sig (Elt F) Λ₀ .tc) α}
    (ho : off = ![t.1.val, 64 * t.2.2.val, t.2.1.val, 0] := by first | rfl | (clear * -; revert c; decide +kernel)) (hw : w = cblk (vbufG I c) (wblk (qG (I c)) (kgG I c) t) t := by rfl)
    (hk : St I K c { p with cx := ordC t + 1 } ⊢ WP c (k ⟨⟩) Q) :
    St I K c p ⊢ WP c (.op (.store cxM (Rect.unit (s := S2x256x4x64) off S1x64x1x64.size hin) w Finset.univ hx hm') k) Q := by
  subst ho
  refine step_store (m := cxM) (S := Finset.univ) (Finset.subset_univ _) ?_ hk
  refine (focus_CB I K c p).trans ?_
  unfold CB
  iintro ⟨H, Hc⟩
  ihave H := (held_store c cc0_scratch8 (cutC.r t) (ctxG I c) w _ (fun i => ordC (cutC.key i) < ordC t + 1) (hw ▸ funext fun y => cutC.glue_emb _ _ y) (fun i hi => by
    by_cases e : cutC.key i = t
    · exact .inl ((cutC.mem i t).2 e)
    · refine .inr ?_
      have : ordC (cutC.key i) ≠ ordC t := fun h => e (ordC_inj _ _ h)
      omega)) $$ H
  icases H with ⟨%f, H, Hd⟩
  iexists f
  isplitl [H]; · iexact H
  iintro H
  iapply Hc $$ %(ordC t + 1)
  iapply Hd; iexact H

theorem put_o (t : Dev nD) (hn : p.o = ordO c t := by first | rfl | decide) {off : Fin 3 → ℕ} {hin} {w : FVec F S2x32x512 .f32} {hx hm'} {k : PUnit.{1} → Prog (TpuEff nD τ sig (Elt F) Λ₀ .tc) α}
    (ho : off = ![0, 32 * t.val, 0] := by first | rfl | (clear * -; revert c; decide +kernel)) (hw : w = if t = c then k0_pay118 (rbufG I c) else k0_pay121 (k0_pay117 (gbufG I t)))
    (hk : St I K c { p with o := ordO c t + 1 } ⊢ WP c (k ⟨⟩) Q) :
    St I K c p ⊢ WP c (.op (.store oM (Rect.unit (s := S2x256x512) off S2x32x512.size hin) w Finset.univ hx hm') k) Q := by
  subst ho
  refine step_store (m := oM) (S := Finset.univ) (Finset.subset_univ _) ?_ hk
  refine (focus_OB I K c p).trans ?_
  unfold OB
  iintro ⟨H, Hc⟩
  ihave H := (held_store c cc0_stg5_0 (cutDev.r t) (outG I c) w _ (fun i => ordO c (cutDev.key i) < ordO c t + 1) (hw ▸ funext fun y => cutDev.glue_emb _ _ y) (fun i hi => by
    by_cases e : cutDev.key i = t
    · exact .inl ((cutDev.mem i t).2 e)
    · refine .inr ?_
      have : ordO c (cutDev.key i) ≠ ordO c t := fun h => e (ordO_inj _ _ _ h)
      omega)) $$ H
  icases H with ⟨%f, H, Hd⟩
  iexists f
  isplitl [H]; · iexact H
  iintro H
  iapply Hc $$ %(ordO c t + 1)
  iapply Hd; iexact H

theorem ordW_lt (t : BHQ) : ordW t < 32 := by revert t; decide +kernel

/-- All weights are stored: a block of them. -/
theorem get_wb (t : BHQ) (hn : p.w = 32 := by first | rfl | decide) {off : Fin 5 → ℕ} {hin} {hl} {k : Vec F S1x1x1x64x512 .bf16 → Prog (TpuEff nD τ sig (Elt F) Λ₀ .tc) α}
    (ho : off = ![t.1.val, t.2.1.val, t.2.2.val, 0, 0] := by first | rfl | (clear * -; revert c; decide +kernel)) (hk : St I K c p ⊢ WP c (k (wblk (qG (I c)) (kgG I c) t)) Q) :
    St I K c p ⊢ WP c (.op (.load wbM (Rect.unit (s := S2x4x4x64x512) off S1x1x1x64x512.size hin).toLoadRect hl) k) Q := by
  subst ho
  refine step_load (m := wbM) (wblk (qG (I c)) (kgG I c) t) (S := Finset.univ) (Finset.subset_univ _) ?_ hk
  refine (focus_WB I K c p).trans ?_
  unfold WB
  iintro ⟨H, Hc⟩
  ihave H := (held_read c cc0_scratch9 (cutW.r t) (wbufG I c) _ (fun i hi => by
    rw [hn, (cutW.mem i t).1 hi]; exact ordW_lt t)) $$ H
  icases H with ⟨%f, %hf, H, Hd⟩
  iexists f
  isplitr
  · ipureintro; exact hf.trans (funext fun y => cutW.glue_emb _ _ y)
  isplitl [H]; · iexact H
  iintro H
  iapply Hc $$ %p.w
  iapply Hd; iexact H

theorem ctx_stored (b : Fin 4) (i : S2x256x4x64.Idx) (hi : i ∈ (ctxRect b).set) : ordC (cutC.key i) < 8 * (b.val + 1) := by
  have h0 := (i 0).isLt; have h1 := (i 1).isLt; have h2 := (i 2).isLt; have h3 := (i 3).isLt
  rw [Rect.mem_set_unit] at hi
  show 8 * ((i 1).val / 64) + 4 * (i 0).val + (i 2).val < _
  simp [Fin.forall_fin_succ] at h0 h1 h2 h3 hi
  omega

/-- The weighted values of one query block. -/
theorem get_cx (b : Fin 4) (hn : p.cx = 8 * (b.val + 1) := by first | rfl | decide) {off : Fin 4 → ℕ} {hin} {hl} {k : Vec F S2x64x4x64 .f32 → Prog (TpuEff nD τ sig (Elt F) Λ₀ .tc) α}
    (ho : off = ![0, 64 * b.val, 0, 0] := by first | rfl | (clear * -; revert c; decide +kernel)) (hk : St I K c p ⊢ WP c (k (rd (ctxRect b) (ctxG I c))) Q) :
    St I K c p ⊢ WP c (.op (.load cxM (Rect.unit (s := S2x256x4x64) off S2x64x4x64.size hin).toLoadRect hl) k) Q := by
  subst ho
  refine step_load (m := cxM) (rd (ctxRect b) (ctxG I c)) (S := Finset.univ) (Finset.subset_univ _) ?_ hk
  refine (focus_CB I K c p).trans ?_
  unfold CB
  iintro ⟨H, Hc⟩
  ihave H := (held_read c cc0_scratch8 (ctxRect b) (ctxG I c) _ (fun i hi => by rw [hn]; exact ctx_stored b i hi)) $$ H
  icases H with ⟨%f, %hf, H, Hd⟩
  iexists f
  isplitr
  · ipureintro; exact hf
  isplitl [H]; · iexact H
  iintro H
  iapply Hc $$ %p.cx
  iapply Hd; iexact H

end Tables

/-! ## The projected rows and the sum -/

section Rows
variable {c}

theorem peek_ps (b : Fin 4) (hq : p.ps = b.val := by first | rfl | decide) {off : Fin 3 → ℕ} {hin} {hl} {k : Vec F S2x64x512 .bf16 → Prog (TpuEff nD τ sig (Elt F) Λ₀ .tc) α}
    (ho : off = ![0, 64 * b.val, 0] := by first | rfl | (clear * -; revert c; decide +kernel)) (hk : ∀ v, St I K c p ⊢ WP c (k v) Q) :
    St I K c p ⊢ WP c (.op (.load psM (Rect.unit (s := S2x256x512) off S2x64x512.size hin).toLoadRect hl) k) Q := by
  subst ho
  refine step_load_any (m := psM) (S := (cutQ.r b).set) (set_load cc0_scratch4 (cutQ.r b)) ?_ hk
  refine (focus_PS I K c p).trans ?_
  rw [hq]
  iintro ⟨H, Hc⟩
  ihave H := (PS_read I c b p.r) $$ H
  icases H with ⟨⟨%f, H⟩, Hd⟩
  iexists f
  isplitl [H]; · iexact H
  iintro H
  ihave H := Hd $$ [H]
  · iexists f; iexact H
  ihave H := Hc $$ %b.val H
  rw [← hq]
  iexact H

theorem put_ps (b : Fin 4) (hq : p.ps = b.val := by first | rfl | decide) (hr : p.r = 7 * b.val := by first | rfl | decide) {off : Fin 3 → ℕ} {hin} {w : FVec F S2x64x512 .bf16} {hx hm'} {k : PUnit.{1} → Prog (TpuEff nD τ sig (Elt F) Λ₀ .tc) α}
    (ho : off = ![0, 64 * b.val, 0] := by first | rfl | (clear * -; revert c; decide +kernel)) (hw : w = praw (I c).wo (rd (ctxRect b) (ctxG I c)) := by rfl) (hk : St I K c { p with ps := b.val + 1 } ⊢ WP c (k ⟨⟩) Q) :
    St I K c p ⊢ WP c (.op (.store psM (Rect.unit (s := S2x256x512) off S2x64x512.size hin) w Finset.univ hx hm') k) Q := by
  subst ho
  refine step_store (m := psM) (S := (cutQ.r b).set) (set_rect cc0_scratch4 (cutQ.r b)).le ?_ hk
  refine (focus_PS I K c p).trans ?_
  iintro ⟨H, Hc⟩
  ihave H := (PS_store I c b _ _ hq hr) $$ H
  icases H with ⟨⟨%f, H⟩, Hd⟩
  iexists f
  isplitl [H]; · iexact H
  iintro H
  iapply Hc $$ %(b.val + 1)
  rw [show b.val + 1 = p.ps + 1 by rw [hq]]
  iapply Hd
  iapply (piece_store c cc0_scratch4 (cutQ.r b) f (psrcG I c) w (hw ▸ funext fun y => cutQ.glue_emb _ _ y))
  iexact H

/-- The device's own rows of its own projection. -/
theorem get_ps (hq : p.ps = 4 := by first | rfl | decide) {off : Fin 3 → ℕ} {hin} {hl} {k : Vec F S2x32x512 .bf16 → Prog (TpuEff nD τ sig (Elt F) Λ₀ .tc) α}
    (ho : off = ![0, 32 * c.val, 0] := by first | rfl | (clear * -; revert c; decide +kernel)) (hk : St I K c p ⊢ WP c (k (rd (cutDev.r c) (psrcG I c))) Q) :
    St I K c p ⊢ WP c (.op (.load psM (Rect.unit (s := S2x256x512) off S2x32x512.size hin).toLoadRect hl) k) Q := by
  subst ho
  refine step_load (m := psM) (rd (cutDev.r c) (psrcG I c)) (S := (cutDev.r c).set) (set_load cc0_scratch4 (cutDev.r c)) ?_ hk
  refine (focus_PS I K c p).trans ?_
  rw [hq]
  iintro ⟨H, Hc⟩
  ihave H := (PS_own I c p.r) $$ H
  icases H with ⟨H, Hd⟩
  unfold psTile
  iexists (psrcG I c : Buf (Elt F) (loc c cc0_scratch4))
  isplitr
  · ipureintro; rfl
  isplitl [H]; · iexact H
  iintro H
  ihave H := Hd $$ H
  ihave H := Hc $$ %4 H
  rw [← hq]
  iexact H

theorem peek_gb (hg : p.g = false := by first | rfl | decide) {r : LoadRect S2x32x512} {hl} {k : _ → Prog (TpuEff nD τ sig (Elt F) Λ₀ .tc) α} (hk : ∀ v, St I K c p ⊢ WP c (k v) Q) :
    St I K c p ⊢ WP c (.op (.load gbM r hl) k) Q := by
  refine step_load_any (m := gbM) (S := Finset.univ) (Finset.subset_univ _) ?_ hk
  refine (focus_GB I K c p).trans ?_
  unfold GB
  rw [hg, if_neg Bool.false_ne_true]
  iintro ⟨⟨%f, H⟩, Hc⟩
  iexists f
  isplitl [H]; · iexact H
  iintro H
  ihave H := Hc $$ %false [H]
  · rw [if_neg Bool.false_ne_true]
    iexists f; iexact H
  rw [← hg]
  iexact H

theorem put_gb (hg : p.g = false := by first | rfl | decide) (ha : p.a = 0 := by first | rfl | decide) {hin} {w : FVec F S2x32x512 .bf16} {hx hm'} {k : PUnit.{1} → Prog (TpuEff nD τ sig (Elt F) Λ₀ .tc) α}
    (hw : w = gbufG I c := by rfl) (hk : St I K c { p with g := true } ⊢ WP c (k ⟨⟩) Q) :
    St I K c p ⊢ WP c (.op (.store gbM (Rect.unit (s := S2x32x512) ![0, 0, 0] S2x32x512.size hin) w Finset.univ hx hm') k) Q := by
  refine step_store (m := gbM) (S := Finset.univ) (Finset.subset_univ _) ?_ hk
  refine (focus_GB I K c p).trans ?_
  rw [hg, ha]
  iintro ⟨H, Hc⟩
  ihave H := (Entails.of_eq (show GB I c false 0 = iprop(∃ f : Buf (Elt F) (loc c cc0_scratch6), loc c cc0_scratch6 ↦{fullShare} f) from if_neg Bool.false_ne_true)) $$ H
  icases H with ⟨%f, H⟩
  iexists f
  isplitl [H]; · iexact H
  iintro H
  iapply Hc $$ %true
  iapply (GB_store I c)
  rw [show ((gbM.access (Rect.unit (s := S2x32x512) ![0, 0, 0] S2x32x512.size hin)).write (Elt F) f w Finset.univ) = gbufG I c from
    (Memref.write_access_unit_zero_univ (Elt F) cc0_scratch6 (by decide) hin f w).trans hw]
  iexact H

end Rows

/-! ## Slots together -/

section Slots
variable {c}

theorem bigSep_succ {n : ℕ} (Φ : Fin (n + 1) → sProp (MT nD τ sig Unit (Elt F) ℕ UU ℕ)) :
    bigSep Finset.univ Φ = iprop(Φ 0 ∗ bigSep Finset.univ fun j : Fin n => Φ j.succ) := by
  rw [Fin.univ_succ, Finset.cons_eq_insert, bigSep_insert (by simp [Fin.succ_ne_zero]), bigSep_map]
  rfl

/-- Eight slots of a buffer are the buffer. -/
theorem slots (b : Ref sig .tc) (cut : Cut b.ty.shape (Fin 8)) (f : Buf (Elt F) (loc c b)) :
    (loc c b ↦{fullShare} f : sProp (MT nD τ sig Unit (Elt F) ℕ UU ℕ))
      = iprop((loc c b ↦[(cut.r 0).set]{fullShare} f) ∗ bigSep Finset.univ fun j : Fin 7 => loc c b ↦[(cut.r j.succ).set]{fullShare} f) := by
  rw [Ring.pointsTo_blocks (ℓ := loc c b) (fun k => (cut.r k).set) cut.disj cut.cov, bigSep_succ]

theorem get_kb (ho : p.ko = true := by first | rfl | decide) (hw : p.wk = 14 := by first | rfl | decide) {hin} {hl} {k : Vec F S8x4x2x256x64 .fp8e4m3 → Prog (TpuEff nD τ sig (Elt F) Λ₀ .tc) α}
    (hk : St I K c p ⊢ WP c (k (kbufG I c)) Q) :
    St I K c p ⊢ WP c (.op (.load kbM (Rect.unit (s := S8x4x2x256x64) ![0, 0, 0, 0, 0] S8x4x2x256x64.size hin).toLoadRect hl) k) Q := by
  refine step_load (m := kbM) (kbufG I c) (S := Finset.univ) (Finset.subset_univ _) ?_ hk
  have e := slots (F := F) (c := c) cc0_scratch2 cutSlot (kbufG I c)
  unfold St Mem OwnK
  rw [ho, hw, if_pos rfl]
  iintro ⟨H0, H1, ⟨Ha, Hb⟩, H3, H4, H5, H6, H7, H8, Hr⟩
  ihave Ha := (Cl_slots I 0 c p.k) $$ Ha
  icases Ha with ⟨Ha, Hd⟩
  iexists (kbufG I c : Buf (Elt F) (loc c cc0_scratch2))
  isplitr
  · ipureintro; exact Memref.readAt_unit_zero (Elt F) cc0_scratch2 (by decide) hin _
  ihave H := (Entails.of_eq e.symm) $$ [H8 Ha]
  · isplitl [H8]; · iexact H8
    iexact Ha
  isplitl [H]; · iexact H
  iintro H
  ihave H := (Entails.of_eq e) $$ H
  icases H with ⟨H8, Ha⟩
  ihave Ha := Hd $$ [Ha]
  · iexact Ha
  iframe

theorem get_vb (ho : p.vo = true := by first | rfl | decide) (hw : p.wv = 14 := by first | rfl | decide) {hin} {hl} {k : Vec F S8x4x2x256x64 .bf16 → Prog (TpuEff nD τ sig (Elt F) Λ₀ .tc) α}
    (hk : St I K c p ⊢ WP c (k (vbufG I c)) Q) :
    St I K c p ⊢ WP c (.op (.load vbM (Rect.unit (s := S8x4x2x256x64) ![0, 0, 0, 0, 0] S8x4x2x256x64.size hin).toLoadRect hl) k) Q := by
  refine step_load (m := vbM) (vbufG I c) (S := Finset.univ) (Finset.subset_univ _) ?_ hk
  have e := slots (F := F) (c := c) cc0_scratch3 cutSlot (vbufG I c)
  unfold St Mem OwnV
  rw [ho, hw, if_pos rfl]
  iintro ⟨H0, H1, ⟨Hx, Ha, Hb⟩, H3, H4, H5, H6, H7, H8, H9, Hr⟩
  ihave Ha := (Cl_slots I 1 c p.v) $$ Ha
  icases Ha with ⟨Ha, Hd⟩
  iexists (vbufG I c : Buf (Elt F) (loc c cc0_scratch3))
  isplitr
  · ipureintro; exact Memref.readAt_unit_zero (Elt F) cc0_scratch3 (by decide) hin _
  ihave H := (Entails.of_eq e.symm) $$ [H9 Ha]
  · isplitl [H9]; · iexact H9
    iexact Ha
  isplitl [H]; · iexact H
  iintro H
  ihave H := (Entails.of_eq e) $$ H
  icases H with ⟨H9, Ha⟩
  ihave Ha := Hd $$ [Ha]
  · iexact Ha
  iframe

theorem get_rb (ho : p.ro = true := by first | rfl | decide) (hw : p.wr = 14 := by first | rfl | decide) {hin} {hl} {k : Vec F S8x2x32x512 .bf16 → Prog (TpuEff nD τ sig (Elt F) Λ₀ .tc) α}
    (hk : St I K c p ⊢ WP c (k (rbufG I c)) Q) :
    St I K c p ⊢ WP c (.op (.load rbM (Rect.unit (s := S8x2x32x512) ![0, 0, 0, 0] S8x2x32x512.size hin).toLoadRect hl) k) Q := by
  refine step_load (m := rbM) (rbufG I c) (S := Finset.univ) (Finset.subset_univ _) ?_ hk
  have e := slots (F := F) (c := c) cc0_scratch5 cutRow (rbufG I c)
  unfold St Mem OwnR
  rw [ho, hw, if_pos rfl]
  iintro ⟨H0, H1, ⟨Hx, Hy, Ha, Hb⟩, H3, H4, H5, H6, H7, H8, H9, H10, Hr⟩
  ihave Ha := (Cl_slots I 2 c p.r) $$ Ha
  icases Ha with ⟨Ha, Hd⟩
  iexists (rbufG I c : Buf (Elt F) (loc c cc0_scratch5))
  isplitr
  · ipureintro; exact Memref.readAt_unit_zero (Elt F) cc0_scratch5 (by decide) hin _
  ihave H := (Entails.of_eq e.symm) $$ [H10 Ha]
  · isplitl [H10]; · iexact H10
    iexact Ha
  isplitl [H]; · iexact H
  iintro H
  ihave H := (Entails.of_eq e) $$ H
  icases H with ⟨H10, Ha⟩
  ihave Ha := Hd $$ [Ha]
  · iexact Ha
  iframe

/-- A slot of the gathered rows. -/
theorem get_fb (j : Fin 7) (hw : p.wa = 14 := by first | rfl | decide) {off : Fin 4 → ℕ} {hin} {hl} {k : Vec F S1x2x32x512 .bf16 → Prog (TpuEff nD τ sig (Elt F) Λ₀ .tc) α}
    (ho : off = ![j.succ.val, 0, 0, 0] := by first | rfl | (clear * -; revert c; decide +kernel)) (hk : St I K c p ⊢ WP c (k (k0_pay117 (gbufG I (frm c j)))) Q) :
    St I K c p ⊢ WP c (.op (.load fbM (Rect.unit (s := S8x2x32x512) off S1x2x32x512.size hin).toLoadRect hl) k) Q := by
  subst ho
  refine step_load (m := fbM) (k0_pay117 (gbufG I (frm c j))) (S := (cutRow.r j.succ).set) (set_load cc0_scratch7 (cutRow.r j.succ)) ?_ hk
  unfold St
  rw [hw]
  iintro ⟨H0, H1, ⟨Hx, Hy, Hz, Ha⟩, H3, Hr⟩
  ihave Ha := (Cl_slots I 3 c p.a) $$ Ha
  icases Ha with ⟨Ha, Hd⟩
  ihave Ha := (bigSep_upd (fun j : Fin 7 => RecvP I 3 c j) (fun j : Fin 7 => RecvP I 3 c j) j fun _ _ => rfl) $$ Ha
  icases Ha with ⟨Ha, He⟩
  iexists (fbufG I c : Buf (Elt F) (loc c cc0_scratch7))
  isplitr
  · ipureintro
    have h : (fun y => fbufG I c ((cutRow.r j.succ).emb y)) = k0_pay117 (gbufG I (src c j.succ)) := funext fun y => cutRow.glue_emb _ j.succ y
    rw [src_succ] at h; exact h
  isplitl [Ha]
  · iapply (Entails.of_eq (show RecvP I 3 c j = (loc c cc0_scratch7 ↦[(cutRow.r j.succ).set]{fullShare} (fbufG I c : Buf (Elt F) (loc c cc0_scratch7))) from rfl))
    iexact Ha
  iintro Ha
  ihave Ha := He $$ [Ha]
  · iapply (Entails.of_eq (show (loc c cc0_scratch7 ↦[(cutRow.r j.succ).set]{fullShare} (fbufG I c : Buf (Elt F) (loc c cc0_scratch7))) = RecvP I 3 c j from rfl))
    iexact Ha
  ihave Ha := Hd $$ Ha
  iframe

end Slots

end Cert.KernelIdeal.Attn

end
-- ==== Proof.Moves.lean ====
/- The transfers and waits of the kernel's body, each as a step between states. -/
module

public import proofs.«01_k».proof.Proof.Access
public import Idealize.ShloMosaic.Lib.Ring
public import Idealize.ShloMosaic.Lib.Pipeline.Value

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (I : Dev nD → In F) (K : Dev nD × CellIx → ℕ) (c : Dev nD)
variable {α : Type} {Q : α → sProp (MT nD τ sig Unit (Elt F) ℕ UU ℕ)} {p : Pt}

/-! ## One transfer, one wait -/

section Core
variable {P P' : sProp (MT nD τ sig Unit (Elt F) ℕ UU ℕ)} {k : PUnit.{1} → Prog (TpuEff nD τ sig (Elt F) Λ₀ .tc) α} {s s' : Shape} {e e' : EltTy} (a : Fin 4) (j : Fin 7)

/-- Transfer `j` of class `a` is started: it takes its tokens, its landing slot and its source. -/
theorem step_send {n : Dev nD} (hn : n = tgt c j) {src dst : Memref sig .tc .vmem s e} {sS sR : DmaSem sig}
    (hsS : sS = semIx a 0 j.succ) (hsR : sR = semIx a 1 j.succ)
    {hsc : (dst : Memref sig (Dev.tc n : Thread nD τ).2.kind .vmem s e).view.ref.isScScratch = false} {hsrc : src.view.WordExact} {hdst : dst.view.WordExact}
    {hsem : DmaTarget.Typed .vmem (.dma sR) (.remote (Dev.tc n : Thread nD τ) dst (.dma sS) hsc)}
    {q : PosShare TreeShare} (fs : Buf (Elt F) (src.view.loc (c : Thread nD τ))) {O₀ O : CellTallies nD τ sig Unit}
    (hN : dst.view.dmaCredit = N a) (hS : SrcP I a c j = (src.view.loc (c : Thread nD τ) ↦[src.view.set]{q} fs))
    (hL : LandP (F := F) a (tgt c j) j = iprop(∃ fd, dst.view.loc (tgt c j : Thread nD τ) ↦[dst.view.set]{fullShare} fd))
    (hR : ∀ fd, (dst.view.loc (tgt c j : Thread nD τ) ↦[dst.view.set]{fullShare} (dst.view.write (Elt F) fd (src.view.read (Elt F) fs) Finset.univ)) ⊢ RecvP I a (tgt c j) j)
    (hO : O₀ = O + tallyAt (recvCell (tgt c j) a j) () (N a))
    (h : P ⊢ iprop(ctx I K ∗ (∃ W, owes (c : Thread nD τ) O₀ W)
      ∗ (dutyTok ER (sendCell c a j) 0 0 ∗ dutyTok ER (recvCell (tgt c j) a j) 0 0 ∗ LandP (F := F) a (tgt c j) j) ∗ SrcP I a c j
      ∗ (cred (tallyAt (sendCell c a j) () (N a)) -∗ (∃ W, owes (c : Thread nD τ) O W) -∗ P')))
    (hk : P' ⊢ WP c (k ⟨⟩) Q) :
    P ⊢ WP c (.op (.enqueueDma src (.remote (Dev.tc n : Thread nD τ) dst (.dma sS) hsc) (.dma sR) hsrc hdst hsem) k) Q := by
  subst hn hsS hsR
  refine h.trans ?_
  rw [hL, hS]
  iintro ⟨#Hctx, ⟨%W, HO⟩, ⟨Ht1, Ht2, %fd, Hd⟩, Hs, Hc⟩
  iapply (Rounds.wp_send_pointsTo 𝒱₀ ER (Rd I) (c : Thread nD τ) none (sS := .dma (semIx a 0 j.succ)) (sem := .dma (semIx a 1 j.succ)) (κ₁ := K (c, some (a, 0, j))) (κ₂ := K (tgt c j, some (a, 1, j)))
    (r₁ := 0) (r₂ := 0) (d₁ := 0) (d₂ := 0) (fd := fd)
    (by rw [duties_dma]; exact Finset.mem_singleton_self _) (by rw [duties_dma]; exact Finset.mem_singleton_self _)
    () () (N a) hN (amount_dma I c a j 0 0) (amount_dma I (tgt c j) a j 1 0) O hO (W := W)
    (by rw [payload_send, hS]) (by rw [payload_recv]; exact hR fd)) $$ [Hs Hd HO Ht1 Ht2]
  · isplitr; · iapply (inv_at I K (c, some (a, 0, j))); iexact Hctx
    isplitr; · iapply (inv_at I K (tgt c j, some (a, 1, j))); iexact Hctx
    isplitl [Hs]; · iexact Hs
    isplitl [Hd]; · iexact Hd
    isplitl [HO]; · iexact HO
    isplitl [Ht1]; · iexact Ht1
    isplitr; · iapply (reached_at I K (c, some (a, 0, j))); iexact Hctx
    isplitl [Ht2]; · iexact Ht2
    iapply (reached_at I K (tgt c j, some (a, 1, j))); iexact Hctx
  iintro ⟨Hcr, HO⟩
  iapply hk
  iapply Hc $$ Hcr
  iexists W; iexact HO

/-- A wait on one of the device's own cells: what the cell's round hands over, and the semaphore at zero for good. -/
theorem step_wait (sd : Fin 2) {q : DmaSem sig} (hq : q = semIx a sd j.succ) {κ' : Kind} {src : Memref sig .tc .vmem s' e'} {dst : Memref sig κ' .vmem s e}
    {hsrc : src.view.WordExact} {hdst : dst.view.WordExact} {O : CellTallies nD τ sig Unit} (hN : dst.view.dmaCredit = N a)
    (hO : Above (lvc (some (some (a, sd, j)))) O) {Pay : sProp (MT nD τ sig Unit (Elt F) ℕ UU ℕ)}
    (hrest : bigSep ((Rd I).duties ((c : Thread nD τ), .dma (semIx a sd j.succ)) 0 \ ∅) (fun d => (Rd I).payload ((c : Thread nD τ), .dma (semIx a sd j.succ)) 0 d) = Pay)
    (h : P ⊢ iprop(ctx I K ∗ (∃ W, owes (c : Thread nD τ) O W)
      ∗ (atPos ER ((c : Thread nD τ), .dma (semIx a sd j.succ)) 0 ∅ 0 ∗ cred (tallyAt ((c : Thread nD τ), .dma (semIx a sd j.succ)) () (N a)))
      ∗ ((Pay ∗ semVal ((c : Thread nD τ), .dma (semIx a sd j.succ)) 0) -∗ (∃ W, owes (c : Thread nD τ) O W) -∗ P')))
    (hk : P' ⊢ WP c (k ⟨⟩) Q) :
    P ⊢ WP c (.op (.waitDma2 q src dst hsrc hdst) k) Q := by
  subst hq
  refine h.trans ?_
  iintro ⟨#Hctx, ⟨%W, HO⟩, ⟨Hat, Hcr⟩, Hc⟩
  iapply (Rounds.wp_wait_rest_token 𝒱₀ ER (Rd I) (c : Thread nD τ) none (κ := K (c, some (a, sd, j)))
    (wpE_waitDma2_eq 𝒱₀ (c : Thread nD τ) none Set.univ) (Set.mem_univ _) () (O := O) (W := W) (R := 0) (m := 0) (T := ∅)
    (by rw [Nat.zero_add, expect_dma, hN])) $$ [Hcr HO Hat]
  · isplitr; · iapply (inv_at I K (c, some (a, sd, j))); iexact Hctx
    isplitl [Hcr]; · rw [hN]; iexact Hcr
    isplitl [HO]; · iexact HO
    isplitr
    · iapply (mayWait c _ O (by rw [dec_dma]; exact hO))
      iapply (levs_at I K); iexact Hctx
    iexact Hat
  iintro ⟨HO, Hat, -, Hpay⟩
  ihave Hpay := (Entails.of_eq hrest) $$ Hpay
  imod (Rounds.cell_close ER (Rd I) (Set.mem_univ (K (c, some (a, sd, j)))) (fun h => h) (R := 0 + 1) (duties_later I ((c : Thread nD τ), .dma (semIx a sd j.succ)))) $$ [Hat] with Hz
  · isplitr; · iapply (inv_at I K (c, some (a, sd, j))); iexact Hctx
    iexact Hat
  iapply hk
  iapply Hc $$ [Hpay Hz]
  · isplitl [Hpay] <;> iassumption
  iexists _; iexact HO

end Core

/-! ## The transfers -/

section Credit
set_option backward.proofsInPublic true

/-- Slots of the four landing buffers, and tiles of the source buffers. -/
abbrev slotK (k : Fin 8) : Memref sig .tc .vmem S4x2x256x64 .fp8e4m3 :=
  (kbM.slice (cutSlot.r k) (fun _ => rfl)).squeeze S4x2x256x64 squeezes_S1x4x2x256x64_S4x2x256x64
abbrev slotV (k : Fin 8) : Memref sig .tc .vmem S4x2x256x64 .bf16 :=
  (vbM.slice (cutSlot.r k) (fun _ => rfl)).squeeze S4x2x256x64 squeezes_S1x4x2x256x64_S4x2x256x64
abbrev slotR (k : Fin 8) : Memref sig .tc .vmem S2x32x512 .bf16 :=
  (rbM.slice (cutRow.r k) (fun _ => rfl)).squeeze S2x32x512 squeezes_S1x2x32x512_S2x32x512
abbrev slotA (k : Fin 8) : Memref sig .tc .vmem S2x32x512 .bf16 :=
  (fbM.slice (cutRow.r k) (fun _ => rfl)).squeeze S2x32x512 squeezes_S1x2x32x512_S2x32x512
abbrev tileK (t : Dev nD) : Memref sig .tc .vmem S4x2x256x64 .fp8e4m3 := kqM.slice (cutSrc.r t) (fun _ => rfl)
abbrev tileV (t : Dev nD) : Memref sig .tc .vmem S4x2x256x64 .bf16 := vqM.slice (cutSrc.r t) (fun _ => rfl)
abbrev tileR (t : Dev nD) : Memref sig .tc .vmem S2x32x512 .bf16 := psM.slice (cutDev.r t) (fun _ => rfl)

theorem credit_slotK (k : Fin 8) : (slotK k).view.dmaCredit = N 0 := (by decide : (slotK 0).view.dmaCredit = N 0)
theorem credit_slotV (k : Fin 8) : (slotV k).view.dmaCredit = N 1 := (by decide : (slotV 0).view.dmaCredit = N 1)
theorem credit_slotR (k : Fin 8) : (slotR k).view.dmaCredit = N 2 := (by decide : (slotR 0).view.dmaCredit = N 2)
theorem credit_slotA (k : Fin 8) : (slotA k).view.dmaCredit = N 3 := (by decide : (slotA 0).view.dmaCredit = N 3)
theorem credit_tileK (t : Dev nD) : (tileK t).view.dmaCredit = N 0 := (by decide : (tileK 0).view.dmaCredit = N 0)
theorem credit_tileV (t : Dev nD) : (tileV t).view.dmaCredit = N 1 := (by decide : (tileV 0).view.dmaCredit = N 1)
theorem credit_tileR (t : Dev nD) : (tileR t).view.dmaCredit = N 2 := (by decide : (tileR 0).view.dmaCredit = N 2)
theorem credit_gb : gbM.view.dmaCredit = N 3 := by decide

end Credit

section Sends
variable {c} {j : Fin 7} {n : Dev nD} {sS sR : DmaSem sig} {k : PUnit.{1} → Prog (TpuEff nD τ sig (Elt F) Λ₀ .tc) α}

theorem send_k (hn : n = tgt c j := by clear * -; revert c; decide +kernel) (hsS : sS = semIx 0 0 j.succ := by rfl) (hsR : sR = semIx 0 1 j.succ := by rfl) (hm : p.km = j.val + 1 := by rfl) (hs : p.k = j.val := by rfl) (hw : p.wk = 0 := by rfl)
    {offs : Fin 4 → ℕ} {offd : Fin 5 → ℕ} {his hid hsq hsc hsrc hdst hsem} (hos : offs = ![4 * (tgt c j).val, 0, 0, 0] := by clear * -; revert c; decide +kernel) (hod : offd = ![j.succ.val, 0, 0, 0, 0] := by rfl)
    (hk : St I K c { p with k := j.val + 1 } ⊢ WP c (k ⟨⟩) Q) :
    St I K c p ⊢ WP c (.op (.enqueueDma (kqM.slice (Rect.unit (s := S32x2x256x64) offs S4x2x256x64.size his) (fun _ => rfl))
      (.remote (Dev.tc n : Thread nD τ) ((kbM.slice (Rect.unit (s := S8x4x2x256x64) offd S1x4x2x256x64.size hid) (fun _ => rfl)).squeeze S4x2x256x64 hsq) (.dma sS) hsc)
      (.dma sR) hsrc hdst hsem) k) Q := by
  subst hos hod
  have hset : ((kbM.slice (Rect.unit (s := S8x4x2x256x64) ![j.succ.val, 0, 0, 0, 0] S1x4x2x256x64.size hid) (fun _ => rfl)).squeeze S4x2x256x64 hsq).view.set = (cutSlot.r j.succ).set :=
    (View.set_reshape _ _).trans (View.set_slice_whole cc0_scratch2 (cutSlot.r j.succ))
  have hset' : (kqM.slice (Rect.unit (s := S32x2x256x64) ![4 * (tgt c j).val, 0, 0, 0] S4x2x256x64.size his) (fun _ => rfl)).view.set = (cutSrc.r (tgt c j)).set :=
    View.set_slice_whole cc0_scratch0 (cutSrc.r (tgt c j))
  refine step_send I K c 0 j hn hsS hsR (q := fullShare) (ksrcG (I c)) (O₀ := owed c p) (O := owed c { p with k := j.val + 1 }) (credit_slotK j.succ) ?_ ?_ (fun fd => ?_) ?_ ?_ hk
  · rw [hset']; rfl
  · rw [hset]; rfl
  · refine (Entails.of_eq (pointsTo_congr (g := kbufG I (tgt c j)) (write_on _ fd (kbufG I (tgt c j)) _ ?_))).trans (Entails.of_eq (by rw [hset]; rfl))
    have h1 : (fun y => kbufG I (tgt c j) ((cutSlot.r j.succ).emb y)) = shapeCast S1x4x2x256x64 (blkK (I c) (tgt c j)) shapeCasts_S4x2x256x64_S1x4x2x256x64 := by
      refine (funext fun y => cutSlot.glue_emb _ j.succ y).trans ?_
      rw [src_succ, frm_tgt]; rfl
    have h2 : (fun y => ksrcG (I c) ((cutSrc.r (tgt c j)).emb y)) = blkK (I c) (tgt c j) := funext fun y => cutSrc.glue_emb _ _ y
    refine (Memref.read_squeeze_slice (Val := Elt F) kbM (cutSlot.r j.succ) (fun _ => rfl) hsq (shapeCasts_S1x4x2x256x64_S4x2x256x64) (kbufG I (tgt c j))).trans ?_
    refine Eq.trans ?_ h2.symm
    refine (congrArg (fun x => shapeCast S4x2x256x64 x shapeCasts_S1x4x2x256x64_S4x2x256x64) h1).trans ?_
    funext y
    simp only [shapeCast, Shape.reshapeEquiv_reshapeEquiv, Shape.reshapeEquiv_self]
  · unfold owed
    rw [hs, owe_step 0 c j j.val rfl]
    show _ = owe 0 c (j.val + 1) + owe 1 c p.v + owe 2 c p.r + owe 3 c p.a + _
    ac_rfl
  · unfold St Mem KS
    rw [hw, hm, hs]
    iintro ⟨#Hctx, HO, ⟨Ha, Hb⟩, H3, H4, Hr⟩
    ihave Ha := (Cl_send I 0 c j j.val rfl) $$ Ha
    ihave H4 := (Tiles_send _ _ c j _ _ rfl rfl) $$ H4
    icases Ha with ⟨Ht, Ha⟩
    icases H4 with ⟨Hs, H4⟩
    isplitr; · iexact Hctx
    isplitl [HO]; · iexact HO
    isplitl [Ht]; · iexact Ht
    isplitl [Hs]; · iapply (Entails.of_eq (show (loc c cc0_scratch0 ↦[(cutSrc.r (tgt c j)).set]{fullShare} (ksrcG (I c) : Buf (Elt F) (loc c cc0_scratch0))) = SrcP I 0 c j from rfl)); iexact Hs
    iintro Hcr HO
    ihave Ha := Ha $$ Hcr
    isplitr; · iexact Hctx
    isplitl [HO]; · iexact HO
    iframe

theorem send_v (hn : n = tgt c j := by clear * -; revert c; decide +kernel) (hsS : sS = semIx 1 0 j.succ := by rfl) (hsR : sR = semIx 1 1 j.succ := by rfl) (hm : p.vm = j.val + 1 := by rfl) (hs : p.v = j.val := by rfl) (hw : p.wv = 0 := by rfl)
    {offs : Fin 4 → ℕ} {offd : Fin 5 → ℕ} {his hid hsq hsc hsrc hdst hsem} (hos : offs = ![4 * (tgt c j).val, 0, 0, 0] := by clear * -; revert c; decide +kernel) (hod : offd = ![j.succ.val, 0, 0, 0, 0] := by rfl)
    (hk : St I K c { p with v := j.val + 1 } ⊢ WP c (k ⟨⟩) Q) :
    St I K c p ⊢ WP c (.op (.enqueueDma (vqM.slice (Rect.unit (s := S32x2x256x64) offs S4x2x256x64.size his) (fun _ => rfl))
      (.remote (Dev.tc n : Thread nD τ) ((vbM.slice (Rect.unit (s := S8x4x2x256x64) offd S1x4x2x256x64.size hid) (fun _ => rfl)).squeeze S4x2x256x64 hsq) (.dma sS) hsc)
      (.dma sR) hsrc hdst hsem) k) Q := by
  subst hos hod
  have hset : ((vbM.slice (Rect.unit (s := S8x4x2x256x64) ![j.succ.val, 0, 0, 0, 0] S1x4x2x256x64.size hid) (fun _ => rfl)).squeeze S4x2x256x64 hsq).view.set = (cutSlot.r j.succ).set :=
    (View.set_reshape _ _).trans (View.set_slice_whole cc0_scratch3 (cutSlot.r j.succ))
  have hset' : (vqM.slice (Rect.unit (s := S32x2x256x64) ![4 * (tgt c j).val, 0, 0, 0] S4x2x256x64.size his) (fun _ => rfl)).view.set = (cutSrc.r (tgt c j)).set :=
    View.set_slice_whole cc0_scratch1 (cutSrc.r (tgt c j))
  refine step_send I K c 1 j hn hsS hsR (q := fullShare) (vsrcG (I c)) (O₀ := owed c p) (O := owed c { p with v := j.val + 1 }) (credit_slotV j.succ) ?_ ?_ (fun fd => ?_) ?_ ?_ hk
  · rw [hset']; rfl
  · rw [hset]; rfl
  · refine (Entails.of_eq (pointsTo_congr (g := vbufG I (tgt c j)) (write_on _ fd (vbufG I (tgt c j)) _ ?_))).trans (Entails.of_eq (by rw [hset]; rfl))
    have h1 : (fun y => vbufG I (tgt c j) ((cutSlot.r j.succ).emb y)) = shapeCast S1x4x2x256x64 (blkV (I c) (tgt c j)) shapeCasts_S4x2x256x64_S1x4x2x256x64 := by
      refine (funext fun y => cutSlot.glue_emb _ j.succ y).trans ?_
      rw [src_succ, frm_tgt]; rfl
    have h2 : (fun y => vsrcG (I c) ((cutSrc.r (tgt c j)).emb y)) = blkV (I c) (tgt c j) := funext fun y => cutSrc.glue_emb _ _ y
    refine (Memref.read_squeeze_slice (Val := Elt F) vbM (cutSlot.r j.succ) (fun _ => rfl) hsq (shapeCasts_S1x4x2x256x64_S4x2x256x64) (vbufG I (tgt c j))).trans ?_
    refine Eq.trans ?_ h2.symm
    refine (congrArg (fun x => shapeCast S4x2x256x64 x shapeCasts_S1x4x2x256x64_S4x2x256x64) h1).trans ?_
    funext y
    simp only [shapeCast, Shape.reshapeEquiv_reshapeEquiv, Shape.reshapeEquiv_self]
  · unfold owed
    rw [hs, owe_step 1 c j j.val rfl]
    show _ = owe 0 c p.k + owe 1 c (j.val + 1) + owe 2 c p.r + owe 3 c p.a + _
    ac_rfl
  · unfold St Mem VS
    rw [hw, hm, hs]
    iintro ⟨#Hctx, HO, ⟨Hb, Ha, Hd⟩, H3, H5, H4, Hr⟩
    ihave Ha := (Cl_send I 1 c j j.val rfl) $$ Ha
    ihave H4 := (Tiles_send _ _ c j _ _ rfl rfl) $$ H4
    icases Ha with ⟨Ht, Ha⟩
    icases H4 with ⟨Hs, H4⟩
    isplitr; · iexact Hctx
    isplitl [HO]; · iexact HO
    isplitl [Ht]; · iexact Ht
    isplitl [Hs]; · iapply (Entails.of_eq (show (loc c cc0_scratch1 ↦[(cutSrc.r (tgt c j)).set]{fullShare} (vsrcG (I c) : Buf (Elt F) (loc c cc0_scratch1))) = SrcP I 1 c j from rfl)); iexact Hs
    iintro Hcr HO
    ihave Ha := Ha $$ Hcr
    isplitr; · iexact Hctx
    isplitl [HO]; · iexact HO
    iframe

theorem send_r (hn : n = tgt c j := by clear * -; revert c; decide +kernel) (hsS : sS = semIx 2 0 j.succ := by rfl) (hsR : sR = semIx 2 1 j.succ := by rfl) (hq : (tgt c j).val / 2 < p.ps := by clear * -; revert c; decide +kernel) (hr : tm 2 c j = p.r := by clear * -; revert c; decide +kernel) (hw : p.wr = 0 := by rfl)
    {offs : Fin 3 → ℕ} {offd : Fin 4 → ℕ} {his hid hsq hsc hsrc hdst hsem} (hos : offs = ![0, 32 * (tgt c j).val, 0] := by clear * -; revert c; decide +kernel) (hod : offd = ![j.succ.val, 0, 0, 0] := by rfl)
    (hk : St I K c { p with r := p.r + 1 } ⊢ WP c (k ⟨⟩) Q) :
    St I K c p ⊢ WP c (.op (.enqueueDma (psM.slice (Rect.unit (s := S2x256x512) offs S2x32x512.size his) (fun _ => rfl))
      (.remote (Dev.tc n : Thread nD τ) ((rbM.slice (Rect.unit (s := S8x2x32x512) offd S1x2x32x512.size hid) (fun _ => rfl)).squeeze S2x32x512 hsq) (.dma sS) hsc)
      (.dma sR) hsrc hdst hsem) k) Q := by
  subst hos hod
  have hset : ((rbM.slice (Rect.unit (s := S8x2x32x512) ![j.succ.val, 0, 0, 0] S1x2x32x512.size hid) (fun _ => rfl)).squeeze S2x32x512 hsq).view.set = (cutRow.r j.succ).set :=
    (View.set_reshape _ _).trans (View.set_slice_whole cc0_scratch5 (cutRow.r j.succ))
  have hset' : (psM.slice (Rect.unit (s := S2x256x512) ![0, 32 * (tgt c j).val, 0] S2x32x512.size his) (fun _ => rfl)).view.set = (cutDev.r (tgt c j)).set :=
    View.set_slice_whole cc0_scratch4 (cutDev.r (tgt c j))
  refine step_send I K c 2 j hn hsS hsR (q := fullShare) (psrcG I c) (O₀ := owed c p) (O := owed c { p with r := p.r + 1 }) (credit_slotR j.succ) ?_ ?_ (fun fd => ?_) ?_ ?_ hk
  · rw [hset']; rfl
  · rw [hset]; rfl
  · refine (Entails.of_eq (pointsTo_congr (g := rbufG I (tgt c j)) (write_on _ fd (rbufG I (tgt c j)) _ ?_))).trans (Entails.of_eq (by rw [hset]; rfl))
    have h1 : (fun y => rbufG I (tgt c j) ((cutRow.r j.succ).emb y)) = k0_pay117 (rd (cutDev.r (tgt c j)) (psrcG I c)) := by
      refine (funext fun y => cutRow.glue_emb _ j.succ y).trans ?_
      rw [src_succ, frm_tgt]
    refine (Memref.read_squeeze_slice (Val := Elt F) rbM (cutRow.r j.succ) (fun _ => rfl) hsq shapeCasts_S1x2x32x512_S2x32x512 (rbufG I (tgt c j))).trans ?_
    refine (congrArg (fun x => shapeCast S2x32x512 x shapeCasts_S1x2x32x512_S2x32x512) h1).trans ?_
    unfold k0_pay117
    funext y
    simp only [shapeCast, Shape.reshapeEquiv_reshapeEquiv, Shape.reshapeEquiv_self]
    rfl
  · unfold owed
    rw [owe_step 2 c j p.r hr]
    show _ = owe 0 c p.k + owe 1 c p.v + owe 2 c (p.r + 1) + owe 3 c p.a + _
    ac_rfl
  · unfold St Mem
    rw [hw]
    iintro ⟨#Hctx, HO, ⟨Hb, Hd, Ha, He⟩, H3, H5, H6, H4, Hr⟩
    ihave Ha := (Cl_send I 2 c j p.r hr) $$ Ha
    ihave H4 := (PS_send I c j p.ps p.r hq hr) $$ H4
    icases Ha with ⟨Ht, Ha⟩
    icases H4 with ⟨Hs, H4⟩
    isplitr; · iexact Hctx
    isplitl [HO]; · iexact HO
    isplitl [Ht]; · iexact Ht
    isplitl [Hs]; · iexact Hs
    iintro Hcr HO
    ihave Ha := Ha $$ Hcr
    isplitr; · iexact Hctx
    isplitl [HO]; · iexact HO
    iframe

/-- A time at which the device sends no rows. -/
theorem skip_r (h : ∀ j, tm 2 c j ≠ p.r := by clear * -; revert c; decide +kernel) (hw : p.wr = 0 := by rfl) : St I K c p = St I K c { p with r := p.r + 1 } := by
  unfold St Mem owed
  rw [owe_skip 2 c p.r h, hw, Cl_skip I 2 c p.r h, PS_skip I c p.ps p.r h]

theorem send_a (hn : n = tgt c j := by clear * -; revert c; decide +kernel) (hsS : sS = semIx 3 0 j.succ := by rfl) (hsR : sR = semIx 3 1 j.succ := by rfl) (hg : p.g = true := by rfl) (ha : p.a = j.val := by rfl) (hw : p.wa = 0 := by rfl)
    {offd : Fin 4 → ℕ} {hid hsq hsc hsrc hdst hsem} (hod : offd = ![j.succ.val, 0, 0, 0] := by rfl)
    (hk : St I K c { p with a := j.val + 1 } ⊢ WP c (k ⟨⟩) Q) :
    St I K c p ⊢ WP c (.op (.enqueueDma gbM
      (.remote (Dev.tc n : Thread nD τ) ((fbM.slice (Rect.unit (s := S8x2x32x512) offd S1x2x32x512.size hid) (fun _ => rfl)).squeeze S2x32x512 hsq) (.dma sS) hsc)
      (.dma sR) hsrc hdst hsem) k) Q := by
  subst hod
  have hset : ((fbM.slice (Rect.unit (s := S8x2x32x512) ![j.succ.val, 0, 0, 0] S1x2x32x512.size hid) (fun _ => rfl)).squeeze S2x32x512 hsq).view.set = (cutRow.r j.succ).set :=
    (View.set_reshape _ _).trans (View.set_slice_whole cc0_scratch7 (cutRow.r j.succ))
  have hset' : (gbM : Memref sig .tc .vmem S2x32x512 .bf16).view.set = Finset.univ := View.set_whole cc0_scratch6
  refine step_send I K c 3 j hn hsS hsR (q := shareTok fullShare 7 j) (gbufG I c) (O₀ := owed c p) (O := owed c { p with a := j.val + 1 }) (credit_slotA j.succ) ?_ ?_ (fun fd => ?_) ?_ ?_ hk
  · rw [hset']; rfl
  · rw [hset]; rfl
  · refine (Entails.of_eq (pointsTo_congr (g := fbufG I (tgt c j)) (write_on _ fd (fbufG I (tgt c j)) _ ?_))).trans (Entails.of_eq (by rw [hset]; rfl))
    have h1 : (fun y => fbufG I (tgt c j) ((cutRow.r j.succ).emb y)) = k0_pay117 (gbufG I c) := by
      refine (funext fun y => cutRow.glue_emb _ j.succ y).trans ?_
      rw [src_succ, frm_tgt]
    refine (Memref.read_squeeze_slice (Val := Elt F) fbM (cutRow.r j.succ) (fun _ => rfl) hsq shapeCasts_S1x2x32x512_S2x32x512 (fbufG I (tgt c j))).trans ?_
    refine (congrArg (fun x => shapeCast S2x32x512 x shapeCasts_S1x2x32x512_S2x32x512) h1).trans ?_
    unfold k0_pay117
    funext y
    simp only [shapeCast, Shape.reshapeEquiv_reshapeEquiv, Shape.reshapeEquiv_self]
    rfl
  · unfold owed
    rw [ha, owe_step 3 c j j.val rfl]
    show _ = owe 0 c p.k + owe 1 c p.v + owe 2 c p.r + owe 3 c (j.val + 1) + _
    ac_rfl
  · unfold St Mem
    rw [hw, hg, ha]
    iintro ⟨#Hctx, HO, ⟨Hb, Hd, He, Ha⟩, H3, H5, H6, H7, H4, Hr⟩
    ihave Ha := (Cl_send I 3 c j j.val rfl) $$ Ha
    ihave H4 := (GB_send I c j j.val rfl) $$ H4
    icases Ha with ⟨Ht, Ha⟩
    icases H4 with ⟨Hs, H4⟩
    isplitr; · iexact Hctx
    isplitl [HO]; · iexact HO
    isplitl [Ht]; · iexact Ht
    isplitl [Hs]; · iexact Hs
    iintro Hcr HO
    ihave Ha := Ha $$ Hcr
    isplitr; · iexact Hctx
    isplitl [HO]; · iexact HO
    iframe

theorem step_ret {P : sProp (MT nD τ sig Unit (Elt F) ℕ UU ℕ)} {β : Type} {Q : β → sProp (MT nD τ sig Unit (Elt F) ℕ UU ℕ)} {v : β} (h : P ⊢ Q v) :
    P ⊢ WP c (.ret v) Q := by
  dsimp only [WP]; rw [wp_ret]; exact h.trans fupd_intro

/-- A transfer that only some devices make at this time. -/
theorem step_cond {P : sProp (MT nD τ sig Unit (Elt F) ℕ UU ℕ)} (P' : sProp (MT nD τ sig Unit (Elt F) ℕ UU ℕ)) {cnd : Prop} [Decidable cnd]
    {β : Type} {A : cnd → Prog (TpuEff nD τ sig (Elt F) Λ₀ .tc) β} {B : Prog (TpuEff nD τ sig (Elt F) Λ₀ .tc) β} {Q : β → sProp (MT nD τ sig Unit (Elt F) ℕ UU ℕ)}
    (hA : ∀ h : cnd, (P' ⊢ WP c B Q) → P ⊢ WP c (A h) Q) (hB : ¬ cnd → P = P') (hk : P' ⊢ WP c B Q) :
    P ⊢ WP c (if h : cnd then A h else B) Q := by
  by_cases h : cnd
  · rw [dif_pos h]; exact hA h hk
  · rw [dif_neg h, hB h]; exact hk

/-- Block row `j` goes out now on the devices that meet the condition, and on no other. -/
theorem cond_r (j : Fin 7) {cnd : Dev nD → Prop} {_ : Decidable (cnd c)} {n : ∀ d, cnd d → Dev nD} {sS sR : DmaSem sig} {β : Type} {B : Prog (TpuEff nD τ sig (Elt F) Λ₀ .tc) β}
    {Q : β → sProp (MT nD τ sig Unit (Elt F) ℕ UU ℕ)} {offs : Dev nD → Fin 3 → ℕ} {offd : Fin 4 → ℕ} {his : ∀ h : cnd c, _} {hid hsq} {hsc : ∀ h : cnd c, _} {hsrc : ∀ h : cnd c, _} {hdst : ∀ h : cnd c, _} {hsem : ∀ h : cnd c, _}
    (hk : St I K c { p with r := p.r + 1 } ⊢ WP c B Q)
    (hn : ∀ d h, n d h = tgt d j := by decide +kernel) (hos : ∀ d, cnd d → offs d = ![0, 32 * (tgt d j).val, 0] := by decide +kernel)
    (hq : ∀ d, cnd d → (tgt d j).val / 2 < p.ps := by decide +kernel) (hr : ∀ d, cnd d → tm 2 d j = p.r := by decide +kernel) (hskip : ∀ d, ¬ cnd d → ∀ i, tm 2 d i ≠ p.r := by decide +kernel)
    (hsS : sS = semIx 2 0 j.succ := by rfl) (hsR : sR = semIx 2 1 j.succ := by rfl) (hw : p.wr = 0 := by rfl) (hod : offd = ![j.succ.val, 0, 0, 0] := by rfl) :
    St I K c p ⊢ WP c (if h : cnd c then .op (.enqueueDma (psM.slice (Rect.unit (s := S2x256x512) (offs c) S2x32x512.size (his h)) (fun _ => rfl))
      (.remote (Dev.tc (n c h) : Thread nD τ) ((rbM.slice (Rect.unit (s := S8x2x32x512) offd S1x2x32x512.size hid) (fun _ => rfl)).squeeze S2x32x512 hsq) (.dma sS) (hsc h))
      (.dma sR) (hsrc h) (hdst h) (hsem h)) (fun _ => B) else B) Q := by
  refine step_cond (P' := St I K c { p with r := p.r + 1 }) (fun h hB => ?_) (fun h => ?_) hk
  · exact send_r I K (hn := hn c h) (hsS := hsS) (hsR := hsR) (hq := hq c h) (hr := hr c h) (hw := hw) (hos := hos c h) (hod := hod) (hk := hB)
  · exact skip_r I K (h := hskip c h) (hw := hw)

end Sends

/-! ## The waits -/

section Waits

theorem above_of_eq {n : ℕ} {O : CellTallies nD τ sig Unit} (h : O = 0) : Above n O := h ▸ above_zero n

variable {c} {j : Fin 7} {q : DmaSem sig} {k : PUnit.{1} → Prog (TpuEff nD τ sig (Elt F) Λ₀ .tc) α} {s s' : Shape} {e e' : EltTy} {κ' : Kind}
  {src : Memref sig .tc .vmem s' e'} {dst : Memref sig κ' .vmem s e} {hsrc : src.view.WordExact} {hdst : dst.view.WordExact}

theorem lvc_lt (a a' : Fin 4) (sd : Fin 2) (j : Fin 7) (h : a < a') : lvc (some (some (a, sd, j))) < 2 + a'.val := by
  revert a a' sd j; decide

theorem wait_ks (hq : q = semIx 0 0 j.succ := by rfl) (hN : dst.view.dmaCredit = N 0 := by rfl) (hw : p.wk = 2 * j.val := by rfl) (hs : 7 ≤ p.k := by decide) (hv : 7 ≤ p.v := by decide)
    (hk : St I K c { p with wk := 2 * j.val + 1 } ⊢ WP c (k ⟨⟩) Q) : St I K c p ⊢ WP c (.op (.waitDma2 q src dst hsrc hdst) k) Q := by
  refine step_wait I K c 0 j 0 hq (O := owed c p) hN (above_add (above_add (above_add (above_of_eq (owe_end 0 c p.k hs)) (above_of_eq (owe_end 1 c p.v hv))) (above_owe 2 c _ (lvc_lt _ _ _ _ (by decide)))) (above_owe 3 c _ (lvc_lt _ _ _ _ (by decide)))) (rest_send I c 0 j) ?_ hk
  unfold St
  rw [hw]
  iintro ⟨#Hctx, HO, ⟨Ha, Hb⟩, Hr⟩
  ihave Ha := (Cl_waitS I 0 c j p.k _ hs rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_kr (hq : q = semIx 0 1 j.succ := by rfl) (hN : dst.view.dmaCredit = N 0 := by rfl) (hw : p.wk = 2 * j.val + 1 := by rfl) (hs : 7 ≤ p.k := by decide) (hv : 7 ≤ p.v := by decide)
    (hk : St I K c { p with wk := 2 * j.val + 1 + 1 } ⊢ WP c (k ⟨⟩) Q) : St I K c p ⊢ WP c (.op (.waitDma2 q src dst hsrc hdst) k) Q := by
  refine step_wait I K c 0 j 1 hq (O := owed c p) hN (above_add (above_add (above_add (above_of_eq (owe_end 0 c p.k hs)) (above_of_eq (owe_end 1 c p.v hv))) (above_owe 2 c _ (lvc_lt _ _ _ _ (by decide)))) (above_owe 3 c _ (lvc_lt _ _ _ _ (by decide)))) (rest_recv I c 0 j) ?_ hk
  unfold St
  rw [hw]
  iintro ⟨#Hctx, HO, ⟨Ha, Hb⟩, Hr⟩
  ihave Ha := (Cl_waitR I 0 c j p.k _ rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_vs (hq : q = semIx 1 0 j.succ := by rfl) (hN : dst.view.dmaCredit = N 1 := by rfl) (hw : p.wv = 2 * j.val := by rfl) (hs : 7 ≤ p.v := by decide) (hk0 : 7 ≤ p.k := by decide)
    (hk : St I K c { p with wv := 2 * j.val + 1 } ⊢ WP c (k ⟨⟩) Q) : St I K c p ⊢ WP c (.op (.waitDma2 q src dst hsrc hdst) k) Q := by
  refine step_wait I K c 1 j 0 hq (O := owed c p) hN (above_add (above_add (above_add (above_of_eq (owe_end 0 c p.k hk0)) (above_of_eq (owe_end 1 c p.v hs))) (above_owe 2 c _ (lvc_lt _ _ _ _ (by decide)))) (above_owe 3 c _ (lvc_lt _ _ _ _ (by decide)))) (rest_send I c 1 j) ?_ hk
  unfold St
  rw [hw]
  iintro ⟨#Hctx, HO, ⟨Hb, Ha, Hd⟩, Hr⟩
  ihave Ha := (Cl_waitS I 1 c j p.v _ hs rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_vr (hq : q = semIx 1 1 j.succ := by rfl) (hN : dst.view.dmaCredit = N 1 := by rfl) (hw : p.wv = 2 * j.val + 1 := by rfl) (hs : 7 ≤ p.v := by decide) (hk0 : 7 ≤ p.k := by decide)
    (hk : St I K c { p with wv := 2 * j.val + 1 + 1 } ⊢ WP c (k ⟨⟩) Q) : St I K c p ⊢ WP c (.op (.waitDma2 q src dst hsrc hdst) k) Q := by
  refine step_wait I K c 1 j 1 hq (O := owed c p) hN (above_add (above_add (above_add (above_of_eq (owe_end 0 c p.k hk0)) (above_of_eq (owe_end 1 c p.v hs))) (above_owe 2 c _ (lvc_lt _ _ _ _ (by decide)))) (above_owe 3 c _ (lvc_lt _ _ _ _ (by decide)))) (rest_recv I c 1 j) ?_ hk
  unfold St
  rw [hw]
  iintro ⟨#Hctx, HO, ⟨Hb, Ha, Hd⟩, Hr⟩
  ihave Ha := (Cl_waitR I 1 c j p.v _ rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_rs (hq : q = semIx 2 0 j.succ := by rfl) (hN : dst.view.dmaCredit = N 2 := by rfl) (hw : p.wr = 2 * j.val := by rfl) (hs : 28 ≤ p.r := by decide) (hk0 : 7 ≤ p.k := by decide) (hv : 7 ≤ p.v := by decide)
    (hk : St I K c { p with wr := 2 * j.val + 1 } ⊢ WP c (k ⟨⟩) Q) : St I K c p ⊢ WP c (.op (.waitDma2 q src dst hsrc hdst) k) Q := by
  refine step_wait I K c 2 j 0 hq (O := owed c p) hN (above_add (above_add (above_add (above_of_eq (owe_end 0 c p.k hk0)) (above_of_eq (owe_end 1 c p.v hv))) (above_of_eq (owe_end 2 c p.r hs))) (above_owe 3 c _ (lvc_lt _ _ _ _ (by decide)))) (rest_send I c 2 j) ?_ hk
  unfold St
  rw [hw]
  iintro ⟨#Hctx, HO, ⟨Hb, Hd, Ha, He⟩, Hr⟩
  ihave Ha := (Cl_waitS I 2 c j p.r _ hs rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_rr (hq : q = semIx 2 1 j.succ := by rfl) (hN : dst.view.dmaCredit = N 2 := by rfl) (hw : p.wr = 2 * j.val + 1 := by rfl) (hs : 28 ≤ p.r := by decide) (hk0 : 7 ≤ p.k := by decide) (hv : 7 ≤ p.v := by decide)
    (hk : St I K c { p with wr := 2 * j.val + 1 + 1 } ⊢ WP c (k ⟨⟩) Q) : St I K c p ⊢ WP c (.op (.waitDma2 q src dst hsrc hdst) k) Q := by
  refine step_wait I K c 2 j 1 hq (O := owed c p) hN (above_add (above_add (above_add (above_of_eq (owe_end 0 c p.k hk0)) (above_of_eq (owe_end 1 c p.v hv))) (above_of_eq (owe_end 2 c p.r hs))) (above_owe 3 c _ (lvc_lt _ _ _ _ (by decide)))) (rest_recv I c 2 j) ?_ hk
  unfold St
  rw [hw]
  iintro ⟨#Hctx, HO, ⟨Hb, Hd, Ha, He⟩, Hr⟩
  ihave Ha := (Cl_waitR I 2 c j p.r _ rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_as (hq : q = semIx 3 0 j.succ := by rfl) (hN : dst.view.dmaCredit = N 3 := by rfl) (hw : p.wa = 2 * j.val := by rfl) (hs : 7 ≤ p.a := by decide) (hk0 : 7 ≤ p.k := by decide) (hv : 7 ≤ p.v := by decide) (hr : 28 ≤ p.r := by decide)
    (hk : St I K c { p with wa := 2 * j.val + 1 } ⊢ WP c (k ⟨⟩) Q) : St I K c p ⊢ WP c (.op (.waitDma2 q src dst hsrc hdst) k) Q := by
  refine step_wait I K c 3 j 0 hq (O := owed c p) hN (above_add (above_add (above_add (above_of_eq (owe_end 0 c p.k hk0)) (above_of_eq (owe_end 1 c p.v hv))) (above_of_eq (owe_end 2 c p.r hr))) (above_of_eq (owe_end 3 c p.a hs))) (rest_send I c 3 j) ?_ hk
  unfold St
  rw [hw]
  iintro ⟨#Hctx, HO, ⟨Hb, Hd, He, Ha⟩, Hr⟩
  ihave Ha := (Cl_waitS I 3 c j p.a _ hs rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

theorem wait_ar (hq : q = semIx 3 1 j.succ := by rfl) (hN : dst.view.dmaCredit = N 3 := by rfl) (hw : p.wa = 2 * j.val + 1 := by rfl) (hs : 7 ≤ p.a := by decide) (hk0 : 7 ≤ p.k := by decide) (hv : 7 ≤ p.v := by decide) (hr : 28 ≤ p.r := by decide)
    (hk : St I K c { p with wa := 2 * j.val + 1 + 1 } ⊢ WP c (k ⟨⟩) Q) : St I K c p ⊢ WP c (.op (.waitDma2 q src dst hsrc hdst) k) Q := by
  refine step_wait I K c 3 j 1 hq (O := owed c p) hN (above_add (above_add (above_add (above_of_eq (owe_end 0 c p.k hk0)) (above_of_eq (owe_end 1 c p.v hv))) (above_of_eq (owe_end 2 c p.r hr))) (above_of_eq (owe_end 3 c p.a hs))) (rest_recv I c 3 j) ?_ hk
  unfold St
  rw [hw]
  iintro ⟨#Hctx, HO, ⟨Hb, Hd, He, Ha⟩, Hr⟩
  ihave Ha := (Cl_waitR I 3 c j p.a _ rfl) $$ Ha
  icases Ha with ⟨Ht, Ha⟩
  isplitr; · iexact Hctx
  isplitl [HO]; · iexact HO
  isplitl [Ht]; · iexact Ht
  iintro Hp HO
  ihave Ha := Ha $$ Hp
  isplitr; · iexact Hctx
  isplitl [HO]; · iexact HO
  iframe
  iexact Hr

end Waits

end Cert.KernelIdeal.Attn

end
-- ==== Proof.Pieces.lean ====
/- How a piece of the kernel's body is handed its buffers, and the resting points between the pieces. -/
module

public import proofs.«01_k».proof.Proof.Moves

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A piece of the body, on the buffers and semaphores the call hands it. -/
abbrev at_ {β : Type 1} (f : ∀ (arg0 : Memref sig .tc .vmem S2x256x512 .f32) (_ : arg0.IsWhole) (arg1 : Memref sig .tc .vmem S512x256 .f32) (_ : arg1.IsWhole)
    (arg2 : Memref sig .tc .vmem S2x256x32x64 .f32) (_ : arg2.IsWhole) (arg3 : Memref sig .tc .vmem S2x256x32x64 .f32) (_ : arg3.IsWhole)
    (arg4 : Memref sig .tc .vmem S256x512 .f32) (_ : arg4.IsWhole) (arg5 : Memref sig .tc .vmem S2x256x512 .f32) (_ : arg5.IsWhole)
    (arg6 : Memref sig .tc .vmem S32x2x256x64 .fp8e4m3) (_ : arg6.IsWhole) (arg7 : Memref sig .tc .vmem S32x2x256x64 .bf16) (_ : arg7.IsWhole)
    (arg8 : Memref sig .tc .vmem S8x4x2x256x64 .fp8e4m3) (_ : arg8.IsWhole) (arg9 : Memref sig .tc .vmem S8x4x2x256x64 .bf16) (_ : arg9.IsWhole)
    (arg10 : Memref sig .tc .vmem S2x256x512 .bf16) (_ : arg10.IsWhole) (arg11 : Memref sig .tc .vmem S8x2x32x512 .bf16) (_ : arg11.IsWhole)
    (arg12 : Memref sig .tc .vmem S2x32x512 .bf16) (_ : arg12.IsWhole) (arg13 : Memref sig .tc .vmem S8x2x32x512 .bf16) (_ : arg13.IsWhole)
    (arg14 : Memref sig .tc .vmem S2x256x4x64 .f32) (_ : arg14.IsWhole) (arg15 : Memref sig .tc .vmem S2x4x4x64x512 .bf16) (_ : arg15.IsWhole)
    (_ _ _ _ _ _ _ _ : DmaSems sig S8), β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) cc0_scratch10 cc0_scratch11 cc0_scratch12 cc0_scratch13 cc0_scratch14 cc0_scratch15 cc0_scratch16 cc0_scratch17

variable (I : Dev nD → In F) (K : Dev nD × CellIx → ℕ)

/-! ## Resting points -/

/-- All blocks of keys and values are on their way. -/
abbrev P₁ : Pt := { km := 7, k := 7, vm := 7, v := 7 }
/-- The device's own blocks lie in their slots too. -/
abbrev P₂ : Pt := { P₁ with ko := true, vo := true }
/-- The keys have arrived. -/
abbrev P₃ : Pt := { P₂ with wk := 14 }
/-- All weights are known and the values have arrived. -/
abbrev P₄ : Pt := { P₃ with w := 32, wv := 14 }
/-- All rows have been sent to their reducers. -/
abbrev P₅ : Pt := { P₄ with cx := 32, ps := 4, r := 28, ro := true }
/-- The rows have arrived, and their sum is stored. -/
abbrev P₆ : Pt := { P₅ with wr := 14, o := 1, g := true }
/-- The sums have been exchanged. -/
abbrev P₇ : Pt := { P₆ with a := 7, wa := 14 }

/-! ## The result's rows -/

variable {c : Dev nD} {α : Type} {Q : α → sProp (MT nD τ sig Unit (Elt F) ℕ UU ℕ)} {p : Pt} {off : Fin 3 → ℕ} {hin} {w : FVec F S2x32x512 .f32} {hx hm'}
  {k : PUnit.{1} → Prog (TpuEff nD τ sig (Elt F) Λ₀ .tc) α}

/-- The rows this device has summed. -/
theorem put_own (hn : p.o = 0 := by rfl) (ho : off = ![0, 32 * c.val, 0] := by clear * -; revert c; decide +kernel) (hw : w = k0_pay118 (rbufG I c) := by rfl)
    (hk : St I K c { p with o := 1 } ⊢ WP c (k ⟨⟩) Q) :
    St I K c p ⊢ WP c (.op (.store oM (Rect.unit (s := S2x256x512) off S2x32x512.size hin) w Finset.univ hx hm') k) Q := by
  have e : ordO c c = 0 := by clear * -; revert c; decide
  exact put_o I K c (hn := hn.trans e.symm) (ho := ho) (hw := hw.trans (if_pos rfl).symm) (hk := by rw [e]; exact hk)

/-- The rows another device has summed. -/
theorem put_peer (j : Fin 7) (hn : p.o = j.val + 1 := by rfl) (ho : off = ![0, 32 * (frm c j).val, 0] := by clear * -; revert c; decide +kernel)
    (hw : w = k0_pay121 (k0_pay117 (gbufG I (frm c j))) := by rfl) (hk : St I K c { p with o := j.val + 2 } ⊢ WP c (k ⟨⟩) Q) :
    St I K c p ⊢ WP c (.op (.store oM (Rect.unit (s := S2x256x512) off S2x32x512.size hin) w Finset.univ hx hm') k) Q := by
  have e : ordO c (frm c j) = j.val + 1 := by clear * -; revert c j; decide
  exact put_o I K (frm c j) (hn := hn.trans e.symm) (ho := ho) (hw := hw.trans (if_neg (frm_ne c j)).symm) (hk := by rw [e]; exact hk)

end Cert.KernelIdeal.Attn
-- ==== Proof.Entry.lean ====
/- The entry handshake: a device tells its seven peers that it has entered, handing each the slots that peer will write, and
  waits for the same from them. -/
module

public import proofs.«01_k».proof.Proof.Pieces

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CellIx → ℕ) (c : Dev nD)

/-- What transfer `j` of class `a` needs from the start, apart from the slot it will write. -/
def Base (a : Fin 4) (c : Dev nD) (j : Fin 7) : sProp 𝕄 := iprop(
  (atPos ER (sendCell c a j) 0 ∅ 0 ∗ dutyTok ER (sendCell c a j) 0 0 ∗ dutyTok ER (recvCell (tgt c j) a j) 0 0)
  ∗ atPos ER (recvCell c a j) 0 ∅ 0 ∗ cred (tallyAt (recvCell c a j) () (N a)))

/-- What signal `j` takes along: its token and the slots that the peer will write. -/
def Sig (c : Dev nD) (n : ℕ) (j : Fin 7) : sProp 𝕄 :=
  if j.val < n then iprop(emp) else iprop(dutyTok ER (barCell (tgt c j)) 0 j ∗ bigSep Finset.univ fun a : Fin 4 => LandP (F := F) a c (rev7 j))

/-- The device after `n` of its signals. -/
def StB (n : ℕ) : sProp 𝕄 := iprop(ctx I K ∗ (∃ W, owes (c : Thread nD τ) (owed c {} + oweBar c n) W)
  ∗ (atPos ER (barCell c) 0 ∅ 0 ∗ cred (tallyAt (barCell c) () 7)) ∗ (bigSep Finset.univ fun j : Fin 7 => Sig (F := F) c n j)
  ∗ (bigSep Finset.univ fun a : Fin 4 => bigSep Finset.univ fun j : Fin 7 => Base (F := F) a c j) ∗ Mem I c {})

theorem Cl_start (a : Fin 4) : iprop((bigSep Finset.univ fun j : Fin 7 => Base (F := F) a c j)
    ∗ bigSep Finset.univ fun j : Fin 7 => LandP (F := F) a (tgt c j) j) ⊢ Cl I a c 0 0 := by
  rw [← bigSep_sep']
  refine bigSep_mono fun j _ => (?_ : iprop(Base (F := F) a c j ∗ LandP (F := F) a (tgt c j) j) ⊢ iprop(Snd I a c 0 0 j ∗ Rcv I a c 0 j))
  unfold Base Snd Rcv
  rw [if_neg (show ¬ 2 * j.val < 0 by omega), if_neg (show ¬ tm a c j < 0 by omega), if_neg (show ¬ 2 * j.val + 1 < 0 by omega)]
  iintro ⟨⟨⟨H1, H2, H3⟩, H4, H5⟩, H6⟩
  isplitl [H1 H2 H3 H6]
  · isplitl [H1]; · iexact H1
    isplitl [H2]; · iexact H2
    isplitl [H3] <;> iassumption
  · isplitl [H4] <;> iassumption

theorem sig_send {α : Type} {Q : α → sProp (MT nD τ sig Unit (Elt F) ℕ UU ℕ)} {k : PUnit.{1} → Prog (TpuEff nD τ sig (Elt F) Λ₀ .tc) α}
    (j : Fin 7) {n : Dev nD} (hn : n = tgt c j) (hk : StB I K c (j.val + 1) ⊢ WP c (k ⟨⟩) Q) :
    StB I K c j.val ⊢ WP c (.op (.semSignal (Dev.tc n : Thread nD τ) barS (1#32 : BitVec 32).toInt) k) Q := by
  subst hn
  unfold StB
  iintro ⟨#Hctx, ⟨%W, HO⟩, Hb, Hs, Hr⟩
  ihave Hs := (bigSep_upd (fun i : Fin 7 => Sig (F := F) c j.val i) (fun i => Sig (F := F) c (j.val + 1) i) j (fun i hi => by
    have : i.val ≠ j.val := fun h => hi (Fin.ext h)
    unfold Sig
    by_cases h : i.val < j.val
    · rw [if_pos h, if_pos (by omega)]
    · rw [if_neg h, if_neg (by omega)])) $$ Hs
  icases Hs with ⟨Hj, Hs⟩
  ihave Hj := (Entails.of_eq (show Sig (F := F) c j.val j = iprop(dutyTok ER (barCell (tgt c j)) 0 j ∗ bigSep Finset.univ fun a : Fin 4 => LandP (F := F) a c (rev7 j))
    from if_neg (Nat.lt_irrefl _))) $$ Hj
  icases Hj with ⟨Ht, Hp⟩
  iapply (Rounds.wp_signal 𝒱₀ ER (Rd I) (c : Thread nD τ) none (dst := (tgt c j : Thread nD τ)) (κ := K (tgt c j, none))
    (d := j) (by rw [duties_bar]; exact Finset.mem_univ _) ((amount_bar I (tgt c j) j).trans (by decide)) () (owed c {} + oweBar c (j.val + 1))
    (show owed c {} + oweBar c j.val = _ by rw [oweBar_step, ← add_assoc]; rfl)) $$ [HO Ht Hp]
  · isplitr; · iapply (inv_at I K (tgt c j, none)); iexact Hctx
    isplitl [HO]; · iexact HO
    isplitl [Ht]; · iexact Ht
    isplitl [Hp]
    · rw [payload_bar]; unfold BarP; rw [frm_tgt]; iexact Hp
    iapply (reached_at I K (tgt c j, none)); iexact Hctx
  iintro HO
  iapply hk
  unfold StB
  isplitr; · iexact Hctx
  isplitl [HO]; · iexists W; iexact HO
  isplitl [Hb]; · iexact Hb
  isplitl [Hs]
  · iapply Hs
    unfold Sig; rw [if_pos (Nat.lt_succ_self _)]; iempintro
  iexact Hr

theorem sig_wait {α : Type} {Q : α → sProp (MT nD τ sig Unit (Elt F) ℕ UU ℕ)} {k : PUnit.{1} → Prog (TpuEff nD τ sig (Elt F) Λ₀ .tc) α}
    (hk : St I K c {} ⊢ WP c (k ⟨⟩) Q) :
    StB I K c 7 ⊢ WP c (.op (.semWait barS (7#32 : BitVec 32).toInt) k) Q := by
  unfold StB
  iintro ⟨#Hctx, ⟨%W, HO⟩, ⟨Hat, Hcr⟩, -, Hbase, Hm⟩
  rw [oweBar_end, add_zero]
  iapply (Rounds.wp_wait_rest_token 𝒱₀ ER (Rd I) (c : Thread nD τ) none (κ := K (c, none))
    (wpE_semWait_eq 𝒱₀ (c : Thread nD τ) none Set.univ) (Set.mem_univ _) () (O := owed c {}) (W := W) (R := 0) (m := 0) (T := ∅)
    (by rw [expect_bar]; decide)) $$ [Hcr HO Hat]
  · isplitr; · iapply (inv_at I K (c, none)); iexact Hctx
    isplitl [Hcr]; · iexact Hcr
    isplitl [HO]; · iexact HO
    isplitr
    · iapply (mayWait c _ (owed c {}) (by
        rw [dec_bar]
        exact above_add (above_add (above_add (above_owe 0 c _ (by decide)) (above_owe 1 c _ (by decide))) (above_owe 2 c _ (by decide))) (above_owe 3 c _ (by decide))))
      iapply (levs_at I K); iexact Hctx
    iexact Hat
  iintro ⟨HO, Hat, -, Hpay⟩
  ihave Hpay := (Entails.of_eq (rest_bar I c)) $$ Hpay
  imod (Rounds.cell_close ER (Rd I) (Set.mem_univ (K (c, none))) (fun h => h) (R := 0 + 1) (duties_later I (barCell c))) $$ [Hat] with Hz
  · isplitr; · iapply (inv_at I K (c, none)); iexact Hctx
    iexact Hat
  iapply hk
  unfold St
  isplitr; · iexact Hctx
  isplitl [HO]; · iexists _; iexact HO
  isplitl [Hbase Hpay]
  · ihave Hpay := (Entails.of_eq (bigSep_univ_comm (fun (j : Fin 7) (a : Fin 4) => LandP (F := F) a (tgt c j) j))) $$ Hpay
    ihave H := (Entails.of_eq (bigSep_sep' (s := Finset.univ) (fun a : Fin 4 => bigSep Finset.univ fun j : Fin 7 => Base (F := F) a c j)
      (fun a : Fin 4 => bigSep Finset.univ fun j : Fin 7 => LandP (F := F) a (tgt c j) j)).symm) $$ [Hbase Hpay]
    · isplitl [Hbase] <;> iassumption
    ihave H := (show (bigSep Finset.univ fun a : Fin 4 => iprop((bigSep Finset.univ fun j : Fin 7 => Base (F := F) a c j)
        ∗ bigSep Finset.univ fun j : Fin 7 => LandP (F := F) a (tgt c j) j)) ⊢ bigSep Finset.univ fun a : Fin 4 => Cl I a c 0 0 from
      bigSep_mono fun a _ => Cl_start I c a) $$ H
    ihave H := (Entails.of_eq (bigSep_univ_eq_bigSepL [0, 1, 2, 3] (by decide) (by decide) (fun a : Fin 4 => Cl I a c 0 0))) $$ H
    simp only [bigSepL]
    iexact H
  isplitl [Hz]; · iexact Hz
  iexact Hm

/-! ## The first three pieces -/

theorem part1 {Φ : _ → sProp (MT nD τ sig Unit (Elt F) ℕ UU ℕ)} (hk : ∀ v2 v30 c8 v31, StB I K c 2 ⊢ Φ ⟨c, v2, SemArray.scalar (sig.barrier 0 rfl), v30, c8, v31⟩) :
    StB I K c 0 ⊢ WP c (at_ (k0_part1 (F := F))) Φ := by
  dsimp only [at_]; rw [k0_part1_eq_skeleton]; unfold k0_part1_skel
  simp only [semSignalWord, semWaitWord, Prog.lift, Prog.bind_op, Prog.bind_ret, Prog.pure_eq_ret]
  dsimp only [WP]
  rw [wp_deviceId]
  refine sig_send I K c (j := 0) (by clear * -; revert c; decide +kernel) ?_
  refine sig_send I K c (j := 1) (by clear * -; revert c; decide +kernel) ?_
  exact step_ret (hk _ _ _ _)

theorem part2 {Φ : _ → sProp (MT nD τ sig Unit (Elt F) ℕ UU ℕ)} {v2 v30 c8 v31} (hk : ∀ r, StB I K c 4 ⊢ Φ r) :
    StB I K c 2 ⊢ WP c (at_ (k0_part2 (F := F)) c v2 (SemArray.scalar (sig.barrier 0 rfl)) v30 c8 v31) Φ := by
  dsimp only [at_]; rw [k0_part2_eq_skeleton]; unfold k0_part2_skel
  simp only [semSignalWord, semWaitWord, Prog.lift, Prog.bind_op, Prog.bind_ret, Prog.pure_eq_ret]
  refine sig_send I K c (j := 2) (by clear * -; revert c; decide +kernel) ?_
  refine sig_send I K c (j := 3) (by clear * -; revert c; decide +kernel) ?_
  exact step_ret (hk _)

theorem part3 {Φ : _ → sProp (MT nD τ sig Unit (Elt F) ℕ UU ℕ)} {v2 v59 v64 v65} (hk : ∀ r, St I K c {} ⊢ Φ r) :
    StB I K c 4 ⊢ WP c (at_ (k0_part3 (F := F)) c v2 (SemArray.scalar (sig.barrier 0 rfl)) v59 v64 v65) Φ := by
  dsimp only [at_]; rw [k0_part3_eq_skeleton]; unfold k0_part3_skel
  simp only [semSignalWord, semWaitWord, Prog.lift, Prog.bind_op, Prog.bind_ret, Prog.pure_eq_ret]
  refine sig_send I K c (j := 4) (by clear * -; revert c; decide +kernel) ?_
  refine sig_send I K c (j := 5) (by clear * -; revert c; decide +kernel) ?_
  refine sig_send I K c (j := 6) (by clear * -; revert c; decide +kernel) ?_
  refine sig_wait I K c ?_
  exact step_ret (hk _)

end Cert.KernelIdeal.Attn

end
-- ==== Proof.Ends.lean ====
/- The two ends of the body: from what the launch deals a device to the state in which the body begins, and from the state it
  ends in to what the launch takes back. -/
module

public import proofs.«01_k».proof.Proof.Entry

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

variable (I : Dev nD → In F) (K : Dev nD × CellIx → ℕ) (c : Dev nD)

/-! ## Regrouping -/

/-- A device and its seven peers are all devices. -/
def tgtE (c : Dev nD) : Fin 8 ≃ Dev nD where
  toFun := Fin.cases c (tgt c)
  invFun t := ⟨(t.val + 8 - c.val) % 8, by omega⟩
  left_inv := by revert c; decide
  right_inv := by revert c; decide

theorem bigSep_peers (Φ : Dev nD → sProp 𝕄) : bigSep Finset.univ Φ = iprop(Φ c ∗ bigSep Finset.univ fun j : Fin 7 => Φ (tgt c j)) := by
  rw [bigSep_univ_equiv (tgtE c), bigSep_succ]; rfl

omit [FloatOps F] in
theorem bigSep_rev (Φ : Fin 7 → sProp 𝕄) : bigSep Finset.univ Φ = bigSep Finset.univ fun j : Fin 7 => Φ (rev7 j) := bigSep_univ_equiv revE Φ

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_two (Φ : Fin 2 → sProp 𝕄) : bigSep Finset.univ Φ = iprop(Φ 0 ∗ Φ 1) :=
  bigSep_univ_eq_bigSepL [0, 1] (by decide) (by decide) Φ

/-- Of each eight semaphores the first, and the other seven. -/
theorem sems_split (Φ : Fin 4 → Fin 2 → Fin 8 → sProp 𝕄) : (bigSep Finset.univ fun y : Fin 4 × Fin 2 × Fin 8 => Φ y.1 y.2.1 y.2.2)
    = iprop((bigSep Finset.univ fun x : Fin 4 × Fin 2 => Φ x.1 x.2 0) ∗ bigSep Finset.univ fun y : Fin 4 × Fin 2 × Fin 7 => Φ y.1 y.2.1 y.2.2.succ) := by
  rw [bigSep_univ_prod, bigSep_univ_prod, bigSep_univ_prod, ← bigSep_sep']
  refine bigSep_congr fun a _ => ?_
  rw [bigSep_univ_prod, bigSep_univ_prod, ← bigSep_sep']
  exact bigSep_congr fun s _ => bigSep_succ _

omit [FloatOps F] in
theorem cut_split {T : Type} [Fintype T] [DecidableEq T] (b : Ref sig .tc) (cut : Cut b.ty.shape T) :
    (iprop(∃ f : Buf (Elt F) (loc c b), loc c b ↦{fullShare} f) : sProp 𝕄) ⊢ bigSep Finset.univ fun t : T => iprop(∃ f : Buf (Elt F) (loc c b), loc c b ↦[(cut.r t).set]{fullShare} f) := by
  iintro ⟨%f, H⟩
  ihave H := (Entails.of_eq (Ring.pointsTo_blocks (ℓ := loc c b) (fun t => (cut.r t).set) cut.disj cut.cov f)) $$ H
  iapply (show (bigSep Finset.univ fun t : T => (loc c b ↦[(cut.r t).set]{fullShare} f : sProp 𝕄))
    ⊢ bigSep Finset.univ fun t : T => iprop(∃ f : Buf (Elt F) (loc c b), loc c b ↦[(cut.r t).set]{fullShare} f) from
      bigSep_mono fun t _ => (by iintro H; iexists f; iexact H : (loc c b ↦[(cut.r t).set]{fullShare} f : sProp 𝕄) ⊢ iprop(∃ f : Buf (Elt F) (loc c b), loc c b ↦[(cut.r t).set]{fullShare} f)))
  iexact H

omit [FloatOps F] in
theorem cut_join {T : Type} [Fintype T] [DecidableEq T] (b : Ref sig .tc) (cut : Cut b.ty.shape T) (f₀ : Buf (Elt F) (loc c b)) :
    (bigSep Finset.univ fun t : T => iprop(∃ f : Buf (Elt F) (loc c b), loc c b ↦[(cut.r t).set]{fullShare} f)) ⊢ (iprop(∃ f : Buf (Elt F) (loc c b), loc c b ↦{fullShare} f) : sProp 𝕄) :=
  Ring.pointsTo_blocks_join_exists (ℓ := loc c b) (fun t => (cut.r t).set) cut.disj cut.cov f₀

omit [FloatOps F] in
theorem some_of {T : Type} [Fintype T] [DecidableEq T] (b : Ref sig .tc) (S : T → Finset (Idx (loc c b))) (f : Buf (Elt F) (loc c b)) :
    (bigSep Finset.univ fun t : T => (loc c b ↦[S t]{fullShare} f : sProp 𝕄)) ⊢ bigSep Finset.univ fun t : T => iprop(∃ f : Buf (Elt F) (loc c b), loc c b ↦[S t]{fullShare} f) :=
  bigSep_mono fun t _ => (by iintro H; iexists f; iexact H : (loc c b ↦[S t]{fullShare} f : sProp 𝕄) ⊢ iprop(∃ f : Buf (Elt F) (loc c b), loc c b ↦[S t]{fullShare} f))

/-! ## The scratch buffers and the semaphores, at entry and at exit -/

/-- The ten scratch buffers, at any contents. -/
def Scr (c : Dev nD) : sProp 𝕄 := iprop((∃ f : Buf (Elt F) (loc c cc0_scratch0), loc c cc0_scratch0 ↦{fullShare} f)
  ∗ (∃ f : Buf (Elt F) (loc c cc0_scratch1), loc c cc0_scratch1 ↦{fullShare} f) ∗ (∃ f : Buf (Elt F) (loc c cc0_scratch2), loc c cc0_scratch2 ↦{fullShare} f)
  ∗ (∃ f : Buf (Elt F) (loc c cc0_scratch3), loc c cc0_scratch3 ↦{fullShare} f) ∗ (∃ f : Buf (Elt F) (loc c cc0_scratch4), loc c cc0_scratch4 ↦{fullShare} f)
  ∗ (∃ f : Buf (Elt F) (loc c cc0_scratch5), loc c cc0_scratch5 ↦{fullShare} f) ∗ (∃ f : Buf (Elt F) (loc c cc0_scratch6), loc c cc0_scratch6 ↦{fullShare} f)
  ∗ (∃ f : Buf (Elt F) (loc c cc0_scratch7), loc c cc0_scratch7 ↦{fullShare} f) ∗ (∃ f : Buf (Elt F) (loc c cc0_scratch8), loc c cc0_scratch8 ↦{fullShare} f)
  ∗ (∃ f : Buf (Elt F) (loc c cc0_scratch9), loc c cc0_scratch9 ↦{fullShare} f))

/-- The kernel's own semaphores. -/
abbrev osem (y : Fin 4 × Fin 2 × Fin 8) : SemLoc sig := .dma (semIx y.1 y.2.1 y.2.2)

/-- The tokens and positions a device starts from. -/
def Own (c : Dev nD) : sProp 𝕄 := iprop(atPos ER (barCell c) 0 ∅ 0
  ∗ (bigSep Finset.univ fun j : Fin 7 => dutyTok ER (barCell (tgt c j)) 0 j)
  ∗ (bigSep Finset.univ fun a : Fin 4 => bigSep Finset.univ fun j : Fin 7 =>
      iprop(atPos ER (sendCell c a j) 0 ∅ 0 ∗ dutyTok ER (sendCell c a j) 0 0 ∗ dutyTok ER (recvCell (tgt c j) a j) 0 0 ∗ atPos ER (recvCell c a j) 0 ∅ 0))
  ∗ bigSep Finset.univ fun x : Fin 4 × Fin 2 => semVal ((c : Thread nD τ), .dma (semIx x.1 x.2 0)) 0)
/-- The credits it starts from. -/
def Creds (c : Dev nD) : sProp 𝕄 := iprop(cred (tallyAt (barCell c) () 7)
  ∗ bigSep Finset.univ fun a : Fin 4 => bigSep Finset.univ fun j : Fin 7 => cred (tallyAt (recvCell c a j) () (N a)))

omit [FloatOps F] in
theorem tiles_start (A B : Dev nD → sProp 𝕄) : bigSep Finset.univ B ⊢ Tiles A B c 0 0 := by
  unfold Tiles
  exact Entails.of_eq (bigSep_congr fun t _ => by rw [if_neg (Nat.not_lt_zero _), if_neg (Nat.not_lt_zero _)])

/-- A buffer of eight slots: slot 0, and the others handed to the peers that write them. -/
theorem slots_start (b : Ref sig .tc) (cut : Cut b.ty.shape (Fin 8)) :
    (iprop(∃ f : Buf (Elt F) (loc c b), loc c b ↦{fullShare} f) : sProp 𝕄)
      ⊢ iprop((∃ f, loc c b ↦[(cut.r 0).set]{fullShare} f) ∗ bigSep Finset.univ fun j : Fin 7 => iprop(∃ f, loc c b ↦[(cut.r (rev7 j).succ).set]{fullShare} f)) := by
  refine (cut_split c b cut).trans (Entails.of_eq ?_)
  rw [bigSep_succ, bigSep_rev]

theorem mem_start : iprop(Scr (F := F) c ∗ Ins I c ∗ (∃ f : Buf (Elt F) (loc c cc0_stg5_0), loc c cc0_stg5_0 ↦{fullShare} f)
      ∗ bigSep Finset.univ fun x : Fin 4 × Fin 2 => semVal ((c : Thread nD τ), .dma (semIx x.1 x.2 0)) 0)
    ⊢ iprop(Mem I c {} ∗ bigSep Finset.univ fun j : Fin 7 => bigSep Finset.univ fun a : Fin 4 => LandP (F := F) a c (rev7 j)) := by
  unfold Scr Mem
  iintro ⟨⟨H0, H1, H2, H3, H4, H5, H6, H7, ⟨%f8, H8⟩, ⟨%f9, H9⟩⟩, Hin, ⟨%fo, Ho⟩, Hs⟩
  ihave H2 := (slots_start (F := F) c cc0_scratch2 cutSlot) $$ H2
  ihave H3 := (slots_start (F := F) c cc0_scratch3 cutSlot) $$ H3
  ihave H5 := (slots_start (F := F) c cc0_scratch5 cutRow) $$ H5
  ihave H7 := (slots_start (F := F) c cc0_scratch7 cutRow) $$ H7
  icases H2 with ⟨H2, L0⟩
  icases H3 with ⟨H3, L1⟩
  icases H5 with ⟨H5, L2⟩
  icases H7 with ⟨H7, L3⟩
  isplitl [H0 H1 H2 H3 H4 H5 H6 H7 H8 H9 Hin Ho Hs]
  · isplitl [H0]
    · unfold KS
      iapply (tiles_start (F := F) c _ _)
      iapply (cut_split (F := F) c cc0_scratch0 cutSrc); iexact H0
    isplitl [H1]
    · unfold VS
      iapply (tiles_start (F := F) c _ _)
      iapply (cut_split (F := F) c cc0_scratch1 cutSrc); iexact H1
    isplitl [H4]
    · unfold PS
      ihave H4 := (cut_split (F := F) c cc0_scratch4 cutQ) $$ H4
      isplitl [H4]
      · iapply (Entails.of_eq (bigSep_congr fun (b : Fin 4) _ => (if_neg (Nat.not_lt_zero b.val)).symm)); iexact H4
      · iapply (Entails.of_eq (bigSep_congr (s := Finset.univ) fun (t : Dev nD) _ => (if_neg (fun h : t.val / 2 < 0 ∧ ¬ sentR c t 0 => Nat.not_lt_zero _ h.1) :
          (if t.val / 2 < 0 ∧ ¬ sentR c t 0 then psTile I c t else iprop(emp)) = _)).symm)
        iapply (Entails.of_eq (bigSep_emp_const (Finset.univ : Finset (Dev nD))).symm); iempintro
    isplitl [H6]; · unfold GB; rw [if_neg (by decide)]; iexact H6
    isplitl [H2]; · unfold OwnK; rw [if_neg (by decide)]; iexact H2
    isplitl [H3]; · unfold OwnV; rw [if_neg (by decide)]; iexact H3
    isplitl [H5]; · unfold OwnR; rw [if_neg (by decide)]; iexact H5
    isplitl [H9]
    · unfold WB Held; iexists f9; isplitr
      · ipureintro; exact fun i h => absurd h (Nat.not_lt_zero _)
      · iexact H9
    isplitl [H8]
    · unfold CB Held; iexists f8; isplitr
      · ipureintro; exact fun i h => absurd h (Nat.not_lt_zero _)
      · iexact H8
    isplitl [Ho]
    · unfold OB Held; iexists fo; isplitr
      · ipureintro; exact fun i h => absurd h (Nat.not_lt_zero _)
      · iexact Ho
    isplitl [Hin]; · iexact Hin
    unfold Idle
    isplitl [H7]; · iexact H7
    iexact Hs
  · iapply (Entails.of_eq (bigSep_univ_comm (fun (a : Fin 4) (j : Fin 7) => LandP (F := F) a c (rev7 j))))
    rw [bigSep_four]
    isplitl [L0]; · iexact L0
    isplitl [L1]; · iexact L1
    isplitl [L2]; · iexact L2
    iexact L3

/-- From what the launch deals to the state in which the body begins. -/
theorem start_body (W : Waits sig Unit) : iprop(ctx I K ∗ owes (c : Thread nD τ) (owed c {} + oweBar c 0) W ∗ Own (F := F) c ∗ Creds (F := F) c ∗ Scr (F := F) c
      ∗ Ins I c ∗ (∃ f : Buf (Elt F) (loc c cc0_stg5_0), loc c cc0_stg5_0 ↦{fullShare} f)) ⊢ StB I K c 0 := by
  unfold Own Creds StB
  iintro ⟨Hctx, HO, ⟨Hat, Hd, Hb, Hs⟩, ⟨Hcb, Hcr⟩, Hscr, Hin, Ho⟩
  ihave Hm := (mem_start I c) $$ [Hscr Hin Ho Hs]
  · isplitl [Hscr]; · iexact Hscr
    isplitl [Hin]; · iexact Hin
    isplitl [Ho]; · iexact Ho
    iexact Hs
  icases Hm with ⟨Hm, HL⟩
  isplitl [Hctx]; · iexact Hctx
  isplitl [HO]; · iexists W; iexact HO
  isplitl [Hat Hcb]; · isplitl [Hat] <;> iassumption
  isplitl [Hd HL]
  · iapply (Entails.of_eq (show iprop((bigSep Finset.univ fun j : Fin 7 => (dutyTok ER (barCell (tgt c j)) 0 j : sProp 𝕄))
        ∗ bigSep Finset.univ fun j : Fin 7 => bigSep Finset.univ fun a : Fin 4 => LandP (F := F) a c (rev7 j)) = bigSep Finset.univ fun j : Fin 7 => Sig (F := F) c 0 j from by
      rw [← bigSep_sep']
      exact bigSep_congr fun j _ => (if_neg (Nat.not_lt_zero j.val)).symm))
    isplitl [Hd] <;> iassumption
  isplitl [Hb Hcr]
  · iapply (show iprop((bigSep Finset.univ fun a : Fin 4 => bigSep Finset.univ fun j : Fin 7 =>
          iprop(atPos ER (sendCell c a j) 0 ∅ 0 ∗ dutyTok ER (sendCell c a j) 0 0 ∗ dutyTok ER (recvCell (tgt c j) a j) 0 0 ∗ atPos ER (recvCell c a j) 0 ∅ 0))
        ∗ bigSep Finset.univ fun a : Fin 4 => bigSep Finset.univ fun j : Fin 7 => (cred (tallyAt (recvCell c a j) () (N a)) : sProp 𝕄))
        ⊢ bigSep Finset.univ fun a : Fin 4 => bigSep Finset.univ fun j : Fin 7 => Base (F := F) a c j from by
      rw [← bigSep_sep']
      refine bigSep_mono fun a _ => ?_
      rw [← bigSep_sep']
      refine bigSep_mono fun j _ => (?_ : iprop((atPos ER (sendCell c a j) 0 ∅ 0 ∗ dutyTok ER (sendCell c a j) 0 0 ∗ dutyTok ER (recvCell (tgt c j) a j) 0 0 ∗ atPos ER (recvCell c a j) 0 ∅ 0)
        ∗ cred (tallyAt (recvCell c a j) () (N a))) ⊢ Base (F := F) a c j)
      unfold Base
      iintro ⟨⟨H1, H2, H3, H4⟩, H5⟩
      isplitl [H1 H2 H3]
      · isplitl [H1]; · iexact H1
        isplitl [H2] <;> iassumption
      · isplitl [H4] <;> iassumption)
    isplitl [Hb] <;> iassumption
  iexact Hm

/-! ## At exit -/

theorem Cl_end (a : Fin 4) (s : ℕ) : Cl I a c s 14 ⊢ iprop((bigSep Finset.univ fun j : Fin 7 => SrcP I a c j) ∗ (bigSep Finset.univ fun j : Fin 7 => RecvP I a c j)
    ∗ bigSep Finset.univ fun sd : Fin 2 => bigSep Finset.univ fun j : Fin 7 => semVal ((c : Thread nD τ), .dma (semIx a sd j.succ)) 0) := by
  unfold Cl
  rw [bigSep_two, ← bigSep_sep', ← bigSep_sep', ← bigSep_sep']
  refine bigSep_mono fun j _ => (?_ : iprop(Snd I a c s 14 j ∗ Rcv I a c 14 j) ⊢ iprop(SrcP I a c j ∗ RecvP I a c j ∗ semVal ((c : Thread nD τ), .dma (semIx a 0 j.succ)) 0
    ∗ semVal ((c : Thread nD τ), .dma (semIx a 1 j.succ)) 0))
  rw [Snd_done I a c j s 14 (by omega), Rcv_done I a c j 14 (by omega)]
  iintro ⟨⟨H1, H2⟩, H3, H4⟩
  isplitl [H1]; · iexact H1
  isplitl [H3]; · iexact H3
  isplitl [H2] <;> iassumption

omit [FloatOps F] in
theorem tiles_end (A B : Dev nD → sProp 𝕄) : Tiles A B c 7 7 ⊢ B c := by
  unfold Tiles
  refine (bigSep_at _ c).trans ?_
  rw [jof_self, if_neg (Nat.lt_irrefl 7), if_neg (Nat.lt_irrefl 7)]

/-- The tiles sent, back again, and the one never used are the buffer. -/
theorem tiles_join (b : Ref sig .tc) (cut : Cut b.ty.shape (Dev nD)) (f : Buf (Elt F) (loc c b)) :
    iprop((∃ f, loc c b ↦[(cut.r c).set]{fullShare} f) ∗ bigSep Finset.univ fun j : Fin 7 => (loc c b ↦[(cut.r (tgt c j)).set]{fullShare} f : sProp 𝕄))
      ⊢ (iprop(∃ f : Buf (Elt F) (loc c b), loc c b ↦{fullShare} f) : sProp 𝕄) := by
  refine BIBase.Entails.trans ?_ (cut_join c b cut f)
  rw [bigSep_peers c]
  exact sep_mono_right (some_of c b (fun j : Fin 7 => (cut.r (tgt c j)).set) f)
theorem slots_join (b : Ref sig .tc) (cut : Cut b.ty.shape (Fin 8)) (f : Buf (Elt F) (loc c b)) :
    iprop((∃ f, loc c b ↦[(cut.r 0).set]{fullShare} f) ∗ bigSep Finset.univ fun j : Fin 7 => (loc c b ↦[(cut.r j.succ).set]{fullShare} f : sProp 𝕄))
      ⊢ (iprop(∃ f : Buf (Elt F) (loc c b), loc c b ↦{fullShare} f) : sProp 𝕄) := by
  refine BIBase.Entails.trans ?_ (cut_join c b cut f)
  rw [bigSep_succ]
  exact sep_mono_right (some_of c b (fun j : Fin 7 => (cut.r j.succ).set) f)

theorem ordO_lt (c t : Dev nD) : ordO c t < 8 := Nat.mod_lt _ (by decide)

/-- What the body leaves. -/
theorem end_body : St I K c { P₇ with o := 8 } ⊢ iprop((∃ W, owes (c : Thread nD τ) 0 W) ∗ semVal (barCell c) 0
    ∗ (bigSep Finset.univ fun y : Fin 4 × Fin 2 × Fin 8 => semVal ((c : Thread nD τ), osem y) 0) ∗ Scr (F := F) c ∗ Ins I c
    ∗ (loc c cc0_stg5_0 ↦{fullShare} (outG I c : Buf (Elt F) (loc c cc0_stg5_0)))) := by
  have ho : owed c { P₇ with o := 8 } = 0 := by
    unfold owed
    rw [owe_end 0 c _ (by decide), owe_end 1 c _ (by decide), owe_end 2 c _ (by decide), owe_end 3 c _ (by decide)]; simp only [add_zero]
  unfold St Mem
  rw [ho]
  iintro ⟨-, HO, ⟨H0, H1, H2, H3⟩, Hb, HK, HV, HP, HG, HoK, HoV, HoR, HW, HC, HOB, Hin, HI⟩
  ihave H0 := (Cl_end I c 0 7) $$ H0
  ihave H1 := (Cl_end I c 1 7) $$ H1
  ihave H2 := (Cl_end I c 2 28) $$ H2
  ihave H3 := (Cl_end I c 3 7) $$ H3
  icases H0 with ⟨S0, R0, Z0⟩
  icases H1 with ⟨S1, R1, Z1⟩
  icases H2 with ⟨S2, R2, Z2⟩
  icases H3 with ⟨S3, R3, Z3⟩
  ihave HI := (Entails.of_eq (show Idle (F := F) c = iprop(_ ∗ _) from rfl)) $$ HI
  icases HI with ⟨H7, Z⟩
  isplitl [HO]; · iexact HO
  isplitl [Hb]; · iexact Hb
  isplitl [Z Z0 Z1 Z2 Z3]
  · rw [sems_split (fun a s k => (semVal ((c : Thread nD τ), .dma (semIx a s k)) 0 : sProp 𝕄))]
    isplitl [Z]; · iexact Z
    rw [bigSep_univ_prod, bigSep_four]
    simp only [bigSep_univ_prod]
    isplitl [Z0]; · iexact Z0
    isplitl [Z1]; · iexact Z1
    isplitl [Z2]; · iexact Z2
    iexact Z3
  isplitr [Hin HOB]
  · unfold Scr
    isplitl [HK S0]
    · iapply (tiles_join c cc0_scratch0 cutSrc (ksrcG (I c)))
      isplitl [HK]
      · unfold KS
        iapply (tiles_end (F := F) c _ (fun t => iprop(∃ f, loc c cc0_scratch0 ↦[(cutSrc.r t).set]{fullShare} f))); iexact HK
      · iexact S0
    isplitl [HV S1]
    · iapply (tiles_join c cc0_scratch1 cutSrc (vsrcG (I c)))
      isplitl [HV]
      · unfold VS
        iapply (tiles_end (F := F) c _ (fun t => iprop(∃ f, loc c cc0_scratch1 ↦[(cutSrc.r t).set]{fullShare} f))); iexact HV
      · iexact S1
    isplitl [HoK R0]
    · iapply (slots_join c cc0_scratch2 cutSlot (kbufG I c))
      isplitl [HoK]
      · ihave HoK := (Entails.of_eq (show OwnK I c true = iprop(loc c cc0_scratch2 ↦[(cutSlot.r 0).set]{fullShare} (kbufG I c : Buf (Elt F) (loc c cc0_scratch2))) from if_pos rfl)) $$ HoK
        iexists (kbufG I c); iexact HoK
      · iexact R0
    isplitl [HoV R1]
    · iapply (slots_join c cc0_scratch3 cutSlot (vbufG I c))
      isplitl [HoV]
      · ihave HoV := (Entails.of_eq (show OwnV I c true = iprop(loc c cc0_scratch3 ↦[(cutSlot.r 0).set]{fullShare} (vbufG I c : Buf (Elt F) (loc c cc0_scratch3))) from if_pos rfl)) $$ HoV
        iexists (vbufG I c); iexact HoV
      · iexact R1
    isplitl [HP S2]
    · iapply (tiles_join c cc0_scratch4 cutDev (psrcG I c))
      isplitl [HP]
      · unfold PS
        icases HP with ⟨-, HP⟩
        ihave HP := (bigSep_at _ c) $$ HP
        ihave HP := (Entails.of_eq (show (if c.val / 2 < 4 ∧ ¬ sentR c c 28 then psTile I c c else iprop(emp)) = psTile I c c from
          if_pos ⟨by have : c.val < 8 := c.isLt; omega, fun h => absurd h.1 (by rw [jof_self]; exact Nat.lt_irrefl 7)⟩)) $$ HP
        unfold psTile
        iexists (psrcG I c)
        iexact HP
      · iexact S2
    isplitl [HoR R2]
    · iapply (slots_join c cc0_scratch5 cutRow (rbufG I c))
      isplitl [HoR]
      · ihave HoR := (Entails.of_eq (show OwnR I c true = iprop(loc c cc0_scratch5 ↦[(cutRow.r 0).set]{fullShare} (rbufG I c : Buf (Elt F) (loc c cc0_scratch5))) from if_pos rfl)) $$ HoR
        iexists (rbufG I c); iexact HoR
      · iexact R2
    isplitl [HG S3]
    · iexists (gbufG I c)
      iapply (pointsTo_toks_join fullShare 7)
      isplitl [HG]
      · ihave HG := (Entails.of_eq (show GB I c true 7 = iprop(_ ∗ _) from if_pos rfl)) $$ HG
        icases HG with ⟨HG, -⟩; iexact HG
      · iexact S3
    isplitl [H7 R3]
    · iapply (slots_join c cc0_scratch7 cutRow (fbufG I c))
      isplitl [H7]; · iexact H7
      iexact R3
    isplitl [HC]
    · unfold CB Held
      icases HC with ⟨%f, -, HC⟩; iexists f; iexact HC
    · unfold WB Held
      icases HW with ⟨%f, -, HW⟩; iexists f; iexact HW
  isplitl [Hin]; · iexact Hin
  unfold OB Held
  icases HOB with ⟨%f, %hf, H⟩
  have e : f = outG I c := funext fun i => hf i (ordO_lt _ _)
  subst e
  iexact H

end Cert.KernelIdeal.Attn

end
-- ==== Proof.PartsA.lean ====
/- The pieces of the kernel's body, from the first block sent to the last key received. -/
module

public import proofs.«01_k».proof.Proof.Pieces

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (I : Dev nD → In F) (K : Dev nD × CellIx → ℕ) (c : Dev nD)

/-! ## The blocks of K and V, sent -/

theorem part4 {Φ : _ → sProp (MT nD τ sig Unit (Elt F) ℕ UU ℕ)} {v2 v95} (hk : ∀ r, St I K c { km := 1, k := 1 } ⊢ Φ r) :
    St I K c {} ⊢ WP c (at_ (k0_part4 (F := F)) c v2 v95) Φ := by
  dsimp only [at_]; rw [k0_part4_eq_skeleton]; unfold k0_part4_skel
  simp only [Prog.lift, Prog.bind_op, Prog.bind_ret, Prog.pure_eq_ret]
  refine load_k I K c (tgt c 0) (hk := ?_)
  refine peek_kq I K (j := 0) (hk := fun _ => ?_)
  refine put_kq I K (j := 0) (hk := ?_)
  refine send_k I K (j := 0) (hk := ?_)
  exact step_ret (hk _)

theorem part5 {Φ : _ → sProp (MT nD τ sig Unit (Elt F) ℕ UU ℕ)} {v2 v125 c8_i32_90 c0_i32_91} (hk : ∀ r, St I K c { km := 2, k := 2 } ⊢ Φ r) :
    St I K c { km := 1, k := 1 } ⊢ WP c (at_ (k0_part5 (F := F)) c v2 v125 c8_i32_90 c0_i32_91) Φ := by
  dsimp only [at_]; rw [k0_part5_eq_skeleton]; unfold k0_part5_skel
  simp only [Prog.lift, Prog.bind_op, Prog.bind_ret, Prog.pure_eq_ret]
  refine load_k I K c (tgt c 1) (hk := ?_)
  refine peek_kq I K (j := 1) (hk := fun _ => ?_)
  refine put_kq I K (j := 1) (hk := ?_)
  refine send_k I K (j := 1) (hk := ?_)
  exact step_ret (hk _)

theorem part6 {Φ : _ → sProp (MT nD τ sig Unit (Elt F) ℕ UU ℕ)} {v2 v155 c8_i32_116 v156 c1_i32_118} (hk : ∀ r, St I K c { km := 3, k := 3 } ⊢ Φ r) :
    St I K c { km := 2, k := 2 } ⊢ WP c (at_ (k0_part6 (F := F)) c v2 v155 c8_i32_116 v156 c1_i32_118) Φ := by
  dsimp only [at_]; rw [k0_part6_eq_skeleton]; unfold k0_part6_skel
  simp only [Prog.lift, Prog.bind_op, Prog.bind_ret, Prog.pure_eq_ret]
  refine load_k I K c (tgt c 2) (hk := ?_)
  refine peek_kq I K (j := 2) (hk := fun _ => ?_)
  refine put_kq I K (j := 2) (hk := ?_)
  refine send_k I K (j := 2) (hk := ?_)
  exact step_ret (hk _)

theorem part7 {Φ : _ → sProp (MT nD τ sig Unit (Elt F) ℕ UU ℕ)} {v2 v187 v188} (hk : ∀ r, St I K c { km := 4, k := 4 } ⊢ Φ r) :
    St I K c { km := 3, k := 3 } ⊢ WP c (at_ (k0_part7 (F := F)) c v2 v187 v188) Φ := by
  dsimp only [at_]; rw [k0_part7_eq_skeleton]; unfold k0_part7_skel
  simp only [Prog.lift, Prog.bind_op, Prog.bind_ret, Prog.pure_eq_ret]
  refine load_k I K c (tgt c 3) (hk := ?_)
  refine peek_kq I K (j := 3) (hk := fun _ => ?_)
  refine put_kq I K (j := 3) (hk := ?_)
  refine send_k I K (j := 3) (hk := ?_)
  exact step_ret (hk _)

theorem part8 {Φ : _ → sProp (MT nD τ sig Unit (Elt F) ℕ UU ℕ)} {v2 v217 v218 v219} (hk : ∀ r, St I K c { km := 5, k := 5 } ⊢ Φ r) :
    St I K c { km := 4, k := 4 } ⊢ WP c (at_ (k0_part8 (F := F)) c v2 v217 v218 v219) Φ := by
  dsimp only [at_]; rw [k0_part8_eq_skeleton]; unfold k0_part8_skel
  simp only [Prog.lift, Prog.bind_op, Prog.bind_ret, Prog.pure_eq_ret]
  refine load_k I K c (tgt c 4) (hk := ?_)
  refine peek_kq I K (j := 4) (hk := fun _ => ?_)
  refine put_kq I K (j := 4) (hk := ?_)
  refine send_k I K (j := 4) (hk := ?_)
  exact step_ret (hk _)

theorem part9 {Φ : _ → sProp (MT nD τ sig Unit (Elt F) ℕ UU ℕ)} {v2 v247 v248 v249 v250} (hk : ∀ r, St I K c { km := 6, k := 6 } ⊢ Φ r) :
    St I K c { km := 5, k := 5 } ⊢ WP c (at_ (k0_part9 (F := F)) c v2 v247 v248 v249 v250) Φ := by
  dsimp only [at_]; rw [k0_part9_eq_skeleton]; unfold k0_part9_skel
  simp only [Prog.lift, Prog.bind_op, Prog.bind_ret, Prog.pure_eq_ret]
  refine load_k I K c (tgt c 5) (hk := ?_)
  refine peek_kq I K (j := 5) (hk := fun _ => ?_)
  refine put_kq I K (j := 5) (hk := ?_)
  refine send_k I K (j := 5) (hk := ?_)
  exact step_ret (hk _)

theorem part10 {Φ : _ → sProp (MT nD τ sig Unit (Elt F) ℕ UU ℕ)} {v2 v277 v278 v279 v280 v281} (hk : ∀ r, St I K c { km := 7, k := 7 } ⊢ Φ r) :
    St I K c { km := 6, k := 6 } ⊢ WP c (at_ (k0_part10 (F := F)) c v2 v277 v278 v279 v280 v281) Φ := by
  dsimp only [at_]; rw [k0_part10_eq_skeleton]; unfold k0_part10_skel
  simp only [Prog.lift, Prog.bind_op, Prog.bind_ret, Prog.pure_eq_ret]
  refine load_k I K c (tgt c 6) (hk := ?_)
  refine peek_kq I K (j := 6) (hk := fun _ => ?_)
  refine put_kq I K (j := 6) (hk := ?_)
  refine send_k I K (j := 6) (hk := ?_)
  exact step_ret (hk _)

theorem part11 {Φ : _ → sProp (MT nD τ sig Unit (Elt F) ℕ UU ℕ)} {v2 v307 v308 v313} (hk : ∀ r, St I K c { km := 7, k := 7, vm := 1, v := 1 } ⊢ Φ r) :
    St I K c { km := 7, k := 7 } ⊢ WP c (at_ (k0_part11 (F := F)) c v2 v307 v308 v313) Φ := by
  dsimp only [at_]; rw [k0_part11_eq_skeleton]; unfold k0_part11_skel
  simp only [Prog.lift, Prog.bind_op, Prog.bind_ret, Prog.pure_eq_ret]
  refine load_v I K c (tgt c 0) (hk := ?_)
  refine peek_vq I K (j := 0) (hk := fun _ => ?_)
  refine put_vq I K (j := 0) (hk := ?_)
  refine send_v I K (j := 0) (hk := ?_)
  exact step_ret (hk _)

theorem part12 {Φ : _ → sProp (MT nD τ sig Unit (Elt F) ℕ UU ℕ)} {v2 v345} (hk : ∀ r, St I K c { km := 7, k := 7, vm := 2, v := 2 } ⊢ Φ r) :
    St I K c { km := 7, k := 7, vm := 1, v := 1 } ⊢ WP c (at_ (k0_part12 (F := F)) c v2 v345) Φ := by
  dsimp only [at_]; rw [k0_part12_eq_skeleton]; unfold k0_part12_skel
  simp only [Prog.lift, Prog.bind_op, Prog.bind_ret, Prog.pure_eq_ret]
  refine load_v I K c (tgt c 1) (hk := ?_)
  refine peek_vq I K (j := 1) (hk := fun _ => ?_)
  refine put_vq I K (j := 1) (hk := ?_)
  refine send_v I K (j := 1) (hk := ?_)
  exact step_ret (hk _)

theorem part13 {Φ : _ → sProp (MT nD τ sig Unit (Elt F) ℕ UU ℕ)} {v2 v375 v376} (hk : ∀ r, St I K c { km := 7, k := 7, vm := 3, v := 3 } ⊢ Φ r) :
    St I K c { km := 7, k := 7, vm := 2, v := 2 } ⊢ WP c (at_ (k0_part13 (F := F)) c v2 v375 v376) Φ := by
  dsimp only [at_]; rw [k0_part13_eq_skeleton]; unfold k0_part13_skel
  simp only [Prog.lift, Prog.bind_op, Prog.bind_ret, Prog.pure_eq_ret]
  refine load_v I K c (tgt c 2) (hk := ?_)
  refine peek_vq I K (j := 2) (hk := fun _ => ?_)
  refine put_vq I K (j := 2) (hk := ?_)
  refine send_v I K (j := 2) (hk := ?_)
  exact step_ret (hk _)

theorem part14 {Φ : _ → sProp (MT nD τ sig Unit (Elt F) ℕ UU ℕ)} {v2 v405 v406} (hk : ∀ r, St I K c { km := 7, k := 7, vm := 4, v := 4 } ⊢ Φ r) :
    St I K c { km := 7, k := 7, vm := 3, v := 3 } ⊢ WP c (at_ (k0_part14 (F := F)) c v2 v405 v406) Φ := by
  dsimp only [at_]; rw [k0_part14_eq_skeleton]; unfold k0_part14_skel
  simp only [Prog.lift, Prog.bind_op, Prog.bind_ret, Prog.pure_eq_ret]
  refine load_v I K c (tgt c 3) (hk := ?_)
  refine peek_vq I K (j := 3) (hk := fun _ => ?_)
  refine put_vq I K (j := 3) (hk := ?_)
  refine send_v I K (j := 3) (hk := ?_)
  exact step_ret (hk _)

theorem part15 {Φ : _ → sProp (MT nD τ sig Unit (Elt F) ℕ UU ℕ)} {v2 v435 v436} (hk : ∀ a0 a1, St I K c { km := 7, k := 7, vm := 5, v := 5 } ⊢ Φ ⟨a0, a1, k0_pay13 (rd (headRect (tgt c 5)) (I c).v)⟩) :
    St I K c { km := 7, k := 7, vm := 4, v := 4 } ⊢ WP c (at_ (k0_part15 (F := F)) c v2 v435 v436) Φ := by
  dsimp only [at_]; rw [k0_part15_eq_skeleton]; unfold k0_part15_skel
  simp only [Prog.lift, Prog.bind_op, Prog.bind_ret, Prog.pure_eq_ret]
  refine load_v I K c (tgt c 4) (hk := ?_)
  refine peek_vq I K (j := 4) (hk := fun _ => ?_)
  refine put_vq I K (j := 4) (hk := ?_)
  refine send_v I K (j := 4) (hk := ?_)
  refine load_v I K c (tgt c 5) (hk := ?_)
  exact step_ret (hk _ _)

theorem part16 {Φ : _ → sProp (MT nD τ sig Unit (Elt F) ℕ UU ℕ)} {v2 v465 v466} (hk : ∀ a0 a1, St I K c { km := 7, k := 7, vm := 6, v := 6 } ⊢ Φ ⟨a0, a1, k0_pay15 (rd (headRect (tgt c 6)) (I c).v)⟩) :
    St I K c { km := 7, k := 7, vm := 5, v := 5 } ⊢ WP c (at_ (k0_part16 (F := F)) c v2 v465 v466 (k0_pay13 (rd (headRect (tgt c 5)) (I c).v))) Φ := by
  dsimp only [at_]; rw [k0_part16_eq_skeleton]; unfold k0_part16_skel
  simp only [Prog.lift, Prog.bind_op, Prog.bind_ret, Prog.pure_eq_ret]
  refine peek_vq I K (j := 5) (hk := fun _ => ?_)
  refine put_vq I K (j := 5) (hk := ?_)
  refine send_v I K (j := 5) (hk := ?_)
  refine load_v I K c (tgt c 6) (hk := ?_)
  exact step_ret (hk _ _)

theorem part17 {Φ : _ → sProp (MT nD τ sig Unit (Elt F) ℕ UU ℕ)} {v2 v495 v496} (hk : St I K c { P₁ with ko := true } ⊢ Φ (k0_pay18 (rd (headRect c) (I c).v))) :
    St I K c { km := 7, k := 7, vm := 6, v := 6 } ⊢ WP c (at_ (k0_part17 (F := F)) c v2 v495 v496 (k0_pay15 (rd (headRect (tgt c 6)) (I c).v))) Φ := by
  dsimp only [at_]; rw [k0_part17_eq_skeleton]; unfold k0_part17_skel
  simp only [Prog.lift, Prog.bind_op, Prog.bind_ret, Prog.pure_eq_ret]
  refine peek_vq I K (j := 6) (hk := fun _ => ?_)
  refine put_vq I K (j := 6) (hk := ?_)
  refine send_v I K (j := 6) (hk := ?_)
  refine load_k I K c c (hk := ?_)
  refine peek_kb I K c (hk := fun _ => ?_)
  refine put_kb I K c (hw := pay17_eq (I c) c) (hk := ?_)
  refine load_v I K c c (hk := ?_)
  exact step_ret (hk)

/-! ## The device's own blocks, and the keys received -/

theorem part18 {Φ : _ → sProp (MT nD τ sig Unit (Elt F) ℕ UU ℕ)} {v105} (hk : St I K c { P₂ with wk := 2 } ⊢ Φ (qG (I c))) :
    St I K c { P₁ with ko := true } ⊢ WP c (at_ (k0_part18 (F := F)) c v105 (k0_pay18 (rd (headRect c) (I c).v))) Φ := by
  dsimp only [at_]; rw [k0_part18_eq_skeleton]; unfold k0_part18_skel
  simp only [Prog.lift, Prog.bind_op, Prog.bind_ret, Prog.pure_eq_ret]
  refine peek_vb I K c (hk := fun _ => ?_)
  refine put_vb I K c (hw := pay19_eq (I c) c) (hk := ?_)
  refine load_x I K c (hk := ?_)
  refine load_wq I K c (hk := ?_)
  refine wait_ks I K (j := 0) (hk := ?_)
  refine wait_kr I K (j := 0) (hk := ?_)
  exact step_ret (hk)

theorem part19 {Φ : _ → sProp (MT nD τ sig Unit (Elt F) ℕ UU ℕ)} {v135 v165} (hk : St I K c { P₂ with wk := 5 } ⊢ Φ ⟨⟩) :
    St I K c { P₂ with wk := 2 } ⊢ WP c (at_ (k0_part19 (F := F)) c v135 v165) Φ := by
  dsimp only [at_]; rw [k0_part19_eq_skeleton]; unfold k0_part19_skel
  simp only [Prog.lift, Prog.bind_op, Prog.bind_ret, Prog.pure_eq_ret]
  refine wait_ks I K (j := 1) (hk := ?_)
  refine wait_kr I K (j := 1) (hk := ?_)
  refine wait_ks I K (j := 2) (hk := ?_)
  exact step_ret (hk)

theorem part20 {Φ : _ → sProp (MT nD τ sig Unit (Elt F) ℕ UU ℕ)} {v195} (hk : St I K c { P₂ with wk := 8 } ⊢ Φ ⟨⟩) :
    St I K c { P₂ with wk := 5 } ⊢ WP c (at_ (k0_part20 (F := F)) c v195) Φ := by
  dsimp only [at_]; rw [k0_part20_eq_skeleton]; unfold k0_part20_skel
  simp only [Prog.lift, Prog.bind_op, Prog.bind_ret, Prog.pure_eq_ret]
  refine wait_kr I K (j := 2) (hk := ?_)
  refine wait_ks I K (j := 3) (hk := ?_)
  refine wait_kr I K (j := 3) (hk := ?_)
  exact step_ret (hk)

theorem part21 {Φ : _ → sProp (MT nD τ sig Unit (Elt F) ℕ UU ℕ)} {v225 v255} (hk : St I K c { P₂ with wk := 11 } ⊢ Φ ⟨⟩) :
    St I K c { P₂ with wk := 8 } ⊢ WP c (at_ (k0_part21 (F := F)) c v225 v255) Φ := by
  dsimp only [at_]; rw [k0_part21_eq_skeleton]; unfold k0_part21_skel
  simp only [Prog.lift, Prog.bind_op, Prog.bind_ret, Prog.pure_eq_ret]
  refine wait_ks I K (j := 4) (hk := ?_)
  refine wait_kr I K (j := 4) (hk := ?_)
  refine wait_ks I K (j := 5) (hk := ?_)
  exact step_ret (hk)

theorem part22 {Φ : _ → sProp (MT nD τ sig Unit (Elt F) ℕ UU ℕ)} {v285} (hk : St I K c P₃ ⊢ Φ ⟨kgG I c, k0_pay22 (qG (I c)) (kbufG I c), k0_pay23 (qG (I c)) (kbufG I c)⟩) :
    St I K c { P₂ with wk := 11 } ⊢ WP c (at_ (k0_part22 (F := F)) c v285 (qG (I c))) Φ := by
  dsimp only [at_]; rw [k0_part22_eq_skeleton]; unfold k0_part22_skel
  simp only [Prog.lift, Prog.bind_op, Prog.bind_ret, Prog.pure_eq_ret]
  refine wait_kr I K (j := 5) (hk := ?_)
  refine wait_ks I K (j := 6) (hk := ?_)
  refine wait_kr I K (j := 6) (hk := ?_)
  refine get_kb I K (hk := ?_)
  exact step_ret (hk)

end Cert.KernelIdeal.Attn
-- ==== Proof.PartsB.lean ====
/- The pieces of the kernel's body, the weights of attention. -/
module

public import proofs.«01_k».proof.Proof.Pieces

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (I : Dev nD → In F) (K : Dev nD × CellIx → ℕ) (c : Dev nD)

theorem part23 {Φ : _ → sProp (MT nD τ sig Unit (Elt F) ℕ UU ℕ)} (hk : St I K c { P₃ with w := 2 } ⊢ Φ (k0_pay26 (qG (I c)) (kgG I c))) :
    St I K c P₃ ⊢ WP c (at_ (k0_part23 (F := F)) (qG (I c)) (kgG I c) (k0_pay22 (qG (I c)) (kbufG I c)) (k0_pay23 (qG (I c)) (kbufG I c))) Φ := by
  dsimp only [at_]; rw [k0_part23_eq_skeleton]; unfold k0_part23_skel
  simp only [Prog.lift, Prog.bind_op, Prog.bind_ret, Prog.pure_eq_ret]
  refine peek_wb I K (hk := fun _ => ?_)
  refine put_wb I K (0, 0, 0) (hk := ?_)
  refine peek_wb I K (hk := fun _ => ?_)
  refine put_wb I K (0, 0, 1) (hk := ?_)
  exact step_ret (hk)

theorem part24 {Φ : _ → sProp (MT nD τ sig Unit (Elt F) ℕ UU ℕ)} (hk : St I K c { P₃ with w := 5 } ⊢ Φ ⟨k0_pay30 (qG (I c)), k0_pay31 (kgG I c)⟩) :
    St I K c { P₃ with w := 2 } ⊢ WP c (at_ (k0_part24 (F := F)) (qG (I c)) (kgG I c) (k0_pay26 (qG (I c)) (kgG I c))) Φ := by
  dsimp only [at_]; rw [k0_part24_eq_skeleton]; unfold k0_part24_skel
  simp only [Prog.lift, Prog.bind_op, Prog.bind_ret, Prog.pure_eq_ret]
  refine peek_wb I K (hk := fun _ => ?_)
  refine put_wb I K (0, 0, 2) (hk := ?_)
  refine peek_wb I K (hk := fun _ => ?_)
  refine put_wb I K (0, 0, 3) (hk := ?_)
  refine peek_wb I K (hk := fun _ => ?_)
  refine put_wb I K (0, 1, 0) (hk := ?_)
  exact step_ret (hk)

theorem part25 {Φ : _ → sProp (MT nD τ sig Unit (Elt F) ℕ UU ℕ)} (hk : St I K c { P₃ with w := 7 } ⊢ Φ (k0_pay34 (qG (I c)) (kgG I c))) :
    St I K c { P₃ with w := 5 } ⊢ WP c (at_ (k0_part25 (F := F)) (qG (I c)) (kgG I c) (k0_pay30 (qG (I c))) (k0_pay31 (kgG I c))) Φ := by
  dsimp only [at_]; rw [k0_part25_eq_skeleton]; unfold k0_part25_skel
  simp only [Prog.lift, Prog.bind_op, Prog.bind_ret, Prog.pure_eq_ret]
  refine peek_wb I K (hk := fun _ => ?_)
  refine put_wb I K (0, 1, 1) (hk := ?_)
  refine peek_wb I K (hk := fun _ => ?_)
  refine put_wb I K (0, 1, 2) (hk := ?_)
  exact step_ret (hk)

theorem part26 {Φ : _ → sProp (MT nD τ sig Unit (Elt F) ℕ UU ℕ)} (hk : St I K c { P₃ with w := 9 } ⊢ Φ (k0_pay37 (qG (I c)) (kgG I c))) :
    St I K c { P₃ with w := 7 } ⊢ WP c (at_ (k0_part26 (F := F)) (qG (I c)) (kgG I c) (k0_pay34 (qG (I c)) (kgG I c))) Φ := by
  dsimp only [at_]; rw [k0_part26_eq_skeleton]; unfold k0_part26_skel
  simp only [Prog.lift, Prog.bind_op, Prog.bind_ret, Prog.pure_eq_ret]
  refine peek_wb I K (hk := fun _ => ?_)
  refine put_wb I K (0, 1, 3) (hk := ?_)
  refine peek_wb I K (hk := fun _ => ?_)
  refine put_wb I K (0, 2, 0) (hk := ?_)
  exact step_ret (hk)

theorem part27 {Φ : _ → sProp (MT nD τ sig Unit (Elt F) ℕ UU ℕ)} (hk : St I K c { P₃ with w := 12 } ⊢ Φ (k0_pay41 (qG (I c)))) :
    St I K c { P₃ with w := 9 } ⊢ WP c (at_ (k0_part27 (F := F)) (qG (I c)) (kgG I c) (k0_pay37 (qG (I c)) (kgG I c))) Φ := by
  dsimp only [at_]; rw [k0_part27_eq_skeleton]; unfold k0_part27_skel
  simp only [Prog.lift, Prog.bind_op, Prog.bind_ret, Prog.pure_eq_ret]
  refine peek_wb I K (hk := fun _ => ?_)
  refine put_wb I K (0, 2, 1) (hk := ?_)
  refine peek_wb I K (hk := fun _ => ?_)
  refine put_wb I K (0, 2, 2) (hk := ?_)
  refine peek_wb I K (hk := fun _ => ?_)
  refine put_wb I K (0, 2, 3) (hk := ?_)
  exact step_ret (hk)

theorem part28 {Φ : _ → sProp (MT nD τ sig Unit (Elt F) ℕ UU ℕ)} (hk : St I K c { P₃ with w := 14 } ⊢ Φ (k0_pay44 (qG (I c)) (kgG I c))) :
    St I K c { P₃ with w := 12 } ⊢ WP c (at_ (k0_part28 (F := F)) (qG (I c)) (kgG I c) (k0_pay41 (qG (I c)))) Φ := by
  dsimp only [at_]; rw [k0_part28_eq_skeleton]; unfold k0_part28_skel
  simp only [Prog.lift, Prog.bind_op, Prog.bind_ret, Prog.pure_eq_ret]
  refine peek_wb I K (hk := fun _ => ?_)
  refine put_wb I K (0, 3, 0) (hk := ?_)
  refine peek_wb I K (hk := fun _ => ?_)
  refine put_wb I K (0, 3, 1) (hk := ?_)
  exact step_ret (hk)

theorem part29 {Φ : _ → sProp (MT nD τ sig Unit (Elt F) ℕ UU ℕ)} (hk : St I K c { P₃ with w := 16 } ⊢ Φ (k0_pay47 (qG (I c)) (kgG I c))) :
    St I K c { P₃ with w := 14 } ⊢ WP c (at_ (k0_part29 (F := F)) (qG (I c)) (kgG I c) (k0_pay44 (qG (I c)) (kgG I c))) Φ := by
  dsimp only [at_]; rw [k0_part29_eq_skeleton]; unfold k0_part29_skel
  simp only [Prog.lift, Prog.bind_op, Prog.bind_ret, Prog.pure_eq_ret]
  refine peek_wb I K (hk := fun _ => ?_)
  refine put_wb I K (0, 3, 2) (hk := ?_)
  refine peek_wb I K (hk := fun _ => ?_)
  refine put_wb I K (0, 3, 3) (hk := ?_)
  exact step_ret (hk)

theorem part30 {Φ : _ → sProp (MT nD τ sig Unit (Elt F) ℕ UU ℕ)} (hk : St I K c { P₃ with w := 19 } ⊢ Φ ⟨⟩) :
    St I K c { P₃ with w := 16 } ⊢ WP c (at_ (k0_part30 (F := F)) (qG (I c)) (kgG I c) (k0_pay47 (qG (I c)) (kgG I c))) Φ := by
  dsimp only [at_]; rw [k0_part30_eq_skeleton]; unfold k0_part30_skel
  simp only [Prog.lift, Prog.bind_op, Prog.bind_ret, Prog.pure_eq_ret]
  refine peek_wb I K (hk := fun _ => ?_)
  refine put_wb I K (1, 0, 0) (hk := ?_)
  refine peek_wb I K (hk := fun _ => ?_)
  refine put_wb I K (1, 0, 1) (hk := ?_)
  refine peek_wb I K (hk := fun _ => ?_)
  refine put_wb I K (1, 0, 2) (hk := ?_)
  exact step_ret (hk)

theorem part31 {Φ : _ → sProp (MT nD τ sig Unit (Elt F) ℕ UU ℕ)} (hk : St I K c { P₃ with w := 21 } ⊢ Φ ⟨k0_pay53 (qG (I c)) (kgG I c), (Scalar.ofBits .f32 0x3E000000#32 : F .f32)⟩) :
    St I K c { P₃ with w := 19 } ⊢ WP c (at_ (k0_part31 (F := F)) (qG (I c)) (kgG I c)) Φ := by
  dsimp only [at_]; rw [k0_part31_eq_skeleton]; unfold k0_part31_skel
  simp only [Prog.lift, Prog.bind_op, Prog.bind_ret, Prog.pure_eq_ret]
  refine peek_wb I K (hk := fun _ => ?_)
  refine put_wb I K (1, 0, 3) (hk := ?_)
  refine peek_wb I K (hk := fun _ => ?_)
  refine put_wb I K (1, 1, 0) (hk := ?_)
  exact step_ret (hk)

theorem part32 {Φ : _ → sProp (MT nD τ sig Unit (Elt F) ℕ UU ℕ)} (hk : St I K c { P₃ with w := 23 } ⊢ Φ (k0_pay56 (qG (I c)) (kgG I c))) :
    St I K c { P₃ with w := 21 } ⊢ WP c (at_ (k0_part32 (F := F)) (qG (I c)) (kgG I c) (k0_pay53 (qG (I c)) (kgG I c)) ((Scalar.ofBits .f32 0x3E000000#32 : F .f32))) Φ := by
  dsimp only [at_]; rw [k0_part32_eq_skeleton]; unfold k0_part32_skel
  simp only [Prog.lift, Prog.bind_op, Prog.bind_ret, Prog.pure_eq_ret]
  refine peek_wb I K (hk := fun _ => ?_)
  refine put_wb I K (1, 1, 1) (hk := ?_)
  refine peek_wb I K (hk := fun _ => ?_)
  refine put_wb I K (1, 1, 2) (hk := ?_)
  exact step_ret (hk)

theorem part33 {Φ : _ → sProp (MT nD τ sig Unit (Elt F) ℕ UU ℕ)} (hk : St I K c { P₃ with w := 25 } ⊢ Φ (k0_pay59 (qG (I c)) (kgG I c))) :
    St I K c { P₃ with w := 23 } ⊢ WP c (at_ (k0_part33 (F := F)) (qG (I c)) (kgG I c) (k0_pay56 (qG (I c)) (kgG I c))) Φ := by
  dsimp only [at_]; rw [k0_part33_eq_skeleton]; unfold k0_part33_skel
  simp only [Prog.lift, Prog.bind_op, Prog.bind_ret, Prog.pure_eq_ret]
  refine peek_wb I K (hk := fun _ => ?_)
  refine put_wb I K (1, 1, 3) (hk := ?_)
  refine peek_wb I K (hk := fun _ => ?_)
  refine put_wb I K (1, 2, 0) (hk := ?_)
  refine peek_wb I K (hk := fun _ => ?_)
  exact step_ret (hk)

theorem part34 {Φ : _ → sProp (MT nD τ sig Unit (Elt F) ℕ UU ℕ)} (hk : St I K c { P₃ with w := 28 } ⊢ Φ ⟨k0_pay63 (qG (I c)), k0_pay64 (kgG I c), (constant S64x512 .f32 0x00000000#32 : FVec F S64x512 .f32)⟩) :
    St I K c { P₃ with w := 25 } ⊢ WP c (at_ (k0_part34 (F := F)) (qG (I c)) (kgG I c) (k0_pay59 (qG (I c)) (kgG I c))) Φ := by
  dsimp only [at_]; rw [k0_part34_eq_skeleton]; unfold k0_part34_skel
  simp only [Prog.lift, Prog.bind_op, Prog.bind_ret, Prog.pure_eq_ret]
  refine put_wb I K (1, 2, 1) (hk := ?_)
  refine peek_wb I K (hk := fun _ => ?_)
  refine put_wb I K (1, 2, 2) (hk := ?_)
  refine peek_wb I K (hk := fun _ => ?_)
  refine put_wb I K (1, 2, 3) (hk := ?_)
  exact step_ret (hk)

theorem part35 {Φ : _ → sProp (MT nD τ sig Unit (Elt F) ℕ UU ℕ)} (hk : St I K c { P₃ with w := 30 } ⊢ Φ ⟨k0_pay67 (qG (I c)) (kgG I c), k0_pay68 (qG (I c)) (kgG I c)⟩) :
    St I K c { P₃ with w := 28 } ⊢ WP c (at_ (k0_part35 (F := F)) (qG (I c)) (kgG I c) (k0_pay63 (qG (I c))) (k0_pay64 (kgG I c)) ((constant S64x512 .f32 0x00000000#32 : FVec F S64x512 .f32))) Φ := by
  dsimp only [at_]; rw [k0_part35_eq_skeleton]; unfold k0_part35_skel
  simp only [Prog.lift, Prog.bind_op, Prog.bind_ret, Prog.pure_eq_ret]
  refine peek_wb I K (hk := fun _ => ?_)
  refine put_wb I K (1, 3, 0) (hk := ?_)
  refine peek_wb I K (hk := fun _ => ?_)
  refine put_wb I K (1, 3, 1) (hk := ?_)
  exact step_ret (hk)

theorem part36 {Φ : _ → sProp (MT nD τ sig Unit (Elt F) ℕ UU ℕ)} {v315} (hk : ∀ r, St I K c { P₃ with w := 32, wv := 1 } ⊢ Φ r) :
    St I K c { P₃ with w := 30 } ⊢ WP c (at_ (k0_part36 (F := F)) c v315 (qG (I c)) (kgG I c) (k0_pay67 (qG (I c)) (kgG I c)) (k0_pay68 (qG (I c)) (kgG I c))) Φ := by
  dsimp only [at_]; rw [k0_part36_eq_skeleton]; unfold k0_part36_skel
  simp only [Prog.lift, Prog.bind_op, Prog.bind_ret, Prog.pure_eq_ret]
  refine peek_wb I K (hk := fun _ => ?_)
  refine put_wb I K (1, 3, 2) (hk := ?_)
  refine peek_wb I K (hk := fun _ => ?_)
  refine put_wb I K (1, 3, 3) (hk := ?_)
  refine wait_vs I K (j := 0) (hk := ?_)
  exact step_ret (hk _)

/-! ## The values received -/

theorem part37 {Φ : _ → sProp (MT nD τ sig Unit (Elt F) ℕ UU ℕ)} {v345 v1175} (hk : St I K c { P₃ with w := 32, wv := 4 } ⊢ Φ ⟨⟩) :
    St I K c { P₃ with w := 32, wv := 1 } ⊢ WP c (at_ (k0_part37 (F := F)) c v345 v1175) Φ := by
  dsimp only [at_]; rw [k0_part37_eq_skeleton]; unfold k0_part37_skel
  simp only [Prog.lift, Prog.bind_op, Prog.bind_ret, Prog.pure_eq_ret]
  refine wait_vr I K (j := 0) (hk := ?_)
  refine wait_vs I K (j := 1) (hk := ?_)
  refine wait_vr I K (j := 1) (hk := ?_)
  exact step_ret (hk)

theorem part38 {Φ : _ → sProp (MT nD τ sig Unit (Elt F) ℕ UU ℕ)} {v375 v405} (hk : St I K c { P₃ with w := 32, wv := 7 } ⊢ Φ ⟨⟩) :
    St I K c { P₃ with w := 32, wv := 4 } ⊢ WP c (at_ (k0_part38 (F := F)) c v375 v405) Φ := by
  dsimp only [at_]; rw [k0_part38_eq_skeleton]; unfold k0_part38_skel
  simp only [Prog.lift, Prog.bind_op, Prog.bind_ret, Prog.pure_eq_ret]
  refine wait_vs I K (j := 2) (hk := ?_)
  refine wait_vr I K (j := 2) (hk := ?_)
  refine wait_vs I K (j := 3) (hk := ?_)
  exact step_ret (hk)

theorem part39 {Φ : _ → sProp (MT nD τ sig Unit (Elt F) ℕ UU ℕ)} {v435} (hk : St I K c { P₃ with w := 32, wv := 11 } ⊢ Φ ⟨⟩) :
    St I K c { P₃ with w := 32, wv := 7 } ⊢ WP c (at_ (k0_part39 (F := F)) c v435) Φ := by
  dsimp only [at_]; rw [k0_part39_eq_skeleton]; unfold k0_part39_skel
  simp only [Prog.lift, Prog.bind_op, Prog.bind_ret, Prog.pure_eq_ret]
  refine wait_vr I K (j := 3) (hk := ?_)
  refine wait_vs I K (j := 4) (hk := ?_)
  refine wait_vr I K (j := 4) (hk := ?_)
  refine wait_vs I K (j := 5) (hk := ?_)
  exact step_ret (hk)

theorem part40 {Φ : _ → sProp (MT nD τ sig Unit (Elt F) ℕ UU ℕ)} {v465 v495} (hk : St I K c P₄ ⊢ Φ ⟨⟩) :
    St I K c { P₃ with w := 32, wv := 11 } ⊢ WP c (at_ (k0_part40 (F := F)) c v465 v495) Φ := by
  dsimp only [at_]; rw [k0_part40_eq_skeleton]; unfold k0_part40_skel
  simp only [Prog.lift, Prog.bind_op, Prog.bind_ret, Prog.pure_eq_ret]
  refine wait_vr I K (j := 5) (hk := ?_)
  refine wait_vs I K (j := 6) (hk := ?_)
  refine wait_vr I K (j := 6) (hk := ?_)
  exact step_ret (hk)

end Cert.KernelIdeal.Attn
-- ==== Proof.PartsC.lean ====
/- The pieces of the kernel's body, the contexts and the rows sent to their reducers. -/
module

public import proofs.«01_k».proof.Proof.Pieces

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (I : Dev nD → In F) (K : Dev nD × CellIx → ℕ) (c : Dev nD)

/-! ## The first quarter of the queries -/

theorem part41 {Φ : _ → sProp (MT nD τ sig Unit (Elt F) ℕ UU ℕ)} (hk : St I K c { P₄ with cx := 2 } ⊢ Φ ⟨vbufG I c, k0_pay71 (I c).wo, k0_pay74 (vbufG I c) (wblk (qG (I c)) (kgG I c) (0, 2, 0))⟩) :
    St I K c P₄ ⊢ WP c (at_ (k0_part41 (F := F))) Φ := by
  dsimp only [at_]; rw [k0_part41_eq_skeleton]; unfold k0_part41_skel
  simp only [Prog.lift, Prog.bind_op, Prog.bind_ret, Prog.pure_eq_ret]
  refine get_vb I K (hk := ?_)
  refine load_wo I K c (hk := ?_)
  refine get_wb I K (0, 0, 0) (hk := ?_)
  refine peek_cx I K (hk := fun _ => ?_)
  refine put_cx I K (0, 0, 0) (hk := ?_)
  refine get_wb I K (0, 1, 0) (hk := ?_)
  refine peek_cx I K (hk := fun _ => ?_)
  refine put_cx I K (0, 1, 0) (hk := ?_)
  refine get_wb I K (0, 2, 0) (hk := ?_)
  exact step_ret (hk)

theorem part42 {Φ : _ → sProp (MT nD τ sig Unit (Elt F) ℕ UU ℕ)} (hk : St I K c { P₄ with cx := 5 } ⊢ Φ (k0_pay78 (vbufG I c) (wblk (qG (I c)) (kgG I c) (1, 1, 0)))) :
    St I K c { P₄ with cx := 2 } ⊢ WP c (at_ (k0_part42 (F := F)) (vbufG I c) (k0_pay74 (vbufG I c) (wblk (qG (I c)) (kgG I c) (0, 2, 0)))) Φ := by
  dsimp only [at_]; rw [k0_part42_eq_skeleton]; unfold k0_part42_skel
  simp only [Prog.lift, Prog.bind_op, Prog.bind_ret, Prog.pure_eq_ret]
  refine peek_cx I K (hk := fun _ => ?_)
  refine put_cx I K (0, 2, 0) (hk := ?_)
  refine get_wb I K (0, 3, 0) (hk := ?_)
  refine peek_cx I K (hk := fun _ => ?_)
  refine put_cx I K (0, 3, 0) (hk := ?_)
  refine get_wb I K (1, 0, 0) (hk := ?_)
  refine peek_cx I K (hk := fun _ => ?_)
  refine put_cx I K (1, 0, 0) (hk := ?_)
  refine get_wb I K (1, 1, 0) (hk := ?_)
  exact step_ret (hk)

theorem part43 {Φ : _ → sProp (MT nD τ sig Unit (Elt F) ℕ UU ℕ)} (hk : St I K c { P₄ with cx := 8 } ⊢ Φ (k0_pay82 (k0_pay71 (I c).wo) (rd (ctxRect 0) (ctxG I c)))) :
    St I K c { P₄ with cx := 5 } ⊢ WP c (at_ (k0_part43 (F := F)) (vbufG I c) (k0_pay71 (I c).wo) (k0_pay78 (vbufG I c) (wblk (qG (I c)) (kgG I c) (1, 1, 0)))) Φ := by
  dsimp only [at_]; rw [k0_part43_eq_skeleton]; unfold k0_part43_skel
  simp only [Prog.lift, Prog.bind_op, Prog.bind_ret, Prog.pure_eq_ret]
  refine peek_cx I K (hk := fun _ => ?_)
  refine put_cx I K (1, 1, 0) (hk := ?_)
  refine get_wb I K (1, 2, 0) (hk := ?_)
  refine peek_cx I K (hk := fun _ => ?_)
  refine put_cx I K (1, 2, 0) (hk := ?_)
  refine get_wb I K (1, 3, 0) (hk := ?_)
  refine peek_cx I K (hk := fun _ => ?_)
  refine put_cx I K (1, 3, 0) (hk := ?_)
  refine get_cx I K 0 (hk := ?_)
  exact step_ret (hk)

theorem part44 {Φ : _ → sProp (MT nD τ sig Unit (Elt F) ℕ UU ℕ)} {v2} (hk : ∀ r, St I K c { P₄ with cx := 8, ps := 1, r := 1 } ⊢ Φ r) :
    St I K c { P₄ with cx := 8 } ⊢ WP c (at_ (k0_part44 (F := F)) c v2 (k0_pay82 (k0_pay71 (I c).wo) (rd (ctxRect 0) (ctxG I c)))) Φ := by
  dsimp only [at_]; rw [k0_part44_eq_skeleton]; unfold k0_part44_skel
  simp only [Prog.lift, Prog.bind_op, Prog.bind_ret, Prog.pure_eq_ret]
  refine peek_ps I K 0 (hk := fun _ => ?_)
  refine put_ps I K 0 (hk := ?_)
  refine cond_r I K 0 (cnd := fun d => k0_cond1 d = 1#1) (n := fun d h => ⟨k0_dev22 d, k0_dev22_lt d h⟩) (offs := k0_off5) ?_
  exact step_ret (hk _)

theorem part45 {Φ : _ → sProp (MT nD τ sig Unit (Elt F) ℕ UU ℕ)} {v2 v1370 v1371} (hk : ∀ r, St I K c { P₄ with cx := 8, ps := 1, r := 2 } ⊢ Φ r) :
    St I K c { P₄ with cx := 8, ps := 1, r := 1 } ⊢ WP c (at_ (k0_part45 (F := F)) c v2 v1370 v1371) Φ := by
  dsimp only [at_]; rw [k0_part45_eq_skeleton]; unfold k0_part45_skel
  simp only [Prog.lift, Prog.bind_op, Prog.bind_ret, Prog.pure_eq_ret]
  refine cond_r I K 1 (cnd := fun d => k0_cond2 d = 1#1) (n := fun d h => ⟨k0_dev23 d, k0_dev23_lt d h⟩) (offs := k0_off6) ?_
  exact step_ret (hk _)

theorem part46 {Φ : _ → sProp (MT nD τ sig Unit (Elt F) ℕ UU ℕ)} {v2 v1409 c2_i32_1163 v1410} (hk : ∀ r, St I K c { P₄ with cx := 8, ps := 1, r := 3 } ⊢ Φ r) :
    St I K c { P₄ with cx := 8, ps := 1, r := 2 } ⊢ WP c (at_ (k0_part46 (F := F)) c v2 v1409 c2_i32_1163 v1410) Φ := by
  dsimp only [at_]; rw [k0_part46_eq_skeleton]; unfold k0_part46_skel
  simp only [Prog.lift, Prog.bind_op, Prog.bind_ret, Prog.pure_eq_ret]
  refine cond_r I K 2 (cnd := fun d => k0_cond3 d = 1#1) (n := fun d h => ⟨k0_dev24 d, k0_dev24_lt d h⟩) (offs := k0_off7) ?_
  exact step_ret (hk _)

theorem part47 {Φ : _ → sProp (MT nD τ sig Unit (Elt F) ℕ UU ℕ)} {v2 v1440 c2_i32_1179 v1441 v1446 v1448 v1449} (hk : ∀ r, St I K c { P₄ with cx := 8, ps := 1, r := 4 } ⊢ Φ r) :
    St I K c { P₄ with cx := 8, ps := 1, r := 3 } ⊢ WP c (at_ (k0_part47 (F := F)) c v2 v1440 c2_i32_1179 v1441 v1446 v1448 v1449) Φ := by
  dsimp only [at_]; rw [k0_part47_eq_skeleton]; unfold k0_part47_skel
  simp only [Prog.lift, Prog.bind_op, Prog.bind_ret, Prog.pure_eq_ret]
  refine cond_r I K 3 (cnd := fun d => k0_cond4 d = 1#1) (n := fun d h => ⟨k0_dev25 d, k0_dev25_lt d h⟩) (offs := k0_off8) ?_
  exact step_ret (hk _)

theorem part48 {Φ : _ → sProp (MT nD τ sig Unit (Elt F) ℕ UU ℕ)} {v2 v1471 v1489} (hk : ∀ r, St I K c { P₄ with cx := 8, ps := 1, r := 6 } ⊢ Φ r) :
    St I K c { P₄ with cx := 8, ps := 1, r := 4 } ⊢ WP c (at_ (k0_part48 (F := F)) c v2 v1471 v1489) Φ := by
  dsimp only [at_]; rw [k0_part48_eq_skeleton]; unfold k0_part48_skel
  simp only [Prog.lift, Prog.bind_op, Prog.bind_ret, Prog.pure_eq_ret]
  refine cond_r I K 4 (cnd := fun d => k0_cond5 d = 1#1) (n := fun d h => ⟨k0_dev26 d, k0_dev26_lt d h⟩) (offs := k0_off9) ?_
  refine cond_r I K 5 (cnd := fun d => k0_cond6 d = 1#1) (n := fun d h => ⟨k0_dev27 d, k0_dev27_lt d h⟩) (offs := k0_off10) ?_
  exact step_ret (hk _)

/-! ## The second quarter -/

theorem part49 {Φ : _ → sProp (MT nD τ sig Unit (Elt F) ℕ UU ℕ)} {v1525 v1526} (hk : St I K c { P₄ with cx := 9, ps := 1, r := 7 } ⊢ Φ ⟨⟩) :
    St I K c { P₄ with cx := 8, ps := 1, r := 6 } ⊢ WP c (at_ (k0_part49 (F := F)) c (vbufG I c) v1525 v1526) Φ := by
  dsimp only [at_]; rw [k0_part49_eq_skeleton]; unfold k0_part49_skel
  simp only [Prog.lift, Prog.bind_op, Prog.bind_ret, Prog.pure_eq_ret]
  refine cond_r I K 6 (cnd := fun d => k0_cond7 d = 1#1) (n := fun d h => ⟨k0_dev28 d, k0_dev28_lt d h⟩) (offs := k0_off11) ?_
  refine get_wb I K (0, 0, 1) (hk := ?_)
  refine peek_cx I K (hk := fun _ => ?_)
  refine put_cx I K (0, 0, 1) (hk := ?_)
  exact step_ret (hk)

theorem part50 {Φ : _ → sProp (MT nD τ sig Unit (Elt F) ℕ UU ℕ)} (hk : St I K c { P₄ with cx := 12, ps := 1, r := 7 } ⊢ Φ ⟨⟩) :
    St I K c { P₄ with cx := 9, ps := 1, r := 7 } ⊢ WP c (at_ (k0_part50 (F := F)) (vbufG I c)) Φ := by
  dsimp only [at_]; rw [k0_part50_eq_skeleton]; unfold k0_part50_skel
  simp only [Prog.lift, Prog.bind_op, Prog.bind_ret, Prog.pure_eq_ret]
  refine get_wb I K (0, 1, 1) (hk := ?_)
  refine peek_cx I K (hk := fun _ => ?_)
  refine put_cx I K (0, 1, 1) (hk := ?_)
  refine get_wb I K (0, 2, 1) (hk := ?_)
  refine peek_cx I K (hk := fun _ => ?_)
  refine put_cx I K (0, 2, 1) (hk := ?_)
  refine get_wb I K (0, 3, 1) (hk := ?_)
  refine peek_cx I K (hk := fun _ => ?_)
  refine put_cx I K (0, 3, 1) (hk := ?_)
  exact step_ret (hk)

theorem part51 {Φ : _ → sProp (MT nD τ sig Unit (Elt F) ℕ UU ℕ)} (hk : St I K c { P₄ with cx := 15, ps := 1, r := 7 } ⊢ Φ ⟨⟩) :
    St I K c { P₄ with cx := 12, ps := 1, r := 7 } ⊢ WP c (at_ (k0_part51 (F := F)) (vbufG I c)) Φ := by
  dsimp only [at_]; rw [k0_part51_eq_skeleton]; unfold k0_part51_skel
  simp only [Prog.lift, Prog.bind_op, Prog.bind_ret, Prog.pure_eq_ret]
  refine get_wb I K (1, 0, 1) (hk := ?_)
  refine peek_cx I K (hk := fun _ => ?_)
  refine put_cx I K (1, 0, 1) (hk := ?_)
  refine get_wb I K (1, 1, 1) (hk := ?_)
  refine peek_cx I K (hk := fun _ => ?_)
  refine put_cx I K (1, 1, 1) (hk := ?_)
  refine get_wb I K (1, 2, 1) (hk := ?_)
  refine peek_cx I K (hk := fun _ => ?_)
  refine put_cx I K (1, 2, 1) (hk := ?_)
  exact step_ret (hk)

theorem part52 {Φ : _ → sProp (MT nD τ sig Unit (Elt F) ℕ UU ℕ)} {v2} (hk : ∀ r, St I K c { P₄ with cx := 16, ps := 2, r := 7 } ⊢ Φ r) :
    St I K c { P₄ with cx := 15, ps := 1, r := 7 } ⊢ WP c (at_ (k0_part52 (F := F)) v2 (vbufG I c) (k0_pay71 (I c).wo)) Φ := by
  dsimp only [at_]; rw [k0_part52_eq_skeleton]; unfold k0_part52_skel
  simp only [Prog.lift, Prog.bind_op, Prog.bind_ret, Prog.pure_eq_ret]
  refine get_wb I K (1, 3, 1) (hk := ?_)
  refine peek_cx I K (hk := fun _ => ?_)
  refine put_cx I K (1, 3, 1) (hk := ?_)
  refine get_cx I K 1 (hk := ?_)
  refine peek_ps I K 1 (hk := fun _ => ?_)
  refine put_ps I K 1 (hk := ?_)
  exact step_ret (hk _)

theorem part53 {Φ : _ → sProp (MT nD τ sig Unit (Elt F) ℕ UU ℕ)} {v2 v1644 c2_i32_1330 v1645 v1647} (hk : ∀ r, St I K c { P₄ with cx := 16, ps := 2, r := 8 } ⊢ Φ r) :
    St I K c { P₄ with cx := 16, ps := 2, r := 7 } ⊢ WP c (at_ (k0_part53 (F := F)) c v2 v1644 c2_i32_1330 v1645 v1647) Φ := by
  dsimp only [at_]; rw [k0_part53_eq_skeleton]; unfold k0_part53_skel
  simp only [Prog.lift, Prog.bind_op, Prog.bind_ret, Prog.pure_eq_ret]
  refine cond_r I K 0 (cnd := fun d => k0_cond8 d = 1#1) (n := fun d h => ⟨k0_dev29 d, k0_dev29_lt d h⟩) (offs := k0_off12) ?_
  exact step_ret (hk _)

theorem part54 {Φ : _ → sProp (MT nD τ sig Unit (Elt F) ℕ UU ℕ)} {v2 v1675 c2_i32_1346 v1676 v1687} (hk : ∀ r, St I K c { P₄ with cx := 16, ps := 2, r := 9 } ⊢ Φ r) :
    St I K c { P₄ with cx := 16, ps := 2, r := 8 } ⊢ WP c (at_ (k0_part54 (F := F)) c v2 v1675 c2_i32_1346 v1676 v1687) Φ := by
  dsimp only [at_]; rw [k0_part54_eq_skeleton]; unfold k0_part54_skel
  simp only [Prog.lift, Prog.bind_op, Prog.bind_ret, Prog.pure_eq_ret]
  refine cond_r I K 1 (cnd := fun d => k0_cond9 d = 1#1) (n := fun d h => ⟨k0_dev30 d, k0_dev30_lt d h⟩) (offs := k0_off13) ?_
  exact step_ret (hk _)

theorem part55 {Φ : _ → sProp (MT nD τ sig Unit (Elt F) ℕ UU ℕ)} {v2 v1706} (hk : ∀ r, St I K c { P₄ with cx := 16, ps := 2, r := 11 } ⊢ Φ r) :
    St I K c { P₄ with cx := 16, ps := 2, r := 9 } ⊢ WP c (at_ (k0_part55 (F := F)) c v2 v1706) Φ := by
  dsimp only [at_]; rw [k0_part55_eq_skeleton]; unfold k0_part55_skel
  simp only [Prog.lift, Prog.bind_op, Prog.bind_ret, Prog.pure_eq_ret]
  refine cond_r I K 2 (cnd := fun d => k0_cond10 d = 1#1) (n := fun d h => ⟨k0_dev31 d, k0_dev31_lt d h⟩) (offs := k0_off14) ?_
  refine cond_r I K 3 (cnd := fun d => k0_cond11 d = 1#1) (n := fun d h => ⟨k0_dev32 d, k0_dev32_lt d h⟩) (offs := k0_off15) ?_
  exact step_ret (hk _)

theorem part56 {Φ : _ → sProp (MT nD τ sig Unit (Elt F) ℕ UU ℕ)} {v2 v1760 v1761 v1762 c0_i32_1392} (hk : ∀ r, St I K c { P₄ with cx := 16, ps := 2, r := 12 } ⊢ Φ r) :
    St I K c { P₄ with cx := 16, ps := 2, r := 11 } ⊢ WP c (at_ (k0_part56 (F := F)) c v2 v1760 v1761 v1762 c0_i32_1392) Φ := by
  dsimp only [at_]; rw [k0_part56_eq_skeleton]; unfold k0_part56_skel
  simp only [Prog.lift, Prog.bind_op, Prog.bind_ret, Prog.pure_eq_ret]
  refine cond_r I K 4 (cnd := fun d => k0_cond12 d = 1#1) (n := fun d h => ⟨k0_dev33 d, k0_dev33_lt d h⟩) (offs := k0_off16) ?_
  exact step_ret (hk _)

theorem part57 {Φ : _ → sProp (MT nD τ sig Unit (Elt F) ℕ UU ℕ)} {v2 v1799 c2_i32_1410 v1800 v1802} (hk : ∀ r, St I K c { P₄ with cx := 16, ps := 2, r := 13 } ⊢ Φ r) :
    St I K c { P₄ with cx := 16, ps := 2, r := 12 } ⊢ WP c (at_ (k0_part57 (F := F)) c v2 v1799 c2_i32_1410 v1800 v1802) Φ := by
  dsimp only [at_]; rw [k0_part57_eq_skeleton]; unfold k0_part57_skel
  simp only [Prog.lift, Prog.bind_op, Prog.bind_ret, Prog.pure_eq_ret]
  refine cond_r I K 5 (cnd := fun d => k0_cond13 d = 1#1) (n := fun d h => ⟨k0_dev34 d, k0_dev34_lt d h⟩) (offs := k0_off17) ?_
  exact step_ret (hk _)

/-! ## The third quarter -/

theorem part58 {Φ : _ → sProp (MT nD τ sig Unit (Elt F) ℕ UU ℕ)} {v1830 c2_i32_1426 v1831 v1842} (hk : St I K c { P₄ with cx := 18, ps := 2, r := 14 } ⊢ Φ (k0_pay95 (vbufG I c))) :
    St I K c { P₄ with cx := 16, ps := 2, r := 13 } ⊢ WP c (at_ (k0_part58 (F := F)) c (vbufG I c) v1830 c2_i32_1426 v1831 v1842) Φ := by
  dsimp only [at_]; rw [k0_part58_eq_skeleton]; unfold k0_part58_skel
  simp only [Prog.lift, Prog.bind_op, Prog.bind_ret, Prog.pure_eq_ret]
  refine cond_r I K 6 (cnd := fun d => k0_cond14 d = 1#1) (n := fun d h => ⟨k0_dev35 d, k0_dev35_lt d h⟩) (offs := k0_off18) ?_
  refine get_wb I K (0, 0, 2) (hk := ?_)
  refine peek_cx I K (hk := fun _ => ?_)
  refine put_cx I K (0, 0, 2) (hk := ?_)
  refine get_wb I K (0, 1, 2) (hk := ?_)
  refine peek_cx I K (hk := fun _ => ?_)
  refine put_cx I K (0, 1, 2) (hk := ?_)
  exact step_ret (hk)

theorem part59 {Φ : _ → sProp (MT nD τ sig Unit (Elt F) ℕ UU ℕ)} (hk : St I K c { P₄ with cx := 21, ps := 2, r := 14 } ⊢ Φ (k0_pay99 (vbufG I c))) :
    St I K c { P₄ with cx := 18, ps := 2, r := 14 } ⊢ WP c (at_ (k0_part59 (F := F)) (vbufG I c) (k0_pay95 (vbufG I c))) Φ := by
  dsimp only [at_]; rw [k0_part59_eq_skeleton]; unfold k0_part59_skel
  simp only [Prog.lift, Prog.bind_op, Prog.bind_ret, Prog.pure_eq_ret]
  refine get_wb I K (0, 2, 2) (hk := ?_)
  refine peek_cx I K (hk := fun _ => ?_)
  refine put_cx I K (0, 2, 2) (hk := ?_)
  refine get_wb I K (0, 3, 2) (hk := ?_)
  refine peek_cx I K (hk := fun _ => ?_)
  refine put_cx I K (0, 3, 2) (hk := ?_)
  refine get_wb I K (1, 0, 2) (hk := ?_)
  refine peek_cx I K (hk := fun _ => ?_)
  refine put_cx I K (1, 0, 2) (hk := ?_)
  exact step_ret (hk)

theorem part60 {Φ : _ → sProp (MT nD τ sig Unit (Elt F) ℕ UU ℕ)} (hk : St I K c { P₄ with cx := 24, ps := 2, r := 14 } ⊢ Φ ⟨k0_pay103 (rd (ctxRect 2) (ctxG I c)), (constant S128x512 .f32 0x00000000#32 : FVec F S128x512 .f32)⟩) :
    St I K c { P₄ with cx := 21, ps := 2, r := 14 } ⊢ WP c (at_ (k0_part60 (F := F)) (vbufG I c) (k0_pay99 (vbufG I c))) Φ := by
  dsimp only [at_]; rw [k0_part60_eq_skeleton]; unfold k0_part60_skel
  simp only [Prog.lift, Prog.bind_op, Prog.bind_ret, Prog.pure_eq_ret]
  refine get_wb I K (1, 1, 2) (hk := ?_)
  refine peek_cx I K (hk := fun _ => ?_)
  refine put_cx I K (1, 1, 2) (hk := ?_)
  refine get_wb I K (1, 2, 2) (hk := ?_)
  refine peek_cx I K (hk := fun _ => ?_)
  refine put_cx I K (1, 2, 2) (hk := ?_)
  refine get_wb I K (1, 3, 2) (hk := ?_)
  refine peek_cx I K (hk := fun _ => ?_)
  refine put_cx I K (1, 3, 2) (hk := ?_)
  refine get_cx I K 2 (hk := ?_)
  exact step_ret (hk)

theorem part61 {Φ : _ → sProp (MT nD τ sig Unit (Elt F) ℕ UU ℕ)} {v2} (hk : ∀ r, St I K c { P₄ with cx := 24, ps := 3, r := 15 } ⊢ Φ r) :
    St I K c { P₄ with cx := 24, ps := 2, r := 14 } ⊢ WP c (at_ (k0_part61 (F := F)) c v2 (k0_pay71 (I c).wo) (k0_pay103 (rd (ctxRect 2) (ctxG I c))) ((constant S128x512 .f32 0x00000000#32 : FVec F S128x512 .f32))) Φ := by
  dsimp only [at_]; rw [k0_part61_eq_skeleton]; unfold k0_part61_skel
  simp only [Prog.lift, Prog.bind_op, Prog.bind_ret, Prog.pure_eq_ret]
  refine peek_ps I K 2 (hk := fun _ => ?_)
  refine put_ps I K 2 (hk := ?_)
  refine cond_r I K 0 (cnd := fun d => k0_cond15 d = 1#1) (n := fun d h => ⟨k0_dev36 d, k0_dev36_lt d h⟩) (offs := k0_off19) ?_
  exact step_ret (hk _)

theorem part62 {Φ : _ → sProp (MT nD τ sig Unit (Elt F) ℕ UU ℕ)} {v2 v1962} (hk : ∀ r, St I K c { P₄ with cx := 24, ps := 3, r := 16 } ⊢ Φ r) :
    St I K c { P₄ with cx := 24, ps := 3, r := 15 } ⊢ WP c (at_ (k0_part62 (F := F)) c v2 v1962) Φ := by
  dsimp only [at_]; rw [k0_part62_eq_skeleton]; unfold k0_part62_skel
  simp only [Prog.lift, Prog.bind_op, Prog.bind_ret, Prog.pure_eq_ret]
  refine cond_r I K 1 (cnd := fun d => k0_cond16 d = 1#1) (n := fun d h => ⟨k0_dev37 d, k0_dev37_lt d h⟩) (offs := k0_off20) ?_
  exact step_ret (hk _)

theorem part63 {Φ : _ → sProp (MT nD τ sig Unit (Elt F) ℕ UU ℕ)} {v2 v1995 v1996 v1997 v1998 v1999} (hk : ∀ r, St I K c { P₄ with cx := 24, ps := 3, r := 17 } ⊢ Φ r) :
    St I K c { P₄ with cx := 24, ps := 3, r := 16 } ⊢ WP c (at_ (k0_part63 (F := F)) c v2 v1995 v1996 v1997 v1998 v1999) Φ := by
  dsimp only [at_]; rw [k0_part63_eq_skeleton]; unfold k0_part63_skel
  simp only [Prog.lift, Prog.bind_op, Prog.bind_ret, Prog.pure_eq_ret]
  refine cond_r I K 2 (cnd := fun d => k0_cond17 d = 1#1) (n := fun d h => ⟨k0_dev38 d, k0_dev38_lt d h⟩) (offs := k0_off21) ?_
  exact step_ret (hk _)

theorem part64 {Φ : _ → sProp (MT nD τ sig Unit (Elt F) ℕ UU ℕ)} {v2 v2034 c2_i32_1577 v2035 v2037 v2039} (hk : ∀ r, St I K c { P₄ with cx := 24, ps := 3, r := 18 } ⊢ Φ r) :
    St I K c { P₄ with cx := 24, ps := 3, r := 17 } ⊢ WP c (at_ (k0_part64 (F := F)) c v2 v2034 c2_i32_1577 v2035 v2037 v2039) Φ := by
  dsimp only [at_]; rw [k0_part64_eq_skeleton]; unfold k0_part64_skel
  simp only [Prog.lift, Prog.bind_op, Prog.bind_ret, Prog.pure_eq_ret]
  refine cond_r I K 3 (cnd := fun d => k0_cond18 d = 1#1) (n := fun d h => ⟨k0_dev39 d, k0_dev39_lt d h⟩) (offs := k0_off22) ?_
  exact step_ret (hk _)

theorem part65 {Φ : _ → sProp (MT nD τ sig Unit (Elt F) ℕ UU ℕ)} {v2 v2065 v2066 v2077 v2079} (hk : ∀ r, St I K c { P₄ with cx := 24, ps := 3, r := 20 } ⊢ Φ r) :
    St I K c { P₄ with cx := 24, ps := 3, r := 18 } ⊢ WP c (at_ (k0_part65 (F := F)) c v2 v2065 v2066 v2077 v2079) Φ := by
  dsimp only [at_]; rw [k0_part65_eq_skeleton]; unfold k0_part65_skel
  simp only [Prog.lift, Prog.bind_op, Prog.bind_ret, Prog.pure_eq_ret]
  refine cond_r I K 4 (cnd := fun d => k0_cond19 d = 1#1) (n := fun d h => ⟨k0_dev40 d, k0_dev40_lt d h⟩) (offs := k0_off23) ?_
  refine cond_r I K 5 (cnd := fun d => k0_cond20 d = 1#1) (n := fun d h => ⟨k0_dev41 d, k0_dev41_lt d h⟩) (offs := k0_off24) ?_
  exact step_ret (hk _)

/-! ## The last quarter -/

theorem part66 {Φ : _ → sProp (MT nD τ sig Unit (Elt F) ℕ UU ℕ)} {v2117} (hk : St I K c { P₄ with cx := 24, ps := 3, r := 21 } ⊢ Φ (k0_pay105 (vbufG I c) (wblk (qG (I c)) (kgG I c) (0, 0, 3)))) :
    St I K c { P₄ with cx := 24, ps := 3, r := 20 } ⊢ WP c (at_ (k0_part66 (F := F)) c (vbufG I c) v2117) Φ := by
  dsimp only [at_]; rw [k0_part66_eq_skeleton]; unfold k0_part66_skel
  simp only [Prog.lift, Prog.bind_op, Prog.bind_ret, Prog.pure_eq_ret]
  refine cond_r I K 6 (cnd := fun d => k0_cond21 d = 1#1) (n := fun d h => ⟨k0_dev42 d, k0_dev42_lt d h⟩) (offs := k0_off25) ?_
  refine get_wb I K (0, 0, 3) (hk := ?_)
  exact step_ret (hk)

theorem part67 {Φ : _ → sProp (MT nD τ sig Unit (Elt F) ℕ UU ℕ)} (hk : St I K c { P₄ with cx := 27, ps := 3, r := 21 } ⊢ Φ (k0_pay109 (vbufG I c) (wblk (qG (I c)) (kgG I c) (0, 3, 3)))) :
    St I K c { P₄ with cx := 24, ps := 3, r := 21 } ⊢ WP c (at_ (k0_part67 (F := F)) (vbufG I c) (k0_pay105 (vbufG I c) (wblk (qG (I c)) (kgG I c) (0, 0, 3)))) Φ := by
  dsimp only [at_]; rw [k0_part67_eq_skeleton]; unfold k0_part67_skel
  simp only [Prog.lift, Prog.bind_op, Prog.bind_ret, Prog.pure_eq_ret]
  refine peek_cx I K (hk := fun _ => ?_)
  refine put_cx I K (0, 0, 3) (hk := ?_)
  refine get_wb I K (0, 1, 3) (hk := ?_)
  refine peek_cx I K (hk := fun _ => ?_)
  refine put_cx I K (0, 1, 3) (hk := ?_)
  refine get_wb I K (0, 2, 3) (hk := ?_)
  refine peek_cx I K (hk := fun _ => ?_)
  refine put_cx I K (0, 2, 3) (hk := ?_)
  refine get_wb I K (0, 3, 3) (hk := ?_)
  exact step_ret (hk)

theorem part68 {Φ : _ → sProp (MT nD τ sig Unit (Elt F) ℕ UU ℕ)} (hk : St I K c { P₄ with cx := 30, ps := 3, r := 21 } ⊢ Φ (k0_pay113 (vbufG I c) (wblk (qG (I c)) (kgG I c) (1, 2, 3)))) :
    St I K c { P₄ with cx := 27, ps := 3, r := 21 } ⊢ WP c (at_ (k0_part68 (F := F)) (vbufG I c) (k0_pay109 (vbufG I c) (wblk (qG (I c)) (kgG I c) (0, 3, 3)))) Φ := by
  dsimp only [at_]; rw [k0_part68_eq_skeleton]; unfold k0_part68_skel
  simp only [Prog.lift, Prog.bind_op, Prog.bind_ret, Prog.pure_eq_ret]
  refine peek_cx I K (hk := fun _ => ?_)
  refine put_cx I K (0, 3, 3) (hk := ?_)
  refine get_wb I K (1, 0, 3) (hk := ?_)
  refine peek_cx I K (hk := fun _ => ?_)
  refine put_cx I K (1, 0, 3) (hk := ?_)
  refine get_wb I K (1, 1, 3) (hk := ?_)
  refine peek_cx I K (hk := fun _ => ?_)
  refine put_cx I K (1, 1, 3) (hk := ?_)
  refine get_wb I K (1, 2, 3) (hk := ?_)
  exact step_ret (hk)

theorem part69 {Φ : _ → sProp (MT nD τ sig Unit (Elt F) ℕ UU ℕ)} {v2} (hk : ∀ r, St I K c { P₄ with cx := 32, ps := 4, r := 21 } ⊢ Φ r) :
    St I K c { P₄ with cx := 30, ps := 3, r := 21 } ⊢ WP c (at_ (k0_part69 (F := F)) v2 (vbufG I c) (k0_pay71 (I c).wo) (k0_pay113 (vbufG I c) (wblk (qG (I c)) (kgG I c) (1, 2, 3)))) Φ := by
  dsimp only [at_]; rw [k0_part69_eq_skeleton]; unfold k0_part69_skel
  simp only [Prog.lift, Prog.bind_op, Prog.bind_ret, Prog.pure_eq_ret]
  refine peek_cx I K (hk := fun _ => ?_)
  refine put_cx I K (1, 2, 3) (hk := ?_)
  refine get_wb I K (1, 3, 3) (hk := ?_)
  refine peek_cx I K (hk := fun _ => ?_)
  refine put_cx I K (1, 3, 3) (hk := ?_)
  refine get_cx I K 3 (hk := ?_)
  refine peek_ps I K 3 (hk := fun _ => ?_)
  refine put_ps I K 3 (hk := ?_)
  exact step_ret (hk _)

theorem part70 {Φ : _ → sProp (MT nD τ sig Unit (Elt F) ℕ UU ℕ)} {v2 v2231 v2236 v2237} (hk : ∀ r, St I K c { P₄ with cx := 32, ps := 4, r := 22 } ⊢ Φ r) :
    St I K c { P₄ with cx := 32, ps := 4, r := 21 } ⊢ WP c (at_ (k0_part70 (F := F)) c v2 v2231 v2236 v2237) Φ := by
  dsimp only [at_]; rw [k0_part70_eq_skeleton]; unfold k0_part70_skel
  simp only [Prog.lift, Prog.bind_op, Prog.bind_ret, Prog.pure_eq_ret]
  refine cond_r I K 0 (cnd := fun d => k0_cond22 d = 1#1) (n := fun d h => ⟨k0_dev43 d, k0_dev43_lt d h⟩) (offs := k0_off26) ?_
  exact step_ret (hk _)

theorem part71 {Φ : _ → sProp (MT nD τ sig Unit (Elt F) ℕ UU ℕ)} {v2 v2269 c2_i32_1744 v2270 v2275 v2276} (hk : ∀ r, St I K c { P₄ with cx := 32, ps := 4, r := 23 } ⊢ Φ r) :
    St I K c { P₄ with cx := 32, ps := 4, r := 22 } ⊢ WP c (at_ (k0_part71 (F := F)) c v2 v2269 c2_i32_1744 v2270 v2275 v2276) Φ := by
  dsimp only [at_]; rw [k0_part71_eq_skeleton]; unfold k0_part71_skel
  simp only [Prog.lift, Prog.bind_op, Prog.bind_ret, Prog.pure_eq_ret]
  refine cond_r I K 1 (cnd := fun d => k0_cond23 d = 1#1) (n := fun d h => ⟨k0_dev44 d, k0_dev44_lt d h⟩) (offs := k0_off27) ?_
  exact step_ret (hk _)

theorem part72 {Φ : _ → sProp (MT nD τ sig Unit (Elt F) ℕ UU ℕ)} {v2 v2300 v2301 v2315 v2316} (hk : ∀ r, St I K c { P₄ with cx := 32, ps := 4, r := 25 } ⊢ Φ r) :
    St I K c { P₄ with cx := 32, ps := 4, r := 23 } ⊢ WP c (at_ (k0_part72 (F := F)) c v2 v2300 v2301 v2315 v2316) Φ := by
  dsimp only [at_]; rw [k0_part72_eq_skeleton]; unfold k0_part72_skel
  simp only [Prog.lift, Prog.bind_op, Prog.bind_ret, Prog.pure_eq_ret]
  refine cond_r I K 2 (cnd := fun d => k0_cond24 d = 1#1) (n := fun d h => ⟨k0_dev45 d, k0_dev45_lt d h⟩) (offs := k0_off28) ?_
  refine cond_r I K 3 (cnd := fun d => k0_cond25 d = 1#1) (n := fun d h => ⟨k0_dev46 d, k0_dev46_lt d h⟩) (offs := k0_off29) ?_
  exact step_ret (hk _)

theorem part73 {Φ : _ → sProp (MT nD τ sig Unit (Elt F) ℕ UU ℕ)} {v2 v2352 c8_i32_1786 v2353} (hk : ∀ r, St I K c { P₄ with cx := 32, ps := 4, r := 26 } ⊢ Φ r) :
    St I K c { P₄ with cx := 32, ps := 4, r := 25 } ⊢ WP c (at_ (k0_part73 (F := F)) c v2 v2352 c8_i32_1786 v2353) Φ := by
  dsimp only [at_]; rw [k0_part73_eq_skeleton]; unfold k0_part73_skel
  simp only [Prog.lift, Prog.bind_op, Prog.bind_ret, Prog.pure_eq_ret]
  refine cond_r I K 4 (cnd := fun d => k0_cond26 d = 1#1) (n := fun d h => ⟨k0_dev47 d, k0_dev47_lt d h⟩) (offs := k0_off30) ?_
  exact step_ret (hk _)

theorem part74 {Φ : _ → sProp (MT nD τ sig Unit (Elt F) ℕ UU ℕ)} {v2 v2386 v2391 v2392} (hk : ∀ r, St I K c { P₄ with cx := 32, ps := 4, r := 27 } ⊢ Φ r) :
    St I K c { P₄ with cx := 32, ps := 4, r := 26 } ⊢ WP c (at_ (k0_part74 (F := F)) c v2 v2386 v2391 v2392) Φ := by
  dsimp only [at_]; rw [k0_part74_eq_skeleton]; unfold k0_part74_skel
  simp only [Prog.lift, Prog.bind_op, Prog.bind_ret, Prog.pure_eq_ret]
  refine cond_r I K 5 (cnd := fun d => k0_cond27 d = 1#1) (n := fun d h => ⟨k0_dev48 d, k0_dev48_lt d h⟩) (offs := k0_off31) ?_
  exact step_ret (hk _)

theorem part75 {Φ : _ → sProp (MT nD τ sig Unit (Elt F) ℕ UU ℕ)} {v2 v2424 c2_i32_1824 v2425 v2430 v2431} (hk : ∀ r, St I K c P₅ ⊢ Φ r) :
    St I K c { P₄ with cx := 32, ps := 4, r := 27 } ⊢ WP c (at_ (k0_part75 (F := F)) c v2 v2424 c2_i32_1824 v2425 v2430 v2431) Φ := by
  dsimp only [at_]; rw [k0_part75_eq_skeleton]; unfold k0_part75_skel
  simp only [Prog.lift, Prog.bind_op, Prog.bind_ret, Prog.pure_eq_ret]
  refine cond_r I K 6 (cnd := fun d => k0_cond28 d = 1#1) (n := fun d h => ⟨k0_dev49 d, k0_dev49_lt d h⟩) (offs := k0_off32) ?_
  refine get_ps I K (hk := ?_)
  refine peek_rb I K c (hk := fun _ => ?_)
  refine put_rb I K c (hk := ?_)
  exact step_ret (hk _)

end Cert.KernelIdeal.Attn
-- ==== Proof.PartsD.lean ====
/- The pieces of the kernel's body, the sums and their exchange. -/
module

public import proofs.«01_k».proof.Proof.Pieces

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (I : Dev nD → In F) (K : Dev nD × CellIx → ℕ) (c : Dev nD)

/-! ## The rows received and summed -/

theorem part76 {Φ : _ → sProp (MT nD τ sig Unit (Elt F) ℕ UU ℕ)} {v2 v2461} (hk : ∀ r, St I K c { P₅ with wr := 2 } ⊢ Φ r) :
    St I K c P₅ ⊢ WP c (at_ (k0_part76 (F := F)) c v2 v2461) Φ := by
  dsimp only [at_]; rw [k0_part76_eq_skeleton]; unfold k0_part76_skel
  simp only [Prog.lift, Prog.bind_op, Prog.bind_ret, Prog.pure_eq_ret]
  refine wait_rs I K (j := 0) (hk := ?_)
  refine wait_rr I K (j := 0) (hk := ?_)
  exact step_ret (hk _)

theorem part77 {Φ : _ → sProp (MT nD τ sig Unit (Elt F) ℕ UU ℕ)} {v2 v2485} (hk : ∀ r, St I K c { P₅ with wr := 5 } ⊢ Φ r) :
    St I K c { P₅ with wr := 2 } ⊢ WP c (at_ (k0_part77 (F := F)) c v2 v2485) Φ := by
  dsimp only [at_]; rw [k0_part77_eq_skeleton]; unfold k0_part77_skel
  simp only [Prog.lift, Prog.bind_op, Prog.bind_ret, Prog.pure_eq_ret]
  refine wait_rs I K (j := 1) (hk := ?_)
  refine wait_rr I K (j := 1) (hk := ?_)
  refine wait_rs I K (j := 2) (hk := ?_)
  exact step_ret (hk _)

theorem part78 {Φ : _ → sProp (MT nD τ sig Unit (Elt F) ℕ UU ℕ)} {v2 v2516 c0_i32_1914} (hk : St I K c { P₅ with wr := 7 } ⊢ Φ ⟨⟩) :
    St I K c { P₅ with wr := 5 } ⊢ WP c (at_ (k0_part78 (F := F)) c v2 v2516 c0_i32_1914) Φ := by
  dsimp only [at_]; rw [k0_part78_eq_skeleton]; unfold k0_part78_skel
  simp only [Prog.lift, Prog.bind_op, Prog.bind_ret, Prog.pure_eq_ret]
  refine wait_rr I K (j := 2) (hk := ?_)
  refine wait_rs I K (j := 3) (hk := ?_)
  exact step_ret (hk)

theorem part79 {Φ : _ → sProp (MT nD τ sig Unit (Elt F) ℕ UU ℕ)} {v2} (hk : ∀ r, St I K c { P₅ with wr := 10 } ⊢ Φ r) :
    St I K c { P₅ with wr := 7 } ⊢ WP c (at_ (k0_part79 (F := F)) c v2) Φ := by
  dsimp only [at_]; rw [k0_part79_eq_skeleton]; unfold k0_part79_skel
  simp only [Prog.lift, Prog.bind_op, Prog.bind_ret, Prog.pure_eq_ret]
  refine wait_rr I K (j := 3) (hk := ?_)
  refine wait_rs I K (j := 4) (hk := ?_)
  refine wait_rr I K (j := 4) (hk := ?_)
  exact step_ret (hk _)

theorem part80 {Φ : _ → sProp (MT nD τ sig Unit (Elt F) ℕ UU ℕ)} {v2 v2571} (hk : ∀ r, St I K c { P₅ with wr := 12 } ⊢ Φ r) :
    St I K c { P₅ with wr := 10 } ⊢ WP c (at_ (k0_part80 (F := F)) c v2 v2571) Φ := by
  dsimp only [at_]; rw [k0_part80_eq_skeleton]; unfold k0_part80_skel
  simp only [Prog.lift, Prog.bind_op, Prog.bind_ret, Prog.pure_eq_ret]
  refine wait_rs I K (j := 5) (hk := ?_)
  refine wait_rr I K (j := 5) (hk := ?_)
  exact step_ret (hk _)

theorem part81 {Φ : _ → sProp (MT nD τ sig Unit (Elt F) ℕ UU ℕ)} {v2 v2597 v2598 c0_i32_2005} (hk : St I K c { P₅ with wr := 14, o := 1 } ⊢ Φ (k0_pay119 (rbufG I c))) :
    St I K c { P₅ with wr := 12 } ⊢ WP c (at_ (k0_part81 (F := F)) c v2 v2597 v2598 c0_i32_2005) Φ := by
  dsimp only [at_]; rw [k0_part81_eq_skeleton]; unfold k0_part81_skel
  simp only [Prog.lift, Prog.bind_op, Prog.bind_ret, Prog.pure_eq_ret]
  refine wait_rs I K (j := 6) (hk := ?_)
  refine wait_rr I K (j := 6) (hk := ?_)
  refine get_rb I K (hk := ?_)
  refine peek_o I K (hk := fun _ => ?_)
  refine put_own I K (hk := ?_)
  exact step_ret (hk)

/-! ## The sums exchanged -/

theorem part82 {Φ : _ → sProp (MT nD τ sig Unit (Elt F) ℕ UU ℕ)} {v2} (hk : ∀ r, St I K c { P₆ with a := 1 } ⊢ Φ r) :
    St I K c { P₅ with wr := 14, o := 1 } ⊢ WP c (at_ (k0_part82 (F := F)) c v2 (k0_pay119 (rbufG I c))) Φ := by
  dsimp only [at_]; rw [k0_part82_eq_skeleton]; unfold k0_part82_skel
  simp only [Prog.lift, Prog.bind_op, Prog.bind_ret, Prog.pure_eq_ret]
  refine peek_gb I K (hk := fun _ => ?_)
  refine put_gb I K (hk := ?_)
  refine send_a I K (j := 0) (hk := ?_)
  exact step_ret (hk _)

theorem part83 {Φ : _ → sProp (MT nD τ sig Unit (Elt F) ℕ UU ℕ)} {v2 v2658} (hk : ∀ r, St I K c { P₆ with a := 3 } ⊢ Φ r) :
    St I K c { P₆ with a := 1 } ⊢ WP c (at_ (k0_part83 (F := F)) c v2 v2658) Φ := by
  dsimp only [at_]; rw [k0_part83_eq_skeleton]; unfold k0_part83_skel
  simp only [Prog.lift, Prog.bind_op, Prog.bind_ret, Prog.pure_eq_ret]
  refine send_a I K (j := 1) (hk := ?_)
  refine send_a I K (j := 2) (hk := ?_)
  exact step_ret (hk _)

theorem part84 {Φ : _ → sProp (MT nD τ sig Unit (Elt F) ℕ UU ℕ)} {v2 v2688 v2689} (hk : ∀ r, St I K c { P₆ with a := 4 } ⊢ Φ r) :
    St I K c { P₆ with a := 3 } ⊢ WP c (at_ (k0_part84 (F := F)) c v2 v2688 v2689) Φ := by
  dsimp only [at_]; rw [k0_part84_eq_skeleton]; unfold k0_part84_skel
  simp only [Prog.lift, Prog.bind_op, Prog.bind_ret, Prog.pure_eq_ret]
  refine send_a I K (j := 3) (hk := ?_)
  exact step_ret (hk _)

theorem part85 {Φ : _ → sProp (MT nD τ sig Unit (Elt F) ℕ UU ℕ)} {v2} (hk : ∀ r, St I K c { P₆ with a := 6 } ⊢ Φ r) :
    St I K c { P₆ with a := 4 } ⊢ WP c (at_ (k0_part85 (F := F)) c v2) Φ := by
  dsimp only [at_]; rw [k0_part85_eq_skeleton]; unfold k0_part85_skel
  simp only [Prog.lift, Prog.bind_op, Prog.bind_ret, Prog.pure_eq_ret]
  refine send_a I K (j := 4) (hk := ?_)
  refine send_a I K (j := 5) (hk := ?_)
  exact step_ret (hk _)

theorem part86 {Φ : _ → sProp (MT nD τ sig Unit (Elt F) ℕ UU ℕ)} {v2639 v2658 v2754} (hk : St I K c { P₆ with a := 7, wa := 3 } ⊢ Φ ⟨⟩) :
    St I K c { P₆ with a := 6 } ⊢ WP c (at_ (k0_part86 (F := F)) c v2639 v2658 v2754) Φ := by
  dsimp only [at_]; rw [k0_part86_eq_skeleton]; unfold k0_part86_skel
  simp only [Prog.lift, Prog.bind_op, Prog.bind_ret, Prog.pure_eq_ret]
  refine send_a I K (j := 6) (hk := ?_)
  refine wait_as I K (j := 0) (hk := ?_)
  refine wait_ar I K (j := 0) (hk := ?_)
  refine wait_as I K (j := 1) (hk := ?_)
  exact step_ret (hk)

theorem part87 {Φ : _ → sProp (MT nD τ sig Unit (Elt F) ℕ UU ℕ)} {v2677 v2696} (hk : St I K c { P₆ with a := 7, wa := 8 } ⊢ Φ ⟨⟩) :
    St I K c { P₆ with a := 7, wa := 3 } ⊢ WP c (at_ (k0_part87 (F := F)) v2677 v2696) Φ := by
  dsimp only [at_]; rw [k0_part87_eq_skeleton]; unfold k0_part87_skel
  simp only [Prog.lift, Prog.bind_op, Prog.bind_ret, Prog.pure_eq_ret]
  refine wait_ar I K (j := 1) (hk := ?_)
  refine wait_as I K (j := 2) (hk := ?_)
  refine wait_ar I K (j := 2) (hk := ?_)
  refine wait_as I K (j := 3) (hk := ?_)
  refine wait_ar I K (j := 3) (hk := ?_)
  exact step_ret (hk)

theorem part88 {Φ : _ → sProp (MT nD τ sig Unit (Elt F) ℕ UU ℕ)} {v2715 v2734} (hk : St I K c { P₆ with a := 7, wa := 12 } ⊢ Φ ⟨⟩) :
    St I K c { P₆ with a := 7, wa := 8 } ⊢ WP c (at_ (k0_part88 (F := F)) v2715 v2734) Φ := by
  dsimp only [at_]; rw [k0_part88_eq_skeleton]; unfold k0_part88_skel
  simp only [Prog.lift, Prog.bind_op, Prog.bind_ret, Prog.pure_eq_ret]
  refine wait_as I K (j := 4) (hk := ?_)
  refine wait_ar I K (j := 4) (hk := ?_)
  refine wait_as I K (j := 5) (hk := ?_)
  refine wait_ar I K (j := 5) (hk := ?_)
  exact step_ret (hk)

theorem part89 {Φ : _ → sProp (MT nD τ sig Unit (Elt F) ℕ UU ℕ)} {v2 v2753} (hk : ∀ r, St I K c { P₇ with o := 2 } ⊢ Φ r) :
    St I K c { P₆ with a := 7, wa := 12 } ⊢ WP c (at_ (k0_part89 (F := F)) c v2 v2753) Φ := by
  dsimp only [at_]; rw [k0_part89_eq_skeleton]; unfold k0_part89_skel
  simp only [Prog.lift, Prog.bind_op, Prog.bind_ret, Prog.pure_eq_ret]
  refine wait_as I K (j := 6) (hk := ?_)
  refine wait_ar I K (j := 6) (hk := ?_)
  refine get_fb I K 0 (hk := ?_)
  refine peek_o I K (hk := fun _ => ?_)
  refine put_peer I K 0 (hk := ?_)
  exact step_ret (hk _)

theorem part90 {Φ : _ → sProp (MT nD τ sig Unit (Elt F) ℕ UU ℕ)} {v2 v2849 v2851} (hk : ∀ r, St I K c { P₇ with o := 4 } ⊢ Φ r) :
    St I K c { P₇ with o := 2 } ⊢ WP c (at_ (k0_part90 (F := F)) c v2 v2849 v2851) Φ := by
  dsimp only [at_]; rw [k0_part90_eq_skeleton]; unfold k0_part90_skel
  simp only [Prog.lift, Prog.bind_op, Prog.bind_ret, Prog.pure_eq_ret]
  refine get_fb I K 1 (hk := ?_)
  refine peek_o I K (hk := fun _ => ?_)
  refine put_peer I K 1 (hk := ?_)
  refine get_fb I K 2 (hk := ?_)
  refine peek_o I K (hk := fun _ => ?_)
  refine put_peer I K 2 (hk := ?_)
  exact step_ret (hk _)

theorem part91 {Φ : _ → sProp (MT nD τ sig Unit (Elt F) ℕ UU ℕ)} {v2 v2883 c8_i32_2292} (hk : St I K c { P₇ with o := 5 } ⊢ Φ (k0_pay125 (k0_pay117 (gbufG I (frm c 4))))) :
    St I K c { P₇ with o := 4 } ⊢ WP c (at_ (k0_part91 (F := F)) c v2 v2883 c8_i32_2292) Φ := by
  dsimp only [at_]; rw [k0_part91_eq_skeleton]; unfold k0_part91_skel
  simp only [Prog.lift, Prog.bind_op, Prog.bind_ret, Prog.pure_eq_ret]
  refine get_fb I K 3 (hk := ?_)
  refine peek_o I K (hk := fun _ => ?_)
  refine put_peer I K 3 (hk := ?_)
  refine get_fb I K 4 (hk := ?_)
  refine peek_o I K (hk := fun _ => ?_)
  exact step_ret (hk)

theorem part92 {Φ : _ → sProp (MT nD τ sig Unit (Elt F) ℕ UU ℕ)} {v2} (hk : ∀ a1, St I K c { P₇ with o := 7 } ⊢ Φ ⟨k0_pay127 (k0_pay117 (gbufG I (frm c 6))), a1⟩) :
    St I K c { P₇ with o := 5 } ⊢ WP c (at_ (k0_part92 (F := F)) c v2 (k0_pay125 (k0_pay117 (gbufG I (frm c 4))))) Φ := by
  dsimp only [at_]; rw [k0_part92_eq_skeleton]; unfold k0_part92_skel
  simp only [Prog.lift, Prog.bind_op, Prog.bind_ret, Prog.pure_eq_ret]
  refine put_peer I K 4 (hk := ?_)
  refine get_fb I K 5 (hk := ?_)
  refine peek_o I K (hk := fun _ => ?_)
  refine put_peer I K 5 (hk := ?_)
  refine get_fb I K 6 (hk := ?_)
  exact step_ret (hk _)

end Cert.KernelIdeal.Attn
-- ==== Proof.Body.lean ====
/- The whole body of the kernel: its pieces one after the other. -/
module

public import proofs.«01_k».proof.Proof.Entry
public import proofs.«01_k».proof.Proof.PartsA
public import proofs.«01_k».proof.Proof.PartsB
public import proofs.«01_k».proof.Proof.PartsC
public import proofs.«01_k».proof.Proof.PartsD

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CellIx → ℕ) (c : Dev nD)

theorem step_bind {c : Dev nD} {P : sProp (MT nD τ sig Unit (Elt F) ℕ UU ℕ)} {α β : Type} {Q : β → sProp (MT nD τ sig Unit (Elt F) ℕ UU ℕ)}
    {p : Prog (TpuEff nD τ sig (Elt F) Λ₀ .tc) α} {k : α → Prog (TpuEff nD τ sig (Elt F) Λ₀ .tc) β} (h : P ⊢ WP c p (fun a => WP c (k a) Q)) :
    P ⊢ WP c (p >>= k) Q := by
  dsimp only [WP] at h ⊢
  rw [wp_bind]; exact h

set_option maxHeartbeats 4000000 in
/-- The first sixty pieces: up to the third block of weighted values. -/
theorem part93 {Φ : _ → sProp (MT nD τ sig Unit (Elt F) ℕ UU ℕ)}
    (hk : ∀ v2, St I K c { P₄ with cx := 24, ps := 2, r := 14 } ⊢ Φ ⟨c, v2, vbufG I c, k0_pay71 (I c).wo, k0_pay103 (rd (ctxRect 2) (ctxG I c)),
      (constant S128x512 .f32 0x00000000#32 : FVec F S128x512 .f32)⟩) :
    StB I K c 0 ⊢ WP c (at_ (k0_part93 (F := F))) Φ := by
  dsimp only [at_]; rw [k0_part93_eq_skeleton]; unfold k0_part93_skel
  refine step_bind (part1 I K c (hk := fun _ _ _ _ => ?_))
  refine step_bind (part2 I K c (hk := fun ⟨_, _, _⟩ => ?_))
  refine step_bind (part3 I K c (hk := fun _ => ?_))
  refine step_bind (part4 I K c (hk := fun ⟨_, _, _, _⟩ => ?_))
  refine step_bind (part5 I K c (hk := fun ⟨_, _, _, _, _⟩ => ?_))
  refine step_bind (part6 I K c (hk := fun ⟨_, _, _⟩ => ?_))
  refine step_bind (part7 I K c (hk := fun ⟨_, _, _, _⟩ => ?_))
  refine step_bind (part8 I K c (hk := fun ⟨_, _, _, _, _⟩ => ?_))
  refine step_bind (part9 I K c (hk := fun ⟨_, _, _, _, _, _⟩ => ?_))
  refine step_bind (part10 I K c (hk := fun ⟨_, _, _, _⟩ => ?_))
  refine step_bind (part11 I K c (hk := fun ⟨_, _⟩ => ?_))
  refine step_bind (part12 I K c (hk := fun ⟨_, _⟩ => ?_))
  refine step_bind (part13 I K c (hk := fun ⟨_, _⟩ => ?_))
  refine step_bind (part14 I K c (hk := fun ⟨_, _⟩ => ?_))
  refine step_bind (part15 I K c (hk := fun _ _ => ?_))
  refine step_bind (part16 I K c (hk := fun _ _ => ?_))
  refine step_bind (part17 I K c (hk := ?_))
  refine step_bind (part18 I K c (hk := ?_))
  refine step_bind (part19 I K c (hk := ?_))
  refine step_bind (part20 I K c (hk := ?_))
  refine step_bind (part21 I K c (hk := ?_))
  refine step_bind (part22 I K c (hk := ?_))
  refine step_bind (part23 I K c (hk := ?_))
  refine step_bind (part24 I K c (hk := ?_))
  refine step_bind (part25 I K c (hk := ?_))
  refine step_bind (part26 I K c (hk := ?_))
  refine step_bind (part27 I K c (hk := ?_))
  refine step_bind (part28 I K c (hk := ?_))
  refine step_bind (part29 I K c (hk := ?_))
  refine step_bind (part30 I K c (hk := ?_))
  refine step_bind (part31 I K c (hk := ?_))
  refine step_bind (part32 I K c (hk := ?_))
  refine step_bind (part33 I K c (hk := ?_))
  refine step_bind (part34 I K c (hk := ?_))
  refine step_bind (part35 I K c (hk := ?_))
  refine step_bind (part36 I K c (hk := fun _ => ?_))
  refine step_bind (part37 I K c (hk := ?_))
  refine step_bind (part38 I K c (hk := ?_))
  refine step_bind (part39 I K c (hk := ?_))
  refine step_bind (part40 I K c (hk := ?_))
  refine step_bind (part41 I K c (hk := ?_))
  refine step_bind (part42 I K c (hk := ?_))
  refine step_bind (part43 I K c (hk := ?_))
  refine step_bind (part44 I K c (hk := fun ⟨_, _⟩ => ?_))
  refine step_bind (part45 I K c (hk := fun ⟨_, _, _⟩ => ?_))
  refine step_bind (part46 I K c (hk := fun ⟨_, _, _, _, _, _⟩ => ?_))
  refine step_bind (part47 I K c (hk := fun ⟨_, _⟩ => ?_))
  refine step_bind (part48 I K c (hk := fun ⟨_, _⟩ => ?_))
  refine step_bind (part49 I K c (hk := ?_))
  refine step_bind (part50 I K c (hk := ?_))
  refine step_bind (part51 I K c (hk := ?_))
  refine step_bind (part52 I K c (hk := fun ⟨_, _, _, _⟩ => ?_))
  refine step_bind (part53 I K c (hk := fun ⟨_, _, _, _⟩ => ?_))
  refine step_bind (part54 I K c (hk := fun _ => ?_))
  refine step_bind (part55 I K c (hk := fun ⟨_, _, _, _⟩ => ?_))
  refine step_bind (part56 I K c (hk := fun ⟨_, _, _, _⟩ => ?_))
  refine step_bind (part57 I K c (hk := fun ⟨_, _, _, _⟩ => ?_))
  refine step_bind (part58 I K c (hk := ?_))
  refine step_bind (part59 I K c (hk := ?_))
  refine step_bind (part60 I K c (hk := ?_))
  exact step_ret (hk _)

set_option maxHeartbeats 4000000 in
/-- The body, from the entry of the call to its end. -/
theorem body {Φ : _ → sProp (MT nD τ sig Unit (Elt F) ℕ UU ℕ)} (hk : St I K c { P₇ with o := 8 } ⊢ Φ ⟨⟩) :
    StB I K c 0 ⊢ WP c (at_ (cc0_body (F := F))) Φ := by
  dsimp only [at_]; rw [cc0_body_eq_skeleton]; unfold cc0_body_skel
  refine step_bind (part93 I K c (hk := fun _ => ?_))
  refine step_bind (part61 I K c (hk := fun _ => ?_))
  refine step_bind (part62 I K c (hk := fun ⟨_, _, _, _, _⟩ => ?_))
  refine step_bind (part63 I K c (hk := fun ⟨_, _, _, _, _⟩ => ?_))
  refine step_bind (part64 I K c (hk := fun ⟨_, _, _, _⟩ => ?_))
  refine step_bind (part65 I K c (hk := fun _ => ?_))
  refine step_bind (part66 I K c (hk := ?_))
  refine step_bind (part67 I K c (hk := ?_))
  refine step_bind (part68 I K c (hk := ?_))
  refine step_bind (part69 I K c (hk := fun ⟨_, _, _⟩ => ?_))
  refine step_bind (part70 I K c (hk := fun ⟨_, _, _, _, _⟩ => ?_))
  refine step_bind (part71 I K c (hk := fun ⟨_, _, _, _⟩ => ?_))
  refine step_bind (part72 I K c (hk := fun ⟨_, _, _⟩ => ?_))
  refine step_bind (part73 I K c (hk := fun ⟨_, _, _⟩ => ?_))
  refine step_bind (part74 I K c (hk := fun ⟨_, _, _, _, _⟩ => ?_))
  refine step_bind (part75 I K c (hk := fun _ => ?_))
  refine step_bind (part76 I K c (hk := fun _ => ?_))
  refine step_bind (part77 I K c (hk := fun ⟨_, _⟩ => ?_))
  refine step_bind (part78 I K c (hk := ?_))
  refine step_bind (part79 I K c (hk := fun _ => ?_))
  refine step_bind (part80 I K c (hk := fun ⟨_, _, _⟩ => ?_))
  refine step_bind (part81 I K c (hk := ?_))
  refine step_bind (part82 I K c (hk := fun ⟨_, _⟩ => ?_))
  refine step_bind (part83 I K c (hk := fun ⟨_, _, _⟩ => ?_))
  refine step_bind (part84 I K c (hk := fun ⟨_, _⟩ => ?_))
  refine step_bind (part85 I K c (hk := fun ⟨_, _, _⟩ => ?_))
  refine step_bind (part86 I K c (hk := ?_))
  refine step_bind (part87 I K c (hk := ?_))
  refine step_bind (part88 I K c (hk := ?_))
  refine step_bind (part89 I K c (hk := fun ⟨_, _⟩ => ?_))
  refine step_bind (part90 I K c (hk := fun ⟨_, _⟩ => ?_))
  refine step_bind (part91 I K c (hk := ?_))
  refine step_bind (part92 I K c (hk := fun _ => ?_))
  simp only [Prog.lift, Prog.bind_op, Prog.bind_ret, Prog.pure_eq_ret]
  refine peek_o I K (hk := fun _ => ?_)
  refine put_peer I K 6 (hk := ?_)
  exact step_ret hk

end Cert.KernelIdeal.Attn

end
-- ==== Proof.Run.lean ====
/- The launch: the tokens and counters dealt to the devices, the body between its two ends, and what every run of the
  program leaves in memory. -/
module

public import proofs.«01_k».proof.Proof.Ends
public import proofs.«01_k».proof.Proof.Body
public import Idealize.ShloMosaic.Lib.Pipeline.CollectiveSegs

@[expose] public section

set_option maxRecDepth 65536

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop pointsTo_toks_split pointsTo_toks_join)

variable {F : FTy → Type} [FloatOps F]

local notation "𝕄" => MT nD τ sig Unit (Elt F) ℕ UU ℕ

variable (m : (ℓ : Loc nD τ sig) → Buf (Elt F) ℓ) (ρ : Dev nD → PrngReg)

/-! ## The launch data -/

/-- A device's inputs, as the launch stages them. -/
def inp (c : Dev nD) : In F where
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-- All that a device owes its peers. -/
def O₀ (d : Dev nD) : CellTallies nD τ sig Unit := owed d {} + oweBar d 0

def s₀ : MemSt nD τ sig (Elt F) := ⟨m, fun _ => 0, ρ⟩

/-- What a device holds before the call, beside the scratch buffers. -/
def start (c : Dev nD) : sProp 𝕄 := iprop((∃ K, ctx (inp m) K) ∗ Own (F := F) c ∗ Creds (F := F) c)
def Φ₀ (c : Dev nD) : sProp 𝕄 := iprop(start m c ∗ Scr (F := F) c)
def Φ₁ (c : Dev nD) : sProp 𝕄 := iprop(semVal (barCell c) 0
  ∗ (bigSep Finset.univ fun y : Fin 4 × Fin 2 × Fin 8 => semVal ((c : Thread nD τ), osem y) 0) ∗ Scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).wq
    | ⟨2, _⟩ => (inp m c).k
    | ⟨3, _⟩ => (inp m c).v
    | ⟨4, _⟩ => (inp m c).wo
    | ⟨5, _⟩ => outG (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; exact Nat.one_pos⟩
theorem fin_N (t : Fin cfg0.N) : t = t₀ := by
  obtain ⟨t, ht⟩ := t; have := cfg0_N; simp only [t₀, Fin.mk.injEq]; omega

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (inp m c).x ∗ stg c cc0_stg1_0 (inp m c).wq ∗ stg c cc0_stg2_0 (inp m c).k
    ∗ stg c cc0_stg3_0 (inp m c).v ∗ stg c cc0_stg4_0 (inp m c).wo ∗ stg c cc0_stg5_0 (outG (inp m) c))

theorem body_post (K : Dev nD × CellIx → ℕ) (c : Dev nD) : St (inp m) K c { P₇ with o := 8 } ⊢ bodyPost m ρ c := by
  refine (end_body (inp m) K c).trans ?_
  unfold bodyPost Φ₁ Dat.owesAt Pipeline.owesWithin Ins
  rw [show (dats m ρ 0 c).owed t₀.succ = 0 from rfl]
  iintro ⟨⟨%W, HO⟩, Hb, Hs, Hscr, ⟨H0, H1, H2, H3, H4⟩, H5⟩
  isplitl [Hb Hs Hscr]
  · isplitl [Hb]; · iexact Hb
    isplitl [Hs] <;> iassumption
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 65536 in
/-- The body's obligation to the launch. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (at_ (cc0_body (F := F))) (fun _ => bodyPost m ρ c)
  unfold bodyPre Φ₀ start
  iintro ⟨⟨⟨⟨%K, Hctx⟩, Hown, Hcr⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = (inp m c).x := by rw [hg0]; unfold Dat.before; rw [if_pos (fetch_0 t₀)]; rfl
  have h1 : g1 = (inp m c).wq := by rw [hg1]; unfold Dat.before; rw [if_pos (fetch_1 t₀)]; rfl
  have h2 : g2 = (inp m c).k := by rw [hg2]; unfold Dat.before; rw [if_pos (fetch_2 t₀)]; rfl
  have h3 : g3 = (inp m c).v := by rw [hg3]; unfold Dat.before; rw [if_pos (fetch_3 t₀)]; rfl
  have h4 : g4 = (inp m c).wo := by rw [hg4]; unfold Dat.before; rw [if_pos (fetch_4 t₀)]; rfl
  subst h0 h1 h2 h3 h4
  unfold Dat.owesAt Pipeline.owesWithin
  icases Ho with ⟨%W, %hW, HO⟩
  rw [show (dats m ρ 0 c).owed t₀.castSucc = owed c {} + oweBar c 0 from rfl]
  iapply ((start_body (inp m) K c W).trans (body (inp m) K c (body_post m ρ K c)))
  isplitl [Hctx]; · iexact Hctx
  isplitl [HO]; · iexact HO
  isplitl [Hown]; · iexact Hown
  isplitl [Hcr]; · iexact Hcr
  isplitl [Hscr]; · iexact Hscr
  isplitl [H0 H1 H2 H3 H4]
  · unfold Ins
    isplitl [H0]; · iexact H0
    isplitl [H1]; · iexact H1
    isplitl [H2]; · iexact H2
    isplitl [H3]; · iexact H3
    iexact H4
  iexists g5; iexact H5

/-! ## Tokens and cells -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CellIx → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl
def attnCells : Finset (GSem nD τ sig) := Finset.univ.map ⟨kcell, kcell_injective⟩

abbrev tokOf (p : (Dev nD × CellIx) × Fin 7) : GSem nD τ sig × ℕ × Fin 7 := (kcell p.1, 0, p.2)
theorem tokOf_injective : Function.Injective tokOf := by
  rintro ⟨p, d⟩ ⟨p', d'⟩ h
  have h1 : p = p' := kcell_injective (congrArg Prod.fst h)
  have h2 : d = d' := congrArg (fun x : GSem nD τ sig × ℕ × Fin 7 => x.2.2) h
  subst h1 h2; rfl
def attnToks : Finset (GSem nD τ sig × ℕ × Fin 7) := Finset.univ.map ⟨tokOf, tokOf_injective⟩

def u₀ : UU := (initOf (Pipeline.cells cfgs cellOf_inj) (Pipeline.launchToks cfgs cellOf_inj), initOf attnCells attnToks)

/-- The duty tokens of a device's own cells. -/
def toks (c : Dev nD) : sProp 𝕄 := bigSep Finset.univ fun x : CellIx => bigSep Finset.univ fun d : Fin 7 => dutyTok ER (kcell (c, x)) 0 d

/-- What the launch element deals a device. -/
def G (c : Dev nD) : sProp 𝕄 :=
  iprop((bigSep Finset.univ fun x : CellIx => roundState ER (Rd (inp m)) (kcell (c, x)) 0)
    ∗ (bigSep Finset.univ fun x : CellIx => iprop(atPos ER (kcell (c, x)) 0 ∅ 0 ∗ reached ER (kcell (c, x)) 0)) ∗ toks (F := F) c)

def records (K : Dev nD × CellIx → ℕ) : sProp 𝕄 :=
  bigSep Finset.univ fun p : Dev nD × CellIx => iprop(cellInv ER (Rd (inp m)) (K p) (kcell p) ∗ reached ER (kcell p) 0)
instance records_persistent (K : Dev nD × CellIx → ℕ) : BI.Persistent (records m K) := by unfold records; infer_instance

/-- What the global step makes of it. -/
def G' (c : Dev nD) : sProp 𝕄 := iprop((∃ K, records m K) ∗ Own (F := F) c)

theorem fund : BI.own (ER (initOf attnCells attnToks)) ⊢ (|==> bigSep Finset.univ (G m) : sProp 𝕄) := by
  have hX (Φ : GSem nD τ sig → sProp 𝕄) : bigSep attnCells Φ = bigSep Finset.univ fun c : Dev nD => bigSep Finset.univ fun x : CellIx => Φ (kcell (c, x)) := by
    unfold attnCells; rw [bigSep_map, bigSep_univ_prod]; rfl
  have hT : bigSep attnToks (fun x => (dutyTok ER x.1 x.2.1 x.2.2 : sProp 𝕄)) = bigSep Finset.univ fun c : Dev nD => toks (F := F) c := by
    unfold attnToks; rw [bigSep_map, bigSep_univ_prod, bigSep_univ_prod]; rfl
  iintro HX
  imod (Rounds.fund ER (Rd (inp m)) attnCells attnToks) $$ HX with ⟨Hst, Hr, Hat, Htok⟩
  imodintro
  ihave Hst' := (Entails.of_eq (hX fun g => roundState ER (Rd (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_opt (Φ : CellIx → sProp 𝕄) : bigSep Finset.univ Φ = iprop(Φ none ∗ bigSep Finset.univ fun y : Fin 4 × Fin 2 × Fin 7 => Φ (some y)) := by
  rw [show (Finset.univ : Finset CellIx) = insert none (Finset.univ.map Function.Embedding.some) from by
      ext x; cases x <;> simp, bigSep_insert (by simp), bigSep_map]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun x : Fin 4 × Fin 2 => semVal ((c : Thread nD τ), .dma (semIx x.1 x.2 0)) 0)
        ∗ bigSep Finset.univ fun x : CellIx => semVal (kcell (c, x)) 0) : sProp 𝕄) := by
  rw [unscopedSems0_eq, bigSep_opt]
  unfold Pipeline.ownSems0
  iintro ⟨H, HB⟩
  ihave H := (Entails.of_eq (sems_split (fun a s k => (semVal ((c : Thread nD τ), .dma (semIx a s k)) 0 : sProp 𝕄)))) $$ H
  icases H with ⟨H0, H⟩
  isplitl [H0]; · iexact H0
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CellIx => iprop(∃ κ : ℕ, cellInv ER (Rd (inp m)) κ (kcell (c, x))))
          ∗ (bigSep Finset.univ fun x : CellIx => iprop(atPos ER (kcell (c, x)) 0 ∅ 0 ∗ reached ER (kcell (c, x)) 0)) ∗ toks (F := F) c
          ∗ bigSep Finset.univ fun x : Fin 4 × Fin 2 => semVal ((c : Thread nD τ), .dma (semIx x.1 x.2 0)) 0) := by
  unfold G
  iintro ⟨Hos, Hus, Hst, Hat, Htok⟩
  ihave Hv := (sems0_eq (F := F) c) $$ [Hos Hus]
  · isplitl [Hos] <;> iassumption
  icases Hv with ⟨Hi, Hv⟩
  imod (show iprop((bigSep Finset.univ fun x : CellIx => semVal (kcell (c, x)) 0) ∗ bigSep Finset.univ fun x : CellIx => roundState ER (Rd (inp m)) (kcell (c, x)) 0)
      ⊢ (|={Set.univ}=> bigSep Finset.univ fun x : CellIx => iprop(∃ κ : ℕ, cellInv ER (Rd (inp m)) κ (kcell (c, x))) : sProp 𝕄) from by
        rw [← bigSep_sep']
        exact (bigSep_mono fun x _ => (Rounds.body_intro ER (Rd (inp m)) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The `j`-th peer, as a permutation of the devices. -/
def rot (j : Fin 7) : Dev nD ≃ Dev nD := ⟨fun c => tgt c j, fun c => frm c j, fun c => frm_tgt c j, fun c => tgt_frm c j⟩

/-- Dealing what is one device's to the peers. -/
theorem around (Φ : Dev nD → Fin 7 → sProp 𝕄) : (bigSep Finset.univ fun c : Dev nD => bigSep Finset.univ fun j : Fin 7 => Φ c j)
    = bigSep Finset.univ fun c : Dev nD => bigSep Finset.univ fun j : Fin 7 => Φ (tgt c j) j := by
  rw [bigSep_univ_comm (fun (c : Dev nD) (j : Fin 7) => Φ c j), bigSep_univ_comm (fun (c : Dev nD) (j : Fin 7) => Φ (tgt c j) j)]
  exact bigSep_congr fun j _ => bigSep_univ_equiv (rot j) fun c => Φ c j

/-- The tokens a device spends. -/
def payToks (c : Dev nD) : sProp 𝕄 := iprop((bigSep Finset.univ fun j : Fin 7 => dutyTok ER (barCell (tgt c j)) 0 j)
  ∗ (bigSep Finset.univ fun a : Fin 4 => bigSep Finset.univ fun j : Fin 7 => dutyTok ER (sendCell c a j) 0 0)
  ∗ bigSep Finset.univ fun a : Fin 4 => bigSep Finset.univ fun j : Fin 7 => dutyTok ER (recvCell (tgt c j) a j) 0 0)

theorem toks_own (c : Dev nD) : toks (F := F) c ⊢ iprop((bigSep Finset.univ fun j : Fin 7 => dutyTok ER (barCell c) 0 j)
  ∗ (bigSep Finset.univ fun a : Fin 4 => bigSep Finset.univ fun j : Fin 7 => dutyTok ER (sendCell c a j) 0 0)
  ∗ bigSep Finset.univ fun a : Fin 4 => bigSep Finset.univ fun j : Fin 7 => dutyTok ER (recvCell c a j) 0 0) := by
  unfold toks
  rw [bigSep_opt]
  refine sep_mono_right ?_
  rw [bigSep_univ_prod, ← bigSep_sep']
  refine bigSep_mono fun a _ => ?_
  rw [bigSep_univ_prod, bigSep_two]
  exact sep_mono (bigSep_mono fun j _ => bigSep_elim (Finset.mem_univ 0)) (bigSep_mono fun j _ => bigSep_elim (Finset.mem_univ 0))

theorem toks_around : (bigSep Finset.univ fun c : Dev nD => (toks c : sProp 𝕄)) ⊢ bigSep Finset.univ fun c : Dev nD => payToks (F := F) c := by
  refine BIBase.Entails.trans (bigSep_mono fun c _ => toks_own c) ?_
  unfold payToks
  rw [bigSep_sep', bigSep_sep', bigSep_sep', bigSep_sep', around (fun c j => (dutyTok ER (barCell c) 0 j : sProp 𝕄)),
    bigSep_univ_comm (fun (c : Dev nD) (a : Fin 4) => bigSep Finset.univ fun j : Fin 7 => (dutyTok ER (recvCell c a j) 0 0 : sProp 𝕄)),
    bigSep_congr (s := Finset.univ) (fun (a : Fin 4) _ => around (fun c j => (dutyTok ER (recvCell c a j) 0 0 : sProp 𝕄))),
    bigSep_univ_comm (fun (c : Dev nD) (a : Fin 4) => bigSep Finset.univ fun j : Fin 7 => (dutyTok ER (recvCell (tgt c j) a j) 0 0 : sProp 𝕄))]

theorem own_intro (c : Dev nD) : iprop((bigSep Finset.univ fun x : CellIx => atPos ER (kcell (c, x)) 0 ∅ 0) ∗ payToks (F := F) c
    ∗ bigSep Finset.univ fun x : Fin 4 × Fin 2 => semVal ((c : Thread nD τ), .dma (semIx x.1 x.2 0)) 0) ⊢ Own (F := F) c := by
  unfold payToks Own
  rw [bigSep_opt]
  iintro ⟨⟨Hb, Ha⟩, ⟨Hd, Hs, Hr⟩, Hi⟩
  isplitl [Hb]; · iexact Hb
  isplitl [Hd]; · iexact Hd
  isplitr [Hi]
  · ihave Ha := (show (bigSep Finset.univ fun y : Fin 4 × Fin 2 × Fin 7 => (atPos ER (kcell (c, some y)) 0 ∅ 0 : sProp 𝕄))
      ⊢ iprop((bigSep Finset.univ fun a : Fin 4 => bigSep Finset.univ fun j : Fin 7 => atPos ER (sendCell c a j) 0 ∅ 0)
        ∗ bigSep Finset.univ fun a : Fin 4 => bigSep Finset.univ fun j : Fin 7 => atPos ER (recvCell c a j) 0 ∅ 0) from by
      rw [bigSep_univ_prod, ← bigSep_sep']
      refine bigSep_mono fun a _ => ?_
      rw [bigSep_univ_prod, bigSep_two]
      exact BI.Entails.refl _) $$ Ha
    icases Ha with ⟨Has, Har⟩
    iapply (Entails.of_eq (show iprop((bigSep Finset.univ fun a : Fin 4 => bigSep Finset.univ fun j : Fin 7 => (atPos ER (sendCell c a j) 0 ∅ 0 : sProp 𝕄))
        ∗ (bigSep Finset.univ fun a : Fin 4 => bigSep Finset.univ fun j : Fin 7 => dutyTok ER (sendCell c a j) 0 0)
        ∗ (bigSep Finset.univ fun a : Fin 4 => bigSep Finset.univ fun j : Fin 7 => dutyTok ER (recvCell (tgt c j) a j) 0 0)
        ∗ bigSep Finset.univ fun a : Fin 4 => bigSep Finset.univ fun j : Fin 7 => atPos ER (recvCell c a j) 0 ∅ 0) = _ from by
      simp only [← bigSep_sep']))
    isplitl [Has]; · iexact Has
    isplitl [Hs]; · iexact Hs
    isplitl [Hr]; · iexact Hr
    iexact Har
  · iexact Hi

theorem bigSep_with_persistent {J : Type} [DecidableEq J] {S : Finset J} {R : sProp (MT nD τ sig Unit (Elt F) ℕ UU ℕ)} [BI.Persistent R]
    {Φ Ψ : J → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop((bigSep Finset.univ fun x : CellIx => iprop(∃ κ : ℕ, cellInv ER (Rd (inp m)) κ (kcell (c, x))))
          ∗ (bigSep Finset.univ fun x : CellIx => iprop(atPos ER (kcell (c, x)) 0 ∅ 0 ∗ reached ER (kcell (c, x)) 0)) ∗ toks (F := F) c
          ∗ bigSep Finset.univ fun x : Fin 4 × Fin 2 => semVal ((c : Thread nD τ), .dma (semIx x.1 x.2 0)) 0) : sProp 𝕄)
      ⊢ bigSep Finset.univ (G' m) := by
  rw [bigSep_sep', bigSep_sep', bigSep_sep', ← bigSep_univ_prod (fun p : Dev nD × CellIx => iprop(∃ κ : ℕ, cellInv ER (Rd (inp m)) κ (kcell p))),
    bigSep_congr (s := Finset.univ) (fun (c : Dev nD) _ => bigSep_sep' Finset.univ (fun x : CellIx => (atPos ER (kcell (c, x)) 0 ∅ 0 : sProp 𝕄)) (fun x => reached ER (kcell (c, x)) 0)),
    bigSep_sep', ← bigSep_univ_prod (fun p : Dev nD × CellIx => (reached ER (kcell p) 0 : sProp 𝕄))]
  iintro ⟨HI, ⟨Hat, #HR⟩, Htok, Hi⟩
  ihave HK := (BI.bigSep_exists_pi Finset.univ (fun (p : Dev nD × CellIx) (κ : ℕ) => (cellInv ER (Rd (inp m)) κ (kcell p) : sProp 𝕄))) $$ HI
  icases HK with ⟨%K, #HI⟩
  ihave Htk := (toks_around (F := F)) $$ Htok
  iapply (bigSep_with_persistent (R := records m K) (Φ := fun c => iprop((bigSep Finset.univ fun x : CellIx => atPos ER (kcell (c, x)) 0 ∅ 0) ∗ payToks (F := F) c
    ∗ bigSep Finset.univ fun x : Fin 4 × Fin 2 => semVal ((c : Thread nD τ), .dma (semIx x.1 x.2 0)) 0)) fun c _ => by
      unfold G'
      iintro ⟨#HR, H⟩
      isplitr; · iexists K; iexact HR
      iapply (own_intro (F := F) c); iexact H)
  isplitr
  · unfold records; rw [bigSep_sep']
    isplitl; · iexact HI
    iexact HR
  · simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits -/

theorem cred_units (g : GSem nD τ sig) (n : ℕ) : (bigSep Finset.univ fun _ : Fin (n + 1) => (cred (tallyAt g () 1) : sProp 𝕄)) ⊢ cred (tallyAt g () (n + 1)) := by
  induction n with
  | zero => rw [bigSep_univ_eq_bigSepL [0] (by decide) (by decide)]; simp only [bigSepL]; exact BIBase.Entails.rfl
  | succ n ih =>
    rw [show (tallyAt g () (n + 1 + 1) : CellTallies nD τ sig Unit) = tallyAt g () 1 + tallyAt g () (n + 1) from by rw [tallyAt_add, Nat.add_comm 1]]
    exact (Entails.of_eq (bigSep_succ _)).trans ((sep_mono_right ih).trans (cred_add _ _).2)

theorem cred_class (a : Fin 4) (c : Dev nD) : Pipeline.launchCred (fun d => owe a d 0) c
    ⊢ (bigSep Finset.univ fun j : Fin 7 => cred (tallyAt (recvCell c a j) () (N a)) : sProp 𝕄) := by
  rw [show (fun d => owe a d 0) = fun d : Dev nD => ∑ j ∈ (Finset.univ : Finset (Fin 7)), (fun (j : Fin 7) (d : Dev nD) => tallyAt (recvCell (tgt d j) a j) () (N a)) j d from
      funext fun d => by unfold owe; rw [Finset.filter_true_of_mem fun j _ => Nat.zero_le _],
    Pipeline.launchCred_sum]
  exact bigSep_mono fun j _ => Pipeline.launchCred_tallyAt (.dma (semIx a 1 j.succ)) (fun d => tgt d j) (fun d => frm d j) (fun d => tgt_frm d j) (fun d => frm_tgt d j) () (N a) c

theorem cred_bar (c : Dev nD) : Pipeline.launchCred (fun d => oweBar d 0) c ⊢ (cred (tallyAt (barCell c) () 7) : sProp 𝕄) := by
  rw [show (fun d => oweBar d 0) = fun d : Dev nD => ∑ j ∈ (Finset.univ : Finset (Fin 7)), (fun (j : Fin 7) (d : Dev nD) => tallyAt (barCell (tgt d j)) () 1) j d from
      funext fun d => by unfold oweBar; rw [Finset.filter_true_of_mem fun j _ => Nat.zero_le _],
    Pipeline.launchCred_sum]
  exact BIBase.Entails.trans (bigSep_mono fun j _ => Pipeline.launchCred_tallyAt (.reg barS) (fun d => tgt d j) (fun d => frm d j) (fun d => tgt_frm d j) (fun d => frm_tgt d j) () 1 c)
    (cred_units (barCell c) 6)

theorem creds (c : Dev nD) : (Pipeline.launchCred O₀ c : sProp 𝕄) ⊢ Creds (F := F) c := by
  rw [show O₀ = fun d => (fun d => (fun d => (fun d => owe 0 d 0 + owe 1 d 0) d + owe 2 d 0) d + owe 3 d 0) d + oweBar d 0 from rfl,
    Pipeline.launchCred_add, Pipeline.launchCred_add, Pipeline.launchCred_add, Pipeline.launchCred_add]
  unfold Creds
  rw [bigSep_four]
  iintro ⟨⟨⟨⟨H0, H1⟩, H2⟩, H3⟩, Hb⟩
  isplitl [Hb]; · iapply (cred_bar (F := F) c); iexact Hb
  isplitl [H0]; · iapply (cred_class (F := F) 0 c); iexact H0
  isplitl [H1]; · iapply (cred_class (F := F) 1 c); iexact H1
  isplitl [H2]; · iapply (cred_class (F := F) 2 c); iexact H2
  iapply (cred_class (F := F) 3 c); iexact H3

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  icases HG with ⟨⟨%K, HK⟩, HO⟩
  isplitl
  · isplitl [HK Hlev]
    · iexists K; unfold ctx
      isplitl [HK]; · unfold records; iexact HK
      iexact Hlev
    isplitl [HO] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  unfold Scr; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨Hb, Hs, Hr⟩
  isplitl [Hb]; · iexact Hb
  isplitl [Hs]; · iexact Hs
  unfold Scr; iexact Hr

theorem above_O₀ (c : Dev nD) : Above 0 (O₀ c) :=
  above_add (above_add (above_add (above_add (above_owe 0 c 0 (by decide)) (above_owe 1 c 0 (by decide))) (above_owe 2 c 0 (by decide))) (above_owe 3 c 0 (by decide)))
    (above_bar c 0 (by decide))

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      rw [show lvc (dec (SemLoc.dma (((cfgs 0).win w).sem s))) = 0 from by fin_cases w <;> fin_cases s <;> decide]
      rcases t with ⟨_ | _, ht⟩
      · exact above_O₀ c
      · exact above_zero 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values and from any memory with zero counters, every execution ends, each device's result array holding
    `outG` of all devices' inputs, its inputs unchanged and every counter at zero. -/
theorem run_raw : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Read at the buffers -/

theorem hz0 : (fun a => (win0_0.index (0 : Fin 1)) a * main_arg0.ty.shape.size a) = fun _ => 0 := funext fun a => by fin_cases a <;> decide
theorem hz1 : (fun a => (win0_1.index (0 : Fin 1)) a * main_arg1.ty.shape.size a) = fun _ => 0 := funext fun a => by fin_cases a <;> decide
theorem hz2 : (fun a => (win0_2.index (0 : Fin 1)) a * main_arg2.ty.shape.size a) = fun _ => 0 := funext fun a => by fin_cases a <;> decide
theorem hz3 : (fun a => (win0_3.index (0 : Fin 1)) a * main_arg3.ty.shape.size a) = fun _ => 0 := funext fun a => by fin_cases a <;> decide
theorem hz4 : (fun a => (win0_4.index (0 : Fin 1)) a * main_arg4.ty.shape.size a) = fun _ => 0 := funext fun a => by fin_cases a <;> decide
theorem hz5 : (fun a => (win0_5.index (0 : Fin 1)) a * main_v1.ty.shape.size a) = fun _ => 0 := funext fun a => by fin_cases a <;> decide

/-- What is staged of a device's arguments are the arguments. -/
theorem inp_eq (c : Dev nD) : inp m c = ⟨m ((c : Thread nD τ).loc main_arg0), m ((c : Thread nD τ).loc main_arg1), m ((c : Thread nD τ).loc main_arg2),
    m ((c : Thread nD τ).loc main_arg3), m ((c : Thread nD τ).loc main_arg4)⟩ := by
  unfold inp
  congr 1
  · exact Memref.read_access_unit_zero (Elt F) main_arg0 hz0 (fun a => by fin_cases a <;> decide) _
  · exact Memref.read_access_unit_zero (Elt F) main_arg1 hz1 (fun a => by fin_cases a <;> decide) _
  · exact Memref.read_access_unit_zero (Elt F) main_arg2 hz2 (fun a => by fin_cases a <;> decide) _
  · exact Memref.read_access_unit_zero (Elt F) main_arg3 hz3 (fun a => by fin_cases a <;> decide) _
  · exact Memref.read_access_unit_zero (Elt F) main_arg4 hz4 (fun a => by fin_cases a <;> decide) _

theorem final_out (c : Dev nD) : finalA m ρ c (5 : Fin 6) = outG (inp m) c := by
  have h : (win0_5.blk (0 : Fin 1)).view.read (Elt F) (finalA m ρ c (5 : Fin 6)) = outG (inp m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hr := Memref.read_access_unit_zero (Elt F) main_v1 hz5 (fun a => by fin_cases a <;> decide) (finalA m ρ c (5 : Fin 6))
  exact hr.symm.trans h

/-- Every execution from zero counters ends, each device's result holding `outG` of the arguments of all devices, its arguments
    unchanged and every counter at zero. -/
theorem run_main : θ_run defs (onTc (τ := τ) (main (F := F))) (s₀ m ρ) (fun r => (∀ c : Dev nD,
    r.2.mem ((c.tc : Thread nD τ).loc main_v1) = outG (inp m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => ⟨(h.1 c (5 : Fin 6)).trans (final_out m ρ c),
      (h.1 c (0 : Fin 6)).trans ((dats (F := F) m ρ 0 c).arrAt_in (0 : Fin 6) rfl _),
      (h.1 c (1 : Fin 6)).trans ((dats (F := F) m ρ 0 c).arrAt_in (1 : Fin 6) rfl _),
      (h.1 c (2 : Fin 6)).trans ((dats (F := F) m ρ 0 c).arrAt_in (2 : Fin 6) rfl _),
      (h.1 c (3 : Fin 6)).trans ((dats (F := F) m ρ 0 c).arrAt_in (3 : Fin 6) rfl _),
      (h.1 c (4 : Fin 6)).trans ((dats (F := F) m ρ 0 c).arrAt_in (4 : Fin 6) rfl _)⟩, h.2⟩) (run_raw m ρ)

end Cert.KernelIdeal.Attn

end
-- ==== Proof.KernelParts.lean ====
/- What the kernel's buffers hold over the extended reals, element by element.

   Device `c` has the heads `4c … 4c + 3`. Its slot `k` of keys and values comes from device `src c k`, so a table of 512 positions
   `m` is slot `m / 64`, row `64·qb + m % 64` of that device's 256 rows. `outG_apply` says what the result is: over all devices
   `t`, the sum of the parts `psrcG I t` of the output projection. -/
module

public import proofs.«01_k».proof.Proof.Contents
public import Idealize.ShloMosaic.Lib.Pointwise

@[expose] public section

set_option maxRecDepth 16384

noncomputable section

namespace Cert.KernelIdeal.Attn

open Cert.KernelIdeal Cert.KernelIdeal.Gen
open Idealize.ShloMosaic

/-! ## Where the rectangles lie -/

theorem dev_lt (t : Dev nD) : t.val < 8 := t.isLt

/-- Glued contents at an index that lies at `y` in the rectangle of `t`. -/
theorem glue_at {s : Shape} {T β : Type} [Fintype T] (C : Cut s T) (Z : (t : T) → (C.r t).shape.Idx → β) (t : T)
    (y : (C.r t).shape.Idx) (i : s.Idx) (h : (C.r t).emb y = i) : C.glue Z i = Z t y := h ▸ C.glue_emb Z t y

/-- Where a rectangle puts an index, axis by axis. -/
theorem emb_eq {s : Shape} (r : Rect s) (y : r.shape.Idx) (j : s.Idx) (h : ∀ a, r.off a + r.stride a * (y a).val = (j a).val) :
    r.emb y = j := funext fun a => Fin.ext (h a)

theorem head_emb (t : Dev nD) (b : Fin 2) (r : Fin 256) (h : Fin 4) (d : Fin 64) :
    (headRect t).emb (ix4 b r h d) = ix4 b r ⟨4 * t.val + h.val, by have := dev_lt t; omega⟩ d := by
  funext a; apply Fin.ext; fin_cases a <;> simp [ix4]

theorem slot_emb (k : Fin 8) (h : Fin 4) (b : Fin 2) (r : Fin 256) (d : Fin 64) :
    (cutSlot.r k).emb (ix5 0 h b r d) = ix5 k h b r d := by
  refine emb_eq _ _ _ fun a => ?_; fin_cases a <;> simp [cutSlot, Rect.unit, ix5]

theorem ctx_emb (b : Fin 2) (i : Fin 256) (h : Fin 4) (d : Fin 64) :
    (cutC.r (b, h, ⟨i.val / 64, by omega⟩)).emb (ix4 0 ⟨i.val % 64, by omega⟩ 0 d) = ix4 b i h d := by
  refine emb_eq _ _ _ fun a => ?_; fin_cases a <;> simp [cutC, Rect.unit, ix4]
  omega

theorem ctxRect_emb (g : Fin 4) (b : Fin 2) (r : Fin 64) (h : Fin 4) (d : Fin 64) :
    (ctxRect g).emb (ix4 b r h d) = ix4 b ⟨64 * g.val + r.val, by omega⟩ h d := by
  funext a; apply Fin.ext; fin_cases a <;> simp [ix4]

theorem query_emb (b : Fin 2) (i : Fin 256) (e : Fin 512) :
    (cutQ.r ⟨i.val / 64, by omega⟩).emb (ix3 b ⟨i.val % 64, by omega⟩ e) = ix3 b i e := by
  refine emb_eq _ _ _ fun a => ?_; fin_cases a <;> simp [cutQ, Rect.unit, ix3]
  omega

theorem row_emb (k : Fin 8) (b : Fin 2) (r : Fin 32) (e : Fin 512) : (cutRow.r k).emb (ix4 0 b r e) = ix4 k b r e := by
  refine emb_eq _ _ _ fun a => ?_; fin_cases a <;> simp [cutRow, Rect.unit, ix4]

theorem dev_emb (t : Dev nD) (b : Fin 2) (r : Fin 32) (e : Fin 512) :
    (cutDev.r t).emb (ix3 b r e) = ix3 b ⟨32 * t.val + r.val, by have := dev_lt t; omega⟩ e := by
  refine emb_eq _ _ _ fun a => ?_; fin_cases a <;> simp [cutDev, Rect.unit, ix3]

/-! ## One block of each -/

theorem qG_apply (i : In Ideal) (b : Fin 2) (r : Fin 256) (h : Fin 4) (d : Fin 64) :
    qG i (ix4 b r h d) = ∑ a : Fin 512, i.x (ix3 b r a) * i.wq (ix2 a ⟨h.val * 64 + d.val, by omega⟩) := by
  pointwise [qG, k0_pay20]

theorem blkK_apply (i : In Ideal) (t : Dev nD) (h : Fin 4) (b : Fin 2) (r : Fin 256) (d : Fin 64) :
    blkK i t (ix4 h b r d) = i.k (ix4 b r ⟨4 * t.val + h.val, by have := dev_lt t; omega⟩ d) := by
  pointwise [blkK, k0_pay1]
  exact congrArg i.k (head_emb t b r h d)

theorem blkV_apply (i : In Ideal) (t : Dev nD) (h : Fin 4) (b : Fin 2) (r : Fin 256) (d : Fin 64) :
    blkV i t (ix4 h b r d) = i.v (ix4 b r ⟨4 * t.val + h.val, by have := dev_lt t; omega⟩ d) := by
  pointwise [blkV, k0_pay8]
  exact congrArg i.v (head_emb t b r h d)

/-- The exponential of the scaled product of query row `r` of block `qb` and key position `m`. -/
def ex (q : FVec Ideal S2x256x4x64 .bf16) (kg : FVec Ideal S8x4x2x256x64 .bf16) (b : Fin 2) (h qb : Fin 4) (r : Fin 64) (m : Fin 512) : EReal :=
  Ideal.exp ((∑ d : Fin 64, q (ix4 b ⟨64 * qb.val + r.val, by omega⟩ h d) *
    kg (ix5 ⟨m.val / 64, by omega⟩ h b ⟨64 * qb.val + m.val % 64, by omega⟩ d)) * Ideal.ofBits .f32 0x3E000000#32)

theorem wblk_apply (q : FVec Ideal S2x256x4x64 .bf16) (kg : FVec Ideal S8x4x2x256x64 .bf16) (b : Fin 2) (h qb : Fin 4) (r : Fin 64) (m : Fin 512) :
    wblk q kg (b, h, qb) (ix5 0 0 0 r m) = Ideal.div (ex q kg b h qb r m) (∑ m', ex q kg b h qb r m') := by
  pointwise [wblk, wraw, ex]

theorem cblk_apply (vg : FVec Ideal S8x4x2x256x64 .bf16) (w : FVec Ideal S1x1x1x64x512 .bf16) (b : Fin 2) (h qb : Fin 4) (r d : Fin 64) :
    cblk vg w (b, h, qb) (ix4 0 r 0 d) =
      ∑ m : Fin 512, w (ix5 0 0 0 r m) * vg (ix5 ⟨m.val / 64, by omega⟩ h b ⟨64 * qb.val + m.val % 64, by omega⟩ d) := by
  pointwise [cblk, craw]

theorem praw_apply (wo : FVec Ideal S256x512 .f32) (x : Vec Ideal S2x64x4x64 .f32) (b : Fin 2) (r : Fin 64) (e : Fin 512) :
    praw wo x (ix3 b r e) = ∑ n : Fin 256, x (ix4 b r ⟨n.val / 64, by omega⟩ ⟨n.val % 64, by omega⟩) * wo (ix2 n e) := by
  pointwise [praw, k0_pay83, k0_pay82, k0_pay71]

theorem sum_apply (x : Vec Ideal S8x2x32x512 .bf16) (b : Fin 2) (r : Fin 32) (e : Fin 512) :
    k0_pay118 x (ix3 b r e) = ∑ k : Fin 8, x (ix4 k b r e) := by
  pointwise [k0_pay118]

theorem gsum_apply (x : Vec Ideal S8x2x32x512 .bf16) (b : Fin 2) (r : Fin 32) (e : Fin 512) :
    k0_pay121 (k0_pay117 (k0_pay120 (k0_pay119 x))) (ix3 b r e) = ∑ k : Fin 8, x (ix4 k b r e) := by
  pointwise [k0_pay121, k0_pay117, k0_pay120, k0_pay119, k0_pay118]

theorem slab_apply (x : Vec Ideal S2x32x512 .bf16) (b : Fin 2) (r : Fin 32) (e : Fin 512) :
    k0_pay117 x (ix4 0 b r e) = x (ix3 b r e) := by
  pointwise [k0_pay117]

/-! ## The buffers -/

variable (I : Dev nD → In Ideal) (c : Dev nD)

theorem kgG_apply (k : Fin 8) (h : Fin 4) (b : Fin 2) (r : Fin 256) (d : Fin 64) :
    kgG I c (ix5 k h b r d) = (I (src c k)).k (ix4 b r ⟨4 * c.val + h.val, by have := dev_lt c; omega⟩ d) := by
  have e : kgG I c (ix5 k h b r d) = kbufG I c (ix5 k h b r d) := by pointwise [kgG, k0_pay21]
  refine e.trans ((glue_at cutSlot _ k (ix5 0 h b r d) _ (slot_emb k h b r d)).trans (Eq.trans ?_ (blkK_apply (I (src c k)) c h b r d)))
  pointwise

theorem vbufG_apply (k : Fin 8) (h : Fin 4) (b : Fin 2) (r : Fin 256) (d : Fin 64) :
    vbufG I c (ix5 k h b r d) = (I (src c k)).v (ix4 b r ⟨4 * c.val + h.val, by have := dev_lt c; omega⟩ d) := by
  refine (glue_at cutSlot _ k (ix5 0 h b r d) _ (slot_emb k h b r d)).trans (Eq.trans ?_ (blkV_apply (I (src c k)) c h b r d))
  pointwise

theorem ctxG_apply (b : Fin 2) (i : Fin 256) (h : Fin 4) (d : Fin 64) :
    ctxG I c (ix4 b i h d) = ∑ m : Fin 512,
      Ideal.div (ex (qG (I c)) (kgG I c) b h ⟨i.val / 64, by omega⟩ ⟨i.val % 64, by omega⟩ m)
          (∑ m', ex (qG (I c)) (kgG I c) b h ⟨i.val / 64, by omega⟩ ⟨i.val % 64, by omega⟩ m') *
        vbufG I c (ix5 ⟨m.val / 64, by omega⟩ h b ⟨64 * (i.val / 64) + m.val % 64, by omega⟩ d) := by
  refine (glue_at cutC _ (b, h, ⟨i.val / 64, by omega⟩) (ix4 0 ⟨i.val % 64, by omega⟩ 0 d) _ (ctx_emb b i h d)).trans ?_
  refine (cblk_apply _ _ b h _ _ d).trans (Finset.sum_congr rfl fun m _ => ?_)
  rw [wblk_apply]

theorem psrcG_apply (b : Fin 2) (i : Fin 256) (e : Fin 512) :
    psrcG I c (ix3 b i e) =
      ∑ n : Fin 256, ctxG I c (ix4 b i ⟨n.val / 64, by omega⟩ ⟨n.val % 64, by omega⟩) * (I c).wo (ix2 n e) := by
  refine (glue_at cutQ _ ⟨i.val / 64, by omega⟩ (ix3 b ⟨i.val % 64, by omega⟩ e) _ (query_emb b i e)).trans ?_
  refine (praw_apply _ _ b _ e).trans (Finset.sum_congr rfl fun n _ => ?_)
  refine congrArg (fun j => ctxG I c j * _) ((ctxRect_emb _ b _ _ _).trans ?_)
  refine congrArg (fun j => ix4 b j _ _) (Fin.ext ?_)
  show 64 * (i.val / 64) + i.val % 64 = i.val
  omega

theorem rbufG_apply (k : Fin 8) (b : Fin 2) (r : Fin 32) (e : Fin 512) :
    rbufG I c (ix4 k b r e) = psrcG I (src c k) (ix3 b ⟨32 * c.val + r.val, by have := dev_lt c; omega⟩ e) :=
  (glue_at cutRow _ k (ix4 0 b r e) _ (row_emb k b r e)).trans
    ((slab_apply _ b r e).trans (congrArg (psrcG I (src c k)) (dev_emb c b r e)))

/-- The slots of a device hold every device's part once. -/
theorem sum_src {M : Type} [AddCommMonoid M] (f : Dev nD → M) : ∑ k : Fin 8, f (src c k) = ∑ t : Dev nD, f t :=
  (Equiv.ofBijective (src c) ((Fintype.bijective_iff_injective_and_card _).2 ⟨by revert c; decide, rfl⟩)).sum_comp f

/-- The sum over a device's slots of the parts of its rows. -/
theorem rsum_apply (b : Fin 2) (r : Fin 32) (e : Fin 512) :
    ∑ k : Fin 8, rbufG I c (ix4 k b r e) = ∑ t : Dev nD, psrcG I t (ix3 b ⟨32 * c.val + r.val, by have := dev_lt c; omega⟩ e) :=
  (Finset.sum_congr rfl fun k _ => rbufG_apply I c k b r e).trans
    (sum_src c fun t => psrcG I t (ix3 b ⟨32 * c.val + r.val, by have := dev_lt c; omega⟩ e))

/-- The kernel's result: the sum over the devices of their parts of the output projection, the same on every device. -/
theorem outG_apply (b : Fin 2) (i : Fin 256) (e : Fin 512) : outG I c (ix3 b i e) = ∑ t : Dev nD, psrcG I t (ix3 b i e) := by
  obtain ⟨t, r, rfl⟩ : ∃ (t : Dev nD) (r : Fin 32), i = ⟨32 * t.val + r.val, by have := dev_lt t; omega⟩ :=
    ⟨⟨i.val / 32, by show _ < 8; omega⟩, ⟨i.val % 32, by omega⟩, Fin.ext (by show i.val = 32 * (i.val / 32) + i.val % 32; omega)⟩
  refine (glue_at cutDev _ t (ix3 b r e) _ (dev_emb t b r e)).trans ?_
  by_cases h : t = c
  · refine (congrFun (if_pos h) _).trans ?_
    subst h
    exact (sum_apply _ b r e).trans (rsum_apply I t b r e)
  · exact (congrFun (if_neg h) _).trans ((gsum_apply _ b r e).trans (rsum_apply I t b r e))

end Cert.KernelIdeal.Attn

end
-- ==== Proof.Softmax.lean ====
/- The two equations of the mathematics.

   `sum_attended`: a sum over the 2048 key positions of terms that are zero off the attended ones is the sum over the 512
   attended ones, slot by slot. `softmax_shift`: the weight of an attended key is the same with and without the row's
   maximum subtracted, for real scores. -/
module

public import proofs.«01_k».proof.Proof.Cuts
public import Idealize.ShloMosaic.Lib.Pointwise

@[expose] public section

noncomputable section

namespace Cert.KernelIdeal.Attn

open Cert.KernelIdeal Cert.KernelIdeal.Gen
open Idealize.ShloMosaic

/-- Key position `m` of query block `g` in the order of the slots of device `c`. -/
def pos (c : Dev nD) (g : Fin 4) (m : Fin 512) : Fin 2048 :=
  ⟨256 * (src c ⟨m.val / 64, by omega⟩).val + (64 * g.val + m.val % 64), by
    have : (src c ⟨m.val / 64, by omega⟩).val < 8 := (src c ⟨m.val / 64, by omega⟩).isLt
    omega⟩

theorem pos_block (c : Dev nD) (g : Fin 4) (m : Fin 512) : (pos c g m).val / 64 % 4 = g.val := by
  show (256 * (src c ⟨m.val / 64, by omega⟩).val + (64 * g.val + m.val % 64)) / 64 % 4 = g.val
  omega

theorem src_src (c : Dev nD) (s : Dev nD) : src c ⟨(c.val + 8 - s.val) % 8, Nat.mod_lt _ (by decide)⟩ = s := by
  revert c s; decide

theorem pos_inj (c : Dev nD) (g : Fin 4) : Function.Injective (pos c g) := by
  intro m m' h
  have hv : 256 * (src c ⟨m.val / 64, by omega⟩).val + (64 * g.val + m.val % 64)
      = 256 * (src c ⟨m'.val / 64, by omega⟩).val + (64 * g.val + m'.val % 64) := congrArg Fin.val h
  have hs : src c ⟨m.val / 64, by omega⟩ = src c ⟨m'.val / 64, by omega⟩ := Fin.ext (by omega)
  have hk : ∀ (c : Dev nD) (k k' : Fin 8), src c k = src c k' → k = k' := by decide
  have h1 : m.val / 64 = m'.val / 64 := congrArg Fin.val (hk c _ _ hs)
  exact Fin.ext (by omega)

theorem pos_onto (c : Dev nD) (g : Fin 4) (j : Fin 2048) (h : j.val / 64 % 4 = g.val) : ∃ m, pos c g m = j := by
  have hs : j.val / 256 < 8 := by omega
  have ht : (c.val + 8 - j.val / 256) % 8 < 8 := Nat.mod_lt _ (by decide)
  refine ⟨⟨64 * ((c.val + 8 - j.val / 256) % 8) + j.val % 64, by omega⟩, Fin.ext ?_⟩
  have e : src c ⟨(64 * ((c.val + 8 - j.val / 256) % 8) + j.val % 64) / 64, by omega⟩ = ⟨j.val / 256, hs⟩ := by
    rw [← src_src c ⟨j.val / 256, hs⟩]
    refine congrArg (src c) (Fin.ext ?_)
    show (64 * ((c.val + 8 - j.val / 256) % 8) + j.val % 64) / 64 = (c.val + 8 - j.val / 256) % 8
    omega
  show 256 * (src c ⟨(64 * ((c.val + 8 - j.val / 256) % 8) + j.val % 64) / 64, by omega⟩).val
    + (64 * g.val + (64 * ((c.val + 8 - j.val / 256) % 8) + j.val % 64) % 64) = j.val
  rw [e]
  show 256 * (j.val / 256) + _ = _
  omega

theorem sum_attended {M : Type} [AddCommMonoid M] (c : Dev nD) (g : Fin 4) (f : Fin 2048 → M)
    (h : ∀ j : Fin 2048, j.val / 64 % 4 ≠ g.val → f j = 0) : ∑ m : Fin 512, f (pos c g m) = ∑ j : Fin 2048, f j := by
  refine Finset.sum_of_injOn (pos c g) (fun _ _ _ _ e => pos_inj c g e) (fun _ _ => Finset.mem_univ _) (fun j _ hj => h j fun e => hj ?_)
    fun _ _ => rfl
  obtain ⟨m, rfl⟩ := pos_onto c g j e
  exact ⟨m, Finset.mem_univ _, rfl⟩

/-! ## Softmax -/

/-- The row of scores with the positions that are not attended at `-∞`. -/
def masked (p : Fin 2048 → Prop) [DecidablePred p] (r : Fin 2048 → ℝ) (j : Fin 2048) : EReal := if p j then (r j : EReal) else ⊥

/-- The maximum of a row with an attended position is a real number. -/
theorem row_max (p : Fin 2048 → Prop) [DecidablePred p] (r : Fin 2048 → ℝ) (j₀ : Fin 2048) (h₀ : p j₀) :
    ∃ μ : ℝ, Finset.univ.fold max ⊥ (masked p r) = (μ : EReal) := by
  have hs : Finset.univ.fold max ⊥ (masked p r) = Finset.univ.sup (masked p r) := rfl
  obtain ⟨j, -, hj⟩ := Finset.exists_mem_eq_sup Finset.univ ⟨j₀, Finset.mem_univ _⟩ (masked p r)
  have hle : masked p r j₀ ≤ masked p r j := hj ▸ Finset.le_sup (Finset.mem_univ j₀)
  by_cases h : p j
  · exact ⟨r j, hs.trans (hj.trans (if_pos h))⟩
  · rw [masked, masked, if_pos h₀, if_neg h] at hle
    exact absurd (le_bot_iff.1 hle) (EReal.coe_ne_bot _)

theorem exp_coe (x : ℝ) : Ideal.exp (x : EReal) = (Real.exp x : EReal) := rfl
theorem exp_bot : Ideal.exp ⊥ = 0 := rfl

theorem coe_sum {n : ℕ} (f : Fin n → ℝ) : ∑ j, (f j : EReal) = ((∑ j, f j : ℝ) : EReal) := by
  exact (map_sum (⟨⟨fun x : ℝ => (x : EReal), EReal.coe_zero⟩, EReal.coe_add⟩ : ℝ →+ EReal) f Finset.univ).symm

/-- The weight of every position: with the maximum subtracted and the positions off the mask at `-∞`, it is the plain
    weight at an attended position and zero elsewhere. -/
theorem softmax_shift (p : Fin 2048 → Prop) [DecidablePred p] (r : Fin 2048 → ℝ) (j₀ : Fin 2048) (h₀ : p j₀) (j : Fin 2048) :
    Ideal.div (Ideal.exp (masked p r j - Finset.univ.fold max ⊥ (masked p r)))
        (∑ j', Ideal.exp (masked p r j' - Finset.univ.fold max ⊥ (masked p r)))
      = if p j then Ideal.div (Ideal.exp (r j)) (∑ j', if p j' then Ideal.exp (r j') else 0) else 0 := by
  obtain ⟨μ, hμ⟩ := row_max p r j₀ h₀
  rw [hμ]
  have hE : ∀ j, Ideal.exp (masked p r j - (μ : EReal)) = (((if p j then Real.exp (r j - μ) else 0) : ℝ) : EReal) := fun j => by
    by_cases h : p j
    · rw [masked, if_pos h, if_pos h, ← EReal.coe_sub, exp_coe]
    · rw [masked, if_neg h, if_neg h, EReal.bot_sub, exp_bot]; rfl
  have hP : ∀ j, (if p j then Ideal.exp (r j) else 0) = (((if p j then Real.exp (r j) else 0) : ℝ) : EReal) := fun j => by
    by_cases h : p j
    · rw [if_pos h, if_pos h, exp_coe]
    · rw [if_neg h, if_neg h]; rfl
  rw [Finset.sum_congr rfl fun j _ => hE j, Finset.sum_congr rfl fun j _ => hP j, coe_sum, coe_sum, hE]
  have hpos : 0 < ∑ j, (if p j then Real.exp (r j) else 0 : ℝ) :=
    Finset.sum_pos' (fun j _ => by split <;> positivity) ⟨j₀, Finset.mem_univ _, by rw [if_pos h₀]; positivity⟩
  have hfac : ∑ j, (if p j then Real.exp (r j - μ) else 0 : ℝ) = Real.exp (-μ) * ∑ j, (if p j then Real.exp (r j) else 0 : ℝ) := by
    rw [Finset.mul_sum]
    refine Finset.sum_congr rfl fun j _ => ?_
    by_cases h : p j
    · rw [if_pos h, if_pos h, ← Real.exp_add]; congr 1; ring
    · rw [if_neg h, if_neg h, mul_zero]
  have hpos' : 0 < ∑ j, (if p j then Real.exp (r j - μ) else 0 : ℝ) := by rw [hfac]; positivity
  rw [Ideal.div_coe hpos'.ne', Ideal.div_coe hpos.ne', exp_coe]
  by_cases h : p j
  · rw [if_pos h, if_pos h, ← EReal.coe_mul, ← EReal.coe_mul, hfac]
    congr 1
    have : Real.exp (r j - μ) = Real.exp (-μ) * Real.exp (r j) := by rw [← Real.exp_add]; congr 1; ring
    rw [this]
    have := Real.exp_pos (-μ)
    field_simp
  · rw [if_neg h, if_neg h]
    exact zero_mul _

end Cert.KernelIdeal.Attn

end
-- ==== Proof.RefMask.lean ====
/- The reference's mask and its weights, element by element.

   Query row `i` attends to key position `j` when the position's block `j / 64` is the row's block `i / 64` modulo 4. -/
module

public import proofs.«01_k».proof.Proof.Gen.ReferenceIdeal
public import proofs.«01_k».proof.Proof.Gen.ReferenceIdeal.Skeleton
public import Idealize.ShloMosaic.Lib.Pointwise

@[expose] public section

set_option maxRecDepth 16384

noncomputable section

namespace Cert.ReferenceIdeal.Attn

open Cert.ReferenceIdeal Cert.ReferenceIdeal.Gen
open Idealize.ShloMosaic

/-- Row `i` attends to position `j`. -/
abbrev att (i : Fin 256) (j : Fin 2048) : Prop := j.val / 64 % 4 = i.val / 64

/-- The block of a query row. -/
theorem row_block (i : Fin 256) : k0_pay2 (ix2 i 0) = BitVec.ofNat 32 (i.val / 64) := by
  pointwise [k0_pay2]
  revert i
  decide +kernel

/-- The block of a key position. -/
def colBlock (j : Fin 2048) : BitVec 32 :=
  Scalar.select (IntOp.andi (k0_pay5 (ix1 j)) (IntOp.cmpi .ne (k0_pay6 (ix1 j)) 0#32)) (IntOp.subi (k0_pay4 (ix1 j)) 1#32) (k0_pay4 (ix1 j))

theorem col_block (j : Fin 2048) : colBlock j = BitVec.ofNat 32 (j.val / 64) := by
  pointwise [colBlock, k0_pay4, k0_pay5, k0_pay6, k0_pay3]
  revert j
  decide +kernel

/-- Whether a key block and a query block meet, in the words of the program. -/
def meet (a g : BitVec 32) : BitVec 1 :=
  have n : BitVec 32 := Scalar.select (Scalar.cmpi .eq 4#32 0#32) 1#32 4#32
  have s : BitVec 1 := Scalar.cmpi .slt n 0#32
  have f : BitVec 32 → BitVec 32 := fun x => Scalar.select
    (IntOp.andi (IntOp.xori (IntOp.cmpi .slt (IntOp.remsi .vector x n) 0#32) s) (IntOp.cmpi .ne (IntOp.remsi .vector x n) 0#32))
    (IntOp.addi (IntOp.remsi .vector x n) n) (IntOp.remsi .vector x n)
  IntOp.ori (IntOp.cmpi .eq g a) (IntOp.cmpi .eq (f a) (f g))

theorem meet_eq (a : Fin 32) (g : Fin 4) : meet (BitVec.ofNat 32 a.val) (BitVec.ofNat 32 g.val) = BitVec.ofBool (decide (a.val % 4 = g.val)) := by
  revert a g
  decide +kernel

/-- The mask the program computes. -/
abbrev maskV : IVec S256x2048 1 := k0_pay7 k0_pay2 k0_pay4 k0_pay5 k0_pay6 0#32

theorem mask_apply (i : Fin 256) (j : Fin 2048) : maskV (ix2 i j) = BitVec.ofBool (decide (att i j)) := by
  have e : maskV (ix2 i j) = meet (colBlock j) (k0_pay2 (ix2 i 0)) := by
    pointwise [maskV, k0_pay7, meet, colBlock]
  rw [e, col_block, row_block]
  exact meet_eq ⟨j.val / 64, by omega⟩ ⟨i.val / 64, by omega⟩

theorem negInf_eq : Ideal.ofBits .f32 0xFF800000#32 = ⊥ := by simp [Ideal.ofBits, Ideal.ieee]

theorem mask_named : (Named.named κ "mask" (0xCE6E6B28#32 : BitVec (FTy.bits .f32)) : Ideal .f32) = ⊥ := rfl

/-- A score where the row attends, `-∞` elsewhere. -/
def maskedScore (x : Vec Ideal S2x32x256x2048 .f32) (b : Fin 2) (h : Fin 32) (i : Fin 256) (j : Fin 2048) : EReal :=
  if att i j then x (ix4 b h i j) else ⊥

theorem select_att {α : Type} (i : Fin 256) (j : Fin 2048) (s t : α) :
    Scalar.select (maskV (ix2 i j)) s t = if att i j then s else t := by
  rw [mask_apply]
  by_cases h : att i j
  · rw [if_pos h, decide_eq_true h]; rfl
  · rw [if_neg h, decide_eq_false h]; rfl

/-- Every row attends to some position. -/
theorem att_self (i : Fin 256) : att i ⟨64 * (i.val / 64), by omega⟩ := by
  show 64 * (i.val / 64) / 64 % 4 = i.val / 64
  omega

/-- The weights: every row is a softmax of its masked scores. -/
theorem weights_apply (x : Vec Ideal S2x32x256x2048 .f32) (b : Fin 2) (h : Fin 32) (i : Fin 256) (j : Fin 2048) :
    k0_pay1 maskV (shapeCast S1x1x256x2048 maskV shapeCasts_S256x2048_S1x1x256x2048) x (ix4 b h i j)
      = Ideal.div (Ideal.exp (maskedScore x b h i j - Finset.univ.fold max ⊥ (maskedScore x b h i)))
          (∑ j', Ideal.exp (maskedScore x b h i j' - Finset.univ.fold max ⊥ (maskedScore x b h i))) := by
  have hk : (0 : EReal) < Finset.fold max ⊥ (fun j => if att i j then 1 else 0) (Finset.univ : Finset (Fin 2048)) :=
    (Finset.lt_fold_max _).2 (.inr ⟨_, Finset.mem_univ _, by rw [if_pos (att_self i)]; exact zero_lt_one⟩)
  unfold maskedScore
  have hs : ∀ {α : Type} (i : Fin 256) (j : Fin 2048) (s t : α), Scalar.select (maskV (ix2 i j)) s t = if att i j then s else t := select_att
  generalize maskV = w at hs ⊢
  pointwise [k0_pay1]
  simp only [hs, negInf_eq, mask_named]
  rw [if_pos hk, if_pos hk]

end Cert.ReferenceIdeal.Attn

end
-- ==== Proof.RefRead.lean ====
/- What the reference's arrays hold, element by element: its queries and scores, the weights its one call writes, and the result. -/
module

public import proofs.«01_k».proof.Proof.RefMask
public import proofs.«01_k».proof.Proof.Gen.ReferenceIdeal.Run

@[expose] public section

set_option maxRecDepth 16384

noncomputable section

namespace Cert.ReferenceIdeal.Attn

open Cert.ReferenceIdeal Cert.ReferenceIdeal.Gen
open Idealize.ShloMosaic Idealize.ShloMosaic.TcCoe
open Idealize.SL Idealize.SL.Sem

/-- A whole-array load reads the array. -/
theorem ld_whole (x : Vec Ideal S2x32x256x2048 .f32) : View.ld x r0_0 = x := by
  funext i
  exact congrArg x (funext fun a => Fin.ext (by fin_cases a <;> simp [r0_0, Rect.unit, Rect.emb]))

/-- The weights the call stores, over the scores it reads. -/
theorem out_eq (x : Vec Ideal S2x32x256x2048 .f32) (b : Fin 2) (h : Fin 32) (i : Fin 256) (j : Fin 2048) :
    out0_1 x (ix4 b h i j) = k0_pay1 maskV (shapeCast S1x1x256x2048 maskV shapeCasts_S256x2048_S1x1x256x2048) x (ix4 b h i j) := by
  unfold out0_1
  have e : r0_0.emb (ix4 b h i j) = ix4 b h i j := funext fun a => Fin.ext (by fin_cases a <;> simp [r0_0, Rect.unit, Rect.emb])
  refine (congrArg _ e.symm).trans ((View.canon_cons_emb _ _ _ _).trans ?_)
  rw [ld_whole]
  rfl

variable (m : (ℓ : Loc nD τ sig) → Buf (Elt Ideal) ℓ) (c : Dev nD)

/-- The scores as the call reads them. -/
abbrev scoreA : Vec Ideal S2x32x256x2048 .f32 := V (F := Ideal) m c main_v4

/-- The call has one grid point, and each window's block there is the whole array: the scores, -/
theorem read_scores (f : Vec Ideal S2x32x256x2048 .f32) : (win0_0.blk t0_0).view.read (Elt Ideal) f = f :=
  Memref.read_access_unit_zero (Elt Ideal) main_v4
    (show (fun a => (win0_0.index t0_0) a * main_v4.ty.shape.size a) = fun _ => 0 from
      funext fun a => by fin_cases a <;> decide) (fun a => by fin_cases a <;> decide) f
/-- and the weights. -/
theorem read_weights (f : Vec Ideal S2x32x256x2048 .f32) : (win0_1.blk t0_0).view.read (Elt Ideal) f = f :=
  Memref.read_access_unit_zero (Elt Ideal) main_v5
    (show (fun a => (win0_1.index t0_0) a * main_v5.ty.shape.size a) = fun _ => 0 from
      funext fun a => by fin_cases a <;> decide) (fun a => by fin_cases a <;> decide) f

theorem iblk_eq : iblk (F := Ideal) m c 0 t0_0 = scoreA m c := read_scores _

/-- So the weights' array ends as the body left its block. -/
theorem arr_eq : Value.reg_main_v5 m c = out0_1 (scoreA m c) := by
  have hw : ((cfg0.win 1).blk t0_0).view.read (Elt Ideal) ((dats (F := Ideal) m 0 c).arrAt 1 cfg0.N)
      = (dats (F := Ideal) m 0 c).flushed 1 t0_0 := by
    rw [show cfg0.N = t0_0.val + 1 from N_0, (dats m 0 c).arrAt_succ (1 : Fin 2) t0_0, flush0_1, if_pos rfl]
    exact View.read_write_univ _ _
  have hf : (dats (F := Ideal) m 0 c).flushed 1 t0_0 = out0_1 (scoreA m c) := by
    show (cfg0.win 1).cut _ ((dats (F := Ideal) m 0 c).after 1 t0_0) = _
    rw [after0_1, iblk_eq]
    exact funext fun _ => rfl
  rw [hf] at hw
  exact (read_weights _).symm.trans hw

/-- The weights the call writes: each row is a softmax of its masked scores. -/
theorem reg_apply (b : Fin 2) (h : Fin 32) (i : Fin 256) (j : Fin 2048) :
    Value.reg_main_v5 m c (ix4 b h i j)
      = Ideal.div (Ideal.exp (maskedScore (scoreA m c) b h i j - Finset.univ.fold max ⊥ (maskedScore (scoreA m c) b h i)))
          (∑ j', Ideal.exp (maskedScore (scoreA m c) b h i j' - Finset.univ.fold max ⊥ (maskedScore (scoreA m c) b h i))) :=
  (congrFun (arr_eq m c) _).trans ((out_eq _ b h i j).trans (weights_apply _ b h i j))

/-- The five arguments as device `c` finds them. -/
abbrev argX : FVec Ideal S2x256x512 .f32 := m ((c.tc : Thread nD τ).loc main_arg0)
abbrev argWq : FVec Ideal S512x2048 .f32 := m ((c.tc : Thread nD τ).loc main_arg1)
abbrev argK : FVec Ideal S2x2048x32x64 .f32 := m ((c.tc : Thread nD τ).loc main_arg2)
abbrev argV : FVec Ideal S2x2048x32x64 .f32 := m ((c.tc : Thread nD τ).loc main_arg3)
abbrev argWo : FVec Ideal S2048x512 .f32 := m ((c.tc : Thread nD τ).loc main_arg4)

/-- The queries times the keys. -/
theorem dot_apply (x : FVec Ideal S2x256x512 .f32) (wq : FVec Ideal S512x2048 .f32) (k : FVec Ideal S2x2048x32x64 .f32)
    (b : Fin 2) (h : Fin 32) (i : Fin 256) (j : Fin 2048) :
    (mulf (Host.dotGeneral dot_S2x256x32x64_S2x2048x32x64_S2x32x256x2048_3_3_1_1_02_02 none
        (shapeCast S2x256x32x64 (Host.dotGeneral dot_S2x256x512_S512x2048_S2x256x2048_2_0_01_1_n_n none x wq : FVec Ideal S2x256x2048 .f32) shapeCasts_S2x256x2048_S2x256x32x64)
        k : FVec Ideal S2x32x256x2048 .f32)
      (broadcastInDim S2x32x256x2048 ![] bcast_S_S2x32x256x2048 (constant (F := Ideal) S_ .f32 0x3E000000#32))) (ix4 b h i j)
      = (∑ d : Fin 64, (∑ a : Fin 512, x (ix3 b i a) * wq (ix2 a ⟨h.val * 64 + d.val, by omega⟩)) * k (ix4 b j h d))
          * Ideal.ofBits .f32 0x3E000000#32 := by
  pointwise []

/-- The scores: queries times keys, over 8. -/
theorem score_apply (b : Fin 2) (h : Fin 32) (i : Fin 256) (j : Fin 2048) :
    scoreA m c (ix4 b h i j)
      = (∑ d : Fin 64, (∑ a : Fin 512, argX m c (ix3 b i a) * argWq m c (ix2 a ⟨h.val * 64 + d.val, by omega⟩))
          * argK m c (ix4 b j h d)) * Ideal.ofBits .f32 0x3E000000#32 := by
  refine Eq.trans (congrFun ?_ _) (dot_apply (argX m c) (argWq m c) (argK m c) b h i j)
  unfold scoreA V V0
  after_results
  rfl

/-- The result: weights times values, then the output projection. -/
theorem final_apply (x v w wo) (b : Fin 2) (i : Fin 256) (e : Fin 512)
    (hx : x = (Host.dotGeneral dot_S2x256x2048_S2048x512_S2x256x512_2_0_01_1_n_n none (shapeCast S2x256x2048 (transpose S2x256x32x64 [0,3,1,2] (Host.dotGeneral dot_S2x2048x32x64_S2x32x256x2048_S2x32x64x256_1_3_3_2_02_01 none (v : FVec Ideal S2x2048x32x64 .f32) (w : FVec Ideal S2x32x256x2048 .f32) : FVec Ideal S2x32x64x256 .f32) transposes_S2x32x64x256_S2x256x32x64_0_3_1_2) shapeCasts_S2x256x32x64_S2x256x2048) (wo : FVec Ideal S2048x512 .f32) : FVec Ideal S2x256x512 .f32)) :
    x (ix3 b i e) = ∑ n : Fin 2048, (∑ j : Fin 2048, v (ix4 b j ⟨n.val / 64, by omega⟩ ⟨n.val % 64, by omega⟩)
        * w (ix4 b ⟨n.val / 64, by omega⟩ i j)) * wo (ix2 n e) := by
  subst hx
  pointwise []

end Cert.ReferenceIdeal.Attn

end
-- ==== Proof.Equation.lean ====
/- The equation: over whole arrays cut the way the devices hold them, what the kernel leaves on every device is the
   reference's result.

   `weight_eq`: a device's softmax over its 512 attended keys is the reference's masked softmax at their positions.
   `context_eq`: so its context is the reference's, at the device's four heads. `result_eq`: summing the eight devices'
   projections is summing over all 2048 columns of the context. -/
module

public import proofs.«01_k».proof.Proof.KernelParts
public import proofs.«01_k».proof.Proof.Softmax
public import proofs.«01_k».proof.Proof.RefRead

@[expose] public section

noncomputable section

namespace Cert.Equation

open Idealize.ShloMosaic Idealize.ShloMosaic.TcCoe
open Cert.KernelIdeal (nD)
open Cert.KernelIdeal.Attn Cert.ReferenceIdeal.Attn

/-! ## Real numbers among the extended ones -/

/-- An extended real that is a real number. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {n : ℕ} {f : Fin n → EReal} (h : ∀ a, IsReal (f a)) : IsReal (∑ a, f a) := by
  choose r hr using h
  exact ⟨∑ a, r a, (Finset.sum_congr rfl fun a _ => hr a).trans (coe_sum r)⟩

/-- One eighth, the scale of the scores. -/
theorem eighth_real : IsReal (Ideal.ofBits .f32 0x3E000000#32) := by
  simp [Ideal.ofBits, Ideal.ieee]
  exact ⟨_, rfl⟩

/-! ## The whole arrays, and each device's part of them -/

/-- Every device's inputs are its parts of the reference's arrays: all of `x`, 256 columns of `Wq`, 256 rows of the keys
    and of the values, 256 rows of `Wo`. -/
structure Parts (I : Dev nD → In Ideal) (m : (ℓ : Loc Cert.ReferenceIdeal.nD Cert.ReferenceIdeal.τ Cert.ReferenceIdeal.sig) → Buf (Elt Ideal) ℓ)
    (z : Dev Cert.ReferenceIdeal.nD) : Prop where
  x : ∀ c b i a, (I c).x (ix3 b i a) = argX m z (ix3 b i a)
  wq : ∀ (c : Dev nD) (a : Fin 512) (n : Fin 256), (I c).wq (ix2 a n) = argWq m z (ix2 a ⟨256 * c.val + n.val, by have := dev_lt c; omega⟩)
  k : ∀ (c : Dev nD) (b : Fin 2) (r : Fin 256) (h : Fin 32) (d : Fin 64),
    (I c).k (ix4 b r h d) = argK m z (ix4 b ⟨256 * c.val + r.val, by have := dev_lt c; omega⟩ h d)
  v : ∀ (c : Dev nD) (b : Fin 2) (r : Fin 256) (h : Fin 32) (d : Fin 64),
    (I c).v (ix4 b r h d) = argV m z (ix4 b ⟨256 * c.val + r.val, by have := dev_lt c; omega⟩ h d)
  wo : ∀ (c : Dev nD) (n : Fin 256) (e : Fin 512), (I c).wo (ix2 n e) = argWo m z (ix2 ⟨256 * c.val + n.val, by have := dev_lt c; omega⟩ e)
  x_real : ∀ b i a, IsReal (argX m z (ix3 b i a))
  wq_real : ∀ a n, IsReal (argWq m z (ix2 a n))
  k_real : ∀ b j h d, IsReal (argK m z (ix4 b j h d))

section

variable {I : Dev nD → In Ideal} {m : (ℓ : Loc Cert.ReferenceIdeal.nD Cert.ReferenceIdeal.τ Cert.ReferenceIdeal.sig) → Buf (Elt Ideal) ℓ}
  {z : Dev Cert.ReferenceIdeal.nD} (P : Parts I m z)

/-- Head `h` of device `c`, among the 32. -/
abbrev head (c : Dev nD) (h : Fin 4) : Fin 32 := ⟨4 * c.val + h.val, by have := dev_lt c; omega⟩

include P

/-- Every score is a real number. -/
theorem score_real (b : Fin 2) (h : Fin 32) (i : Fin 256) (j : Fin 2048) : IsReal (scoreA m z (ix4 b h i j)) := by
  rw [score_apply]
  exact (IsReal.sum fun d => (IsReal.sum fun a => (P.x_real b i a).mul (P.wq_real a _)).mul (P.k_real b j h d)).mul eighth_real

/-- A device's queries are the reference's, at its heads. -/
theorem query_eq (c : Dev nD) (b : Fin 2) (i : Fin 256) (h : Fin 4) (d : Fin 64) :
    qG (I c) (ix4 b i h d) = ∑ a : Fin 512, argX m z (ix3 b i a) * argWq m z (ix2 a ⟨(head c h).val * 64 + d.val, by omega⟩) := by
  rw [qG_apply]
  refine Finset.sum_congr rfl fun a _ => ?_
  rw [P.x, P.wq]
  refine congrArg (fun n => argX m z (ix3 b i a) * argWq m z (ix2 a n)) (Fin.ext ?_)
  show 256 * c.val + (h.val * 64 + d.val) = (4 * c.val + h.val) * 64 + d.val
  omega

/-- The key in slot order is the key at its position. -/
theorem key_eq (c : Dev nD) (b : Fin 2) (h : Fin 4) (g : Fin 4) (k : Fin 512) (d : Fin 64) :
    kgG I c (ix5 ⟨k.val / 64, by omega⟩ h b ⟨64 * g.val + k.val % 64, by omega⟩ d) = argK m z (ix4 b (pos c g k) (head c h) d) := by
  rw [kgG_apply, P.k]
  rfl

theorem value_eq (c : Dev nD) (b : Fin 2) (h : Fin 4) (g : Fin 4) (k : Fin 512) (d : Fin 64) :
    vbufG I c (ix5 ⟨k.val / 64, by omega⟩ h b ⟨64 * g.val + k.val % 64, by omega⟩ d) = argV m z (ix4 b (pos c g k) (head c h) d) := by
  rw [vbufG_apply, P.v]
  rfl

/-- A device's unnormalised weight is the exponential of the reference's score at the key's position. -/
theorem ex_eq (c : Dev nD) (b : Fin 2) (h : Fin 4) (i : Fin 256) (k : Fin 512) :
    ex (qG (I c)) (kgG I c) b h ⟨i.val / 64, by omega⟩ ⟨i.val % 64, by omega⟩ k
      = Ideal.exp (scoreA m z (ix4 b (head c h) i (pos c ⟨i.val / 64, by omega⟩ k))) := by
  unfold ex
  rw [score_apply]
  refine congrArg (fun s => Ideal.exp (s * Ideal.ofBits .f32 0x3E000000#32)) (Finset.sum_congr rfl fun d _ => ?_)
  have hi : (⟨64 * (i.val / 64) + i.val % 64, by omega⟩ : Fin 256) = i := Fin.ext (Nat.div_add_mod _ _)
  rw [show (⟨64 * (⟨i.val / 64, by omega⟩ : Fin 4).val + (⟨i.val % 64, by omega⟩ : Fin 64).val, by omega⟩ : Fin 256) = i from hi]
  exact congrArg₂ (· * ·) (query_eq P c b i h d) (key_eq P c b h ⟨i.val / 64, by omega⟩ k d)

/-- The reference's weight of a position: the exponential of its score over the sum of those attended, or zero. -/
theorem weight_real (b : Fin 2) (h : Fin 32) (i : Fin 256) (j : Fin 2048) :
    Cert.ReferenceIdeal.Value.reg_main_v5 m z (ix4 b h i j)
      = if att i j then Ideal.div (Ideal.exp (scoreA m z (ix4 b h i j))) (∑ j', if att i j' then Ideal.exp (scoreA m z (ix4 b h i j')) else 0) else 0 := by
  have hr := fun j => score_real P b h i j
  choose r hr using hr
  have e : maskedScore (scoreA m z) b h i = masked (att i) r := funext fun j => by
    unfold maskedScore masked
    rw [hr]
  rw [reg_apply, e, softmax_shift (att i) r _ (att_self i) j]
  simp only [hr]

/-- A device's weight of an attended key is the reference's at the key's position. -/
theorem weight_eq (c : Dev nD) (b : Fin 2) (h : Fin 4) (i : Fin 256) (k : Fin 512) :
    Ideal.div (ex (qG (I c)) (kgG I c) b h ⟨i.val / 64, by omega⟩ ⟨i.val % 64, by omega⟩ k)
        (∑ k', ex (qG (I c)) (kgG I c) b h ⟨i.val / 64, by omega⟩ ⟨i.val % 64, by omega⟩ k')
      = Cert.ReferenceIdeal.Value.reg_main_v5 m z (ix4 b (head c h) i (pos c ⟨i.val / 64, by omega⟩ k)) := by
  have hp : ∀ k', att i (pos c ⟨i.val / 64, by omega⟩ k') := fun k' => pos_block c ⟨i.val / 64, by omega⟩ k'
  rw [weight_real P, if_pos (hp k)]
  refine congrArg₂ Ideal.div (ex_eq P c b h i k) ?_
  rw [← sum_attended c ⟨i.val / 64, by omega⟩ (fun j => if att i j then Ideal.exp (scoreA m z (ix4 b (head c h) i j)) else 0)
    fun j hj => if_neg hj]
  exact Finset.sum_congr rfl fun k' _ => (ex_eq P c b h i k').trans (if_pos (hp k')).symm

/-- A device's context is the reference's, at its heads. -/
theorem context_eq (c : Dev nD) (b : Fin 2) (i : Fin 256) (h : Fin 4) (d : Fin 64) :
    ctxG I c (ix4 b i h d) = ∑ j : Fin 2048, argV m z (ix4 b j (head c h) d)
      * Cert.ReferenceIdeal.Value.reg_main_v5 m z (ix4 b (head c h) i j) := by
  rw [ctxG_apply, ← sum_attended c ⟨i.val / 64, by omega⟩ (fun j => argV m z (ix4 b j (head c h) d)
      * Cert.ReferenceIdeal.Value.reg_main_v5 m z (ix4 b (head c h) i j))
    fun j hj => by rw [weight_real P, if_neg hj, mul_zero]]
  refine Finset.sum_congr rfl fun k _ => ?_
  rw [weight_eq P]
  refine Eq.trans (congrArg _ ?_) (mul_comm _ _)
  exact value_eq P c b h ⟨i.val / 64, by omega⟩ k d

end

/-- A sum over 2048 columns, device by device. -/
theorem sum_columns (f : Fin 2048 → EReal) :
    ∑ t : Dev nD, ∑ n : Fin 256, f ⟨256 * t.val + n.val, by have := dev_lt t; omega⟩ = ∑ n : Fin 2048, f n := by
  rw [← Fintype.sum_prod_type' (fun (t : Dev nD) (n : Fin 256) => f ⟨256 * t.val + n.val, by have := dev_lt t; omega⟩)]
  refine Fintype.sum_bijective (fun p : Dev nD × Fin 256 => (⟨256 * p.1.val + p.2.val, by have := dev_lt p.1; omega⟩ : Fin 2048)) ⟨?_, ?_⟩ _ _
    fun _ => rfl
  · rintro ⟨t, n⟩ ⟨t', n'⟩ h
    have h := congrArg Fin.val h
    dsimp only at h
    exact Prod.ext (Fin.ext (by dsimp only; omega)) (Fin.ext (by dsimp only; omega))
  · intro n
    refine ⟨(⟨n.val / 256, by show _ < 8; omega⟩, ⟨n.val % 256, by omega⟩), Fin.ext ?_⟩
    show 256 * (n.val / 256) + n.val % 256 = n.val
    omega

/-- What every device ends with is the reference's result. -/
theorem result_eq {I : Dev nD → In Ideal} {m : (ℓ : Loc Cert.ReferenceIdeal.nD Cert.ReferenceIdeal.τ Cert.ReferenceIdeal.sig) → Buf (Elt Ideal) ℓ}
    {z : Dev Cert.ReferenceIdeal.nD} (P : Parts I m z) (c : Dev nD) (b : Fin 2) (i : Fin 256) (e : Fin 512) :
    outG I c (ix3 b i e) = ∑ n : Fin 2048, (∑ j : Fin 2048, argV m z (ix4 b j ⟨n.val / 64, by omega⟩ ⟨n.val % 64, by omega⟩)
        * Cert.ReferenceIdeal.Value.reg_main_v5 m z (ix4 b ⟨n.val / 64, by omega⟩ i j)) * argWo m z (ix2 n e) := by
  rw [outG_apply, ← sum_columns]
  refine Finset.sum_congr rfl fun t _ => ?_
  rw [psrcG_apply]
  refine Finset.sum_congr rfl fun n _ => ?_
  rw [context_eq P, P.wo]
  have ht := dev_lt t
  have hh : head t ⟨n.val / 64, by omega⟩ = ⟨(256 * t.val + n.val) / 64, by omega⟩ := Fin.ext (by
    show 4 * t.val + n.val / 64 = (256 * t.val + n.val) / 64
    omega)
  have hd : (⟨n.val % 64, by omega⟩ : Fin 64) = ⟨(256 * t.val + n.val) % 64, by omega⟩ := Fin.ext (by
    show n.val % 64 = (256 * t.val + n.val) % 64
    omega)
  rw [hh, hd]

end Cert.Equation

end
-- ==== Proof.Agree.lean ====
/- The algebraic claim: from devices holding their parts of the reference's arrays, with `x`, `Wq` and the keys finite, every
   device's result is the reference's. -/
module

public import proofs.«01_k».proof.Defs
public import proofs.«01_k».proof.Proof.Run
public import proofs.«01_k».proof.Proof.Equation
public import Idealize.ShloMosaic.Lib.KernelVsHost
public import Idealize.ShloMosaic.Lib.LayoutAt

@[expose] public section

set_option maxRecDepth 16384

noncomputable section

namespace Cert.Equation

open Idealize.ShloMosaic Idealize.ShloMosaic.TcCoe Idealize.SL.Sem
open Cert.KernelIdeal (nD)
open Cert.KernelIdeal.Attn Cert.ReferenceIdeal.Attn

/-- The side conditions of the two finiteness predicates. -/
instance finite_kernel_facts : Cert.Pre_finite_KernelIdeal.Facts where
  bcast_S_S2x256x512 := by decide
  bcast_S_S512x256 := by decide
  bcast_S_S2x256x32x64 := by decide
instance finite_reference_facts : Cert.Pre_finite_ReferenceIdeal.Facts where
  bcast_S_S2x256x512 := by decide
  bcast_S_S512x2048 := by decide
  bcast_S_S2x2048x32x64 := by decide

/-- A number whose magnitude is below infinity is real. -/
theorem real_of_lt (x : Ideal .f32) (h : FloatOps.cmpf .olt (FloatOps.hostAbsf x) (FloatOps.ofBits (F := Ideal) .f32 0x7F800000#32) = 1#1) :
    IsReal x := by
  rw [← Ideal.xori_weird_eq_hostAbsf_olt_inf] at h
  replace h : IntOp.xori (BitVec.ofBool (decide ((x : EReal) = ⊤ ∨ (x : EReal) = ⊥))) 1#1 = 1#1 := h
  by_cases hx : (x : EReal) = ⊤ ∨ (x : EReal) = ⊥
  · rw [decide_eq_true hx] at h
    exact absurd h (by decide)
  · rw [not_or] at hx
    exact ⟨EReal.toReal x, (EReal.coe_toReal hx.1 hx.2).symm⟩

variable (m : (ℓ : Loc Cert.KernelIdeal.nD Cert.KernelIdeal.τ Cert.KernelIdeal.sig) → Buf (Elt Ideal) ℓ)

/-- The finiteness precondition, element by element. -/
theorem finite_x (h : Cert.Pre_KernelIdeal_finite_KernelIdeal m) (c : Dev nD) (j) : IsReal ((inp m c).x j) :=
  by rw [inp_eq]; exact real_of_lt _ (congrFun (h c).1 j)
theorem finite_wq (h : Cert.Pre_KernelIdeal_finite_KernelIdeal m) (c : Dev nD) (j) : IsReal ((inp m c).wq j) :=
  by rw [inp_eq]; exact real_of_lt _ (congrFun (h c).2.1 j)
theorem finite_k (h : Cert.Pre_KernelIdeal_finite_KernelIdeal m) (c : Dev nD) (j) : IsReal ((inp m c).k j) :=
  by rw [inp_eq]; exact real_of_lt _ (congrFun (h c).2.2 j)

/-- The devices' arguments are the parts of the reference's. -/
theorem parts (m' : (ℓ : Loc Cert.ReferenceIdeal.nD Cert.ReferenceIdeal.τ Cert.ReferenceIdeal.sig) → Buf (Elt Ideal) ℓ)
    (z : Dev Cert.ReferenceIdeal.nD) (hf : Cert.Pre_KernelIdeal_finite_KernelIdeal m)
    (h0 : ∀ c, (inp m c).x = argX m' z)
    (h1 : ∀ c, (inp m c).wq = Layout.block ⟨2, ![512, 256]⟩ ⟨2, ![512, 2048]⟩ 1 8 c (argWq m' z))
    (h2 : ∀ c, (inp m c).k = Layout.block ⟨4, ![2, 256, 32, 64]⟩ ⟨4, ![2, 2048, 32, 64]⟩ 1 8 c (argK m' z))
    (h3 : ∀ c, (inp m c).v = Layout.block ⟨4, ![2, 256, 32, 64]⟩ ⟨4, ![2, 2048, 32, 64]⟩ 1 8 c (argV m' z))
    (h4 : ∀ c, (inp m c).wo = Layout.block ⟨2, ![256, 512]⟩ ⟨2, ![2048, 512]⟩ 0 8 c (argWo m' z)) :
    Parts (inp m) m' z := by
  have hwq : ∀ (c : Dev nD) (a : Fin 512) (n : Fin 256),
      (inp m c).wq (ix2 a n) = argWq m' z (ix2 a ⟨256 * c.val + n.val, by have := dev_lt c; omega⟩) := fun c a n => by
    rw [h1]
    refine congrArg (argWq m' z) (funext fun b => Fin.ext ?_)
    fin_cases b
    · rfl
    · show c.val * 256 + n.val = 256 * c.val + n.val; omega
  have hrow : ∀ (f : Vec Ideal Cert.ReferenceIdeal.S2x2048x32x64 .f32) (c : Dev nD) (b : Fin 2) (r : Fin 256) (h : Fin 32) (d : Fin 64),
      Layout.block ⟨4, ![2, 256, 32, 64]⟩ ⟨4, ![2, 2048, 32, 64]⟩ 1 8 c f (by decide) (ix4 b r h d)
        = f (ix4 b ⟨256 * c.val + r.val, by have := dev_lt c; omega⟩ h d) := fun f c b r h d => by
    refine congrArg f (funext fun a => Fin.ext ?_)
    fin_cases a
    · rfl
    · show c.val * 256 + r.val = 256 * c.val + r.val; omega
    · rfl
    · rfl
  have hk : ∀ (c : Dev nD) (b : Fin 2) (r : Fin 256) (h : Fin 32) (d : Fin 64),
      (inp m c).k (ix4 b r h d) = argK m' z (ix4 b ⟨256 * c.val + r.val, by have := dev_lt c; omega⟩ h d) := fun c b r h d => by
    rw [h2]
    exact hrow _ c b r h d
  exact
    { x := fun c b i a => congrFun (h0 c) _
      wq := hwq
      k := hk
      v := fun c b r h d => by
        rw [h3]
        exact hrow _ c b r h d
      wo := fun c n e => by
        rw [h4]
        refine congrArg (argWo m' z) (funext fun b => Fin.ext ?_)
        fin_cases b
        · show c.val * 256 + n.val = 256 * c.val + n.val; omega
        · rfl
      x_real := fun b i a => by
        rw [← h0 (0 : Fin 8)]
        exact finite_x m hf _ _
      wq_real := fun a n => by
        have e := hwq (⟨n.val / 256, by omega⟩ : Fin 8) a ⟨n.val % 256, by omega⟩
        rw [show (⟨256 * (n.val / 256) + n.val % 256, by omega⟩ : Fin 2048) = n from Fin.ext (Nat.div_add_mod _ _)] at e
        rw [← e]
        exact finite_wq m hf _ _
      k_real := fun b j h d => by
        have e := hk (⟨j.val / 256, by omega⟩ : Fin 8) b ⟨j.val % 256, by omega⟩ h d
        rw [show (⟨256 * (j.val / 256) + j.val % 256, by omega⟩ : Fin 2048) = j from Fin.ext (Nat.div_add_mod _ _)] at e
        rw [← e]
        exact finite_k m hf _ _ }

/-- The kernel and the reference end with one result. -/
theorem agree : Cert.algebraic_KernelIdeal_ReferenceIdeal_pre_finite_KernelIdeal := by
  intro m g m' g' hf hargs
  have P : Parts (inp m) m' (0 : Dev Cert.ReferenceIdeal.nD) := parts m m' 0 hf
    (fun c => (congrArg In.x (inp_eq m c)).trans (hargs c).1) (fun c => (congrArg In.wq (inp_eq m c)).trans (hargs c).2.1)
    (fun c => (congrArg In.k (inp_eq m c)).trans (hargs c).2.2.1) (fun c => (congrArg In.v (inp_eq m c)).trans (hargs c).2.2.2.1)
    (fun c => (congrArg In.wo (inp_eq m c)).trans (hargs c).2.2.2.2)
  refine ⟨_, (θ_run Cert.KernelIdeal.defs _ _).mono (fun _ h c => ⟨(h.1 c).1.trans ?_, (h.1 c).2⟩) (run_main (F := Ideal) m g),
    (θ_run Cert.ReferenceIdeal.defs _ _).mono (fun _ h => h 0) (Cert.ReferenceIdeal.Value.run m' g')⟩
  refine funext fun (j : Shape.Idx ⟨3, ![2, 256, 512]⟩) => ?_
  idx_vars j
  exact (result_eq P c _ _ _).trans (final_apply _ _ _ _ _ _ _ rfl).symm

end Cert.Equation

end
-- ==== Proof.lean ====
/- The proof of the certificate: the kernel's two frames from one run of it, the reference's frame, the equality of their
   results, and the assembly of `Cert.Claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame over any float values: its run, with what the result holds dropped. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩)
    (Cert.KernelIdeal.Attn.run_main (F := F) m ρ)

/-- The two programs have one body table: each has one label, and the same body at it. -/
theorem defs₀_eq {F : FTy → Type} [FloatOps F] [Cert.Kernel.Facts] :
    Cert.Kernel.defs₀ (F := F) = Cert.KernelIdeal.defs₀ (F := F) := by
  unfold Cert.Kernel.defs₀ Cert.KernelIdeal.defs₀
  refine congrArg _ (funext fun l => funext fun a => ?_)
  match l, a with
  | 0, _ => rfl
  | ⟨n + 1, h⟩, _ => exact absurd h (Nat.not_lt.2 (Nat.le_add_left _ _))

/-- So they have one table of labels. -/
theorem defs_eq {F : FTy → Type} [FloatOps F] [Cert.Kernel.Facts] :
    Cert.Kernel.defs (F := F) = Cert.KernelIdeal.defs (F := F) :=
  congrArg (Pipeline.defs (Cert.KernelIdeal.pcfgs (F := F))) defs₀_eq

/-- The kernel at the bits. -/
theorem frame_kernel : Cert.quiescent_Kernel := by
  intro m ρ _
  rw [defs_eq]
  exact frame_any m ρ

/-- The kernel at the extended reals. -/
theorem frame_kernelIdeal : Cert.quiescent_KernelIdeal := fun m ρ _ => frame_any m ρ

/-- The reference. -/
theorem frame_reference : Cert.quiescent_ReferenceIdeal := fun m ρ _ => Cert.ReferenceIdeal.Gen.frame m ρ

/-- The frames hold at every input, so at the finite ones. -/
theorem claim : Cert.Claim :=
  ⟨Cert.Kernel.Gen.facts, Cert.KernelIdeal.Gen.facts, Cert.ReferenceIdeal.Gen.facts,
    Cert.Equation.finite_kernel_facts, Cert.Equation.finite_reference_facts,
    frame_kernel, frame_kernelIdeal, fun m ρ _ => frame_any m ρ,
    frame_reference, fun m ρ _ => Cert.ReferenceIdeal.Gen.frame m ρ,
    trivial, Cert.Equation.agree⟩

end Cert.Proof

end
